-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v49) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v9_0)) (v1 : (c : Dev Cert.Kernel3Ideal.nD) → Buf (Elt Ideal) ((c.tc : Thread Cert.Kernel3Ideal.nD Cert.Kernel3Ideal.τ).loc Cert.Kernel3Ideal.main_v9_1)) (v2 : (c : Dev Cert.Kernel3Ideal.nD) → Buf (Elt Ideal) ((c.tc : Thread Cert.Kernel3Ideal.nD Cert.Kernel3Ideal.τ).loc Cert.Kernel3Ideal.main_v9_2)) (v3 : (c : Dev Cert.Kernel3Ideal.nD) → Buf (Elt Ideal) ((c.tc : Thread Cert.Kernel3Ideal.nD Cert.Kernel3Ideal.τ).loc Cert.Kernel3Ideal.main_v9_3)) (v4 : (c : Dev Cert.Kernel3Ideal.nD) → Buf (Elt Ideal) ((c.tc : Thread Cert.Kernel3Ideal.nD Cert.Kernel3Ideal.τ).loc Cert.Kernel3Ideal.main_v9_4)) (v5 : (c : Dev Cert.Kernel3Ideal.nD) → Buf (Elt Ideal) ((c.tc : Thread Cert.Kernel3Ideal.nD Cert.Kernel3Ideal.τ).loc Cert.Kernel3Ideal.main_v9_5)) (v6 : (c : Dev Cert.Kernel3Ideal.nD) → Buf (Elt Ideal) ((c.tc : Thread Cert.Kernel3Ideal.nD Cert.Kernel3Ideal.τ).loc Cert.Kernel3Ideal.main_v9_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9_0) = v0 c
          ∧ r.2.mem ((c.tc : Thread Cert.Kernel3Ideal.nD Cert.Kernel3Ideal.τ).loc Cert.Kernel3Ideal.main_v9_1) = v1 c
          ∧ r.2.mem ((c.tc : Thread Cert.Kernel3Ideal.nD Cert.Kernel3Ideal.τ).loc Cert.Kernel3Ideal.main_v9_2) = v2 c
          ∧ r.2.mem ((c.tc : Thread Cert.Kernel3Ideal.nD Cert.Kernel3Ideal.τ).loc Cert.Kernel3Ideal.main_v9_3) = v3 c
          ∧ r.2.mem ((c.tc : Thread Cert.Kernel3Ideal.nD Cert.Kernel3Ideal.τ).loc Cert.Kernel3Ideal.main_v9_4) = v4 c
          ∧ r.2.mem ((c.tc : Thread Cert.Kernel3Ideal.nD Cert.Kernel3Ideal.τ).loc Cert.Kernel3Ideal.main_v9_5) = v5 c
          ∧ r.2.mem ((c.tc : Thread Cert.Kernel3Ideal.nD Cert.Kernel3Ideal.τ).loc Cert.Kernel3Ideal.main_v9_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_v26) = v1 c
          ∧ r.2.mem ((c.tc : Thread Cert.Reference3Ideal.nD Cert.Reference3Ideal.τ).loc Cert.Reference3Ideal.main_v27) = v2 c
          ∧ r.2.mem ((c.tc : Thread Cert.Reference3Ideal.nD Cert.Reference3Ideal.τ).loc Cert.Reference3Ideal.main_v30) = v3 c
          ∧ r.2.mem ((c.tc : Thread Cert.Reference3Ideal.nD Cert.Reference3Ideal.τ).loc Cert.Reference3Ideal.main_v33) = v4 c
          ∧ r.2.mem ((c.tc : Thread Cert.Reference3Ideal.nD Cert.Reference3Ideal.τ).loc Cert.Reference3Ideal.main_v24) = v5 c
          ∧ r.2.mem ((c.tc : Thread Cert.Reference3Ideal.nD Cert.Reference3Ideal.τ).loc Cert.Reference3Ideal.main_v34) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v6_0)) (v1 : (c : Dev Cert.Kernel4Ideal.nD) → Buf (Elt Ideal) ((c.tc : Thread Cert.Kernel4Ideal.nD Cert.Kernel4Ideal.τ).loc Cert.Kernel4Ideal.main_v6_1)) (v2 : (c : Dev Cert.Kernel4Ideal.nD) → Buf (Elt Ideal) ((c.tc : Thread Cert.Kernel4Ideal.nD Cert.Kernel4Ideal.τ).loc Cert.Kernel4Ideal.main_v6_2)) (v3 : (c : Dev Cert.Kernel4Ideal.nD) → Buf (Elt Ideal) ((c.tc : Thread Cert.Kernel4Ideal.nD Cert.Kernel4Ideal.τ).loc Cert.Kernel4Ideal.main_v6_3)) (v4 : (c : Dev Cert.Kernel4Ideal.nD) → Buf (Elt Ideal) ((c.tc : Thread Cert.Kernel4Ideal.nD Cert.Kernel4Ideal.τ).loc Cert.Kernel4Ideal.main_v6_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6_0) = v0 c
          ∧ r.2.mem ((c.tc : Thread Cert.Kernel4Ideal.nD Cert.Kernel4Ideal.τ).loc Cert.Kernel4Ideal.main_v6_1) = v1 c
          ∧ r.2.mem ((c.tc : Thread Cert.Kernel4Ideal.nD Cert.Kernel4Ideal.τ).loc Cert.Kernel4Ideal.main_v6_2) = v2 c
          ∧ r.2.mem ((c.tc : Thread Cert.Kernel4Ideal.nD Cert.Kernel4Ideal.τ).loc Cert.Kernel4Ideal.main_v6_3) = v3 c
          ∧ r.2.mem ((c.tc : Thread Cert.Kernel4Ideal.nD Cert.Kernel4Ideal.τ).loc Cert.Kernel4Ideal.main_v6_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v22) = v0 c
          ∧ r.2.mem ((c.tc : Thread Cert.Reference4Ideal.nD Cert.Reference4Ideal.τ).loc Cert.Reference4Ideal.main_v23) = v1 c
          ∧ r.2.mem ((c.tc : Thread Cert.Reference4Ideal.nD Cert.Reference4Ideal.τ).loc Cert.Reference4Ideal.main_v24) = v2 c
          ∧ r.2.mem ((c.tc : Thread Cert.Reference4Ideal.nD Cert.Reference4Ideal.τ).loc Cert.Reference4Ideal.main_v19) = v3 c
          ∧ r.2.mem ((c.tc : Thread Cert.Reference4Ideal.nD Cert.Reference4Ideal.τ).loc Cert.Reference4Ideal.main_v25) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v32_0)) (v1 : (c : Dev Cert.Kernel5Ideal.nD) → Buf (Elt Ideal) ((c.tc : Thread Cert.Kernel5Ideal.nD Cert.Kernel5Ideal.τ).loc Cert.Kernel5Ideal.main_v32_1)) (v2 : (c : Dev Cert.Kernel5Ideal.nD) → Buf (Elt Ideal) ((c.tc : Thread Cert.Kernel5Ideal.nD Cert.Kernel5Ideal.τ).loc Cert.Kernel5Ideal.main_v32_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v32_0) = v0 c
          ∧ r.2.mem ((c.tc : Thread Cert.Kernel5Ideal.nD Cert.Kernel5Ideal.τ).loc Cert.Kernel5Ideal.main_v32_1) = v1 c
          ∧ r.2.mem ((c.tc : Thread Cert.Kernel5Ideal.nD Cert.Kernel5Ideal.τ).loc Cert.Kernel5Ideal.main_v32_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v105) = v0 c
          ∧ r.2.mem ((c.tc : Thread Cert.Reference5Ideal.nD Cert.Reference5Ideal.τ).loc Cert.Reference5Ideal.main_v107) = v1 c
          ∧ r.2.mem ((c.tc : Thread Cert.Reference5Ideal.nD Cert.Reference5Ideal.τ).loc Cert.Reference5Ideal.main_v78) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v31_0)) (v1 : (c : Dev Cert.Kernel6Ideal.nD) → Buf (Elt Ideal) ((c.tc : Thread Cert.Kernel6Ideal.nD Cert.Kernel6Ideal.τ).loc Cert.Kernel6Ideal.main_v31_1)) (v2 : (c : Dev Cert.Kernel6Ideal.nD) → Buf (Elt Ideal) ((c.tc : Thread Cert.Kernel6Ideal.nD Cert.Kernel6Ideal.τ).loc Cert.Kernel6Ideal.main_v31_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v31_0) = v0 c
          ∧ r.2.mem ((c.tc : Thread Cert.Kernel6Ideal.nD Cert.Kernel6Ideal.τ).loc Cert.Kernel6Ideal.main_v31_1) = v1 c
          ∧ r.2.mem ((c.tc : Thread Cert.Kernel6Ideal.nD Cert.Kernel6Ideal.τ).loc Cert.Kernel6Ideal.main_v31_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v121) = v0 c
          ∧ r.2.mem ((c.tc : Thread Cert.Reference6Ideal.nD Cert.Reference6Ideal.τ).loc Cert.Reference6Ideal.main_v122) = v1 c
          ∧ r.2.mem ((c.tc : Thread Cert.Reference6Ideal.nD Cert.Reference6Ideal.τ).loc Cert.Reference6Ideal.main_v123) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v49) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite_scores.lean ====
abbrev S16x2048x512 : Shape := ⟨3, ![16, 2048, 512]⟩
abbrev S16x8x512x256 : Shape := ⟨4, ![16, 8, 512, 256]⟩
abbrev S8 : Shape := ⟨1, ![8]⟩
abbrev S_ : Shape := ⟨0, ![]⟩

class Facts : Prop where
  bcast_S_S16x2048x512 : S_.BroadcastsInDim S16x2048x512 (![] : Fin 0 → Fin S16x2048x512.rank)
  bcast_S_S16x8x512x256 : S_.BroadcastsInDim S16x8x512x256 (![] : Fin 0 → Fin S16x8x512x256.rank)
  bcast_S_S8 : S_.BroadcastsInDim S8 (![] : Fin 0 → Fin S8.rank)

variable [Facts]

def fn {F : FTy → Type} [FloatOps F] (main_arg0 : FVec F S16x2048x512 .bf16) (main_arg1 : FVec F S16x8x512x256 .bf16) (main_arg2 : FVec F S16x8x512x256 .bf16) (main_arg3 : FVec F S8 .f32) : IVec S16x2048x512 1 × IVec S16x8x512x256 1 × IVec S8 1 :=
  let main_v0 : FVec F S16x2048x512 .bf16 := Host.absf main_arg0
  let main_cst : FVec F S_ .bf16 := constant S_ .bf16 0x7F80#16
  let main_v1 : FVec F S16x2048x512 .bf16 := broadcastInDim S16x2048x512 ![] bcast_S_S16x2048x512 main_cst
  let main_v2 : IVec S16x2048x512 1 := cmpf .olt main_v0 main_v1
  let main_v3 : FVec F S16x8x512x256 .bf16 := Host.absf main_arg1
  let main_cst_0 : FVec F S_ .bf16 := constant S_ .bf16 0x7F80#16
  let main_v4 : FVec F S16x8x512x256 .bf16 := broadcastInDim S16x8x512x256 ![] bcast_S_S16x8x512x256 main_cst_0
  let main_v5 : IVec S16x8x512x256 1 := cmpf .olt main_v3 main_v4
  let main_v6 : FVec F S8 .f32 := Host.absf main_arg3
  let main_cst_1 : FVec F S_ .f32 := constant S_ .f32 0x7F800000#32
  let main_v7 : FVec F S8 .f32 := broadcastInDim S8 ![] bcast_S_S8 main_cst_1
  let main_v8 : IVec S8 1 := cmpf .olt main_v6 main_v7
  (main_v2, main_v5, main_v8)
-- ==== Kernel.lean ====
abbrev S16x2048x512 : Shape := ⟨3, ![16, 2048, 512]⟩
abbrev S16x8x512x256 : Shape := ⟨4, ![16, 8, 512, 256]⟩
abbrev S8 : Shape := ⟨1, ![8]⟩
abbrev S1x256x128 : Shape := ⟨3, ![1, 256, 128]⟩
abbrev S1x8x128x256 : Shape := ⟨4, ![1, 8, 128, 256]⟩
abbrev S2x2x256x256 : Shape := ⟨4, ![2, 2, 256, 256]⟩
abbrev S2x2x256x1 : Shape := ⟨4, ![2, 2, 256, 1]⟩
abbrev S2x256x128 : Shape := ⟨3, ![2, 256, 128]⟩
abbrev S256x128 : Shape := ⟨2, ![256, 128]⟩
abbrev S1 : Shape := ⟨1, ![1]⟩
abbrev S256x256 : Shape := ⟨2, ![256, 256]⟩
abbrev S1x1x128x256 : Shape := ⟨4, ![1, 1, 128, 256]⟩
abbrev S128x256 : Shape := ⟨2, ![128, 256]⟩
abbrev S1x1x256x256 : Shape := ⟨4, ![1, 1, 256, 256]⟩
abbrev S256x1 : Shape := ⟨2, ![256, 1]⟩
abbrev S1x1x256x1 : Shape := ⟨4, ![1, 1, 256, 1]⟩

abbrev nBuf : Space → Nat
  | .hbm => 5
  | .vmem => 12
  | .smem => 1
  | _ => 0

abbrev bufTy : (tb : Table) → Fin (tcTables nBuf tb) → BufTy
  | .hbm, ⟨0, _⟩ => ⟨S16x2048x512, .bf16⟩
  | .hbm, ⟨1, _⟩ => ⟨S16x8x512x256, .bf16⟩
  | .hbm, ⟨2, _⟩ => ⟨S16x8x512x256, .bf16⟩
  | .hbm, ⟨3, _⟩ => ⟨S8, .f32⟩
  | .hbm, ⟨4, _⟩ => ⟨S16x2048x512, .f32⟩
  | .local _ .vmem, ⟨0, _⟩ => ⟨S1x256x128, .bf16⟩
  | .local _ .vmem, ⟨1, _⟩ => ⟨S1x256x128, .bf16⟩
  | .local _ .vmem, ⟨2, _⟩ => ⟨S1x8x128x256, .bf16⟩
  | .local _ .vmem, ⟨3, _⟩ => ⟨S1x8x128x256, .bf16⟩
  | .local _ .vmem, ⟨4, _⟩ => ⟨S1x8x128x256, .bf16⟩
  | .local _ .vmem, ⟨5, _⟩ => ⟨S1x8x128x256, .bf16⟩
  | .local _ .vmem, ⟨6, _⟩ => ⟨S1x256x128, .f32⟩
  | .local _ .vmem, ⟨7, _⟩ => ⟨S1x256x128, .f32⟩
  | .local _ .vmem, ⟨8, _⟩ => ⟨S2x2x256x256, .bf16⟩
  | .local _ .vmem, ⟨9, _⟩ => ⟨S2x2x256x256, .f32⟩
  | .local _ .vmem, ⟨10, _⟩ => ⟨S2x2x256x1, .f32⟩
  | .local _ .vmem, ⟨11, _⟩ => ⟨S2x256x128, .f32⟩
  | .local _ .smem, ⟨0, _⟩ => ⟨S8, .f32⟩
  | _, _ => ⟨S16x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![16, 4, 8], ![false, false, false]⟩

def k0_off1 (i : grid0.Coords) : Fin 1 → Nat :=
  let c2_i32 : BitVec 32 := 2#32
  let arg1 : BitVec 32 := BitVec.ofNat 32 (i 1).val
  let v12 : BitVec 32 := Scalar.muli c2_i32 arg1
  let v13 : Index := Scalar.indexCast v12
  ![v13.toNat]
def k0_off2 (i : grid0.Coords) : Fin 1 → Nat :=
  let c2_i32_3 : BitVec 32 := 2#32
  let arg1 : BitVec 32 := BitVec.ofNat 32 (i 1).val
  let v15 : BitVec 32 := Scalar.muli c2_i32_3 arg1
  let c1_i32 : BitVec 32 := 1#32
  let v16 : BitVec 32 := Scalar.addi v15 c1_i32
  let v17 : Index := Scalar.indexCast v16
  ![v17.toNat]
def k0_off3 (i : grid0.Coords) : Fin 4 → Nat :=
  let c0_10 : Index := 0#32
  let arg2 : BitVec 32 := BitVec.ofNat 32 (i 2).val
  let v31 : Index := Scalar.indexCast arg2
  let c0_11 : Index := 0#32
  let c0_12 : Index := 0#32
  ![0, v31.toNat, 0, 0]
@[reducible] def k0_t1_loop (i : grid0.Coords) : Scf.Loop 32 :=
  let c0_i32_55 : BitVec 32 := 0#32
  let arg2 : BitVec 32 := BitVec.ofNat 32 (i 2).val
  let c0_i32 : BitVec 32 := 0#32
  let v94 : BitVec 1 := Scalar.cmpi .sgt arg2 c0_i32
  let v95 : BitVec 32 := Scalar.extui v94
  let c0_i32_50 : BitVec 32 := 0#32
  let v96 : BitVec 1 := Scalar.cmpi .slt arg2 c0_i32_50
  let v97 : BitVec 32 := Scalar.extui v96
  let v98 : BitVec 32 := Scalar.subi v95 v97
  let c2_i32_49 : BitVec 32 := 2#32
  let c0_i32_51 : BitVec 32 := 0#32
  let v99 : BitVec 1 := Scalar.cmpi .sgt c2_i32_49 c0_i32_51
  let v100 : BitVec 32 := Scalar.extui v99
  let c0_i32_52 : BitVec 32 := 0#32
  let v101 : BitVec 1 := Scalar.cmpi .slt c2_i32_49 c0_i32_52
  let v102 : BitVec 32 := Scalar.extui v101
  let v103 : BitVec 32 := Scalar.subi v100 v102
  let v104 : BitVec 1 := Scalar.cmpi .ne v98 v103
  let v105 : BitVec 32 := Scalar.remsi arg2 c2_i32_49
  let c0_i32_53 : BitVec 32 := 0#32
  let v106 : BitVec 1 := Scalar.cmpi .ne v105 c0_i32_53
  let v107 : BitVec 1 := Scalar.andi v104 v106
  let v93 : BitVec 32 := Scalar.divsi arg2 c2_i32_49
  let c1_i32_54 : BitVec 32 := 1#32
  let v108 : BitVec 32 := Scalar.subi v93 c1_i32_54
  let v109 : BitVec 32 := Scalar.select v107 v108 v93
  let v110 : BitVec 32 := Scalar.subi v109 c0_i32_55
  let c1_i32_56 : BitVec 32 := 1#32
  let v112 : BitVec 32 := Scalar.divsi v110 c1_i32_56
  let v113 : BitVec 32 := Scalar.muli v112 c1_i32_56
  let v114 : BitVec 32 := Scalar.addi c0_i32_55 v113
  let c1_i32_57 : BitVec 32 := 1#32
  ⟨c0_i32_55, v114, c1_i32_57⟩
def k0_off4 (i : grid0.Coords) (k0_t1 : Fin (k0_t1_loop i).trips) : Fin 4 → Nat :=
  let c0_86 : Index := 0#32
  let arg2 : BitVec 32 := BitVec.ofNat 32 (i 2).val
  let c1_i32_84 : BitVec 32 := 1#32
  let v151 : BitVec 32 := Scalar.subi arg2 c1_i32_84
  let c2_i32_85 : BitVec 32 := 2#32
  let c0_i32_55 : BitVec 32 := 0#32
  let c1_i32_57 : BitVec 32 := 1#32
  let arg12 : BitVec 32 := Scf.iv c0_i32_55 c1_i32_57 k0_t1
  let v152 : BitVec 32 := Scalar.muli c2_i32_85 arg12
  let v153 : BitVec 32 := Scalar.subi v151 v152
  let v154 : Index := Scalar.indexCast v153
  let c0_87 : Index := 0#32
  let c0_88 : Index := 0#32
  ![0, v154.toNat, 0, 0]
def k0_off5 (i : grid0.Coords) (k0_t1 : Fin (k0_t1_loop i).trips) : Fin 4 → Nat :=
  let c0_122 : Index := 0#32
  let arg2 : BitVec 32 := BitVec.ofNat 32 (i 2).val
  let c1_i32_84 : BitVec 32 := 1#32
  let v151 : BitVec 32 := Scalar.subi arg2 c1_i32_84
  let c2_i32_85 : BitVec 32 := 2#32
  let c0_i32_55 : BitVec 32 := 0#32
  let c1_i32_57 : BitVec 32 := 1#32
  let arg12 : BitVec 32 := Scf.iv c0_i32_55 c1_i32_57 k0_t1
  let v152 : BitVec 32 := Scalar.muli c2_i32_85 arg12
  let v153 : BitVec 32 := Scalar.subi v151 v152
  let c1_i32_121 : BitVec 32 := 1#32
  let v207 : BitVec 32 := Scalar.addi v153 c1_i32_121
  let v208 : Index := Scalar.indexCast v207
  let c0_123 : Index := 0#32
  let c0_124 : Index := 0#32
  ![0, v208.toNat, 0, 0]
def k0_off6 (i : grid0.Coords) (k0_t1 : Fin (k0_t1_loop i).trips) : Fin 4 → Nat :=
  let c0_166 : Index := 0#32
  let arg2 : BitVec 32 := BitVec.ofNat 32 (i 2).val
  let c1_i32_84 : BitVec 32 := 1#32
  let v151 : BitVec 32 := Scalar.subi arg2 c1_i32_84
  let c2_i32_85 : BitVec 32 := 2#32
  let c0_i32_55 : BitVec 32 := 0#32
  let c1_i32_57 : BitVec 32 := 1#32
  let arg12 : BitVec 32 := Scf.iv c0_i32_55 c1_i32_57 k0_t1
  let v152 : BitVec 32 := Scalar.muli c2_i32_85 arg12
  let v153 : BitVec 32 := Scalar.subi v151 v152
  let c1_i32_165 : BitVec 32 := 1#32
  let v255 : BitVec 32 := Scalar.subi v153 c1_i32_165
  let v256 : Index := Scalar.indexCast v255
  let c0_167 : Index := 0#32
  let c0_168 : Index := 0#32
  ![0, v256.toNat, 0, 0]
@[reducible] def k0_t2_loop (i : grid0.Coords) : Scf.Loop 32 :=
  let c0_i32_55 : BitVec 32 := 0#32
  let arg2 : BitVec 32 := BitVec.ofNat 32 (i 2).val
  let c0_i32 : BitVec 32 := 0#32
  let v94 : BitVec 1 := Scalar.cmpi .sgt arg2 c0_i32
  let v95 : BitVec 32 := Scalar.extui v94
  let c0_i32_50 : BitVec 32 := 0#32
  let v96 : BitVec 1 := Scalar.cmpi .slt arg2 c0_i32_50
  let v97 : BitVec 32 := Scalar.extui v96
  let v98 : BitVec 32 := Scalar.subi v95 v97
  let c2_i32_49 : BitVec 32 := 2#32
  let c0_i32_51 : BitVec 32 := 0#32
  let v99 : BitVec 1 := Scalar.cmpi .sgt c2_i32_49 c0_i32_51
  let v100 : BitVec 32 := Scalar.extui v99
  let c0_i32_52 : BitVec 32 := 0#32
  let v101 : BitVec 1 := Scalar.cmpi .slt c2_i32_49 c0_i32_52
  let v102 : BitVec 32 := Scalar.extui v101
  let v103 : BitVec 32 := Scalar.subi v100 v102
  let v104 : BitVec 1 := Scalar.cmpi .ne v98 v103
  let v105 : BitVec 32 := Scalar.remsi arg2 c2_i32_49
  let c0_i32_53 : BitVec 32 := 0#32
  let v106 : BitVec 1 := Scalar.cmpi .ne v105 c0_i32_53
  let v107 : BitVec 1 := Scalar.andi v104 v106
  let v93 : BitVec 32 := Scalar.divsi arg2 c2_i32_49
  let c1_i32_54 : BitVec 32 := 1#32
  let v108 : BitVec 32 := Scalar.subi v93 c1_i32_54
  let v109 : BitVec 32 := Scalar.select v107 v108 v93
  let v110 : BitVec 32 := Scalar.subi v109 c0_i32_55
  let c1_i32_56 : BitVec 32 := 1#32
  let v112 : BitVec 32 := Scalar.divsi v110 c1_i32_56
  let v113 : BitVec 32 := Scalar.muli v112 c1_i32_56
  let v114 : BitVec 32 := Scalar.addi c0_i32_55 v113
  let v111 : BitVec 32 := Scalar.addi c0_i32_55 v110
  let c1_i32_58 : BitVec 32 := 1#32
  ⟨v114, v111, c1_i32_58⟩
def k0_off7 (i : grid0.Coords) (k0_t2 : Fin (k0_t2_loop i).trips) : Fin 4 → Nat :=
  let c0_86 : Index := 0#32
  let arg2 : BitVec 32 := BitVec.ofNat 32 (i 2).val
  let c1_i32_84 : BitVec 32 := 1#32
  let v151 : BitVec 32 := Scalar.subi arg2 c1_i32_84
  let c2_i32_85 : BitVec 32 := 2#32
  let c0_i32_55 : BitVec 32 := 0#32
  let c0_i32 : BitVec 32 := 0#32
  let v94 : BitVec 1 := Scalar.cmpi .sgt arg2 c0_i32
  let v95 : BitVec 32 := Scalar.extui v94
  let c0_i32_50 : BitVec 32 := 0#32
  let v96 : BitVec 1 := Scalar.cmpi .slt arg2 c0_i32_50
  let v97 : BitVec 32 := Scalar.extui v96
  let v98 : BitVec 32 := Scalar.subi v95 v97
  let c2_i32_49 : BitVec 32 := 2#32
  let c0_i32_51 : BitVec 32 := 0#32
  let v99 : BitVec 1 := Scalar.cmpi .sgt c2_i32_49 c0_i32_51
  let v100 : BitVec 32 := Scalar.extui v99
  let c0_i32_52 : BitVec 32 := 0#32
  let v101 : BitVec 1 := Scalar.cmpi .slt c2_i32_49 c0_i32_52
  let v102 : BitVec 32 := Scalar.extui v101
  let v103 : BitVec 32 := Scalar.subi v100 v102
  let v104 : BitVec 1 := Scalar.cmpi .ne v98 v103
  let v105 : BitVec 32 := Scalar.remsi arg2 c2_i32_49
  let c0_i32_53 : BitVec 32 := 0#32
  let v106 : BitVec 1 := Scalar.cmpi .ne v105 c0_i32_53
  let v107 : BitVec 1 := Scalar.andi v104 v106
  let v93 : BitVec 32 := Scalar.divsi arg2 c2_i32_49
  let c1_i32_54 : BitVec 32 := 1#32
  let v108 : BitVec 32 := Scalar.subi v93 c1_i32_54
  let v109 : BitVec 32 := Scalar.select v107 v108 v93
  let v110 : BitVec 32 := Scalar.subi v109 c0_i32_55
  let c1_i32_56 : BitVec 32 := 1#32
  let v112 : BitVec 32 := Scalar.divsi v110 c1_i32_56
  let v113 : BitVec 32 := Scalar.muli v112 c1_i32_56
  let v114 : BitVec 32 := Scalar.addi c0_i32_55 v113
  let c1_i32_58 : BitVec 32 := 1#32
  let arg12 : BitVec 32 := Scf.iv v114 c1_i32_58 k0_t2
  let v152 : BitVec 32 := Scalar.muli c2_i32_85 arg12
  let v153 : BitVec 32 := Scalar.subi v151 v152
  let v154 : Index := Scalar.indexCast v153
  let c0_87 : Index := 0#32
  let c0_88 : Index := 0#32
  ![0, v154.toNat, 0, 0]
def k0_off8 (i : grid0.Coords) (k0_t2 : Fin (k0_t2_loop i).trips) : Fin 4 → Nat :=
  let c0_122 : Index := 0#32
  let arg2 : BitVec 32 := BitVec.ofNat 32 (i 2).val
  let c1_i32_84 : BitVec 32 := 1#32
  let v151 : BitVec 32 := Scalar.subi arg2 c1_i32_84
  let c2_i32_85 : BitVec 32 := 2#32
  let c0_i32_55 : BitVec 32 := 0#32
  let c0_i32 : BitVec 32 := 0#32
  let v94 : BitVec 1 := Scalar.cmpi .sgt arg2 c0_i32
  let v95 : BitVec 32 := Scalar.extui v94
  let c0_i32_50 : BitVec 32 := 0#32
  let v96 : BitVec 1 := Scalar.cmpi .slt arg2 c0_i32_50
  let v97 : BitVec 32 := Scalar.extui v96
  let v98 : BitVec 32 := Scalar.subi v95 v97
  let c2_i32_49 : BitVec 32 := 2#32
  let c0_i32_51 : BitVec 32 := 0#32
  let v99 : BitVec 1 := Scalar.cmpi .sgt c2_i32_49 c0_i32_51
  let v100 : BitVec 32 := Scalar.extui v99
  let c0_i32_52 : BitVec 32 := 0#32
  let v101 : BitVec 1 := Scalar.cmpi .slt c2_i32_49 c0_i32_52
  let v102 : BitVec 32 := Scalar.extui v101
  let v103 : BitVec 32 := Scalar.subi v100 v102
  let v104 : BitVec 1 := Scalar.cmpi .ne v98 v103
  let v105 : BitVec 32 := Scalar.remsi arg2 c2_i32_49
  let c0_i32_53 : BitVec 32 := 0#32
  let v106 : BitVec 1 := Scalar.cmpi .ne v105 c0_i32_53
  let v107 : BitVec 1 := Scalar.andi v104 v106
  let v93 : BitVec 32 := Scalar.divsi arg2 c2_i32_49
  let c1_i32_54 : BitVec 32 := 1#32
  let v108 : BitVec 32 := Scalar.subi v93 c1_i32_54
  let v109 : BitVec 32 := Scalar.select v107 v108 v93
  let v110 : BitVec 32 := Scalar.subi v109 c0_i32_55
  let c1_i32_56 : BitVec 32 := 1#32
  let v112 : BitVec 32 := Scalar.divsi v110 c1_i32_56
  let v113 : BitVec 32 := Scalar.muli v112 c1_i32_56
  let v114 : BitVec 32 := Scalar.addi c0_i32_55 v113
  let c1_i32_58 : BitVec 32 := 1#32
  let arg12 : BitVec 32 := Scf.iv v114 c1_i32_58 k0_t2
  let v152 : BitVec 32 := Scalar.muli c2_i32_85 arg12
  let v153 : BitVec 32 := Scalar.subi v151 v152
  let c1_i32_121 : BitVec 32 := 1#32
  let v207 : BitVec 32 := Scalar.addi v153 c1_i32_121
  let v208 : Index := Scalar.indexCast v207
  let c0_123 : Index := 0#32
  let c0_124 : Index := 0#32
  ![0, v208.toNat, 0, 0]
def k0_off9 (i : grid0.Coords) (k0_t2 : Fin (k0_t2_loop i).trips) : Fin 4 → Nat :=
  let c0_166 : Index := 0#32
  let arg2 : BitVec 32 := BitVec.ofNat 32 (i 2).val
  let c1_i32_84 : BitVec 32 := 1#32
  let v151 : BitVec 32 := Scalar.subi arg2 c1_i32_84
  let c2_i32_85 : BitVec 32 := 2#32
  let c0_i32_55 : BitVec 32 := 0#32
  let c0_i32 : BitVec 32 := 0#32
  let v94 : BitVec 1 := Scalar.cmpi .sgt arg2 c0_i32
  let v95 : BitVec 32 := Scalar.extui v94
  let c0_i32_50 : BitVec 32 := 0#32
  let v96 : BitVec 1 := Scalar.cmpi .slt arg2 c0_i32_50
  let v97 : BitVec 32 := Scalar.extui v96
  let v98 : BitVec 32 := Scalar.subi v95 v97
  let c2_i32_49 : BitVec 32 := 2#32
  let c0_i32_51 : BitVec 32 := 0#32
  let v99 : BitVec 1 := Scalar.cmpi .sgt c2_i32_49 c0_i32_51
  let v100 : BitVec 32 := Scalar.extui v99
  let c0_i32_52 : BitVec 32 := 0#32
  let v101 : BitVec 1 := Scalar.cmpi .slt c2_i32_49 c0_i32_52
  let v102 : BitVec 32 := Scalar.extui v101
  let v103 : BitVec 32 := Scalar.subi v100 v102
  let v104 : BitVec 1 := Scalar.cmpi .ne v98 v103
  let v105 : BitVec 32 := Scalar.remsi arg2 c2_i32_49
  let c0_i32_53 : BitVec 32 := 0#32
  let v106 : BitVec 1 := Scalar.cmpi .ne v105 c0_i32_53
  let v107 : BitVec 1 := Scalar.andi v104 v106
  let v93 : BitVec 32 := Scalar.divsi arg2 c2_i32_49
  let c1_i32_54 : BitVec 32 := 1#32
  let v108 : BitVec 32 := Scalar.subi v93 c1_i32_54
  let v109 : BitVec 32 := Scalar.select v107 v108 v93
  let v110 : BitVec 32 := Scalar.subi v109 c0_i32_55
  let c1_i32_56 : BitVec 32 := 1#32
  let v112 : BitVec 32 := Scalar.divsi v110 c1_i32_56
  let v113 : BitVec 32 := Scalar.muli v112 c1_i32_56
  let v114 : BitVec 32 := Scalar.addi c0_i32_55 v113
  let c1_i32_58 : BitVec 32 := 1#32
  let arg12 : BitVec 32 := Scf.iv v114 c1_i32_58 k0_t2
  let v152 : BitVec 32 := Scalar.muli c2_i32_85 arg12
  let v153 : BitVec 32 := Scalar.subi v151 v152
  let c1_i32_165 : BitVec 32 := 1#32
  let v255 : BitVec 32 := Scalar.subi v153 c1_i32_165
  let v256 : Index := Scalar.indexCast v255
  let c0_167 : Index := 0#32
  let c0_168 : Index := 0#32
  ![0, v256.toNat, 0, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S16x2048x512 : Shape := ⟨3, ![16, 2048, 512]⟩
abbrev S16x8x512x256 : Shape := ⟨4, ![16, 8, 512, 256]⟩
abbrev S8 : Shape := ⟨1, ![8]⟩
abbrev S16x2048x8x64 : Shape := ⟨4, ![16, 2048, 8, 64]⟩
abbrev S16x8x256x512 : Shape := ⟨4, ![16, 8, 256, 512]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S16x8x2048x2048 : Shape := ⟨4, ![16, 8, 2048, 2048]⟩
abbrev S1x8x1x1 : Shape := ⟨4, ![1, 8, 1, 1]⟩
abbrev S_ : Shape := ⟨0, ![]⟩
abbrev S16x8x64x2048 : Shape := ⟨4, ![16, 8, 64, 2048]⟩

abbrev nBuf : Space → Nat
  | .hbm => 71
  | .vmem => 0
  | .smem => 0
  | _ => 0

abbrev bufTy : (tb : Table) → Fin (tcTables nBuf tb) → BufTy
  | .hbm, ⟨0, _⟩ => ⟨S16x2048x512, .bf16⟩
  | .hbm, ⟨1, _⟩ => ⟨S16x8x512x256, .bf16⟩
  | .hbm, ⟨2, _⟩ => ⟨S16x8x512x256, .bf16⟩
  | .hbm, ⟨3, _⟩ => ⟨S8, .f32⟩
  | .hbm, ⟨4, _⟩ => ⟨S16x2048x512, .f32⟩
  | .hbm, ⟨5, _⟩ => ⟨S16x2048x8x64, .f32⟩
  | .hbm, ⟨6, _⟩ => ⟨S16x8x512x256, .f32⟩
  | .hbm, ⟨7, _⟩ => ⟨S16x8x256x512, .f32⟩
  | .hbm, ⟨8, _⟩ => ⟨S16x2048x8x64, .f32⟩
  | .hbm, ⟨9, _⟩ => ⟨S16x8x512x256, .f32⟩
  | .hbm, ⟨10, _⟩ => ⟨S16x8x256x512, .f32⟩
  | .hbm, ⟨11, _⟩ => ⟨S16x2048x8x64, .f32⟩
  | .hbm, ⟨12, _⟩ => ⟨S2048, .i32⟩
  | .hbm, ⟨13, _⟩ => ⟨S1x2048, .i32⟩
  | .hbm, ⟨14, _⟩ => ⟨S2048x1, .i32⟩
  | .hbm, ⟨15, _⟩ => ⟨S2048x2048, .i32⟩
  | .hbm, ⟨16, _⟩ => ⟨S2048x2048, .i32⟩
  | .hbm, ⟨17, _⟩ => ⟨S2048x2048, .i1⟩
  | .hbm, ⟨18, _⟩ => ⟨S16x8x2048x2048, .f32⟩
  | .hbm, ⟨19, _⟩ => ⟨S1x8x1x1, .f32⟩
  | .hbm, ⟨20, _⟩ => ⟨S16x8x2048x2048, .f32⟩
  | .hbm, ⟨21, _⟩ => ⟨S16x8x2048x2048, .f32⟩
  | .hbm, ⟨22, _⟩ => ⟨S_, .f32⟩
  | .hbm, ⟨23, _⟩ => ⟨S16x8x2048x2048, .f32⟩
  | .hbm, ⟨24, _⟩ => ⟨S16x8x2048x2048, .f32⟩
  | .hbm, ⟨25, _⟩ => ⟨S16x8x2048x2048, .f32⟩
  | .hbm, ⟨26, _⟩ => ⟨S16x8x2048x2048, .f32⟩
  | .hbm, ⟨27, _⟩ => ⟨S16x8x2048x2048, .i1⟩
  | .hbm, ⟨28, _⟩ => ⟨S16x8x2048x2048, .f32⟩
  | .hbm, ⟨29, _⟩ => ⟨S16x8x2048x2048, .f32⟩
  | .hbm, ⟨30, _⟩ => ⟨S16x8x2048x2048, .f32⟩
  | .hbm, ⟨31, _⟩ => ⟨S16x8x2048x2048, .f32⟩
  | .hbm, ⟨32, _⟩ => ⟨S16x8x2048x2048, .f32⟩
  | .hbm, ⟨33, _⟩ => ⟨S16x8x2048x2048, .f32⟩
  | .hbm, ⟨34, _⟩ => ⟨S16x8x2048x2048, .f32⟩
  | .hbm, ⟨35, _⟩ => ⟨S16x8x2048x2048, .f32⟩
  | .hbm, ⟨36, _⟩ => ⟨S_, .f32⟩
  | .hbm, ⟨37, _⟩ => ⟨S_, .f32⟩
  | .hbm, ⟨38, _⟩ => ⟨S16x8x2048x2048, .i1⟩
  | .hbm, ⟨39, _⟩ => ⟨S16x8x2048x2048, .f32⟩
  | .hbm, ⟨40, _⟩ => ⟨S16x8x2048x2048, .f32⟩
  | .hbm, ⟨41, _⟩ => ⟨S_, .f32⟩
  | .hbm, ⟨42, _⟩ => ⟨S_, .f32⟩
  | .hbm, ⟨43, _⟩ => ⟨S16x8x2048x2048, .f32⟩
  | .hbm, ⟨44, _⟩ => ⟨S16x8x2048x2048, .f32⟩
  | .hbm, ⟨45, _⟩ => ⟨S16x8x2048x2048, .f32⟩
  | .hbm, ⟨46, _⟩ => ⟨S_, .f32⟩
  | .hbm, ⟨47, _⟩ => ⟨S16x8x2048x2048, .f32⟩
  | .hbm, ⟨48, _⟩ => ⟨S16x8x2048x2048, .f32⟩
  | .hbm, ⟨49, _⟩ => ⟨S16x8x2048x2048, .f32⟩
  | .hbm, ⟨50, _⟩ => ⟨S16x8x2048x2048, .f32⟩
  | .hbm, ⟨51, _⟩ => ⟨S16x8x2048x2048, .i1⟩
  | .hbm, ⟨52, _⟩ => ⟨S16x8x2048x2048, .f32⟩
  | .hbm, ⟨53, _⟩ => ⟨S16x8x2048x2048, .f32⟩
  | .hbm, ⟨54, _⟩ => ⟨S16x8x2048x2048, .f32⟩
  | .hbm, ⟨55, _⟩ => ⟨S16x8x2048x2048, .f32⟩
  | .hbm, ⟨56, _⟩ => ⟨S16x8x2048x2048, .f32⟩
  | .hbm, ⟨57, _⟩ => ⟨S16x8x2048x2048, .f32⟩
  | .hbm, ⟨58, _⟩ => ⟨S16x8x2048x2048, .f32⟩
  | .hbm, ⟨59, _⟩ => ⟨S16x8x2048x2048, .f32⟩
  | .hbm, ⟨60, _⟩ => ⟨S16x8x2048x2048, .f32⟩
  | .hbm, ⟨61, _⟩ => ⟨S16x8x2048x2048, .f32⟩
  | .hbm, ⟨62, _⟩ => ⟨S16x8x2048x2048, .f32⟩
  | .hbm, ⟨63, _⟩ => ⟨S_, .f32⟩
  | .hbm, ⟨64, _⟩ => ⟨S_, .f32⟩
  | .hbm, ⟨65, _⟩ => ⟨S16x8x2048x2048, .i1⟩
  | .hbm, ⟨66, _⟩ => ⟨S16x8x2048x2048, .f32⟩
  | .hbm, ⟨67, _⟩ => ⟨S16x8x2048x2048, .f32⟩
  | .hbm, ⟨68, _⟩ => ⟨S16x8x64x2048, .f32⟩
  | .hbm, ⟨69, _⟩ => ⟨S16x2048x8x64, .f32⟩
  | .hbm, ⟨70, _⟩ => ⟨S16x2048x512, .f32⟩
  | _, _ => ⟨S16x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_v18 : Ref sig .tc := ⟨.hbm, 35, rfl⟩
abbrev main_cst : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v19 : Ref sig .tc := ⟨.hbm, 40, rfl⟩
abbrev main_call2_cst : Ref sig .tc := ⟨.hbm, 41, rfl⟩
abbrev main_call2_v0 : Ref sig .tc := ⟨.hbm, 42, rfl⟩
abbrev main_v20 : Ref sig .tc := ⟨.hbm, 43, rfl⟩
abbrev main_v21 : Ref sig .tc := ⟨.hbm, 44, rfl⟩
abbrev main_call3_v0 : Ref sig .tc := ⟨.hbm, 45, rfl⟩
abbrev main_call3_call0_cst : Ref sig .tc := ⟨.hbm, 46, rfl⟩
abbrev main_call3_call0_v0 : Ref sig .tc := ⟨.hbm, 47, rfl⟩
abbrev main_call3_call0_v1 : Ref sig .tc := ⟨.hbm, 48, rfl⟩
abbrev main_call3_call0_v2 : Ref sig .tc := ⟨.hbm, 49, rfl⟩
abbrev main_call3_call0_v3 : Ref sig .tc := ⟨.hbm, 50, rfl⟩
abbrev main_call3_call0_v4 : Ref sig .tc := ⟨.hbm, 51, rfl⟩
abbrev main_call3_call0_v5 : Ref sig .tc := ⟨.hbm, 52, rfl⟩
abbrev main_call3_call0_v6 : Ref sig .tc := ⟨.hbm, 53, rfl⟩
abbrev main_call3_call0_v7 : Ref sig .tc := ⟨.hbm, 54, rfl⟩
abbrev main_call3_call0_v8 : Ref sig .tc := ⟨.hbm, 55, rfl⟩
abbrev main_call3_call0_v9 : Ref sig .tc := ⟨.hbm, 56, rfl⟩
abbrev main_call3_call0_v10 : Ref sig .tc := ⟨.hbm, 57, rfl⟩
abbrev main_call3_call0_v11 : Ref sig .tc := ⟨.hbm, 58, rfl⟩
abbrev main_call3_v1 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_cst_0 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩

abbrev nD : Nat := 1
abbrev τ : Topo := Topo.v7x

variable {F : FTy → Type} [FloatOps F]
-- ==== Kernel2.lean ====
abbrev S32768x1024 : Shape := ⟨2, ![32768, 1024]⟩
abbrev S32768x512 : Shape := ⟨2, ![32768, 512]⟩
abbrev S32768x256 : Shape := ⟨2, ![32768, 256]⟩
abbrev S512 : Shape := ⟨1, ![512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x512 : Shape := ⟨2, ![1, 512]⟩
abbrev S1x1024 : Shape := ⟨2, ![1, 1024]⟩
abbrev S512x1024 : Shape := ⟨2, ![512, 1024]⟩
abbrev S512x512 : Shape := ⟨2, ![512, 512]⟩
abbrev S512x256 : Shape := ⟨2, ![512, 256]⟩
abbrev S512x1 : Shape := ⟨2, ![512, 1]⟩
abbrev S256x1024 : Shape := ⟨2, ![256, 1024]⟩

abbrev nBuf : Space → Nat
  | .hbm => 14
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S32768x256, .f32⟩
  | .hbm, ⟨3, _⟩ => ⟨S32768x256, .f32⟩
  | .hbm, ⟨4, _⟩ => ⟨S512, .f32⟩
  | .hbm, ⟨5, _⟩ => ⟨S1024x1024, .bf16⟩
  | .hbm, ⟨6, _⟩ => ⟨S1024, .f32⟩
  | .hbm, ⟨7, _⟩ => ⟨S1024x4096, .bf16⟩
  | .hbm, ⟨8, _⟩ => ⟨S4096x1024, .bf16⟩
  | .hbm, ⟨9, _⟩ => ⟨S1024, .f32⟩
  | .hbm, ⟨10, _⟩ => ⟨S1x512, .f32⟩
  | .hbm, ⟨11, _⟩ => ⟨S1x1024, .f32⟩
  | .hbm, ⟨12, _⟩ => ⟨S1x1024, .f32⟩
  | .hbm, ⟨13, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S1x512, .f32⟩
  | .local _ .vmem, ⟨9, _⟩ => ⟨S1024x1024, .bf16⟩
  | .local _ .vmem, ⟨10, _⟩ => ⟨S1x1024, .f32⟩
  | .local _ .vmem, ⟨11, _⟩ => ⟨S1024x4096, .bf16⟩
  | .local _ .vmem, ⟨12, _⟩ => ⟨S4096x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Kernel2Ideal.lean ====
abbrev S32768x1024 : Shape := ⟨2, ![32768, 1024]⟩
abbrev S32768x512 : Shape := ⟨2, ![32768, 512]⟩
abbrev S32768x256 : Shape := ⟨2, ![32768, 256]⟩
abbrev S512 : Shape := ⟨1, ![512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x512 : Shape := ⟨2, ![1, 512]⟩
abbrev S1x1024 : Shape := ⟨2, ![1, 1024]⟩
abbrev S512x1024 : Shape := ⟨2, ![512, 1024]⟩
abbrev S512x512 : Shape := ⟨2, ![512, 512]⟩
abbrev S512x256 : Shape := ⟨2, ![512, 256]⟩
abbrev S512x1 : Shape := ⟨2, ![512, 1]⟩
abbrev S256x1024 : Shape := ⟨2, ![256, 1024]⟩

abbrev nBuf : Space → Nat
  | .hbm => 14
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S32768x256, .f32⟩
  | .hbm, ⟨3, _⟩ => ⟨S32768x256, .f32⟩
  | .hbm, ⟨4, _⟩ => ⟨S512, .f32⟩
  | .hbm, ⟨5, _⟩ => ⟨S1024x1024, .bf16⟩
  | .hbm, ⟨6, _⟩ => ⟨S1024, .f32⟩
  | .hbm, ⟨7, _⟩ => ⟨S1024x4096, .bf16⟩
  | .hbm, ⟨8, _⟩ => ⟨S4096x1024, .bf16⟩
  | .hbm, ⟨9, _⟩ => ⟨S1024, .f32⟩
  | .hbm, ⟨10, _⟩ => ⟨S1x512, .f32⟩
  | .hbm, ⟨11, _⟩ => ⟨S1x1024, .f32⟩
  | .hbm, ⟨12, _⟩ => ⟨S1x1024, .f32⟩
  | .hbm, ⟨13, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S1x512, .f32⟩
  | .local _ .vmem, ⟨9, _⟩ => ⟨S1024x1024, .bf16⟩
  | .local _ .vmem, ⟨10, _⟩ => ⟨S1x1024, .f32⟩
  | .local _ .vmem, ⟨11, _⟩ => ⟨S1024x4096, .bf16⟩
  | .local _ .vmem, ⟨12, _⟩ => ⟨S4096x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S32768x1024 : Shape := ⟨2, ![32768, 1024]⟩
abbrev S32768x512 : Shape := ⟨2, ![32768, 512]⟩
abbrev S32768x256 : Shape := ⟨2, ![32768, 256]⟩
abbrev S512 : Shape := ⟨1, ![512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S32768 : Shape := ⟨1, ![32768]⟩
abbrev S32768x1 : Shape := ⟨2, ![32768, 1]⟩
abbrev S1x512 : Shape := ⟨2, ![1, 512]⟩
abbrev S1x1024 : Shape := ⟨2, ![1, 1024]⟩
abbrev S32768x4096 : Shape := ⟨2, ![32768, 4096]⟩

abbrev nBuf : Space → Nat
  | .hbm => 71
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S32768x256, .f32⟩
  | .hbm, ⟨3, _⟩ => ⟨S32768x256, .f32⟩
  | .hbm, ⟨4, _⟩ => ⟨S512, .f32⟩
  | .hbm, ⟨5, _⟩ => ⟨S1024x1024, .bf16⟩
  | .hbm, ⟨6, _⟩ => ⟨S1024, .f32⟩
  | .hbm, ⟨7, _⟩ => ⟨S1024x4096, .bf16⟩
  | .hbm, ⟨8, _⟩ => ⟨S4096x1024, .bf16⟩
  | .hbm, ⟨9, _⟩ => ⟨S1024, .f32⟩
  | .hbm, ⟨10, _⟩ => ⟨S32768x512, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S32768x1, .f32⟩
  | .hbm, ⟨21, _⟩ => ⟨S32768x512, .f32⟩
  | .hbm, ⟨22, _⟩ => ⟨S32768x512, .f32⟩
  | .hbm, ⟨23, _⟩ => ⟨S1x512, .f32⟩
  | .hbm, ⟨24, _⟩ => ⟨S32768x512, .f32⟩
  | .hbm, ⟨25, _⟩ => ⟨S32768x512, .f32⟩
  | .hbm, ⟨26, _⟩ => ⟨S32768x1024, .f32⟩
  | .hbm, ⟨27, _⟩ => ⟨S1024x1024, .f32⟩
  | .hbm, ⟨28, _⟩ => ⟨S32768x1024, .f32⟩
  | .hbm, ⟨29, _⟩ => ⟨S32768x1024, .f32⟩
  | .hbm, ⟨30, _⟩ => ⟨S32768x1024, .f32⟩
  | .hbm, ⟨31, _⟩ => ⟨S_, .f32⟩
  | .hbm, ⟨32, _⟩ => ⟨S32768, .f32⟩
  | .hbm, ⟨33, _⟩ => ⟨S32768x1, .f32⟩
  | .hbm, ⟨34, _⟩ => ⟨S_, .f32⟩
  | .hbm, ⟨35, _⟩ => ⟨S32768x1, .f32⟩
  | .hbm, ⟨36, _⟩ => ⟨S32768x1, .f32⟩
  | .hbm, ⟨37, _⟩ => ⟨S_, .f32⟩
  | .hbm, ⟨38, _⟩ => ⟨S32768x1, .f32⟩
  | .hbm, ⟨39, _⟩ => ⟨S32768x1, .f32⟩
  | .hbm, ⟨40, _⟩ => ⟨S32768x1, .f32⟩
  | .hbm, ⟨41, _⟩ => ⟨S32768x1024, .f32⟩
  | .hbm, ⟨42, _⟩ => ⟨S32768x1024, .f32⟩
  | .hbm, ⟨43, _⟩ => ⟨S1x1024, .f32⟩
  | .hbm, ⟨44, _⟩ => ⟨S32768x1024, .f32⟩
  | .hbm, ⟨45, _⟩ => ⟨S32768x1024, .f32⟩
  | .hbm, ⟨46, _⟩ => ⟨S1024x4096, .f32⟩
  | .hbm, ⟨47, _⟩ => ⟨S32768x4096, .f32⟩
  | .hbm, ⟨48, _⟩ => ⟨S_, .f32⟩
  | .hbm, ⟨49, _⟩ => ⟨S32768x4096, .f32⟩
  | .hbm, ⟨50, _⟩ => ⟨S32768x4096, .f32⟩
  | .hbm, ⟨51, _⟩ => ⟨S32768x4096, .f32⟩
  | .hbm, ⟨52, _⟩ => ⟨S4096x1024, .f32⟩
  | .hbm, ⟨53, _⟩ => ⟨S32768x1024, .f32⟩
  | .hbm, ⟨54, _⟩ => ⟨S32768x1024, .f32⟩
  | .hbm, ⟨55, _⟩ => ⟨S32768x1024, .f32⟩
  | .hbm, ⟨56, _⟩ => ⟨S_, .f32⟩
  | .hbm, ⟨57, _⟩ => ⟨S32768, .f32⟩
  | .hbm, ⟨58, _⟩ => ⟨S32768x1, .f32⟩
  | .hbm, ⟨59, _⟩ => ⟨S_, .f32⟩
  | .hbm, ⟨60, _⟩ => ⟨S32768x1, .f32⟩
  | .hbm, ⟨61, _⟩ => ⟨S32768x1, .f32⟩
  | .hbm, ⟨62, _⟩ => ⟨S_, .f32⟩
  | .hbm, ⟨63, _⟩ => ⟨S32768x1, .f32⟩
  | .hbm, ⟨64, _⟩ => ⟨S32768x1, .f32⟩
  | .hbm, ⟨65, _⟩ => ⟨S32768x1, .f32⟩
  | .hbm, ⟨66, _⟩ => ⟨S32768x1024, .f32⟩
  | .hbm, ⟨67, _⟩ => ⟨S32768x1024, .f32⟩
  | .hbm, ⟨68, _⟩ => ⟨S1x1024, .f32⟩
  | .hbm, ⟨69, _⟩ => ⟨S32768x1024, .f32⟩
  | .hbm, ⟨70, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_call0_cst : Ref sig .tc := ⟨.hbm, 48, rfl⟩
abbrev main_call0_v0 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_5 : Ref sig .tc := ⟨.hbm, 56, rfl⟩
abbrev main_v38 : Ref sig .tc := ⟨.hbm, 57, rfl⟩
abbrev main_v39 : Ref sig .tc := ⟨.hbm, 58, rfl⟩
abbrev main_cst_6 : Ref sig .tc := ⟨.hbm, 59, rfl⟩
abbrev main_v40 : Ref sig .tc := ⟨.hbm, 60, rfl⟩
abbrev main_v41 : Ref sig .tc := ⟨.hbm, 61, rfl⟩
abbrev main_cst_7 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩

abbrev nD : Nat := 1
abbrev τ : Topo := Topo.v7x

variable {F : FTy → Type} [FloatOps F]
-- ==== Kernel3.lean ====
abbrev S16x2048x1024 : Shape := ⟨3, ![16, 2048, 1024]⟩
abbrev S1024 : Shape := ⟨1, ![1024]⟩
abbrev S1024x2832 : Shape := ⟨2, ![1024, 2832]⟩
abbrev S1024x2320 : Shape := ⟨2, ![1024, 2320]⟩
abbrev S_ : Shape := ⟨0, ![]⟩
abbrev S1024x112 : Shape := ⟨2, ![1024, 112]⟩
abbrev S1024x512 : Shape := ⟨2, ![1024, 512]⟩
abbrev S1024x2944 : Shape := ⟨2, ![1024, 2944]⟩
abbrev S2832x1024 : Shape := ⟨2, ![2832, 1024]⟩
abbrev S1024x1024 : Shape := ⟨2, ![1024, 1024]⟩
abbrev S1x1024 : Shape := ⟨2, ![1, 1024]⟩
abbrev S16x2048x512 : Shape := ⟨3, ![16, 2048, 512]⟩
abbrev S16x512x2048 : Shape := ⟨3, ![16, 512, 2048]⟩
abbrev S16x8x512x256 : Shape := ⟨4, ![16, 8, 512, 256]⟩
abbrev S16x2048x896 : Shape := ⟨3, ![16, 2048, 896]⟩
abbrev S1x512x1024 : Shape := ⟨3, ![1, 512, 1024]⟩
abbrev S1x512x512 : Shape := ⟨3, ![1, 512, 512]⟩
abbrev S1x2x512x256 : Shape := ⟨4, ![1, 2, 512, 256]⟩
abbrev S1x512x896 : Shape := ⟨3, ![1, 512, 896]⟩
abbrev S512x1024 : Shape := ⟨2, ![512, 1024]⟩
abbrev S512 : Shape := ⟨1, ![512]⟩
abbrev S512x1 : Shape := ⟨2, ![512, 1]⟩
abbrev S512x512 : Shape := ⟨2, ![512, 512]⟩
abbrev S1024x128 : Shape := ⟨2, ![1024, 128]⟩
abbrev S512x128 : Shape := ⟨2, ![512, 128]⟩
abbrev S1024x768 : Shape := ⟨2, ![1024, 768]⟩
abbrev S512x768 : Shape := ⟨2, ![512, 768]⟩
abbrev S512x896 : Shape := ⟨2, ![512, 896]⟩
abbrev S512x256 : Shape := ⟨2, ![512, 256]⟩
abbrev S1x1x512x256 : Shape := ⟨4, ![1, 1, 512, 256]⟩

abbrev nBuf : Space → Nat
  | .hbm => 20
  | .vmem => 19
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x2832, .f32⟩
  | .hbm, ⟨3, _⟩ => ⟨S1024x2320, .f32⟩
  | .hbm, ⟨4, _⟩ => ⟨S_, .f32⟩
  | .hbm, ⟨5, _⟩ => ⟨S1024x112, .f32⟩
  | .hbm, ⟨6, _⟩ => ⟨S1024x512, .f32⟩
  | .hbm, ⟨7, _⟩ => ⟨S1024x2944, .f32⟩
  | .hbm, ⟨8, _⟩ => ⟨S2832x1024, .f32⟩
  | .hbm, ⟨9, _⟩ => ⟨S1024x1024, .f32⟩
  | .hbm, ⟨10, _⟩ => ⟨S1024x2944, .bf16⟩
  | .hbm, ⟨11, _⟩ => ⟨S1024x1024, .bf16⟩
  | .hbm, ⟨12, _⟩ => ⟨S1x1024, .f32⟩
  | .hbm, ⟨13, _⟩ => ⟨S16x2048x512, .bf16⟩
  | .hbm, ⟨14, _⟩ => ⟨S16x512x2048, .f32⟩
  | .hbm, ⟨15, _⟩ => ⟨S16x512x2048, .f32⟩
  | .hbm, ⟨16, _⟩ => ⟨S16x8x512x256, .bf16⟩
  | .hbm, ⟨17, _⟩ => ⟨S16x8x512x256, .bf16⟩
  | .hbm, ⟨18, _⟩ => ⟨S16x2048x896, .f32⟩
  | .hbm, ⟨19, _⟩ => ⟨S16x2048x512, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2944, .bf16⟩
  | .local _ .vmem, ⟨4, _⟩ => ⟨S1024x1024, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x2x512x256, .bf16⟩
  | .local _ .vmem, ⟨12, _⟩ => ⟨S1x2x512x256, .bf16⟩
  | .local _ .vmem, ⟨13, _⟩ => ⟨S1x2x512x256, .bf16⟩
  | .local _ .vmem, ⟨14, _⟩ => ⟨S1x2x512x256, .bf16⟩
  | .local _ .vmem, ⟨15, _⟩ => ⟨S1x512x896, .f32⟩
  | .local _ .vmem, ⟨16, _⟩ => ⟨S1x512x896, .f32⟩
  | .local _ .vmem, ⟨17, _⟩ => ⟨S1x512x512, .f32⟩
  | .local _ .vmem, ⟨18, _⟩ => ⟨S1x512x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v9_2 : Ref sig .tc := ⟨.hbm, 15, rfl⟩
abbrev main_v9_3 : Ref sig .tc := ⟨.hbm, 16, rfl⟩
abbrev main_v9_4 : Ref sig .tc := ⟨.hbm, 17, rfl⟩
abbrev main_v9_5 : Ref sig .tc := ⟨.hbm, 18, rfl⟩
abbrev main_v9_6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2944 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x896 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference3Ideal.lean ====
abbrev S16x2048x1024 : Shape := ⟨3, ![16, 2048, 1024]⟩
abbrev S1024 : Shape := ⟨1, ![1024]⟩
abbrev S1024x2832 : Shape := ⟨2, ![1024, 2832]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x2832 : Shape := ⟨3, ![16, 2048, 2832]⟩
abbrev S16x2048x512 : Shape := ⟨3, ![16, 2048, 512]⟩
abbrev S16x2048x128 : Shape := ⟨3, ![16, 2048, 128]⟩
abbrev S16x2048x656 : Shape := ⟨3, ![16, 2048, 656]⟩
abbrev S16x2048x112 : Shape := ⟨3, ![16, 2048, 112]⟩
abbrev S16x2048x896 : Shape := ⟨3, ![16, 2048, 896]⟩
abbrev S16x512x2048 : Shape := ⟨3, ![16, 512, 2048]⟩
abbrev S16x8x256x512 : Shape := ⟨4, ![16, 8, 256, 512]⟩
abbrev S16x8x512x256 : Shape := ⟨4, ![16, 8, 512, 256]⟩

abbrev nBuf : Space → Nat
  | .hbm => 44
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x2832, .f32⟩
  | .hbm, ⟨3, _⟩ => ⟨S16x2048x1024, .f32⟩
  | .hbm, ⟨4, _⟩ => ⟨S_, .f32⟩
  | .hbm, ⟨5, _⟩ => ⟨S16x2048, .f32⟩
  | .hbm, ⟨6, _⟩ => ⟨S16x2048x1, .f32⟩
  | .hbm, ⟨7, _⟩ => ⟨S_, .f32⟩
  | .hbm, ⟨8, _⟩ => ⟨S16x2048x1, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S16x2048x1, .f32⟩
  | .hbm, ⟨14, _⟩ => ⟨S16x2048x1024, .f32⟩
  | .hbm, ⟨15, _⟩ => ⟨S16x2048x1024, .f32⟩
  | .hbm, ⟨16, _⟩ => ⟨S1x1x1024, .f32⟩
  | .hbm, ⟨17, _⟩ => ⟨S16x2048x1024, .f32⟩
  | .hbm, ⟨18, _⟩ => ⟨S16x2048x1024, .f32⟩
  | .hbm, ⟨19, _⟩ => ⟨S16x2048x2832, .f32⟩
  | .hbm, ⟨20, _⟩ => ⟨S16x2048x512, .f32⟩
  | .hbm, ⟨21, _⟩ => ⟨S_, .f32⟩
  | .hbm, ⟨22, _⟩ => ⟨S16x2048x512, .f32⟩
  | .hbm, ⟨23, _⟩ => ⟨S16x2048x512, .f32⟩
  | .hbm, ⟨24, _⟩ => ⟨S16x2048x512, .f32⟩
  | .hbm, ⟨25, _⟩ => ⟨S16x2048x512, .f32⟩
  | .hbm, ⟨26, _⟩ => ⟨S16x2048x128, .f32⟩
  | .hbm, ⟨27, _⟩ => ⟨S_, .f32⟩
  | .hbm, ⟨28, _⟩ => ⟨S16x2048x128, .f32⟩
  | .hbm, ⟨29, _⟩ => ⟨S16x2048x128, .f32⟩
  | .hbm, ⟨30, _⟩ => ⟨S16x2048x656, .f32⟩
  | .hbm, ⟨31, _⟩ => ⟨S_, .f32⟩
  | .hbm, ⟨32, _⟩ => ⟨S16x2048x112, .f32⟩
  | .hbm, ⟨33, _⟩ => ⟨S16x2048x896, .f32⟩
  | .hbm, ⟨34, _⟩ => ⟨S16x2048x512, .bf16⟩
  | .hbm, ⟨35, _⟩ => ⟨S16x512x2048, .f32⟩
  | .hbm, ⟨36, _⟩ => ⟨S16x512x2048, .f32⟩
  | .hbm, ⟨37, _⟩ => ⟨S16x8x256x512, .f32⟩
  | .hbm, ⟨38, _⟩ => ⟨S16x8x512x256, .f32⟩
  | .hbm, ⟨39, _⟩ => ⟨S16x8x512x256, .bf16⟩
  | .hbm, ⟨40, _⟩ => ⟨S16x8x256x512, .f32⟩
  | .hbm, ⟨41, _⟩ => ⟨S16x8x512x256, .f32⟩
  | .hbm, ⟨42, _⟩ => ⟨S16x8x512x256, .bf16⟩
  | .hbm, ⟨43, _⟩ => ⟨S16x2048x512, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]
-- ==== Kernel4.lean ====
abbrev S32x1024 : Shape := ⟨2, ![32, 1024]⟩
abbrev S1024 : Shape := ⟨1, ![1024]⟩
abbrev S1024x2832 : Shape := ⟨2, ![1024, 2832]⟩
abbrev S1024x2320 : Shape := ⟨2, ![1024, 2320]⟩
abbrev S_ : Shape := ⟨0, ![]⟩
abbrev S1024x112 : Shape := ⟨2, ![1024, 112]⟩
abbrev S1024x512 : Shape := ⟨2, ![1024, 512]⟩
abbrev S1024x2944 : Shape := ⟨2, ![1024, 2944]⟩
abbrev S1x1024 : Shape := ⟨2, ![1, 1024]⟩
abbrev S32x512 : Shape := ⟨2, ![32, 512]⟩
abbrev S32x896 : Shape := ⟨2, ![32, 896]⟩
abbrev S32 : Shape := ⟨1, ![32]⟩
abbrev S32x1 : Shape := ⟨2, ![32, 1]⟩
abbrev S1024x128 : Shape := ⟨2, ![1024, 128]⟩
abbrev S32x128 : Shape := ⟨2, ![32, 128]⟩
abbrev S1024x768 : Shape := ⟨2, ![1024, 768]⟩
abbrev S32x768 : Shape := ⟨2, ![32, 768]⟩

abbrev nBuf : Space → Nat
  | .hbm => 15
  | .vmem => 8
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x2832, .f32⟩
  | .hbm, ⟨3, _⟩ => ⟨S1024x2320, .f32⟩
  | .hbm, ⟨4, _⟩ => ⟨S_, .f32⟩
  | .hbm, ⟨5, _⟩ => ⟨S1024x112, .f32⟩
  | .hbm, ⟨6, _⟩ => ⟨S1024x512, .f32⟩
  | .hbm, ⟨7, _⟩ => ⟨S1024x2944, .f32⟩
  | .hbm, ⟨8, _⟩ => ⟨S1024x2944, .bf16⟩
  | .hbm, ⟨9, _⟩ => ⟨S1x1024, .f32⟩
  | .hbm, ⟨10, _⟩ => ⟨S32x512, .f32⟩
  | .hbm, ⟨11, _⟩ => ⟨S32x512, .f32⟩
  | .hbm, ⟨12, _⟩ => ⟨S32x512, .f32⟩
  | .hbm, ⟨13, _⟩ => ⟨S32x896, .f32⟩
  | .hbm, ⟨14, _⟩ => ⟨S32x512, .f32⟩
  | .local _ .vmem, ⟨0, _⟩ => ⟨S32x1024, .f32⟩
  | .local _ .vmem, ⟨1, _⟩ => ⟨S1x1024, .f32⟩
  | .local _ .vmem, ⟨2, _⟩ => ⟨S1024x2944, .bf16⟩
  | .local _ .vmem, ⟨3, _⟩ => ⟨S32x512, .f32⟩
  | .local _ .vmem, ⟨4, _⟩ => ⟨S32x512, .f32⟩
  | .local _ .vmem, ⟨5, _⟩ => ⟨S32x512, .f32⟩
  | .local _ .vmem, ⟨6, _⟩ => ⟨S32x896, .f32⟩
  | .local _ .vmem, ⟨7, _⟩ => ⟨S32x512, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev main_v6_4 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2944 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x896 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference4Ideal.lean ====
abbrev S32x1024 : Shape := ⟨2, ![32, 1024]⟩
abbrev S1024 : Shape := ⟨1, ![1024]⟩
abbrev S1024x2832 : Shape := ⟨2, ![1024, 2832]⟩
abbrev S_ : Shape := ⟨0, ![]⟩
abbrev S32 : Shape := ⟨1, ![32]⟩
abbrev S32x1 : Shape := ⟨2, ![32, 1]⟩
abbrev S1x1024 : Shape := ⟨2, ![1, 1024]⟩
abbrev S32x2832 : Shape := ⟨2, ![32, 2832]⟩
abbrev S32x128 : Shape := ⟨2, ![32, 128]⟩
abbrev S32x656 : Shape := ⟨2, ![32, 656]⟩
abbrev S32x112 : Shape := ⟨2, ![32, 112]⟩
abbrev S32x896 : Shape := ⟨2, ![32, 896]⟩
abbrev S32x512 : Shape := ⟨2, ![32, 512]⟩

abbrev nBuf : Space → Nat
  | .hbm => 35
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x2832, .f32⟩
  | .hbm, ⟨3, _⟩ => ⟨S32x1024, .f32⟩
  | .hbm, ⟨4, _⟩ => ⟨S_, .f32⟩
  | .hbm, ⟨5, _⟩ => ⟨S32, .f32⟩
  | .hbm, ⟨6, _⟩ => ⟨S32x1, .f32⟩
  | .hbm, ⟨7, _⟩ => ⟨S_, .f32⟩
  | .hbm, ⟨8, _⟩ => ⟨S32x1, .f32⟩
  | .hbm, ⟨9, _⟩ => ⟨S32x1, .f32⟩
  | .hbm, ⟨10, _⟩ => ⟨S_, .f32⟩
  | .hbm, ⟨11, _⟩ => ⟨S32x1, .f32⟩
  | .hbm, ⟨12, _⟩ => ⟨S32x1, .f32⟩
  | .hbm, ⟨13, _⟩ => ⟨S32x1, .f32⟩
  | .hbm, ⟨14, _⟩ => ⟨S32x1024, .f32⟩
  | .hbm, ⟨15, _⟩ => ⟨S32x1024, .f32⟩
  | .hbm, ⟨16, _⟩ => ⟨S1x1024, .f32⟩
  | .hbm, ⟨17, _⟩ => ⟨S32x1024, .f32⟩
  | .hbm, ⟨18, _⟩ => ⟨S32x1024, .f32⟩
  | .hbm, ⟨19, _⟩ => ⟨S32x2832, .f32⟩
  | .hbm, ⟨20, _⟩ => ⟨S32x128, .f32⟩
  | .hbm, ⟨21, _⟩ => ⟨S_, .f32⟩
  | .hbm, ⟨22, _⟩ => ⟨S32x128, .f32⟩
  | .hbm, ⟨23, _⟩ => ⟨S32x128, .f32⟩
  | .hbm, ⟨24, _⟩ => ⟨S32x656, .f32⟩
  | .hbm, ⟨25, _⟩ => ⟨S_, .f32⟩
  | .hbm, ⟨26, _⟩ => ⟨S32x112, .f32⟩
  | .hbm, ⟨27, _⟩ => ⟨S32x896, .f32⟩
  | .hbm, ⟨28, _⟩ => ⟨S32x512, .f32⟩
  | .hbm, ⟨29, _⟩ => ⟨S_, .f32⟩
  | .hbm, ⟨30, _⟩ => ⟨S32x512, .f32⟩
  | .hbm, ⟨31, _⟩ => ⟨S32x512, .f32⟩
  | .hbm, ⟨32, _⟩ => ⟨S32x512, .f32⟩
  | .hbm, ⟨33, _⟩ => ⟨S32x512, .f32⟩
  | .hbm, ⟨34, _⟩ => ⟨S32x512, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Kernel5.lean ====
abbrev S32x512 : Shape := ⟨2, ![32, 512]⟩
abbrev S32x3x256 : Shape := ⟨3, ![32, 3, 256]⟩
abbrev S32x256 : Shape := ⟨2, ![32, 256]⟩
abbrev S4x256 : Shape := ⟨2, ![4, 256]⟩
abbrev S256 : Shape := ⟨1, ![256]⟩
abbrev S4x64x64 : Shape := ⟨3, ![4, 64, 64]⟩
abbrev S4x4 : Shape := ⟨2, ![4, 4]⟩
abbrev S_ : Shape := ⟨0, ![]⟩
abbrev S4x64x1x64 : Shape := ⟨4, ![4, 64, 1, 64]⟩
abbrev S4x1x4x1 : Shape := ⟨4, ![4, 1, 4, 1]⟩
abbrev S4x64x4x64 : Shape := ⟨4, ![4, 64, 4, 64]⟩
abbrev S256x256 : Shape := ⟨2, ![256, 256]⟩
abbrev S32x768 : Shape := ⟨2, ![32, 768]⟩
abbrev S1x256 : Shape := ⟨2, ![1, 256]⟩
abbrev S32 : Shape := ⟨1, ![32]⟩
abbrev S32x1 : Shape := ⟨2, ![32, 1]⟩

abbrev nBuf : Space → Nat
  | .hbm => 48
  | .vmem => 14
  | .smem => 0
  | _ => 0

abbrev bufTy : (tb : Table) → Fin (tcTables nBuf tb) → BufTy
  | .hbm, ⟨0, _⟩ => ⟨S32x512, .f32⟩
  | .hbm, ⟨1, _⟩ => ⟨S32x3x256, .f32⟩
  | .hbm, ⟨2, _⟩ => ⟨S32x256, .f32⟩
  | .hbm, ⟨3, _⟩ => ⟨S4x256, .f32⟩
  | .hbm, ⟨4, _⟩ => ⟨S256, .f32⟩
  | .hbm, ⟨5, _⟩ => ⟨S4x64x64, .f32⟩
  | .hbm, ⟨6, _⟩ => ⟨S256, .f32⟩
  | .hbm, ⟨7, _⟩ => ⟨S4x64x64, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S4x4, .i32⟩
  | .hbm, ⟨12, _⟩ => ⟨S4x4, .i32⟩
  | .hbm, ⟨13, _⟩ => ⟨S_, .i32⟩
  | .hbm, ⟨14, _⟩ => ⟨S4x4, .i32⟩
  | .hbm, ⟨15, _⟩ => ⟨S4x4, .i32⟩
  | .hbm, ⟨16, _⟩ => ⟨S4x4, .i1⟩
  | .hbm, ⟨17, _⟩ => ⟨S4x4, .f32⟩
  | .hbm, ⟨18, _⟩ => ⟨S4x64x1x64, .f32⟩
  | .hbm, ⟨19, _⟩ => ⟨S4x1x4x1, .f32⟩
  | .hbm, ⟨20, _⟩ => ⟨S4x64x4x64, .f32⟩
  | .hbm, ⟨21, _⟩ => ⟨S4x64x4x64, .f32⟩
  | .hbm, ⟨22, _⟩ => ⟨S4x64x4x64, .f32⟩
  | .hbm, ⟨23, _⟩ => ⟨S256x256, .f32⟩
  | .hbm, ⟨24, _⟩ => ⟨S256x256, .bf16⟩
  | .hbm, ⟨25, _⟩ => ⟨S4x4, .i32⟩
  | .hbm, ⟨26, _⟩ => ⟨S4x4, .i32⟩
  | .hbm, ⟨27, _⟩ => ⟨S_, .i32⟩
  | .hbm, ⟨28, _⟩ => ⟨S4x4, .i32⟩
  | .hbm, ⟨29, _⟩ => ⟨S4x4, .i32⟩
  | .hbm, ⟨30, _⟩ => ⟨S4x4, .i1⟩
  | .hbm, ⟨31, _⟩ => ⟨S4x4, .f32⟩
  | .hbm, ⟨32, _⟩ => ⟨S4x64x1x64, .f32⟩
  | .hbm, ⟨33, _⟩ => ⟨S4x1x4x1, .f32⟩
  | .hbm, ⟨34, _⟩ => ⟨S4x64x4x64, .f32⟩
  | .hbm, ⟨35, _⟩ => ⟨S4x64x4x64, .f32⟩
  | .hbm, ⟨36, _⟩ => ⟨S4x64x4x64, .f32⟩
  | .hbm, ⟨37, _⟩ => ⟨S256x256, .f32⟩
  | .hbm, ⟨38, _⟩ => ⟨S256x256, .bf16⟩
  | .hbm, ⟨39, _⟩ => ⟨S32x768, .f32⟩
  | .hbm, ⟨40, _⟩ => ⟨S1x256, .f32⟩
  | .hbm, ⟨41, _⟩ => ⟨S1x256, .f32⟩
  | .hbm, ⟨42, _⟩ => ⟨S1x256, .f32⟩
  | .hbm, ⟨43, _⟩ => ⟨S1x256, .f32⟩
  | .hbm, ⟨44, _⟩ => ⟨S1x256, .f32⟩
  | .hbm, ⟨45, _⟩ => ⟨S32x256, .f32⟩
  | .hbm, ⟨46, _⟩ => ⟨S32x768, .f32⟩
  | .hbm, ⟨47, _⟩ => ⟨S32x256, .f32⟩
  | .local _ .vmem, ⟨0, _⟩ => ⟨S32x512, .f32⟩
  | .local _ .vmem, ⟨1, _⟩ => ⟨S32x768, .f32⟩
  | .local _ .vmem, ⟨2, _⟩ => ⟨S32x256, .f32⟩
  | .local _ .vmem, ⟨3, _⟩ => ⟨S4x256, .f32⟩
  | .local _ .vmem, ⟨4, _⟩ => ⟨S1x256, .f32⟩
  | .local _ .vmem, ⟨5, _⟩ => ⟨S256x256, .bf16⟩
  | .local _ .vmem, ⟨6, _⟩ => ⟨S1x256, .f32⟩
  | .local _ .vmem, ⟨7, _⟩ => ⟨S256x256, .bf16⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S32x256, .f32⟩
  | .local _ .vmem, ⟨12, _⟩ => ⟨S32x768, .f32⟩
  | .local _ .vmem, ⟨13, _⟩ => ⟨S32x256, .f32⟩
  | _, _ => ⟨S32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32_0 : Ref sig .tc := ⟨.hbm, 45, rfl⟩
abbrev main_v32_1 : Ref sig .tc := ⟨.hbm, 46, rfl⟩
abbrev main_v32_2 : Ref sig .tc := ⟨.hbm, 47, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S32x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S32x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S32x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Reference5Ideal.lean ====
abbrev S32x512 : Shape := ⟨2, ![32, 512]⟩
abbrev S32x3x256 : Shape := ⟨3, ![32, 3, 256]⟩
abbrev S32x256 : Shape := ⟨2, ![32, 256]⟩
abbrev S4x256 : Shape := ⟨2, ![4, 256]⟩
abbrev S256 : Shape := ⟨1, ![256]⟩
abbrev S4x64x64 : Shape := ⟨3, ![4, 64, 64]⟩
abbrev S32x1x256 : Shape := ⟨3, ![32, 1, 256]⟩
abbrev S32x4x256 : Shape := ⟨3, ![32, 4, 256]⟩
abbrev S1x256 : Shape := ⟨2, ![1, 256]⟩
abbrev S1x1x256 : Shape := ⟨3, ![1, 1, 256]⟩
abbrev S_ : Shape := ⟨0, ![]⟩
abbrev S32x1x4x64 : Shape := ⟨4, ![32, 1, 4, 64]⟩
abbrev S4x64x32x1 : Shape := ⟨4, ![4, 64, 32, 1]⟩
abbrev S32 : Shape := ⟨1, ![32]⟩
abbrev S32x1 : Shape := ⟨2, ![32, 1]⟩
abbrev S32x768 : Shape := ⟨2, ![32, 768]⟩

abbrev nBuf : Space → Nat
  | .hbm => 148
  | .vmem => 0
  | .smem => 0
  | _ => 0

abbrev hbmTy0_0 (i : Nat) : BufTy := match i % 128 with
  | 0 => ⟨S32x512, .f32⟩
  | 1 => ⟨S32x3x256, .f32⟩
  | 2 => ⟨S32x256, .f32⟩
  | 3 => ⟨S4x256, .f32⟩
  | 4 => ⟨S256, .f32⟩
  | 5 => ⟨S4x64x64, .f32⟩
  | 6 => ⟨S256, .f32⟩
  | 7 => ⟨S4x64x64, .f32⟩
  | 8 => ⟨S256, .f32⟩
  | 9 => ⟨S256, .f32⟩
  | 10 => ⟨S256, .f32⟩
  | 11 => ⟨S32x256, .f32⟩
  | 12 => ⟨S32x256, .f32⟩
  | 13 => ⟨S32x1x256, .f32⟩
  | 14 => ⟨S32x4x256, .f32⟩
  | 15 => ⟨S32x1x256, .f32⟩
  | 16 => ⟨S1x256, .f32⟩
  | 17 => ⟨S256, .f32⟩
  | 18 => ⟨S1x1x256, .f32⟩
  | 19 => ⟨S32x1x256, .f32⟩
  | 20 => ⟨S32x1x256, .f32⟩
  | 21 => ⟨S_, .f32⟩
  | 22 => ⟨S32x1x256, .f32⟩
  | 23 => ⟨S32x1x256, .f32⟩
  | 24 => ⟨S32x1x256, .f32⟩
  | 25 => ⟨S1x256, .f32⟩
  | 26 => ⟨S256, .f32⟩
  | 27 => ⟨S1x1x256, .f32⟩
  | 28 => ⟨S32x1x256, .f32⟩
  | 29 => ⟨S32x1x256, .f32⟩
  | 30 => ⟨S32x1x256, .f32⟩
  | 31 => ⟨S32x1x256, .f32⟩
  | 32 => ⟨S1x256, .f32⟩
  | 33 => ⟨S256, .f32⟩
  | 34 => ⟨S1x1x256, .f32⟩
  | 35 => ⟨S32x1x256, .f32⟩
  | 36 => ⟨S32x1x256, .f32⟩
  | 37 => ⟨S32x1x256, .f32⟩
  | 38 => ⟨S32x1x256, .f32⟩
  | 39 => ⟨S1x256, .f32⟩
  | 40 => ⟨S256, .f32⟩
  | 41 => ⟨S1x1x256, .f32⟩
  | 42 => ⟨S32x1x256, .f32⟩
  | 43 => ⟨S32x1x256, .f32⟩
  | 44 => ⟨S32x1x256, .f32⟩
  | 45 => ⟨S1x1x256, .f32⟩
  | 46 => ⟨S32x1x256, .f32⟩
  | 47 => ⟨S32x1x256, .f32⟩
  | 48 => ⟨S32x1x4x64, .f32⟩
  | 49 => ⟨S4x64x32x1, .f32⟩
  | 50 => ⟨S32x1x4x64, .f32⟩
  | 51 => ⟨S32x1x256, .f32⟩
  | 52 => ⟨S1x1x256, .f32⟩
  | 53 => ⟨S32x1x256, .f32⟩
  | 54 => ⟨S32x1x256, .f32⟩
  | 55 => ⟨S32x1x256, .f32⟩
  | 56 => ⟨S32x1x256, .f32⟩
  | 57 => ⟨S_, .f32⟩
  | 58 => ⟨S32x1x256, .f32⟩
  | 59 => ⟨S32x1x256, .f32⟩
  | 60 => ⟨S_, .f32⟩
  | 61 => ⟨S32x1x256, .f32⟩
  | 62 => ⟨S32x1x256, .f32⟩
  | 63 => ⟨S4x64x32x1, .f32⟩
  | 64 => ⟨S32x1x4x64, .f32⟩
  | 65 => ⟨S32x1x256, .f32⟩
  | 66 => ⟨S1x1x256, .f32⟩
  | 67 => ⟨S32x1x256, .f32⟩
  | 68 => ⟨S32x1x256, .f32⟩
  | 69 => ⟨S32x1x256, .f32⟩
  | 70 => ⟨S32x1x256, .f32⟩
  | 71 => ⟨S_, .f32⟩
  | 72 => ⟨S32x1x256, .f32⟩
  | 73 => ⟨S32x1x256, .f32⟩
  | 74 => ⟨S_, .f32⟩
  | 75 => ⟨S32x1x256, .f32⟩
  | 76 => ⟨S32x1x256, .f32⟩
  | 77 => ⟨S_, .f32⟩
  | 78 => ⟨S32x1x256, .f32⟩
  | 79 => ⟨S32x1x256, .f32⟩
  | 80 => ⟨S256, .f32⟩
  | 81 => ⟨S_, .f32⟩
  | 82 => ⟨S256, .f32⟩
  | 83 => ⟨S256, .f32⟩
  | 84 => ⟨S256, .f32⟩
  | 85 => ⟨S256, .f32⟩
  | 86 => ⟨S256, .i1⟩
  | 87 => ⟨S256, .f32⟩
  | 88 => ⟨S256, .f32⟩
  | 89 => ⟨S256, .f32⟩
  | 90 => ⟨S256, .f32⟩
  | 91 => ⟨S256, .f32⟩
  | 92 => ⟨S256, .f32⟩
  | 93 => ⟨S256, .f32⟩
  | 94 => ⟨S256, .f32⟩
  | 95 => ⟨S256, .f32⟩
  | 96 => ⟨S1x1x256, .f32⟩
  | 97 => ⟨S32x1x256, .f32⟩
  | 98 => ⟨S32x1x256, .f32⟩
  | 99 => ⟨S32x1x256, .f32⟩
  | 100 => ⟨S_, .f32⟩
  | 101 => ⟨S32x1x256, .f32⟩
  | 102 => ⟨S32x1x256, .f32⟩
  | 103 => ⟨S32x1x256, .f32⟩
  | 104 => ⟨S32x1x256, .f32⟩
  | 105 => ⟨S32x1x256, .f32⟩
  | 106 => ⟨S32x1x256, .f32⟩
  | 107 => ⟨S32x1x256, .f32⟩
  | 108 => ⟨S32x256, .f32⟩
  | 109 => ⟨S32x256, .f32⟩
  | 110 => ⟨S32x256, .f32⟩
  | 111 => ⟨S32x256, .f32⟩
  | 112 => ⟨S32x256, .f32⟩
  | 113 => ⟨S32x256, .f32⟩
  | 114 => ⟨S_, .f32⟩
  | 115 => ⟨S32x256, .f32⟩
  | 116 => ⟨S32x256, .f32⟩
  | 117 => ⟨S32x256, .f32⟩
  | 118 => ⟨S_, .f32⟩
  | 119 => ⟨S32x256, .f32⟩
  | 120 => ⟨S32x256, .f32⟩
  | 121 => ⟨S32x256, .f32⟩
  | 122 => ⟨S_, .f32⟩
  | 123 => ⟨S32x256, .f32⟩
  | 124 => ⟨S32x256, .f32⟩
  | 125 => ⟨S_, .f32⟩
  | 126 => ⟨S32x256, .f32⟩
  | 127 => ⟨S32x256, .f32⟩
  | _ => ⟨S32x512, .f32⟩

abbrev hbmTy0_1 (i : Nat) : BufTy := match i % 128 with
  | 0 => ⟨S32x256, .f32⟩
  | 1 => ⟨S32x256, .f32⟩
  | 2 => ⟨S32x256, .f32⟩
  | 3 => ⟨S_, .f32⟩
  | 4 => ⟨S32, .f32⟩
  | 5 => ⟨S32x1, .f32⟩
  | 6 => ⟨S_, .f32⟩
  | 7 => ⟨S32x1, .f32⟩
  | 8 => ⟨S32x1, .f32⟩
  | 9 => ⟨S_, .f32⟩
  | 10 => ⟨S32x1, .f32⟩
  | 11 => ⟨S32x1, .f32⟩
  | 12 => ⟨S32x1, .f32⟩
  | 13 => ⟨S32x256, .f32⟩
  | 14 => ⟨S32x256, .f32⟩
  | 15 => ⟨S1x256, .f32⟩
  | 16 => ⟨S32x256, .f32⟩
  | 17 => ⟨S32x256, .f32⟩
  | 18 => ⟨S32x3x256, .f32⟩
  | 19 => ⟨S32x768, .f32⟩
  | _ => ⟨S32x512, .f32⟩

abbrev hbmTy (i : Nat) : BufTy := match i / 128 with
  | 0 => hbmTy0_0 i
  | 1 => hbmTy0_1 i
  | _ => ⟨S32x512, .f32⟩

abbrev bufTy : (tb : Table) → Fin (tcTables nBuf tb) → BufTy
  | .hbm, ⟨i, _⟩ => hbmTy i
  | _, _ => ⟨S32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_0 : Ref sig .tc := ⟨.hbm, 57, rfl⟩
abbrev main_v45 : Ref sig .tc := ⟨.hbm, 58, rfl⟩
abbrev main_v46 : Ref sig .tc := ⟨.hbm, 59, rfl⟩
abbrev main_cst_1 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_2 : Ref sig .tc := ⟨.hbm, 71, rfl⟩
abbrev main_v57 : Ref sig .tc := ⟨.hbm, 72, rfl⟩
abbrev main_v58 : Ref sig .tc := ⟨.hbm, 73, rfl⟩
abbrev main_cst_3 : Ref sig .tc := ⟨.hbm, 74, rfl⟩
abbrev main_v59 : Ref sig .tc := ⟨.hbm, 75, rfl⟩
abbrev main_v60 : Ref sig .tc := ⟨.hbm, 76, rfl⟩
abbrev main_cst_4 : Ref sig .tc := ⟨.hbm, 77, rfl⟩
abbrev main_v61 : Ref sig .tc := ⟨.hbm, 78, rfl⟩
abbrev main_v62 : Ref sig .tc := ⟨.hbm, 79, rfl⟩
abbrev main_call0_v0 : Ref sig .tc := ⟨.hbm, 80, rfl⟩
abbrev main_call0_call0_cst : Ref sig .tc := ⟨.hbm, 81, rfl⟩
abbrev main_call0_call0_v0 : Ref sig .tc := ⟨.hbm, 82, rfl⟩
abbrev main_call0_call0_v1 : Ref sig .tc := ⟨.hbm, 83, rfl⟩
abbrev main_call0_call0_v2 : Ref sig .tc := ⟨.hbm, 84, rfl⟩
abbrev main_call0_call0_v3 : Ref sig .tc := ⟨.hbm, 85, rfl⟩
abbrev main_call0_call0_v4 : Ref sig .tc := ⟨.hbm, 86, rfl⟩
abbrev main_call0_call0_v5 : Ref sig .tc := ⟨.hbm, 87, rfl⟩
abbrev main_call0_call0_v6 : Ref sig .tc := ⟨.hbm, 88, rfl⟩
abbrev main_call0_call0_v7 : Ref sig .tc := ⟨.hbm, 89, rfl⟩
abbrev main_call0_call0_v8 : Ref sig .tc := ⟨.hbm, 90, rfl⟩
abbrev main_call0_call0_v9 : Ref sig .tc := ⟨.hbm, 91, rfl⟩
abbrev main_call0_call0_v10 : Ref sig .tc := ⟨.hbm, 92, rfl⟩
abbrev main_call0_call0_v11 : Ref sig .tc := ⟨.hbm, 93, rfl⟩
abbrev main_call0_v1 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_5 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_6 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_7 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_8 : Ref sig .tc := ⟨.hbm, 122, rfl⟩
abbrev main_v87 : Ref sig .tc := ⟨.hbm, 123, rfl⟩
abbrev main_v88 : Ref sig .tc := ⟨.hbm, 124, rfl⟩
abbrev main_cst_9 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_cst_10 : Ref sig .tc := ⟨.hbm, 131, rfl⟩
abbrev main_v94 : Ref sig .tc := ⟨.hbm, 132, rfl⟩
abbrev main_v95 : Ref sig .tc := ⟨.hbm, 133, rfl⟩
abbrev main_cst_11 : Ref sig .tc := ⟨.hbm, 134, rfl⟩
abbrev main_v96 : Ref sig .tc := ⟨.hbm, 135, rfl⟩
abbrev main_v97 : Ref sig .tc := ⟨.hbm, 136, rfl⟩
abbrev main_cst_12 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩

abbrev nD : Nat := 1
abbrev τ : Topo := Topo.v7x

variable {F : FTy → Type} [FloatOps F]
-- ==== Kernel6.lean ====
abbrev S16x2048x512 : Shape := ⟨3, ![16, 2048, 512]⟩
abbrev S4x256 : Shape := ⟨2, ![4, 256]⟩
abbrev S256 : Shape := ⟨1, ![256]⟩
abbrev S4x64x64 : Shape := ⟨3, ![4, 64, 64]⟩
abbrev S4x4 : Shape := ⟨2, ![4, 4]⟩
abbrev S_ : Shape := ⟨0, ![]⟩
abbrev S4x64x1x64 : Shape := ⟨4, ![4, 64, 1, 64]⟩
abbrev S4x1x4x1 : Shape := ⟨4, ![4, 1, 4, 1]⟩
abbrev S4x64x4x64 : Shape := ⟨4, ![4, 64, 4, 64]⟩
abbrev S256x256 : Shape := ⟨2, ![256, 256]⟩
abbrev S1x256 : Shape := ⟨2, ![1, 256]⟩
abbrev S16x2048x256 : Shape := ⟨3, ![16, 2048, 256]⟩
abbrev S16x3x256 : Shape := ⟨3, ![16, 3, 256]⟩
abbrev S16x1x256 : Shape := ⟨3, ![16, 1, 256]⟩
abbrev S1x2048x512 : Shape := ⟨3, ![1, 2048, 512]⟩
abbrev S1x2048x256 : Shape := ⟨3, ![1, 2048, 256]⟩
abbrev S1x3x256 : Shape := ⟨3, ![1, 3, 256]⟩
abbrev S1x1x256 : Shape := ⟨3, ![1, 1, 256]⟩
abbrev S2048x256 : Shape := ⟨2, ![2048, 256]⟩
abbrev S2048 : Shape := ⟨1, ![2048]⟩
abbrev S2048x1 : Shape := ⟨2, ![2048, 1]⟩
abbrev S3x256 : Shape := ⟨2, ![3, 256]⟩

abbrev nBuf : Space → Nat
  | .hbm => 45
  | .vmem => 16
  | .smem => 0
  | _ => 0

abbrev bufTy : (tb : Table) → Fin (tcTables nBuf tb) → BufTy
  | .hbm, ⟨0, _⟩ => ⟨S16x2048x512, .f32⟩
  | .hbm, ⟨1, _⟩ => ⟨S4x256, .f32⟩
  | .hbm, ⟨2, _⟩ => ⟨S256, .f32⟩
  | .hbm, ⟨3, _⟩ => ⟨S4x64x64, .f32⟩
  | .hbm, ⟨4, _⟩ => ⟨S256, .f32⟩
  | .hbm, ⟨5, _⟩ => ⟨S4x64x64, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S4x4, .i32⟩
  | .hbm, ⟨10, _⟩ => ⟨S4x4, .i32⟩
  | .hbm, ⟨11, _⟩ => ⟨S_, .i32⟩
  | .hbm, ⟨12, _⟩ => ⟨S4x4, .i32⟩
  | .hbm, ⟨13, _⟩ => ⟨S4x4, .i32⟩
  | .hbm, ⟨14, _⟩ => ⟨S4x4, .i1⟩
  | .hbm, ⟨15, _⟩ => ⟨S4x4, .f32⟩
  | .hbm, ⟨16, _⟩ => ⟨S4x64x1x64, .f32⟩
  | .hbm, ⟨17, _⟩ => ⟨S4x1x4x1, .f32⟩
  | .hbm, ⟨18, _⟩ => ⟨S4x64x4x64, .f32⟩
  | .hbm, ⟨19, _⟩ => ⟨S4x64x4x64, .f32⟩
  | .hbm, ⟨20, _⟩ => ⟨S4x64x4x64, .f32⟩
  | .hbm, ⟨21, _⟩ => ⟨S256x256, .f32⟩
  | .hbm, ⟨22, _⟩ => ⟨S256x256, .bf16⟩
  | .hbm, ⟨23, _⟩ => ⟨S4x4, .i32⟩
  | .hbm, ⟨24, _⟩ => ⟨S4x4, .i32⟩
  | .hbm, ⟨25, _⟩ => ⟨S_, .i32⟩
  | .hbm, ⟨26, _⟩ => ⟨S4x4, .i32⟩
  | .hbm, ⟨27, _⟩ => ⟨S4x4, .i32⟩
  | .hbm, ⟨28, _⟩ => ⟨S4x4, .i1⟩
  | .hbm, ⟨29, _⟩ => ⟨S4x4, .f32⟩
  | .hbm, ⟨30, _⟩ => ⟨S4x64x1x64, .f32⟩
  | .hbm, ⟨31, _⟩ => ⟨S4x1x4x1, .f32⟩
  | .hbm, ⟨32, _⟩ => ⟨S4x64x4x64, .f32⟩
  | .hbm, ⟨33, _⟩ => ⟨S4x64x4x64, .f32⟩
  | .hbm, ⟨34, _⟩ => ⟨S4x64x4x64, .f32⟩
  | .hbm, ⟨35, _⟩ => ⟨S256x256, .f32⟩
  | .hbm, ⟨36, _⟩ => ⟨S256x256, .bf16⟩
  | .hbm, ⟨37, _⟩ => ⟨S1x256, .f32⟩
  | .hbm, ⟨38, _⟩ => ⟨S1x256, .f32⟩
  | .hbm, ⟨39, _⟩ => ⟨S1x256, .f32⟩
  | .hbm, ⟨40, _⟩ => ⟨S1x256, .f32⟩
  | .hbm, ⟨41, _⟩ => ⟨S1x256, .f32⟩
  | .hbm, ⟨42, _⟩ => ⟨S16x2048x256, .f32⟩
  | .hbm, ⟨43, _⟩ => ⟨S16x3x256, .f32⟩
  | .hbm, ⟨44, _⟩ => ⟨S16x1x256, .f32⟩
  | .local _ .vmem, ⟨0, _⟩ => ⟨S1x2048x512, .f32⟩
  | .local _ .vmem, ⟨1, _⟩ => ⟨S1x2048x512, .f32⟩
  | .local _ .vmem, ⟨2, _⟩ => ⟨S4x256, .f32⟩
  | .local _ .vmem, ⟨3, _⟩ => ⟨S1x256, .f32⟩
  | .local _ .vmem, ⟨4, _⟩ => ⟨S256x256, .bf16⟩
  | .local _ .vmem, ⟨5, _⟩ => ⟨S1x256, .f32⟩
  | .local _ .vmem, ⟨6, _⟩ => ⟨S256x256, .bf16⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x2048x256, .f32⟩
  | .local _ .vmem, ⟨11, _⟩ => ⟨S1x2048x256, .f32⟩
  | .local _ .vmem, ⟨12, _⟩ => ⟨S1x3x256, .f32⟩
  | .local _ .vmem, ⟨13, _⟩ => ⟨S1x3x256, .f32⟩
  | .local _ .vmem, ⟨14, _⟩ => ⟨S1x1x256, .f32⟩
  | .local _ .vmem, ⟨15, _⟩ => ⟨S1x1x256, .f32⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31_0 : Ref sig .tc := ⟨.hbm, 42, rfl⟩
abbrev main_v31_1 : Ref sig .tc := ⟨.hbm, 43, rfl⟩
abbrev main_v31_2 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x2048x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x3x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference6Ideal.lean ====
abbrev S16x2048x512 : Shape := ⟨3, ![16, 2048, 512]⟩
abbrev S4x256 : Shape := ⟨2, ![4, 256]⟩
abbrev S256 : Shape := ⟨1, ![256]⟩
abbrev S4x64x64 : Shape := ⟨3, ![4, 64, 64]⟩
abbrev S_ : Shape := ⟨0, ![]⟩
abbrev S16x3x256 : Shape := ⟨3, ![16, 3, 256]⟩
abbrev S16x2048x256 : Shape := ⟨3, ![16, 2048, 256]⟩
abbrev S16x2051x256 : Shape := ⟨3, ![16, 2051, 256]⟩
abbrev S1x256 : Shape := ⟨2, ![1, 256]⟩
abbrev S1x1x256 : Shape := ⟨3, ![1, 1, 256]⟩
abbrev S16x2048x4x64 : Shape := ⟨4, ![16, 2048, 4, 64]⟩
abbrev S4x64x16x2048 : Shape := ⟨4, ![4, 64, 16, 2048]⟩
abbrev S16x256 : Shape := ⟨2, ![16, 256]⟩
abbrev S2048x16x256 : Shape := ⟨3, ![2048, 16, 256]⟩
abbrev S1x16x256 : Shape := ⟨3, ![1, 16, 256]⟩
abbrev S16x2048 : Shape := ⟨2, ![16, 2048]⟩
abbrev S16x2048x1 : Shape := ⟨3, ![16, 2048, 1]⟩
abbrev S16x1x256 : Shape := ⟨3, ![16, 1, 256]⟩

abbrev nBuf : Space → Nat
  | .hbm => 174
  | .vmem => 0
  | .smem => 0
  | _ => 0

abbrev hbmTy0_0 (i : Nat) : BufTy := match i % 128 with
  | 0 => ⟨S16x2048x512, .f32⟩
  | 1 => ⟨S4x256, .f32⟩
  | 2 => ⟨S256, .f32⟩
  | 3 => ⟨S4x64x64, .f32⟩
  | 4 => ⟨S256, .f32⟩
  | 5 => ⟨S4x64x64, .f32⟩
  | 6 => ⟨S256, .f32⟩
  | 7 => ⟨S256, .f32⟩
  | 8 => ⟨S256, .f32⟩
  | 9 => ⟨S_, .f32⟩
  | 10 => ⟨S16x3x256, .f32⟩
  | 11 => ⟨S16x2048x256, .f32⟩
  | 12 => ⟨S16x2051x256, .f32⟩
  | 13 => ⟨S16x2048x256, .f32⟩
  | 14 => ⟨S1x256, .f32⟩
  | 15 => ⟨S256, .f32⟩
  | 16 => ⟨S1x1x256, .f32⟩
  | 17 => ⟨S16x2048x256, .f32⟩
  | 18 => ⟨S16x2048x256, .f32⟩
  | 19 => ⟨S_, .f32⟩
  | 20 => ⟨S16x2048x256, .f32⟩
  | 21 => ⟨S16x2048x256, .f32⟩
  | 22 => ⟨S16x2048x256, .f32⟩
  | 23 => ⟨S1x256, .f32⟩
  | 24 => ⟨S256, .f32⟩
  | 25 => ⟨S1x1x256, .f32⟩
  | 26 => ⟨S16x2048x256, .f32⟩
  | 27 => ⟨S16x2048x256, .f32⟩
  | 28 => ⟨S16x2048x256, .f32⟩
  | 29 => ⟨S16x2048x256, .f32⟩
  | 30 => ⟨S1x256, .f32⟩
  | 31 => ⟨S256, .f32⟩
  | 32 => ⟨S1x1x256, .f32⟩
  | 33 => ⟨S16x2048x256, .f32⟩
  | 34 => ⟨S16x2048x256, .f32⟩
  | 35 => ⟨S16x2048x256, .f32⟩
  | 36 => ⟨S16x2048x256, .f32⟩
  | 37 => ⟨S1x256, .f32⟩
  | 38 => ⟨S256, .f32⟩
  | 39 => ⟨S1x1x256, .f32⟩
  | 40 => ⟨S16x2048x256, .f32⟩
  | 41 => ⟨S16x2048x256, .f32⟩
  | 42 => ⟨S16x2048x256, .f32⟩
  | 43 => ⟨S1x1x256, .f32⟩
  | 44 => ⟨S16x2048x256, .f32⟩
  | 45 => ⟨S16x2048x256, .f32⟩
  | 46 => ⟨S16x2048x4x64, .f32⟩
  | 47 => ⟨S4x64x16x2048, .f32⟩
  | 48 => ⟨S16x2048x4x64, .f32⟩
  | 49 => ⟨S16x2048x256, .f32⟩
  | 50 => ⟨S1x1x256, .f32⟩
  | 51 => ⟨S16x2048x256, .f32⟩
  | 52 => ⟨S16x2048x256, .f32⟩
  | 53 => ⟨S16x2048x256, .f32⟩
  | 54 => ⟨S16x2048x256, .f32⟩
  | 55 => ⟨S_, .f32⟩
  | 56 => ⟨S16x2048x256, .f32⟩
  | 57 => ⟨S16x2048x256, .f32⟩
  | 58 => ⟨S_, .f32⟩
  | 59 => ⟨S16x2048x256, .f32⟩
  | 60 => ⟨S16x2048x256, .f32⟩
  | 61 => ⟨S4x64x16x2048, .f32⟩
  | 62 => ⟨S16x2048x4x64, .f32⟩
  | 63 => ⟨S16x2048x256, .f32⟩
  | 64 => ⟨S1x1x256, .f32⟩
  | 65 => ⟨S16x2048x256, .f32⟩
  | 66 => ⟨S16x2048x256, .f32⟩
  | 67 => ⟨S16x2048x256, .f32⟩
  | 68 => ⟨S16x2048x256, .f32⟩
  | 69 => ⟨S_, .f32⟩
  | 70 => ⟨S16x2048x256, .f32⟩
  | 71 => ⟨S16x2048x256, .f32⟩
  | 72 => ⟨S_, .f32⟩
  | 73 => ⟨S16x2048x256, .f32⟩
  | 74 => ⟨S16x2048x256, .f32⟩
  | 75 => ⟨S_, .f32⟩
  | 76 => ⟨S16x2048x256, .f32⟩
  | 77 => ⟨S16x2048x256, .f32⟩
  | 78 => ⟨S256, .f32⟩
  | 79 => ⟨S_, .f32⟩
  | 80 => ⟨S256, .f32⟩
  | 81 => ⟨S256, .f32⟩
  | 82 => ⟨S256, .f32⟩
  | 83 => ⟨S256, .f32⟩
  | 84 => ⟨S256, .i1⟩
  | 85 => ⟨S256, .f32⟩
  | 86 => ⟨S256, .f32⟩
  | 87 => ⟨S256, .f32⟩
  | 88 => ⟨S256, .f32⟩
  | 89 => ⟨S256, .f32⟩
  | 90 => ⟨S256, .f32⟩
  | 91 => ⟨S256, .f32⟩
  | 92 => ⟨S256, .f32⟩
  | 93 => ⟨S256, .f32⟩
  | 94 => ⟨S1x1x256, .f32⟩
  | 95 => ⟨S16x2048x256, .f32⟩
  | 96 => ⟨S16x2048x256, .f32⟩
  | 97 => ⟨S16x2048x256, .f32⟩
  | 98 => ⟨S_, .f32⟩
  | 99 => ⟨S16x2048x256, .f32⟩
  | 100 => ⟨S16x2048x256, .f32⟩
  | 101 => ⟨S16x2048x256, .f32⟩
  | 102 => ⟨S16x2048x256, .f32⟩
  | 103 => ⟨S16x2048x256, .f32⟩
  | 104 => ⟨S16x2048x256, .f32⟩
  | 105 => ⟨S16x2048x256, .f32⟩
  | 106 => ⟨S_, .f32⟩
  | 107 => ⟨S16x256, .f32⟩
  | 108 => ⟨S2048x16x256, .f32⟩
  | 109 => ⟨S2048x16x256, .f32⟩
  | 110 => ⟨S_, .f32⟩
  | 111 => ⟨S2048x16x256, .f32⟩
  | 112 => ⟨S_, .i32⟩
  | 113 => ⟨S2048x16x256, .f32⟩
  | 114 => ⟨S2048x16x256, .f32⟩
  | 115 => ⟨S_, .i32⟩
  | 116 => ⟨S16x256, .f32⟩
  | 117 => ⟨S2048x16x256, .f32⟩
  | 118 => ⟨S_, .i32⟩
  | 119 => ⟨S_, .i1⟩
  | 120 => ⟨S_, .i32⟩
  | 121 => ⟨S_, .i32⟩
  | 122 => ⟨S1x16x256, .f32⟩
  | 123 => ⟨S16x256, .f32⟩
  | 124 => ⟨S_, .i32⟩
  | 125 => ⟨S_, .i32⟩
  | 126 => ⟨S1x16x256, .f32⟩
  | 127 => ⟨S16x256, .f32⟩
  | _ => ⟨S16x2048x512, .f32⟩

abbrev hbmTy0_1 (i : Nat) : BufTy := match i % 128 with
  | 0 => ⟨S16x256, .f32⟩
  | 1 => ⟨S16x256, .f32⟩
  | 2 => ⟨S1x16x256, .f32⟩
  | 3 => ⟨S_, .i32⟩
  | 4 => ⟨S_, .i32⟩
  | 5 => ⟨S2048x16x256, .f32⟩
  | 6 => ⟨S_, .i32⟩
  | 7 => ⟨S_, .i32⟩
  | 8 => ⟨S16x2048x256, .f32⟩
  | 9 => ⟨S16x2048x256, .f32⟩
  | 10 => ⟨S16x2048x256, .f32⟩
  | 11 => ⟨S16x2048x256, .f32⟩
  | 12 => ⟨S_, .f32⟩
  | 13 => ⟨S16x2048x256, .f32⟩
  | 14 => ⟨S16x2048x256, .f32⟩
  | 15 => ⟨S16x2048x256, .f32⟩
  | 16 => ⟨S_, .f32⟩
  | 17 => ⟨S16x2048x256, .f32⟩
  | 18 => ⟨S16x2048x256, .f32⟩
  | 19 => ⟨S16x2048x256, .f32⟩
  | 20 => ⟨S_, .f32⟩
  | 21 => ⟨S16x2048x256, .f32⟩
  | 22 => ⟨S16x2048x256, .f32⟩
  | 23 => ⟨S_, .f32⟩
  | 24 => ⟨S16x2048x256, .f32⟩
  | 25 => ⟨S16x2048x256, .f32⟩
  | 26 => ⟨S16x2048x256, .f32⟩
  | 27 => ⟨S16x2048x256, .f32⟩
  | 28 => ⟨S16x2048x256, .f32⟩
  | 29 => ⟨S_, .f32⟩
  | 30 => ⟨S16x2048, .f32⟩
  | 31 => ⟨S16x2048x1, .f32⟩
  | 32 => ⟨S_, .f32⟩
  | 33 => ⟨S16x2048x1, .f32⟩
  | 34 => ⟨S16x2048x1, .f32⟩
  | 35 => ⟨S_, .f32⟩
  | 36 => ⟨S16x2048x1, .f32⟩
  | 37 => ⟨S16x2048x1, .f32⟩
  | 38 => ⟨S16x2048x1, .f32⟩
  | 39 => ⟨S16x2048x256, .f32⟩
  | 40 => ⟨S16x2048x256, .f32⟩
  | 41 => ⟨S1x1x256, .f32⟩
  | 42 => ⟨S16x2048x256, .f32⟩
  | 43 => ⟨S16x2048x256, .f32⟩
  | 44 => ⟨S16x3x256, .f32⟩
  | 45 => ⟨S16x1x256, .f32⟩
  | _ => ⟨S16x2048x512, .f32⟩

abbrev hbmTy (i : Nat) : BufTy := match i / 128 with
  | 0 => hbmTy0_0 i
  | 1 => hbmTy0_1 i
  | _ => ⟨S16x2048x512, .f32⟩

abbrev bufTy : (tb : Table) → Fin (tcTables nBuf tb) → BufTy
  | .hbm, ⟨i, _⟩ => hbmTy i
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_1 : Ref sig .tc := ⟨.hbm, 55, rfl⟩
abbrev main_v44 : Ref sig .tc := ⟨.hbm, 56, rfl⟩
abbrev main_v45 : Ref sig .tc := ⟨.hbm, 57, rfl⟩
abbrev main_cst_2 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_3 : Ref sig .tc := ⟨.hbm, 69, rfl⟩
abbrev main_v56 : Ref sig .tc := ⟨.hbm, 70, rfl⟩
abbrev main_v57 : Ref sig .tc := ⟨.hbm, 71, rfl⟩
abbrev main_cst_4 : Ref sig .tc := ⟨.hbm, 72, rfl⟩
abbrev main_v58 : Ref sig .tc := ⟨.hbm, 73, rfl⟩
abbrev main_v59 : Ref sig .tc := ⟨.hbm, 74, rfl⟩
abbrev main_cst_5 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_6 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_cst_7 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_cst_8 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_cst_9 : Ref sig .tc := ⟨.hbm, 110, rfl⟩
abbrev main_v91 : Ref sig .tc := ⟨.hbm, 111, rfl⟩
abbrev main_c : Ref sig .tc := ⟨.hbm, 112, rfl⟩
abbrev main_v92_0 : Ref sig .tc := ⟨.hbm, 113, rfl⟩
abbrev main_v92_1 : Ref sig .tc := ⟨.hbm, 114, rfl⟩
abbrev main_v92_2 : Ref sig .tc := ⟨.hbm, 115, rfl⟩
abbrev main_v92_3 : Ref sig .tc := ⟨.hbm, 116, rfl⟩
abbrev main_v92_4 : Ref sig .tc := ⟨.hbm, 117, rfl⟩
abbrev main_while0c_c_21 : Ref sig .tc := ⟨.hbm, 118, rfl⟩
abbrev main_while0c_v124 : Ref sig .tc := ⟨.hbm, 119, rfl⟩
abbrev main_while0b_call0_c : Ref sig .tc := ⟨.hbm, 120, rfl⟩
abbrev main_while0b_call0_c_0 : Ref sig .tc := ⟨.hbm, 121, rfl⟩
abbrev main_while0b_call0_v0 : Ref sig .tc := ⟨.hbm, 122, rfl⟩
abbrev main_while0b_v124 : Ref sig .tc := ⟨.hbm, 123, rfl⟩
abbrev main_while0b_call1_c : Ref sig .tc := ⟨.hbm, 124, rfl⟩
abbrev main_while0b_call1_c_0 : Ref sig .tc := ⟨.hbm, 125, rfl⟩
abbrev main_while0b_call1_v0 : Ref sig .tc := ⟨.hbm, 126, rfl⟩
abbrev main_while0b_v125 : Ref sig .tc := ⟨.hbm, 127, rfl⟩
abbrev main_while0b_v126 : Ref sig .tc := ⟨.hbm, 128, rfl⟩
abbrev main_while0b_v127 : Ref sig .tc := ⟨.hbm, 129, rfl⟩
abbrev main_while0b_call2_v0 : Ref sig .tc := ⟨.hbm, 130, rfl⟩
abbrev main_while0b_call2_c : Ref sig .tc := ⟨.hbm, 131, rfl⟩
abbrev main_while0b_call2_c_0 : Ref sig .tc := ⟨.hbm, 132, rfl⟩
abbrev main_while0b_v128 : Ref sig .tc := ⟨.hbm, 133, rfl⟩
abbrev main_while0b_c_21 : Ref sig .tc := ⟨.hbm, 134, rfl⟩
abbrev main_while0b_v129 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_cst_10 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_cst_11 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_cst_12 : Ref sig .tc := ⟨.hbm, 148, rfl⟩
abbrev main_v103 : Ref sig .tc := ⟨.hbm, 149, rfl⟩
abbrev main_v104 : Ref sig .tc := ⟨.hbm, 150, rfl⟩
abbrev main_cst_13 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_cst_14 : Ref sig .tc := ⟨.hbm, 157, rfl⟩
abbrev main_v110 : Ref sig .tc := ⟨.hbm, 158, rfl⟩
abbrev main_v111 : Ref sig .tc := ⟨.hbm, 159, rfl⟩
abbrev main_cst_15 : Ref sig .tc := ⟨.hbm, 160, rfl⟩
abbrev main_v112 : Ref sig .tc := ⟨.hbm, 161, rfl⟩
abbrev main_v113 : Ref sig .tc := ⟨.hbm, 162, rfl⟩
abbrev main_cst_16 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩

abbrev nD : Nat := 1
abbrev τ : Topo := Topo.v7x

variable {F : FTy → Type} [FloatOps F]

abbrev main_while0_count : Scf.Loop 32 := ⟨0#32, 2048#32, 1#32⟩
-- ==== Kernel7.lean ====
abbrev S32x1024 : Shape := ⟨2, ![32, 1024]⟩
abbrev S32x512 : Shape := ⟨2, ![32, 512]⟩
abbrev S32x256 : Shape := ⟨2, ![32, 256]⟩
abbrev S512 : Shape := ⟨1, ![512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x512 : Shape := ⟨2, ![1, 512]⟩
abbrev S1x1024 : Shape := ⟨2, ![1, 1024]⟩
abbrev S32 : Shape := ⟨1, ![32]⟩
abbrev S32x1 : Shape := ⟨2, ![32, 1]⟩
abbrev S512x1024 : Shape := ⟨2, ![512, 1024]⟩
abbrev S256x1024 : Shape := ⟨2, ![256, 1024]⟩

abbrev nBuf : Space → Nat
  | .hbm => 14
  | .vmem => 11
  | .smem => 0
  | _ => 0

abbrev bufTy : (tb : Table) → Fin (tcTables nBuf tb) → BufTy
  | .hbm, ⟨0, _⟩ => ⟨S32x1024, .f32⟩
  | .hbm, ⟨1, _⟩ => ⟨S32x512, .f32⟩
  | .hbm, ⟨2, _⟩ => ⟨S32x256, .f32⟩
  | .hbm, ⟨3, _⟩ => ⟨S32x256, .f32⟩
  | .hbm, ⟨4, _⟩ => ⟨S512, .f32⟩
  | .hbm, ⟨5, _⟩ => ⟨S1024x1024, .bf16⟩
  | .hbm, ⟨6, _⟩ => ⟨S1024, .f32⟩
  | .hbm, ⟨7, _⟩ => ⟨S1024x4096, .bf16⟩
  | .hbm, ⟨8, _⟩ => ⟨S4096x1024, .bf16⟩
  | .hbm, ⟨9, _⟩ => ⟨S1024, .f32⟩
  | .hbm, ⟨10, _⟩ => ⟨S1x512, .f32⟩
  | .hbm, ⟨11, _⟩ => ⟨S1x1024, .f32⟩
  | .hbm, ⟨12, _⟩ => ⟨S1x1024, .f32⟩
  | .hbm, ⟨13, _⟩ => ⟨S32x1024, .f32⟩
  | .local _ .vmem, ⟨0, _⟩ => ⟨S32x1024, .f32⟩
  | .local _ .vmem, ⟨1, _⟩ => ⟨S32x512, .f32⟩
  | .local _ .vmem, ⟨2, _⟩ => ⟨S32x256, .f32⟩
  | .local _ .vmem, ⟨3, _⟩ => ⟨S32x256, .f32⟩
  | .local _ .vmem, ⟨4, _⟩ => ⟨S1x512, .f32⟩
  | .local _ .vmem, ⟨5, _⟩ => ⟨S1024x1024, .bf16⟩
  | .local _ .vmem, ⟨6, _⟩ => ⟨S1x1024, .f32⟩
  | .local _ .vmem, ⟨7, _⟩ => ⟨S1024x4096, .bf16⟩
  | .local _ .vmem, ⟨8, _⟩ => ⟨S4096x1024, .bf16⟩
  | .local _ .vmem, ⟨9, _⟩ => ⟨S1x1024, .f32⟩
  | .local _ .vmem, ⟨10, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== Reference7Ideal.lean ====
abbrev S32x1024 : Shape := ⟨2, ![32, 1024]⟩
abbrev S32x512 : Shape := ⟨2, ![32, 512]⟩
abbrev S32x256 : Shape := ⟨2, ![32, 256]⟩
abbrev S512 : Shape := ⟨1, ![512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S32 : Shape := ⟨1, ![32]⟩
abbrev S32x1 : Shape := ⟨2, ![32, 1]⟩
abbrev S1x512 : Shape := ⟨2, ![1, 512]⟩
abbrev S1x1024 : Shape := ⟨2, ![1, 1024]⟩
abbrev S32x4096 : Shape := ⟨2, ![32, 4096]⟩

abbrev nBuf : Space → Nat
  | .hbm => 71
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x512, .f32⟩
  | .hbm, ⟨2, _⟩ => ⟨S32x256, .f32⟩
  | .hbm, ⟨3, _⟩ => ⟨S32x256, .f32⟩
  | .hbm, ⟨4, _⟩ => ⟨S512, .f32⟩
  | .hbm, ⟨5, _⟩ => ⟨S1024x1024, .bf16⟩
  | .hbm, ⟨6, _⟩ => ⟨S1024, .f32⟩
  | .hbm, ⟨7, _⟩ => ⟨S1024x4096, .bf16⟩
  | .hbm, ⟨8, _⟩ => ⟨S4096x1024, .bf16⟩
  | .hbm, ⟨9, _⟩ => ⟨S1024, .f32⟩
  | .hbm, ⟨10, _⟩ => ⟨S32x512, .f32⟩
  | .hbm, ⟨11, _⟩ => ⟨S_, .f32⟩
  | .hbm, ⟨12, _⟩ => ⟨S32, .f32⟩
  | .hbm, ⟨13, _⟩ => ⟨S32x1, .f32⟩
  | .hbm, ⟨14, _⟩ => ⟨S_, .f32⟩
  | .hbm, ⟨15, _⟩ => ⟨S32x1, .f32⟩
  | .hbm, ⟨16, _⟩ => ⟨S32x1, .f32⟩
  | .hbm, ⟨17, _⟩ => ⟨S_, .f32⟩
  | .hbm, ⟨18, _⟩ => ⟨S32x1, .f32⟩
  | .hbm, ⟨19, _⟩ => ⟨S32x1, .f32⟩
  | .hbm, ⟨20, _⟩ => ⟨S32x1, .f32⟩
  | .hbm, ⟨21, _⟩ => ⟨S32x512, .f32⟩
  | .hbm, ⟨22, _⟩ => ⟨S32x512, .f32⟩
  | .hbm, ⟨23, _⟩ => ⟨S1x512, .f32⟩
  | .hbm, ⟨24, _⟩ => ⟨S32x512, .f32⟩
  | .hbm, ⟨25, _⟩ => ⟨S32x512, .f32⟩
  | .hbm, ⟨26, _⟩ => ⟨S32x1024, .f32⟩
  | .hbm, ⟨27, _⟩ => ⟨S1024x1024, .f32⟩
  | .hbm, ⟨28, _⟩ => ⟨S32x1024, .f32⟩
  | .hbm, ⟨29, _⟩ => ⟨S32x1024, .f32⟩
  | .hbm, ⟨30, _⟩ => ⟨S32x1024, .f32⟩
  | .hbm, ⟨31, _⟩ => ⟨S_, .f32⟩
  | .hbm, ⟨32, _⟩ => ⟨S32, .f32⟩
  | .hbm, ⟨33, _⟩ => ⟨S32x1, .f32⟩
  | .hbm, ⟨34, _⟩ => ⟨S_, .f32⟩
  | .hbm, ⟨35, _⟩ => ⟨S32x1, .f32⟩
  | .hbm, ⟨36, _⟩ => ⟨S32x1, .f32⟩
  | .hbm, ⟨37, _⟩ => ⟨S_, .f32⟩
  | .hbm, ⟨38, _⟩ => ⟨S32x1, .f32⟩
  | .hbm, ⟨39, _⟩ => ⟨S32x1, .f32⟩
  | .hbm, ⟨40, _⟩ => ⟨S32x1, .f32⟩
  | .hbm, ⟨41, _⟩ => ⟨S32x1024, .f32⟩
  | .hbm, ⟨42, _⟩ => ⟨S32x1024, .f32⟩
  | .hbm, ⟨43, _⟩ => ⟨S1x1024, .f32⟩
  | .hbm, ⟨44, _⟩ => ⟨S32x1024, .f32⟩
  | .hbm, ⟨45, _⟩ => ⟨S32x1024, .f32⟩
  | .hbm, ⟨46, _⟩ => ⟨S1024x4096, .f32⟩
  | .hbm, ⟨47, _⟩ => ⟨S32x4096, .f32⟩
  | .hbm, ⟨48, _⟩ => ⟨S_, .f32⟩
  | .hbm, ⟨49, _⟩ => ⟨S32x4096, .f32⟩
  | .hbm, ⟨50, _⟩ => ⟨S32x4096, .f32⟩
  | .hbm, ⟨51, _⟩ => ⟨S32x4096, .f32⟩
  | .hbm, ⟨52, _⟩ => ⟨S4096x1024, .f32⟩
  | .hbm, ⟨53, _⟩ => ⟨S32x1024, .f32⟩
  | .hbm, ⟨54, _⟩ => ⟨S32x1024, .f32⟩
  | .hbm, ⟨55, _⟩ => ⟨S32x1024, .f32⟩
  | .hbm, ⟨56, _⟩ => ⟨S_, .f32⟩
  | .hbm, ⟨57, _⟩ => ⟨S32, .f32⟩
  | .hbm, ⟨58, _⟩ => ⟨S32x1, .f32⟩
  | .hbm, ⟨59, _⟩ => ⟨S_, .f32⟩
  | .hbm, ⟨60, _⟩ => ⟨S32x1, .f32⟩
  | .hbm, ⟨61, _⟩ => ⟨S32x1, .f32⟩
  | .hbm, ⟨62, _⟩ => ⟨S_, .f32⟩
  | .hbm, ⟨63, _⟩ => ⟨S32x1, .f32⟩
  | .hbm, ⟨64, _⟩ => ⟨S32x1, .f32⟩
  | .hbm, ⟨65, _⟩ => ⟨S32x1, .f32⟩
  | .hbm, ⟨66, _⟩ => ⟨S32x1024, .f32⟩
  | .hbm, ⟨67, _⟩ => ⟨S32x1024, .f32⟩
  | .hbm, ⟨68, _⟩ => ⟨S1x1024, .f32⟩
  | .hbm, ⟨69, _⟩ => ⟨S32x1024, .f32⟩
  | .hbm, ⟨70, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_call0_cst : Ref sig .tc := ⟨.hbm, 48, rfl⟩
abbrev main_call0_v0 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_5 : Ref sig .tc := ⟨.hbm, 56, rfl⟩
abbrev main_v38 : Ref sig .tc := ⟨.hbm, 57, rfl⟩
abbrev main_v39 : Ref sig .tc := ⟨.hbm, 58, rfl⟩
abbrev main_cst_6 : Ref sig .tc := ⟨.hbm, 59, rfl⟩
abbrev main_v40 : Ref sig .tc := ⟨.hbm, 60, rfl⟩
abbrev main_v41 : Ref sig .tc := ⟨.hbm, 61, rfl⟩
abbrev main_cst_7 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩

abbrev nD : Nat := 1
abbrev τ : Topo := Topo.v7x

variable {F : FTy → Type} [FloatOps F]
-- ==== Proof.Attn.Tile.lean ====
module

public import proofs.«01_k».proof.Proof.Gen.KernelIdeal.Loops
public import Idealize.ShloMosaic.Lib.Pipeline.Value

@[expose] public section

set_option maxRecDepth 16384

noncomputable section

/-! One head of the attention at one grid point, tile by tile, as the kernel computes it: the three tables a tile of
    keys is scored into, and the step that weighs its values with them. -/

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- What scoring one tile of keys leaves for the weighing: the softplus of the scores (rounded), the log of the
    sigmoid, and the softplus's first column unrounded. -/
structure Tile (F : FTy → Type) where
  sp : FVec F S256x256 .bf16
  zs : FVec F S256x256 .f32
  sp0 : FVec F S256x1 .f32

/-- The scores of 256 queries against a tile of 256 keys: their products and the head's bias. -/
def logits (q : FVec F S256x128 .bf16) (b : Elt F .f32) (K : Vec F S1x1x128x256 .bf16) : FVec F S256x256 .f32 :=
  addf (matmul dot_S256x128_S128x256_S256x256_1_0_0_1_n_n none q (shapeCast S128x256 K shapeCasts_S1x1x128x256_S128x256)
    (constant S256x256 .f32 0x00000000#32)) (broadcast S256x256 b)

/-- `max(z, 0) + log(1 + exp(0 - |z|))`. -/
def softplus (z : FVec F S256x256 .f32) : FVec F S256x256 .f32 :=
  addf (maximumf z (broadcast S256x256 (Scalar.ofBits .f32 0x00000000#32)))
    (log (addf (broadcast S256x256 (Scalar.ofBits .f32 0x3F800000#32))
      (exp (subf (broadcast S256x256 (Scalar.ofBits .f32 0x00000000#32)) (absf z)))))

/-- A tile below the diagonal, scored. -/
def score (q : FVec F S256x128 .bf16) (b : Elt F .f32) (K : Vec F S1x1x128x256 .bf16) : Tile F where
  sp := truncf .bf16 (softplus (logits q b K)) bitsLt_bf16_f32
  zs := subf (logits q b K) (softplus (logits q b K))
  sp0 := extractStridedSlice S256x1 ![0, 0] (softplus (logits q b K)) slices_S256x256_o0_0_S256x1

/-- The softplus of the diagonal tile: zero at and above the diagonal. -/
def softplusDiag (z : FVec F S256x256 .f32) : FVec F S256x256 .f32 :=
  select k0_pay111 (softplus z) (broadcast S256x256 (Scalar.ofBits .f32 0x00000000#32))

/-- The diagonal tile, scored: keys at or after the query masked. -/
def diag (q : FVec F S256x128 .bf16) (b : Elt F .f32) (K : Vec F S1x1x128x256 .bf16) : Tile F where
  sp := truncf .bf16 (softplusDiag (logits q b K)) bitsLt_bf16_f32
  zs := select k0_pay111 (subf (logits q b K) (softplus (logits q b K)))
    (broadcast S256x256 (Named.named κ "mask" 0xF149F2CA#32))
  sp0 := extractStridedSlice S256x1 ![0, 0] (softplusDiag (logits q b K)) slices_S256x256_o0_0_S256x1

/-- The sums of a tile's softplus over the keys after each one: its product with the strictly lower triangle. -/
def excl (u : FVec F S256x256 .bf16) (T : Tile F) : FVec F S256x256 .f32 :=
  matmul dot_S256x256_S256x256_S256x256_1_0_0_1_n_n none T.sp u (constant S256x256 .f32 0x00000000#32)

/-- The running sum of softplus over the tiles weighed, the next tile added. -/
def later (u : FVec F S256x256 .bf16) (T : Tile F) (l : FVec F S256x1 .f32) : FVec F S256x1 .f32 :=
  addf (addf l (extractStridedSlice S256x1 ![0, 0] (excl u T) slices_S256x256_o0_0_S256x1)) T.sp0

/-- The weights of a tile's keys. -/
def weights (u : FVec F S256x256 .bf16) (T : Tile F) (l : FVec F S256x1 .f32) : FVec F S256x256 .f32 :=
  exp (subf (subf T.zs (excl u T)) (broadcastTo S256x256 l broadcasts_S256x1_S256x256))

/-- The weighted values, the next tile's added. -/
def accum (u : FVec F S256x256 .bf16) (T : Tile F) (V : Vec F S1x1x128x256 .bf16) (l : FVec F S256x1 .f32)
    (a : FVec F S256x128 .f32) : FVec F S256x128 .f32 :=
  addf a (matmul dot_S256x256_S128x256_S256x128_1_1_0_0_n_n none (truncf .bf16 (weights u T l) bitsLt_bf16_f32)
    (shapeCast S128x256 V shapeCasts_S1x1x128x256_S128x256) (constant S256x128 .f32 0x00000000#32))

/-- The scored tile `n` places before the diagonal, of the query block `qi`. -/
def tileAt (q : FVec F S256x128 .bf16) (b : Elt F .f32) (K : ℕ → Vec F S1x1x128x256 .bf16) (qi : ℕ) : ℕ → Tile F
  | 0 => diag q b (K qi)
  | n + 1 => score q b (K (qi - (n + 1)))

/-- The running sum after the first `n` tiles, counted from the diagonal backwards. -/
def laters (u : FVec F S256x256 .bf16) (T : ℕ → Tile F) : ℕ → FVec F S256x1 .f32
  | 0 => broadcast S256x1 (Scalar.ofBits .f32 0x00000000#32)
  | n + 1 => later u (T n) (laters u T n)

/-- The weighted values after the first `n` tiles. -/
def accs (u : FVec F S256x256 .bf16) (T : ℕ → Tile F) (V : ℕ → Vec F S1x1x128x256 .bf16) (qi : ℕ) :
    ℕ → FVec F S256x128 .f32
  | 0 => broadcast S256x128 (Scalar.ofBits .f32 0x00000000#32)
  | n + 1 => accum u (T n) (V (qi - n)) (laters u T n) (accs u T V qi n)

theorem tileAt_succ (q : FVec F S256x128 .bf16) (b : Elt F .f32) (K : ℕ → Vec F S1x1x128x256 .bf16) (qi n : ℕ) :
    tileAt q b K qi (n + 1) = score q b (K (qi - (n + 1))) := rfl
theorem laters_succ (u : FVec F S256x256 .bf16) (T : ℕ → Tile F) (n : ℕ) : laters u T (n + 1) = later u (T n) (laters u T n) := rfl
theorem accs_succ (u : FVec F S256x256 .bf16) (T : ℕ → Tile F) (V : ℕ → Vec F S1x1x128x256 .bf16) (qi n : ℕ) :
    accs u T V qi (n + 1) = accum u (T n) (V (qi - n)) (laters u T n) (accs u T V qi n) := rfl

section

variable {sig' : RefSig} {κ' : Kind} {sp' : Space} {s : Shape} {e : EltTy} {Val : EltTy → Type}

/-- A load of the rectangle last stored reads what was stored. -/
theorem read_hit (v : View sig' κ' sp' s e) (g : v.ty.Contents Val) (r : Rect s) (w : r.shape.Idx → Val e)
    (L : List (View.Piece Val s e)) : v.readAt Val r.toLoadRect (v.writes Val g (⟨r, w⟩ :: L)) = w :=
  funext fun x => View.read_writes_cons_emb v g r w L x

/-- A load of a rectangle the last store does not meet reads what was there before it. -/
theorem read_miss (v : View sig' κ' sp' s e) (g : v.ty.Contents Val) (r r' : Rect s) (w : r'.shape.Idx → Val e)
    (L : List (View.Piece Val s e)) (h : Disjoint r'.set r.set) :
    v.readAt Val r.toLoadRect (v.writes Val g (⟨r', w⟩ :: L)) = v.readAt Val r.toLoadRect (v.writes Val g L) :=
  funext fun x => by
    rw [View.readAt_apply, View.readAt_apply, View.writes_cons,
      View.read_slice_write_of_not_mem _ _ _ _ (by rw [Rect.map_emb_univ]; exact Finset.disjoint_right.mp h (r.toLoadRect.idx_mem x))]

/-- Two boxes apart along one axis do not meet. -/
theorem unit_disjoint {off off' size size' : Fin s.rank → ℕ} (h : ∀ a, off a + size a ≤ s.size a)
    (h' : ∀ a, off' a + size' a ≤ s.size a) (a : Fin s.rank) (ha : off a + size a ≤ off' a ∨ off' a + size' a ≤ off a) :
    Disjoint (Rect.unit off size h).set (Rect.unit off' size' h').set := by
  rw [Finset.disjoint_left]
  intro x hx hx'
  have h1 := (Rect.mem_set_unit.mp hx) a
  have h2 := (Rect.mem_set_unit.mp hx') a
  omega

end

theorem apart_S2x2x256x256_00_01 : Disjoint (Rect.unit (s := S2x2x256x256) ![0, 0, 0, 0] ![1, 1, 256, 256] inb_S2x2x256x256_S1x1x256x256_0_0_0_0).set (Rect.unit (s := S2x2x256x256) ![0, 1, 0, 0] ![1, 1, 256, 256] inb_S2x2x256x256_S1x1x256x256_0_1_0_0).set :=
  unit_disjoint _ _ (⟨1, by decide⟩ : Fin 4) (.inl (by decide))
theorem apart_S2x2x256x256_00_10 : Disjoint (Rect.unit (s := S2x2x256x256) ![0, 0, 0, 0] ![1, 1, 256, 256] inb_S2x2x256x256_S1x1x256x256_0_0_0_0).set (Rect.unit (s := S2x2x256x256) ![1, 0, 0, 0] ![1, 1, 256, 256] inb_S2x2x256x256_S1x1x256x256_1_0_0_0).set :=
  unit_disjoint _ _ (⟨0, by decide⟩ : Fin 4) (.inl (by decide))
theorem apart_S2x2x256x256_00_11 : Disjoint (Rect.unit (s := S2x2x256x256) ![0, 0, 0, 0] ![1, 1, 256, 256] inb_S2x2x256x256_S1x1x256x256_0_0_0_0).set (Rect.unit (s := S2x2x256x256) ![1, 1, 0, 0] ![1, 1, 256, 256] inb_S2x2x256x256_S1x1x256x256_1_1_0_0).set :=
  unit_disjoint _ _ (⟨0, by decide⟩ : Fin 4) (.inl (by decide))
theorem apart_S2x2x256x256_01_00 : Disjoint (Rect.unit (s := S2x2x256x256) ![0, 1, 0, 0] ![1, 1, 256, 256] inb_S2x2x256x256_S1x1x256x256_0_1_0_0).set (Rect.unit (s := S2x2x256x256) ![0, 0, 0, 0] ![1, 1, 256, 256] inb_S2x2x256x256_S1x1x256x256_0_0_0_0).set :=
  unit_disjoint _ _ (⟨1, by decide⟩ : Fin 4) (.inr (by decide))
theorem apart_S2x2x256x256_01_10 : Disjoint (Rect.unit (s := S2x2x256x256) ![0, 1, 0, 0] ![1, 1, 256, 256] inb_S2x2x256x256_S1x1x256x256_0_1_0_0).set (Rect.unit (s := S2x2x256x256) ![1, 0, 0, 0] ![1, 1, 256, 256] inb_S2x2x256x256_S1x1x256x256_1_0_0_0).set :=
  unit_disjoint _ _ (⟨0, by decide⟩ : Fin 4) (.inl (by decide))
theorem apart_S2x2x256x256_01_11 : Disjoint (Rect.unit (s := S2x2x256x256) ![0, 1, 0, 0] ![1, 1, 256, 256] inb_S2x2x256x256_S1x1x256x256_0_1_0_0).set (Rect.unit (s := S2x2x256x256) ![1, 1, 0, 0] ![1, 1, 256, 256] inb_S2x2x256x256_S1x1x256x256_1_1_0_0).set :=
  unit_disjoint _ _ (⟨0, by decide⟩ : Fin 4) (.inl (by decide))
theorem apart_S2x2x256x256_10_00 : Disjoint (Rect.unit (s := S2x2x256x256) ![1, 0, 0, 0] ![1, 1, 256, 256] inb_S2x2x256x256_S1x1x256x256_1_0_0_0).set (Rect.unit (s := S2x2x256x256) ![0, 0, 0, 0] ![1, 1, 256, 256] inb_S2x2x256x256_S1x1x256x256_0_0_0_0).set :=
  unit_disjoint _ _ (⟨0, by decide⟩ : Fin 4) (.inr (by decide))
theorem apart_S2x2x256x256_10_01 : Disjoint (Rect.unit (s := S2x2x256x256) ![1, 0, 0, 0] ![1, 1, 256, 256] inb_S2x2x256x256_S1x1x256x256_1_0_0_0).set (Rect.unit (s := S2x2x256x256) ![0, 1, 0, 0] ![1, 1, 256, 256] inb_S2x2x256x256_S1x1x256x256_0_1_0_0).set :=
  unit_disjoint _ _ (⟨0, by decide⟩ : Fin 4) (.inr (by decide))
theorem apart_S2x2x256x256_10_11 : Disjoint (Rect.unit (s := S2x2x256x256) ![1, 0, 0, 0] ![1, 1, 256, 256] inb_S2x2x256x256_S1x1x256x256_1_0_0_0).set (Rect.unit (s := S2x2x256x256) ![1, 1, 0, 0] ![1, 1, 256, 256] inb_S2x2x256x256_S1x1x256x256_1_1_0_0).set :=
  unit_disjoint _ _ (⟨1, by decide⟩ : Fin 4) (.inl (by decide))
theorem apart_S2x2x256x256_11_00 : Disjoint (Rect.unit (s := S2x2x256x256) ![1, 1, 0, 0] ![1, 1, 256, 256] inb_S2x2x256x256_S1x1x256x256_1_1_0_0).set (Rect.unit (s := S2x2x256x256) ![0, 0, 0, 0] ![1, 1, 256, 256] inb_S2x2x256x256_S1x1x256x256_0_0_0_0).set :=
  unit_disjoint _ _ (⟨0, by decide⟩ : Fin 4) (.inr (by decide))
theorem apart_S2x2x256x256_11_01 : Disjoint (Rect.unit (s := S2x2x256x256) ![1, 1, 0, 0] ![1, 1, 256, 256] inb_S2x2x256x256_S1x1x256x256_1_1_0_0).set (Rect.unit (s := S2x2x256x256) ![0, 1, 0, 0] ![1, 1, 256, 256] inb_S2x2x256x256_S1x1x256x256_0_1_0_0).set :=
  unit_disjoint _ _ (⟨0, by decide⟩ : Fin 4) (.inr (by decide))
theorem apart_S2x2x256x256_11_10 : Disjoint (Rect.unit (s := S2x2x256x256) ![1, 1, 0, 0] ![1, 1, 256, 256] inb_S2x2x256x256_S1x1x256x256_1_1_0_0).set (Rect.unit (s := S2x2x256x256) ![1, 0, 0, 0] ![1, 1, 256, 256] inb_S2x2x256x256_S1x1x256x256_1_0_0_0).set :=
  unit_disjoint _ _ (⟨1, by decide⟩ : Fin 4) (.inr (by decide))
theorem apart_S2x2x256x1_00_01 : Disjoint (Rect.unit (s := S2x2x256x1) ![0, 0, 0, 0] ![1, 1, 256, 1] inb_S2x2x256x1_S1x1x256x1_0_0_0_0).set (Rect.unit (s := S2x2x256x1) ![0, 1, 0, 0] ![1, 1, 256, 1] inb_S2x2x256x1_S1x1x256x1_0_1_0_0).set :=
  unit_disjoint _ _ (⟨1, by decide⟩ : Fin 4) (.inl (by decide))
theorem apart_S2x2x256x1_00_10 : Disjoint (Rect.unit (s := S2x2x256x1) ![0, 0, 0, 0] ![1, 1, 256, 1] inb_S2x2x256x1_S1x1x256x1_0_0_0_0).set (Rect.unit (s := S2x2x256x1) ![1, 0, 0, 0] ![1, 1, 256, 1] inb_S2x2x256x1_S1x1x256x1_1_0_0_0).set :=
  unit_disjoint _ _ (⟨0, by decide⟩ : Fin 4) (.inl (by decide))
theorem apart_S2x2x256x1_00_11 : Disjoint (Rect.unit (s := S2x2x256x1) ![0, 0, 0, 0] ![1, 1, 256, 1] inb_S2x2x256x1_S1x1x256x1_0_0_0_0).set (Rect.unit (s := S2x2x256x1) ![1, 1, 0, 0] ![1, 1, 256, 1] inb_S2x2x256x1_S1x1x256x1_1_1_0_0).set :=
  unit_disjoint _ _ (⟨0, by decide⟩ : Fin 4) (.inl (by decide))
theorem apart_S2x2x256x1_01_00 : Disjoint (Rect.unit (s := S2x2x256x1) ![0, 1, 0, 0] ![1, 1, 256, 1] inb_S2x2x256x1_S1x1x256x1_0_1_0_0).set (Rect.unit (s := S2x2x256x1) ![0, 0, 0, 0] ![1, 1, 256, 1] inb_S2x2x256x1_S1x1x256x1_0_0_0_0).set :=
  unit_disjoint _ _ (⟨1, by decide⟩ : Fin 4) (.inr (by decide))
theorem apart_S2x2x256x1_01_10 : Disjoint (Rect.unit (s := S2x2x256x1) ![0, 1, 0, 0] ![1, 1, 256, 1] inb_S2x2x256x1_S1x1x256x1_0_1_0_0).set (Rect.unit (s := S2x2x256x1) ![1, 0, 0, 0] ![1, 1, 256, 1] inb_S2x2x256x1_S1x1x256x1_1_0_0_0).set :=
  unit_disjoint _ _ (⟨0, by decide⟩ : Fin 4) (.inl (by decide))
theorem apart_S2x2x256x1_01_11 : Disjoint (Rect.unit (s := S2x2x256x1) ![0, 1, 0, 0] ![1, 1, 256, 1] inb_S2x2x256x1_S1x1x256x1_0_1_0_0).set (Rect.unit (s := S2x2x256x1) ![1, 1, 0, 0] ![1, 1, 256, 1] inb_S2x2x256x1_S1x1x256x1_1_1_0_0).set :=
  unit_disjoint _ _ (⟨0, by decide⟩ : Fin 4) (.inl (by decide))
theorem apart_S2x2x256x1_10_00 : Disjoint (Rect.unit (s := S2x2x256x1) ![1, 0, 0, 0] ![1, 1, 256, 1] inb_S2x2x256x1_S1x1x256x1_1_0_0_0).set (Rect.unit (s := S2x2x256x1) ![0, 0, 0, 0] ![1, 1, 256, 1] inb_S2x2x256x1_S1x1x256x1_0_0_0_0).set :=
  unit_disjoint _ _ (⟨0, by decide⟩ : Fin 4) (.inr (by decide))
theorem apart_S2x2x256x1_10_01 : Disjoint (Rect.unit (s := S2x2x256x1) ![1, 0, 0, 0] ![1, 1, 256, 1] inb_S2x2x256x1_S1x1x256x1_1_0_0_0).set (Rect.unit (s := S2x2x256x1) ![0, 1, 0, 0] ![1, 1, 256, 1] inb_S2x2x256x1_S1x1x256x1_0_1_0_0).set :=
  unit_disjoint _ _ (⟨0, by decide⟩ : Fin 4) (.inr (by decide))
theorem apart_S2x2x256x1_10_11 : Disjoint (Rect.unit (s := S2x2x256x1) ![1, 0, 0, 0] ![1, 1, 256, 1] inb_S2x2x256x1_S1x1x256x1_1_0_0_0).set (Rect.unit (s := S2x2x256x1) ![1, 1, 0, 0] ![1, 1, 256, 1] inb_S2x2x256x1_S1x1x256x1_1_1_0_0).set :=
  unit_disjoint _ _ (⟨1, by decide⟩ : Fin 4) (.inl (by decide))
theorem apart_S2x2x256x1_11_00 : Disjoint (Rect.unit (s := S2x2x256x1) ![1, 1, 0, 0] ![1, 1, 256, 1] inb_S2x2x256x1_S1x1x256x1_1_1_0_0).set (Rect.unit (s := S2x2x256x1) ![0, 0, 0, 0] ![1, 1, 256, 1] inb_S2x2x256x1_S1x1x256x1_0_0_0_0).set :=
  unit_disjoint _ _ (⟨0, by decide⟩ : Fin 4) (.inr (by decide))
theorem apart_S2x2x256x1_11_01 : Disjoint (Rect.unit (s := S2x2x256x1) ![1, 1, 0, 0] ![1, 1, 256, 1] inb_S2x2x256x1_S1x1x256x1_1_1_0_0).set (Rect.unit (s := S2x2x256x1) ![0, 1, 0, 0] ![1, 1, 256, 1] inb_S2x2x256x1_S1x1x256x1_0_1_0_0).set :=
  unit_disjoint _ _ (⟨0, by decide⟩ : Fin 4) (.inr (by decide))
theorem apart_S2x2x256x1_11_10 : Disjoint (Rect.unit (s := S2x2x256x1) ![1, 1, 0, 0] ![1, 1, 256, 1] inb_S2x2x256x1_S1x1x256x1_1_1_0_0).set (Rect.unit (s := S2x2x256x1) ![1, 0, 0, 0] ![1, 1, 256, 1] inb_S2x2x256x1_S1x1x256x1_1_0_0_0).set :=
  unit_disjoint _ _ (⟨1, by decide⟩ : Fin 4) (.inr (by decide))
theorem apart_S2x256x128_0_1 : Disjoint (Rect.unit (s := S2x256x128) ![0, 0, 0] ![1, 256, 128] inb_S2x256x128_S1x256x128_0_0_0).set (Rect.unit (s := S2x256x128) ![1, 0, 0] ![1, 256, 128] inb_S2x256x128_S1x256x128_1_0_0).set :=
  unit_disjoint _ _ (⟨0, by decide⟩ : Fin 3) (.inl (by decide))
theorem apart_S2x256x128_1_0 : Disjoint (Rect.unit (s := S2x256x128) ![1, 0, 0] ![1, 256, 128] inb_S2x256x128_S1x256x128_1_0_0).set (Rect.unit (s := S2x256x128) ![0, 0, 0] ![1, 256, 128] inb_S2x256x128_S1x256x128_0_0_0).set :=
  unit_disjoint _ _ (⟨0, by decide⟩ : Fin 3) (.inr (by decide))

section

variable {sig' : RefSig} {κ' : Kind} {sp' : Space} {e : EltTy} {Val : EltTy → Type}

/-! A slot's load, reshaped, reads the reshaped table last stored there. -/

theorem hit_S2x2x256x256_00 (v : View sig' κ' sp' S2x2x256x256 e) (g : v.ty.Contents Val) (w : S256x256.Idx → Val e) (L : List (View.Piece Val S2x2x256x256 e)) (h : S256x256.ShapeCasts S1x1x256x256) (h' : S1x1x256x256.ShapeCasts S256x256) :
    shapeCast S256x256 (v.readAt Val (Rect.unit (s := S2x2x256x256) ![0, 0, 0, 0] ![1, 1, 256, 256] inb_S2x2x256x256_S1x1x256x256_0_0_0_0).toLoadRect (v.writes Val g (⟨(Rect.unit (s := S2x2x256x256) ![0, 0, 0, 0] ![1, 1, 256, 256] inb_S2x2x256x256_S1x1x256x256_0_0_0_0), shapeCast S1x1x256x256 w h⟩ :: L))) h' = w := by
  rw [read_hit]; exact shapeCast_shapeCast w h h'
theorem hit_S2x2x256x256_01 (v : View sig' κ' sp' S2x2x256x256 e) (g : v.ty.Contents Val) (w : S256x256.Idx → Val e) (L : List (View.Piece Val S2x2x256x256 e)) (h : S256x256.ShapeCasts S1x1x256x256) (h' : S1x1x256x256.ShapeCasts S256x256) :
    shapeCast S256x256 (v.readAt Val (Rect.unit (s := S2x2x256x256) ![0, 1, 0, 0] ![1, 1, 256, 256] inb_S2x2x256x256_S1x1x256x256_0_1_0_0).toLoadRect (v.writes Val g (⟨(Rect.unit (s := S2x2x256x256) ![0, 1, 0, 0] ![1, 1, 256, 256] inb_S2x2x256x256_S1x1x256x256_0_1_0_0), shapeCast S1x1x256x256 w h⟩ :: L))) h' = w := by
  rw [read_hit]; exact shapeCast_shapeCast w h h'
theorem hit_S2x2x256x256_10 (v : View sig' κ' sp' S2x2x256x256 e) (g : v.ty.Contents Val) (w : S256x256.Idx → Val e) (L : List (View.Piece Val S2x2x256x256 e)) (h : S256x256.ShapeCasts S1x1x256x256) (h' : S1x1x256x256.ShapeCasts S256x256) :
    shapeCast S256x256 (v.readAt Val (Rect.unit (s := S2x2x256x256) ![1, 0, 0, 0] ![1, 1, 256, 256] inb_S2x2x256x256_S1x1x256x256_1_0_0_0).toLoadRect (v.writes Val g (⟨(Rect.unit (s := S2x2x256x256) ![1, 0, 0, 0] ![1, 1, 256, 256] inb_S2x2x256x256_S1x1x256x256_1_0_0_0), shapeCast S1x1x256x256 w h⟩ :: L))) h' = w := by
  rw [read_hit]; exact shapeCast_shapeCast w h h'
theorem hit_S2x2x256x256_11 (v : View sig' κ' sp' S2x2x256x256 e) (g : v.ty.Contents Val) (w : S256x256.Idx → Val e) (L : List (View.Piece Val S2x2x256x256 e)) (h : S256x256.ShapeCasts S1x1x256x256) (h' : S1x1x256x256.ShapeCasts S256x256) :
    shapeCast S256x256 (v.readAt Val (Rect.unit (s := S2x2x256x256) ![1, 1, 0, 0] ![1, 1, 256, 256] inb_S2x2x256x256_S1x1x256x256_1_1_0_0).toLoadRect (v.writes Val g (⟨(Rect.unit (s := S2x2x256x256) ![1, 1, 0, 0] ![1, 1, 256, 256] inb_S2x2x256x256_S1x1x256x256_1_1_0_0), shapeCast S1x1x256x256 w h⟩ :: L))) h' = w := by
  rw [read_hit]; exact shapeCast_shapeCast w h h'
theorem hit_S2x2x256x1_00 (v : View sig' κ' sp' S2x2x256x1 e) (g : v.ty.Contents Val) (w : S256x1.Idx → Val e) (L : List (View.Piece Val S2x2x256x1 e)) (h : S256x1.ShapeCasts S1x1x256x1) (h' : S1x1x256x1.ShapeCasts S256x1) :
    shapeCast S256x1 (v.readAt Val (Rect.unit (s := S2x2x256x1) ![0, 0, 0, 0] ![1, 1, 256, 1] inb_S2x2x256x1_S1x1x256x1_0_0_0_0).toLoadRect (v.writes Val g (⟨(Rect.unit (s := S2x2x256x1) ![0, 0, 0, 0] ![1, 1, 256, 1] inb_S2x2x256x1_S1x1x256x1_0_0_0_0), shapeCast S1x1x256x1 w h⟩ :: L))) h' = w := by
  rw [read_hit]; exact shapeCast_shapeCast w h h'
theorem hit_S2x2x256x1_01 (v : View sig' κ' sp' S2x2x256x1 e) (g : v.ty.Contents Val) (w : S256x1.Idx → Val e) (L : List (View.Piece Val S2x2x256x1 e)) (h : S256x1.ShapeCasts S1x1x256x1) (h' : S1x1x256x1.ShapeCasts S256x1) :
    shapeCast S256x1 (v.readAt Val (Rect.unit (s := S2x2x256x1) ![0, 1, 0, 0] ![1, 1, 256, 1] inb_S2x2x256x1_S1x1x256x1_0_1_0_0).toLoadRect (v.writes Val g (⟨(Rect.unit (s := S2x2x256x1) ![0, 1, 0, 0] ![1, 1, 256, 1] inb_S2x2x256x1_S1x1x256x1_0_1_0_0), shapeCast S1x1x256x1 w h⟩ :: L))) h' = w := by
  rw [read_hit]; exact shapeCast_shapeCast w h h'
theorem hit_S2x2x256x1_10 (v : View sig' κ' sp' S2x2x256x1 e) (g : v.ty.Contents Val) (w : S256x1.Idx → Val e) (L : List (View.Piece Val S2x2x256x1 e)) (h : S256x1.ShapeCasts S1x1x256x1) (h' : S1x1x256x1.ShapeCasts S256x1) :
    shapeCast S256x1 (v.readAt Val (Rect.unit (s := S2x2x256x1) ![1, 0, 0, 0] ![1, 1, 256, 1] inb_S2x2x256x1_S1x1x256x1_1_0_0_0).toLoadRect (v.writes Val g (⟨(Rect.unit (s := S2x2x256x1) ![1, 0, 0, 0] ![1, 1, 256, 1] inb_S2x2x256x1_S1x1x256x1_1_0_0_0), shapeCast S1x1x256x1 w h⟩ :: L))) h' = w := by
  rw [read_hit]; exact shapeCast_shapeCast w h h'
theorem hit_S2x2x256x1_11 (v : View sig' κ' sp' S2x2x256x1 e) (g : v.ty.Contents Val) (w : S256x1.Idx → Val e) (L : List (View.Piece Val S2x2x256x1 e)) (h : S256x1.ShapeCasts S1x1x256x1) (h' : S1x1x256x1.ShapeCasts S256x1) :
    shapeCast S256x1 (v.readAt Val (Rect.unit (s := S2x2x256x1) ![1, 1, 0, 0] ![1, 1, 256, 1] inb_S2x2x256x1_S1x1x256x1_1_1_0_0).toLoadRect (v.writes Val g (⟨(Rect.unit (s := S2x2x256x1) ![1, 1, 0, 0] ![1, 1, 256, 1] inb_S2x2x256x1_S1x1x256x1_1_1_0_0), shapeCast S1x1x256x1 w h⟩ :: L))) h' = w := by
  rw [read_hit]; exact shapeCast_shapeCast w h h'
theorem hit_S2x256x128_0 (v : View sig' κ' sp' S2x256x128 e) (g : v.ty.Contents Val) (w : S256x128.Idx → Val e) (L : List (View.Piece Val S2x256x128 e)) (h : S256x128.ShapeCasts S1x256x128) (h' : S1x256x128.ShapeCasts S256x128) :
    shapeCast S256x128 (v.readAt Val (Rect.unit (s := S2x256x128) ![0, 0, 0] ![1, 256, 128] inb_S2x256x128_S1x256x128_0_0_0).toLoadRect (v.writes Val g (⟨(Rect.unit (s := S2x256x128) ![0, 0, 0] ![1, 256, 128] inb_S2x256x128_S1x256x128_0_0_0), shapeCast S1x256x128 w h⟩ :: L))) h' = w := by
  rw [read_hit]; exact shapeCast_shapeCast w h h'
theorem hit_S2x256x128_1 (v : View sig' κ' sp' S2x256x128 e) (g : v.ty.Contents Val) (w : S256x128.Idx → Val e) (L : List (View.Piece Val S2x256x128 e)) (h : S256x128.ShapeCasts S1x256x128) (h' : S1x256x128.ShapeCasts S256x128) :
    shapeCast S256x128 (v.readAt Val (Rect.unit (s := S2x256x128) ![1, 0, 0] ![1, 256, 128] inb_S2x256x128_S1x256x128_1_0_0).toLoadRect (v.writes Val g (⟨(Rect.unit (s := S2x256x128) ![1, 0, 0] ![1, 256, 128] inb_S2x256x128_S1x256x128_1_0_0), shapeCast S1x256x128 w h⟩ :: L))) h' = w := by
  rw [read_hit]; exact shapeCast_shapeCast w h h'

end

/-- The scratches hold the two heads' tiles in slot 0 and their weighted values so far. -/
structure Holds (arg8 : Memref sig .tc .vmem S2x2x256x256 .bf16) (arg9 : Memref sig .tc .vmem S2x2x256x256 .f32) (arg10 : Memref sig .tc .vmem S2x2x256x1 .f32) (arg11 : Memref sig .tc .vmem S2x256x128 .f32)
    (T0 T1 : Tile F) (a0 a1 : FVec F S256x128 .f32) (f8 : BufTy.Contents (Elt F) arg8.view.ty)
    (f9 : BufTy.Contents (Elt F) arg9.view.ty) (f10 : BufTy.Contents (Elt F) arg10.view.ty) (f11 : BufTy.Contents (Elt F) arg11.view.ty) : Prop where
  sp_0 : shapeCast S256x256 (arg8.view.readAt (Elt F) (Rect.unit (s := S2x2x256x256) ![0, 0, 0, 0] ![1, 1, 256, 256] inb_S2x2x256x256_S1x1x256x256_0_0_0_0).toLoadRect f8) shapeCasts_S1x1x256x256_S256x256 = T0.sp
  zs_0 : shapeCast S256x256 (arg9.view.readAt (Elt F) (Rect.unit (s := S2x2x256x256) ![0, 0, 0, 0] ![1, 1, 256, 256] inb_S2x2x256x256_S1x1x256x256_0_0_0_0).toLoadRect f9) shapeCasts_S1x1x256x256_S256x256 = T0.zs
  sp0_0 : shapeCast S256x1 (arg10.view.readAt (Elt F) (Rect.unit (s := S2x2x256x1) ![0, 0, 0, 0] ![1, 1, 256, 1] inb_S2x2x256x1_S1x1x256x1_0_0_0_0).toLoadRect f10) shapeCasts_S1x1x256x1_S256x1 = T0.sp0
  acc_0 : shapeCast S256x128 (arg11.view.readAt (Elt F) (Rect.unit (s := S2x256x128) ![0, 0, 0] ![1, 256, 128] inb_S2x256x128_S1x256x128_0_0_0).toLoadRect f11) shapeCasts_S1x256x128_S256x128 = a0
  sp_1 : shapeCast S256x256 (arg8.view.readAt (Elt F) (Rect.unit (s := S2x2x256x256) ![0, 1, 0, 0] ![1, 1, 256, 256] inb_S2x2x256x256_S1x1x256x256_0_1_0_0).toLoadRect f8) shapeCasts_S1x1x256x256_S256x256 = T1.sp
  zs_1 : shapeCast S256x256 (arg9.view.readAt (Elt F) (Rect.unit (s := S2x2x256x256) ![0, 1, 0, 0] ![1, 1, 256, 256] inb_S2x2x256x256_S1x1x256x256_0_1_0_0).toLoadRect f9) shapeCasts_S1x1x256x256_S256x256 = T1.zs
  sp0_1 : shapeCast S256x1 (arg10.view.readAt (Elt F) (Rect.unit (s := S2x2x256x1) ![0, 1, 0, 0] ![1, 1, 256, 1] inb_S2x2x256x1_S1x1x256x1_0_1_0_0).toLoadRect f10) shapeCasts_S1x1x256x1_S256x1 = T1.sp0
  acc_1 : shapeCast S256x128 (arg11.view.readAt (Elt F) (Rect.unit (s := S2x256x128) ![1, 0, 0] ![1, 256, 128] inb_S2x256x128_S1x256x128_1_0_0).toLoadRect f11) shapeCasts_S1x256x128_S256x128 = a1

end Cert.KernelIdeal.Attn
-- ==== Proof.Attn.Trip.lean ====
module

public import proofs.«01_k».proof.Proof.Attn.Tile

@[expose] public section

set_option maxRecDepth 16384

noncomputable section

/-! One trip of the kernel's loop: the next tile is scored into slot 1 and the held one weighed, the one after scored
    into slot 0 and slot 1 weighed. -/

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

set_option maxHeartbeats 2000000 in
/-- What the trip yields: the running sums, two tiles on. -/
theorem trip_sums (𝒱 : Variants) (c : Dev nD) (bd : Option 𝒱.V) (i : grid0.Coords) (arg3 : Memref sig .tc .smem S8 .f32) (harg3 : arg3.IsWhole) (arg4 : Memref sig .tc .vmem S1x256x128 .bf16) (harg4 : arg4.IsWhole) (arg5 : Memref sig .tc .vmem S1x8x128x256 .bf16) (harg5 : arg5.IsWhole) (arg6 : Memref sig .tc .vmem S1x8x128x256 .bf16) (harg6 : arg6.IsWhole) (arg7 : Memref sig .tc .vmem S1x256x128 .f32) (harg7 : arg7.IsWhole) (arg8 : Memref sig .tc .vmem S2x2x256x256 .bf16) (harg8 : arg8.IsWhole) (arg9 : Memref sig .tc .vmem S2x2x256x256 .f32) (harg9 : arg9.IsWhole) (arg10 : Memref sig .tc .vmem S2x2x256x1 .f32) (harg10 : arg10.IsWhole) (arg11 : Memref sig .tc .vmem S2x256x128 .f32) (harg11 : arg11.IsWhole)
    (arg2 : BitVec 32) (v8 v11 : FVec F S256x128 .bf16) (v14 v18 : Elt F .f32) (v25 : FVec F S256x256 .bf16) (v92 : FVec F S256x1 .f32) (v93 : BitVec 32) (v107 : BitVec 1) (c1 : BitVec 32)
    (X5 : BufTy.Contents (Elt F) arg5.view.ty) (X6 : BufTy.Contents (Elt F) arg6.view.ty) (k : Fin (k0_t1_loop i).trips) (acc : FVec F S256x1 .f32 × FVec F S256x1 .f32) (f8 : BufTy.Contents (Elt F) arg8.view.ty) (f9 : BufTy.Contents (Elt F) arg9.view.ty) (f10 : BufTy.Contents (Elt F) arg10.view.ty) (f11 : BufTy.Contents (Elt F) arg11.view.ty)
    (T0 T1 : Tile F) (a0 a1 : FVec F S256x128 .f32) (h : Holds arg8 arg9 arg10 arg11 T0 T1 a0 a1 f8 f9 f10 f11) :
    tripR_k0_t1 (F := F) 𝒱 c bd i arg3 harg3 arg4 harg4 arg5 harg5 arg6 harg6 arg7 harg7 arg8 harg8 arg9 harg9 arg10 harg10 arg11 harg11 arg2 v8 v11 v14 v18 v25 v92 v93 v107 c1 X5 X6 k acc f8 f9 f10 f11 =
      (later v25 (score v8 v14 (arg5.view.readAt (Elt F) (Rect.unit (s := S1x8x128x256) (k0_off4 i k) S1x1x128x256.size (k0_off4_inb i k)).toLoadRect X5)) (later v25 T0 acc.1),
       later v25 (score v11 v18 (arg5.view.readAt (Elt F) (Rect.unit (s := S1x8x128x256) (k0_off4 i k) S1x1x128x256.size (k0_off4_inb i k)).toLoadRect X5)) (later v25 T1 acc.2)) := by
  obtain ⟨h1, h2, h3, h4, h5, h6, h7, h8⟩ := h
  unfold tripR_k0_t1 trip_k0_t1

  sl_unfold_run_names
  unfold View.readCov
  simp only [hit_S2x2x256x256_00, hit_S2x2x256x256_01, hit_S2x2x256x256_10, hit_S2x2x256x256_11, hit_S2x2x256x1_00, hit_S2x2x256x1_01, hit_S2x2x256x1_10, hit_S2x2x256x1_11, hit_S2x256x128_0, hit_S2x256x128_1, k0_pay130, k0_pay131, read_miss _ _ _ _ _ _ apart_S2x2x256x256_00_01, read_miss _ _ _ _ _ _ apart_S2x2x256x256_00_10, read_miss _ _ _ _ _ _ apart_S2x2x256x256_00_11, read_miss _ _ _ _ _ _ apart_S2x2x256x256_01_00, read_miss _ _ _ _ _ _ apart_S2x2x256x256_01_10, read_miss _ _ _ _ _ _ apart_S2x2x256x256_01_11, read_miss _ _ _ _ _ _ apart_S2x2x256x256_10_00, read_miss _ _ _ _ _ _ apart_S2x2x256x256_10_01, read_miss _ _ _ _ _ _ apart_S2x2x256x256_10_11, read_miss _ _ _ _ _ _ apart_S2x2x256x256_11_00, read_miss _ _ _ _ _ _ apart_S2x2x256x256_11_01, read_miss _ _ _ _ _ _ apart_S2x2x256x256_11_10, read_miss _ _ _ _ _ _ apart_S2x2x256x1_00_01, read_miss _ _ _ _ _ _ apart_S2x2x256x1_00_10, read_miss _ _ _ _ _ _ apart_S2x2x256x1_00_11, read_miss _ _ _ _ _ _ apart_S2x2x256x1_01_00, read_miss _ _ _ _ _ _ apart_S2x2x256x1_01_10, read_miss _ _ _ _ _ _ apart_S2x2x256x1_01_11, read_miss _ _ _ _ _ _ apart_S2x2x256x1_10_00, read_miss _ _ _ _ _ _ apart_S2x2x256x1_10_01, read_miss _ _ _ _ _ _ apart_S2x2x256x1_10_11, read_miss _ _ _ _ _ _ apart_S2x2x256x1_11_00, read_miss _ _ _ _ _ _ apart_S2x2x256x1_11_01, read_miss _ _ _ _ _ _ apart_S2x2x256x1_11_10, read_miss _ _ _ _ _ _ apart_S2x256x128_0_1, read_miss _ _ _ _ _ _ apart_S2x256x128_1_0, h1, h2, h3, h4, h5, h6, h7, h8]
  rfl

set_option maxHeartbeats 2000000 in
/-- What the trip leaves in the scratches, over any base: the tile two places on in slot 0, the values weighed. -/
theorem trip_holds (𝒱 : Variants) (c : Dev nD) (bd : Option 𝒱.V) (i : grid0.Coords) (arg3 : Memref sig .tc .smem S8 .f32) (harg3 : arg3.IsWhole) (arg4 : Memref sig .tc .vmem S1x256x128 .bf16) (harg4 : arg4.IsWhole) (arg5 : Memref sig .tc .vmem S1x8x128x256 .bf16) (harg5 : arg5.IsWhole) (arg6 : Memref sig .tc .vmem S1x8x128x256 .bf16) (harg6 : arg6.IsWhole) (arg7 : Memref sig .tc .vmem S1x256x128 .f32) (harg7 : arg7.IsWhole) (arg8 : Memref sig .tc .vmem S2x2x256x256 .bf16) (harg8 : arg8.IsWhole) (arg9 : Memref sig .tc .vmem S2x2x256x256 .f32) (harg9 : arg9.IsWhole) (arg10 : Memref sig .tc .vmem S2x2x256x1 .f32) (harg10 : arg10.IsWhole) (arg11 : Memref sig .tc .vmem S2x256x128 .f32) (harg11 : arg11.IsWhole)
    (arg2 : BitVec 32) (v8 v11 : FVec F S256x128 .bf16) (v14 v18 : Elt F .f32) (v25 : FVec F S256x256 .bf16) (v92 : FVec F S256x1 .f32) (v93 : BitVec 32) (v107 : BitVec 1) (c1 : BitVec 32)
    (X5 : BufTy.Contents (Elt F) arg5.view.ty) (X6 : BufTy.Contents (Elt F) arg6.view.ty) (k : Fin (k0_t1_loop i).trips) (acc : FVec F S256x1 .f32 × FVec F S256x1 .f32) (f8 : BufTy.Contents (Elt F) arg8.view.ty) (f9 : BufTy.Contents (Elt F) arg9.view.ty) (f10 : BufTy.Contents (Elt F) arg10.view.ty) (f11 : BufTy.Contents (Elt F) arg11.view.ty)
    (T0 T1 : Tile F) (a0 a1 : FVec F S256x128 .f32) (h : Holds arg8 arg9 arg10 arg11 T0 T1 a0 a1 f8 f9 f10 f11)
    (g8 : BufTy.Contents (Elt F) arg8.view.ty) (g9 : BufTy.Contents (Elt F) arg9.view.ty) (g10 : BufTy.Contents (Elt F) arg10.view.ty) (g11 : BufTy.Contents (Elt F) arg11.view.ty) :
    Holds arg8 arg9 arg10 arg11 (score v8 v14 (arg5.view.readAt (Elt F) (Rect.unit (s := S1x8x128x256) (k0_off6 i k) S1x1x128x256.size (k0_off6_inb i k)).toLoadRect X5)) (score v11 v18 (arg5.view.readAt (Elt F) (Rect.unit (s := S1x8x128x256) (k0_off6 i k) S1x1x128x256.size (k0_off6_inb i k)).toLoadRect X5))
      (accum v25 (score v8 v14 (arg5.view.readAt (Elt F) (Rect.unit (s := S1x8x128x256) (k0_off4 i k) S1x1x128x256.size (k0_off4_inb i k)).toLoadRect X5)) (arg6.view.readAt (Elt F) (Rect.unit (s := S1x8x128x256) (k0_off4 i k) S1x1x128x256.size (k0_off4_inb i k)).toLoadRect X6) (later v25 T0 acc.1) (accum v25 T0 (arg6.view.readAt (Elt F) (Rect.unit (s := S1x8x128x256) (k0_off5 i k) S1x1x128x256.size (k0_off5_inb i k)).toLoadRect X6) acc.1 a0))
      (accum v25 (score v11 v18 (arg5.view.readAt (Elt F) (Rect.unit (s := S1x8x128x256) (k0_off4 i k) S1x1x128x256.size (k0_off4_inb i k)).toLoadRect X5)) (arg6.view.readAt (Elt F) (Rect.unit (s := S1x8x128x256) (k0_off4 i k) S1x1x128x256.size (k0_off4_inb i k)).toLoadRect X6) (later v25 T1 acc.2) (accum v25 T1 (arg6.view.readAt (Elt F) (Rect.unit (s := S1x8x128x256) (k0_off5 i k) S1x1x128x256.size (k0_off5_inb i k)).toLoadRect X6) acc.2 a1))
      (arg8.view.writes (Elt F) g8 (tripL_k0_t1 (F := F) 𝒱 c bd i arg3 harg3 arg4 harg4 arg5 harg5 arg6 harg6 arg7 harg7 arg8 harg8 arg9 harg9 arg10 harg10 arg11 harg11 arg2 v8 v11 v14 v18 v25 v92 v93 v107 c1 X5 X6 k acc f8 f9 f10 f11).1)
      (arg9.view.writes (Elt F) g9 (tripL_k0_t1 (F := F) 𝒱 c bd i arg3 harg3 arg4 harg4 arg5 harg5 arg6 harg6 arg7 harg7 arg8 harg8 arg9 harg9 arg10 harg10 arg11 harg11 arg2 v8 v11 v14 v18 v25 v92 v93 v107 c1 X5 X6 k acc f8 f9 f10 f11).2.1)
      (arg10.view.writes (Elt F) g10 (tripL_k0_t1 (F := F) 𝒱 c bd i arg3 harg3 arg4 harg4 arg5 harg5 arg6 harg6 arg7 harg7 arg8 harg8 arg9 harg9 arg10 harg10 arg11 harg11 arg2 v8 v11 v14 v18 v25 v92 v93 v107 c1 X5 X6 k acc f8 f9 f10 f11).2.2.1)
      (arg11.view.writes (Elt F) g11 (tripL_k0_t1 (F := F) 𝒱 c bd i arg3 harg3 arg4 harg4 arg5 harg5 arg6 harg6 arg7 harg7 arg8 harg8 arg9 harg9 arg10 harg10 arg11 harg11 arg2 v8 v11 v14 v18 v25 v92 v93 v107 c1 X5 X6 k acc f8 f9 f10 f11).2.2.2) := by
  obtain ⟨h1, h2, h3, h4, h5, h6, h7, h8⟩ := h
  unfold tripL_k0_t1 trip_k0_t1
  sl_unfold_run_names
  unfold View.readCov
  constructor <;>
    (simp only [hit_S2x2x256x256_00, hit_S2x2x256x256_01, hit_S2x2x256x256_10, hit_S2x2x256x256_11, hit_S2x2x256x1_00, hit_S2x2x256x1_01, hit_S2x2x256x1_10, hit_S2x2x256x1_11, hit_S2x256x128_0, hit_S2x256x128_1, k0_pay130, k0_pay131, read_miss _ _ _ _ _ _ apart_S2x2x256x256_00_01, read_miss _ _ _ _ _ _ apart_S2x2x256x256_00_10, read_miss _ _ _ _ _ _ apart_S2x2x256x256_00_11, read_miss _ _ _ _ _ _ apart_S2x2x256x256_01_00, read_miss _ _ _ _ _ _ apart_S2x2x256x256_01_10, read_miss _ _ _ _ _ _ apart_S2x2x256x256_01_11, read_miss _ _ _ _ _ _ apart_S2x2x256x256_10_00, read_miss _ _ _ _ _ _ apart_S2x2x256x256_10_01, read_miss _ _ _ _ _ _ apart_S2x2x256x256_10_11, read_miss _ _ _ _ _ _ apart_S2x2x256x256_11_00, read_miss _ _ _ _ _ _ apart_S2x2x256x256_11_01, read_miss _ _ _ _ _ _ apart_S2x2x256x256_11_10, read_miss _ _ _ _ _ _ apart_S2x2x256x1_00_01, read_miss _ _ _ _ _ _ apart_S2x2x256x1_00_10, read_miss _ _ _ _ _ _ apart_S2x2x256x1_00_11, read_miss _ _ _ _ _ _ apart_S2x2x256x1_01_00, read_miss _ _ _ _ _ _ apart_S2x2x256x1_01_10, read_miss _ _ _ _ _ _ apart_S2x2x256x1_01_11, read_miss _ _ _ _ _ _ apart_S2x2x256x1_10_00, read_miss _ _ _ _ _ _ apart_S2x2x256x1_10_01, read_miss _ _ _ _ _ _ apart_S2x2x256x1_10_11, read_miss _ _ _ _ _ _ apart_S2x2x256x1_11_00, read_miss _ _ _ _ _ _ apart_S2x2x256x1_11_01, read_miss _ _ _ _ _ _ apart_S2x2x256x1_11_10, read_miss _ _ _ _ _ _ apart_S2x256x128_0_1, read_miss _ _ _ _ _ _ apart_S2x256x128_1_0, h1, h2, h3, h4, h5, h6, h7, h8]; rfl)

end Cert.KernelIdeal.Attn
-- ==== Proof.Attn.Loop.lean ====
module

public import proofs.«01_k».proof.Proof.Attn.Trip

@[expose] public section

set_option maxRecDepth 16384

noncomputable section

/-! The kernel's loop over pairs of tiles: after `k` trips `2k` tiles are weighed and the next is scored. -/

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

theorem t1_trips (i : grid0.Coords) : (k0_t1_loop i).trips = (i 2 : ℕ) / 2 := by
  dsimp only [k0_t1_loop, Scf.Loop.trips]
  generalize i 2 = x
  revert x
  show ∀ x : Fin 8, _
  decide +kernel

theorem t2_trips (i : grid0.Coords) : (k0_t2_loop i).trips = 0 := by
  dsimp only [k0_t2_loop, Scf.Loop.trips]
  generalize i 2 = x
  revert x
  show ∀ x : Fin 8, _
  decide +kernel

theorem off3_eq (i : grid0.Coords) : k0_off3 i = ![0, (i 2 : ℕ), 0, 0] := by
  dsimp only [k0_off3]
  generalize i 2 = x
  revert x
  show ∀ x : Fin 8, _
  decide +kernel

theorem off4_eq (i : grid0.Coords) (k : Fin (k0_t1_loop i).trips) : k0_off4 i k = ![0, (i 2 : ℕ) - (2 * (k : ℕ) + 1), 0, 0] := by
  have hk : (k : ℕ) < (i 2 : ℕ) / 2 := t1_trips i ▸ k.isLt
  dsimp only [k0_off4]
  generalize (k : ℕ) = n at hk ⊢
  generalize i 2 = x at hk ⊢
  have h4 : n < 4 := by have : (x : ℕ) < 8 := x.isLt; omega
  exact (by decide +kernel : ∀ (x : Fin 8) (n : Fin 4), (n : ℕ) < (x : ℕ) / 2 → ![0, BitVec.toNat (Scalar.indexCast (Scalar.subi (Scalar.subi (BitVec.ofNat 32 ↑x) 1#32) (Scalar.muli (2#32) (Scf.iv 0#32 1#32 (n : ℕ))))), 0, 0] = ![0, (x : ℕ) - (2 * (n : ℕ) + 1), 0, 0]) x ⟨n, h4⟩ hk

theorem off5_eq (i : grid0.Coords) (k : Fin (k0_t1_loop i).trips) : k0_off5 i k = ![0, (i 2 : ℕ) - 2 * (k : ℕ), 0, 0] := by
  have hk : (k : ℕ) < (i 2 : ℕ) / 2 := t1_trips i ▸ k.isLt
  dsimp only [k0_off5]
  generalize (k : ℕ) = n at hk ⊢
  generalize i 2 = x at hk ⊢
  have h4 : n < 4 := by have : (x : ℕ) < 8 := x.isLt; omega
  exact (by decide +kernel : ∀ (x : Fin 8) (n : Fin 4), (n : ℕ) < (x : ℕ) / 2 → ![0, BitVec.toNat (Scalar.indexCast (Scalar.addi (Scalar.subi (Scalar.subi (BitVec.ofNat 32 ↑x) 1#32) (Scalar.muli (2#32) (Scf.iv 0#32 1#32 (n : ℕ)))) 1#32)), 0, 0] = ![0, (x : ℕ) - 2 * (n : ℕ), 0, 0]) x ⟨n, h4⟩ hk

theorem off6_eq (i : grid0.Coords) (k : Fin (k0_t1_loop i).trips) : k0_off6 i k = ![0, (i 2 : ℕ) - (2 * (k : ℕ) + 2), 0, 0] := by
  have hk : (k : ℕ) < (i 2 : ℕ) / 2 := t1_trips i ▸ k.isLt
  dsimp only [k0_off6]
  generalize (k : ℕ) = n at hk ⊢
  generalize i 2 = x at hk ⊢
  have h4 : n < 4 := by have : (x : ℕ) < 8 := x.isLt; omega
  exact (by decide +kernel : ∀ (x : Fin 8) (n : Fin 4), (n : ℕ) < (x : ℕ) / 2 → ![0, BitVec.toNat (Scalar.indexCast (Scalar.subi (Scalar.subi (Scalar.subi (BitVec.ofNat 32 ↑x) 1#32) (Scalar.muli (2#32) (Scf.iv 0#32 1#32 (n : ℕ)))) 1#32)), 0, 0] = ![0, (x : ℕ) - (2 * (n : ℕ) + 2), 0, 0]) x ⟨n, h4⟩ hk

theorem tile_inb (j : ℕ) (a : Fin S1x8x128x256.rank) : (![0, j % 8, 0, 0] : Fin 4 → ℕ) a + (![1, 1, 128, 256] : Fin 4 → ℕ) a ≤ S1x8x128x256.size a := by
  have hj : j % 8 < 8 := Nat.mod_lt _ (by decide)
  have : ∀ (x : Fin 8) (a : Fin 4), (![0, (x : ℕ), 0, 0] : Fin 4 → ℕ) a + (![1, 1, 128, 256] : Fin 4 → ℕ) a ≤ (![1, 8, 128, 256] : Fin 4 → ℕ) a := by decide +kernel
  exact this ⟨j % 8, hj⟩ a

/-- Tile `j` of a batch element's keys or values. -/
def tileOf (arg : Memref sig .tc .vmem S1x8x128x256 .bf16) (X : BufTy.Contents (Elt F) arg.view.ty) (j : ℕ) : Vec F S1x1x128x256 .bf16 :=
  arg.view.readAt (Elt F) (Rect.unit (s := S1x8x128x256) ![0, j % 8, 0, 0] ![1, 1, 128, 256] (tile_inb j)).toLoadRect X

/-- A load at a tile's offset reads that tile. -/
theorem tileOf_eq (arg : Memref sig .tc .vmem S1x8x128x256 .bf16) (X : BufTy.Contents (Elt F) arg.view.ty) (off : Fin 4 → ℕ) (j : ℕ)
    (h : off = ![0, j, 0, 0]) (hj : j < 8) (inb : ∀ a, off a + S1x1x128x256.size a ≤ S1x8x128x256.size a) :
    arg.view.readAt (Elt F) (Rect.unit (s := S1x8x128x256) off S1x1x128x256.size inb).toLoadRect X = tileOf arg X j := by
  have h' : off = ![0, j % 8, 0, 0] := by rw [h, Nat.mod_eq_of_lt hj]
  subst h'
  rfl

set_option maxHeartbeats 1000000 in
/-- Before trip `k`: `2k` tiles weighed and the next scored, over the loop's own base contents and over any other that
    agreed at entry. -/
theorem loop_holds (𝒱 : Variants) (c : Dev nD) (bd : Option 𝒱.V) (i : grid0.Coords) (arg3 : Memref sig .tc .smem S8 .f32) (harg3 : arg3.IsWhole) (arg4 : Memref sig .tc .vmem S1x256x128 .bf16) (harg4 : arg4.IsWhole) (arg5 : Memref sig .tc .vmem S1x8x128x256 .bf16) (harg5 : arg5.IsWhole) (arg6 : Memref sig .tc .vmem S1x8x128x256 .bf16) (harg6 : arg6.IsWhole) (arg7 : Memref sig .tc .vmem S1x256x128 .f32) (harg7 : arg7.IsWhole) (arg8 : Memref sig .tc .vmem S2x2x256x256 .bf16) (harg8 : arg8.IsWhole) (arg9 : Memref sig .tc .vmem S2x2x256x256 .f32) (harg9 : arg9.IsWhole) (arg10 : Memref sig .tc .vmem S2x2x256x1 .f32) (harg10 : arg10.IsWhole) (arg11 : Memref sig .tc .vmem S2x256x128 .f32) (harg11 : arg11.IsWhole)
    (arg2 : BitVec 32) (v8 v11 : FVec F S256x128 .bf16) (v14 v18 : Elt F .f32) (v25 : FVec F S256x256 .bf16) (v92 : FVec F S256x1 .f32) (v93 : BitVec 32) (v107 : BitVec 1) (c1 : BitVec 32)
    (X5 : BufTy.Contents (Elt F) arg5.view.ty) (X6 : BufTy.Contents (Elt F) arg6.view.ty) (G8 : BufTy.Contents (Elt F) arg8.view.ty) (G9 : BufTy.Contents (Elt F) arg9.view.ty) (G10 : BufTy.Contents (Elt F) arg10.view.ty) (G11 : BufTy.Contents (Elt F) arg11.view.ty) (H8 : BufTy.Contents (Elt F) arg8.view.ty) (H9 : BufTy.Contents (Elt F) arg9.view.ty) (H10 : BufTy.Contents (Elt F) arg10.view.ty) (H11 : BufTy.Contents (Elt F) arg11.view.ty) (init : FVec F S256x1 .f32 × FVec F S256x1 .f32)
    (hi : init = (laters v25 (tileAt v8 v14 (tileOf arg5 X5) (i 2)) (0), laters v25 (tileAt v11 v18 (tileOf arg5 X5) (i 2)) (0))) (hG : Holds arg8 arg9 arg10 arg11 (tileAt v8 v14 (tileOf arg5 X5) (i 2) (0)) (tileAt v11 v18 (tileOf arg5 X5) (i 2) (0)) (accs v25 (tileAt v8 v14 (tileOf arg5 X5) (i 2)) (tileOf arg6 X6) (i 2) (0)) (accs v25 (tileAt v11 v18 (tileOf arg5 X5) (i 2)) (tileOf arg6 X6) (i 2) (0)) G8 G9 G10 G11) (hH : Holds arg8 arg9 arg10 arg11 (tileAt v8 v14 (tileOf arg5 X5) (i 2) (0)) (tileAt v11 v18 (tileOf arg5 X5) (i 2) (0)) (accs v25 (tileAt v8 v14 (tileOf arg5 X5) (i 2)) (tileOf arg6 X6) (i 2) (0)) (accs v25 (tileAt v11 v18 (tileOf arg5 X5) (i 2)) (tileOf arg6 X6) (i 2) (0)) H8 H9 H10 H11) (k : ℕ) (hk : k ≤ (k0_t1_loop i).trips) :
    (st_k0_t1 (F := F) 𝒱 c bd i arg3 harg3 arg4 harg4 arg5 harg5 arg6 harg6 arg7 harg7 arg8 harg8 arg9 harg9 arg10 harg10 arg11 harg11 arg2 v8 v11 v14 v18 v25 v92 v93 v107 c1 X5 X6 G8 G9 G10 G11 init k).1 = (laters v25 (tileAt v8 v14 (tileOf arg5 X5) (i 2)) (2 * k), laters v25 (tileAt v11 v18 (tileOf arg5 X5) (i 2)) (2 * k)) ∧
    Holds arg8 arg9 arg10 arg11 (tileAt v8 v14 (tileOf arg5 X5) (i 2) (2 * k)) (tileAt v11 v18 (tileOf arg5 X5) (i 2) (2 * k)) (accs v25 (tileAt v8 v14 (tileOf arg5 X5) (i 2)) (tileOf arg6 X6) (i 2) (2 * k)) (accs v25 (tileAt v11 v18 (tileOf arg5 X5) (i 2)) (tileOf arg6 X6) (i 2) (2 * k)) (arg8.view.writes (Elt F) G8 (st_k0_t1 (F := F) 𝒱 c bd i arg3 harg3 arg4 harg4 arg5 harg5 arg6 harg6 arg7 harg7 arg8 harg8 arg9 harg9 arg10 harg10 arg11 harg11 arg2 v8 v11 v14 v18 v25 v92 v93 v107 c1 X5 X6 G8 G9 G10 G11 init k).2.1) (arg9.view.writes (Elt F) G9 (st_k0_t1 (F := F) 𝒱 c bd i arg3 harg3 arg4 harg4 arg5 harg5 arg6 harg6 arg7 harg7 arg8 harg8 arg9 harg9 arg10 harg10 arg11 harg11 arg2 v8 v11 v14 v18 v25 v92 v93 v107 c1 X5 X6 G8 G9 G10 G11 init k).2.2.1) (arg10.view.writes (Elt F) G10 (st_k0_t1 (F := F) 𝒱 c bd i arg3 harg3 arg4 harg4 arg5 harg5 arg6 harg6 arg7 harg7 arg8 harg8 arg9 harg9 arg10 harg10 arg11 harg11 arg2 v8 v11 v14 v18 v25 v92 v93 v107 c1 X5 X6 G8 G9 G10 G11 init k).2.2.2.1) (arg11.view.writes (Elt F) G11 (st_k0_t1 (F := F) 𝒱 c bd i arg3 harg3 arg4 harg4 arg5 harg5 arg6 harg6 arg7 harg7 arg8 harg8 arg9 harg9 arg10 harg10 arg11 harg11 arg2 v8 v11 v14 v18 v25 v92 v93 v107 c1 X5 X6 G8 G9 G10 G11 init k).2.2.2.2) ∧
    Holds arg8 arg9 arg10 arg11 (tileAt v8 v14 (tileOf arg5 X5) (i 2) (2 * k)) (tileAt v11 v18 (tileOf arg5 X5) (i 2) (2 * k)) (accs v25 (tileAt v8 v14 (tileOf arg5 X5) (i 2)) (tileOf arg6 X6) (i 2) (2 * k)) (accs v25 (tileAt v11 v18 (tileOf arg5 X5) (i 2)) (tileOf arg6 X6) (i 2) (2 * k)) (arg8.view.writes (Elt F) H8 (st_k0_t1 (F := F) 𝒱 c bd i arg3 harg3 arg4 harg4 arg5 harg5 arg6 harg6 arg7 harg7 arg8 harg8 arg9 harg9 arg10 harg10 arg11 harg11 arg2 v8 v11 v14 v18 v25 v92 v93 v107 c1 X5 X6 G8 G9 G10 G11 init k).2.1) (arg9.view.writes (Elt F) H9 (st_k0_t1 (F := F) 𝒱 c bd i arg3 harg3 arg4 harg4 arg5 harg5 arg6 harg6 arg7 harg7 arg8 harg8 arg9 harg9 arg10 harg10 arg11 harg11 arg2 v8 v11 v14 v18 v25 v92 v93 v107 c1 X5 X6 G8 G9 G10 G11 init k).2.2.1) (arg10.view.writes (Elt F) H10 (st_k0_t1 (F := F) 𝒱 c bd i arg3 harg3 arg4 harg4 arg5 harg5 arg6 harg6 arg7 harg7 arg8 harg8 arg9 harg9 arg10 harg10 arg11 harg11 arg2 v8 v11 v14 v18 v25 v92 v93 v107 c1 X5 X6 G8 G9 G10 G11 init k).2.2.2.1) (arg11.view.writes (Elt F) H11 (st_k0_t1 (F := F) 𝒱 c bd i arg3 harg3 arg4 harg4 arg5 harg5 arg6 harg6 arg7 harg7 arg8 harg8 arg9 harg9 arg10 harg10 arg11 harg11 arg2 v8 v11 v14 v18 v25 v92 v93 v107 c1 X5 X6 G8 G9 G10 G11 init k).2.2.2.2) := by
  induction k with
  | zero => exact ⟨hi, hG, hH⟩
  | succ k ih =>
    obtain ⟨h1, h2, h3⟩ := ih (Nat.le_of_succ_le hk)
    have hs := st_k0_t1_succ (F := F) 𝒱 c bd i arg3 harg3 arg4 harg4 arg5 harg5 arg6 harg6 arg7 harg7 arg8 harg8 arg9 harg9 arg10 harg10 arg11 harg11 arg2 v8 v11 v14 v18 v25 v92 v93 v107 c1 X5 X6 G8 G9 G10 G11 init ⟨k, hk⟩
    have hx : (i 2 : ℕ) < 8 := (i 2).isLt
    have e4 := tileOf_eq arg5 X5 _ _ (off4_eq i ⟨k, hk⟩) (by dsimp only; omega) (k0_off4_inb i ⟨k, hk⟩)
    have e4' := tileOf_eq arg6 X6 _ _ (off4_eq i ⟨k, hk⟩) (by dsimp only; omega) (k0_off4_inb i ⟨k, hk⟩)
    have e5 := tileOf_eq arg6 X6 _ _ (off5_eq i ⟨k, hk⟩) (by dsimp only; omega) (k0_off5_inb i ⟨k, hk⟩)
    have e6 := tileOf_eq arg5 X5 _ _ (off6_eq i ⟨k, hk⟩) (by dsimp only; omega) (k0_off6_inb i ⟨k, hk⟩)
    have ts := trip_sums (F := F) 𝒱 c bd i arg3 harg3 arg4 harg4 arg5 harg5 arg6 harg6 arg7 harg7 arg8 harg8 arg9 harg9 arg10 harg10 arg11 harg11 arg2 v8 v11 v14 v18 v25 v92 v93 v107 c1 X5 X6 ⟨k, hk⟩ (st_k0_t1 (F := F) 𝒱 c bd i arg3 harg3 arg4 harg4 arg5 harg5 arg6 harg6 arg7 harg7 arg8 harg8 arg9 harg9 arg10 harg10 arg11 harg11 arg2 v8 v11 v14 v18 v25 v92 v93 v107 c1 X5 X6 G8 G9 G10 G11 init k).1 _ _ _ _ _ _ _ _ h2
    have th := trip_holds (F := F) 𝒱 c bd i arg3 harg3 arg4 harg4 arg5 harg5 arg6 harg6 arg7 harg7 arg8 harg8 arg9 harg9 arg10 harg10 arg11 harg11 arg2 v8 v11 v14 v18 v25 v92 v93 v107 c1 X5 X6 ⟨k, hk⟩ (st_k0_t1 (F := F) 𝒱 c bd i arg3 harg3 arg4 harg4 arg5 harg5 arg6 harg6 arg7 harg7 arg8 harg8 arg9 harg9 arg10 harg10 arg11 harg11 arg2 v8 v11 v14 v18 v25 v92 v93 v107 c1 X5 X6 G8 G9 G10 G11 init k).1 _ _ _ _ _ _ _ _ h2
    dsimp only at hs
    rw [e4] at ts
    simp only [e4, e4', e5, e6] at th
    rw [hs]
    refine ⟨?_, ?_, ?_⟩
    · dsimp only
      rw [ts, h1]
      rfl
    · have := th (arg8.view.writes (Elt F) G8 (st_k0_t1 (F := F) 𝒱 c bd i arg3 harg3 arg4 harg4 arg5 harg5 arg6 harg6 arg7 harg7 arg8 harg8 arg9 harg9 arg10 harg10 arg11 harg11 arg2 v8 v11 v14 v18 v25 v92 v93 v107 c1 X5 X6 G8 G9 G10 G11 init k).2.1) (arg9.view.writes (Elt F) G9 (st_k0_t1 (F := F) 𝒱 c bd i arg3 harg3 arg4 harg4 arg5 harg5 arg6 harg6 arg7 harg7 arg8 harg8 arg9 harg9 arg10 harg10 arg11 harg11 arg2 v8 v11 v14 v18 v25 v92 v93 v107 c1 X5 X6 G8 G9 G10 G11 init k).2.2.1) (arg10.view.writes (Elt F) G10 (st_k0_t1 (F := F) 𝒱 c bd i arg3 harg3 arg4 harg4 arg5 harg5 arg6 harg6 arg7 harg7 arg8 harg8 arg9 harg9 arg10 harg10 arg11 harg11 arg2 v8 v11 v14 v18 v25 v92 v93 v107 c1 X5 X6 G8 G9 G10 G11 init k).2.2.2.1) (arg11.view.writes (Elt F) G11 (st_k0_t1 (F := F) 𝒱 c bd i arg3 harg3 arg4 harg4 arg5 harg5 arg6 harg6 arg7 harg7 arg8 harg8 arg9 harg9 arg10 harg10 arg11 harg11 arg2 v8 v11 v14 v18 v25 v92 v93 v107 c1 X5 X6 G8 G9 G10 G11 init k).2.2.2.2)
      simp only [← View.writes_append] at this
      rw [h1] at this ⊢
      exact this
    · have := th (arg8.view.writes (Elt F) H8 (st_k0_t1 (F := F) 𝒱 c bd i arg3 harg3 arg4 harg4 arg5 harg5 arg6 harg6 arg7 harg7 arg8 harg8 arg9 harg9 arg10 harg10 arg11 harg11 arg2 v8 v11 v14 v18 v25 v92 v93 v107 c1 X5 X6 G8 G9 G10 G11 init k).2.1) (arg9.view.writes (Elt F) H9 (st_k0_t1 (F := F) 𝒱 c bd i arg3 harg3 arg4 harg4 arg5 harg5 arg6 harg6 arg7 harg7 arg8 harg8 arg9 harg9 arg10 harg10 arg11 harg11 arg2 v8 v11 v14 v18 v25 v92 v93 v107 c1 X5 X6 G8 G9 G10 G11 init k).2.2.1) (arg10.view.writes (Elt F) H10 (st_k0_t1 (F := F) 𝒱 c bd i arg3 harg3 arg4 harg4 arg5 harg5 arg6 harg6 arg7 harg7 arg8 harg8 arg9 harg9 arg10 harg10 arg11 harg11 arg2 v8 v11 v14 v18 v25 v92 v93 v107 c1 X5 X6 G8 G9 G10 G11 init k).2.2.2.1) (arg11.view.writes (Elt F) H11 (st_k0_t1 (F := F) 𝒱 c bd i arg3 harg3 arg4 harg4 arg5 harg5 arg6 harg6 arg7 harg7 arg8 harg8 arg9 harg9 arg10 harg10 arg11 harg11 arg2 v8 v11 v14 v18 v25 v92 v93 v107 c1 X5 X6 G8 G9 G10 G11 init k).2.2.2.2)
      simp only [← View.writes_append] at this
      rw [h1] at this ⊢
      exact this

/-- After the loop, with the pieces stored before it (`I8 … I11`) written over any base. -/
theorem loop_end (𝒱 : Variants) (c : Dev nD) (bd : Option 𝒱.V) (i : grid0.Coords) (arg3 : Memref sig .tc .smem S8 .f32) (harg3 : arg3.IsWhole) (arg4 : Memref sig .tc .vmem S1x256x128 .bf16) (harg4 : arg4.IsWhole) (arg5 : Memref sig .tc .vmem S1x8x128x256 .bf16) (harg5 : arg5.IsWhole) (arg6 : Memref sig .tc .vmem S1x8x128x256 .bf16) (harg6 : arg6.IsWhole) (arg7 : Memref sig .tc .vmem S1x256x128 .f32) (harg7 : arg7.IsWhole) (arg8 : Memref sig .tc .vmem S2x2x256x256 .bf16) (harg8 : arg8.IsWhole) (arg9 : Memref sig .tc .vmem S2x2x256x256 .f32) (harg9 : arg9.IsWhole) (arg10 : Memref sig .tc .vmem S2x2x256x1 .f32) (harg10 : arg10.IsWhole) (arg11 : Memref sig .tc .vmem S2x256x128 .f32) (harg11 : arg11.IsWhole)
    (arg2 : BitVec 32) (v8 v11 : FVec F S256x128 .bf16) (v14 v18 : Elt F .f32) (v25 : FVec F S256x256 .bf16) (v92 : FVec F S256x1 .f32) (v93 : BitVec 32) (v107 : BitVec 1) (c1 : BitVec 32)
    (X5 : BufTy.Contents (Elt F) arg5.view.ty) (X6 : BufTy.Contents (Elt F) arg6.view.ty) (G8 : BufTy.Contents (Elt F) arg8.view.ty) (G9 : BufTy.Contents (Elt F) arg9.view.ty) (G10 : BufTy.Contents (Elt F) arg10.view.ty) (G11 : BufTy.Contents (Elt F) arg11.view.ty) (H8 : BufTy.Contents (Elt F) arg8.view.ty) (H9 : BufTy.Contents (Elt F) arg9.view.ty) (H10 : BufTy.Contents (Elt F) arg10.view.ty) (H11 : BufTy.Contents (Elt F) arg11.view.ty)
    (I8 : List (View.Piece (Elt F) S2x2x256x256 .bf16)) (I9 : List (View.Piece (Elt F) S2x2x256x256 .f32)) (I10 : List (View.Piece (Elt F) S2x2x256x1 .f32)) (I11 : List (View.Piece (Elt F) S2x256x128 .f32))
    (init : FVec F S256x1 .f32 × FVec F S256x1 .f32) (k N : ℕ) (hk : k = (k0_t1_loop i).trips) (hN : 2 * ((i 2 : ℕ) / 2) = N)
    (hi : init = (laters v25 (tileAt v8 v14 (tileOf arg5 X5) (i 2)) (0), laters v25 (tileAt v11 v18 (tileOf arg5 X5) (i 2)) (0))) (hG : Holds arg8 arg9 arg10 arg11 (tileAt v8 v14 (tileOf arg5 X5) (i 2) (0)) (tileAt v11 v18 (tileOf arg5 X5) (i 2) (0)) (accs v25 (tileAt v8 v14 (tileOf arg5 X5) (i 2)) (tileOf arg6 X6) (i 2) (0)) (accs v25 (tileAt v11 v18 (tileOf arg5 X5) (i 2)) (tileOf arg6 X6) (i 2) (0)) G8 G9 G10 G11)
    (hH : Holds arg8 arg9 arg10 arg11 (tileAt v8 v14 (tileOf arg5 X5) (i 2) (0)) (tileAt v11 v18 (tileOf arg5 X5) (i 2) (0)) (accs v25 (tileAt v8 v14 (tileOf arg5 X5) (i 2)) (tileOf arg6 X6) (i 2) (0)) (accs v25 (tileAt v11 v18 (tileOf arg5 X5) (i 2)) (tileOf arg6 X6) (i 2) (0)) (arg8.view.writes (Elt F) H8 I8) (arg9.view.writes (Elt F) H9 I9) (arg10.view.writes (Elt F) H10 I10) (arg11.view.writes (Elt F) H11 I11)) :
    (st_k0_t1 (F := F) 𝒱 c bd i arg3 harg3 arg4 harg4 arg5 harg5 arg6 harg6 arg7 harg7 arg8 harg8 arg9 harg9 arg10 harg10 arg11 harg11 arg2 v8 v11 v14 v18 v25 v92 v93 v107 c1 X5 X6 G8 G9 G10 G11 init k).1 = (laters v25 (tileAt v8 v14 (tileOf arg5 X5) (i 2)) (N), laters v25 (tileAt v11 v18 (tileOf arg5 X5) (i 2)) (N)) ∧
    Holds arg8 arg9 arg10 arg11 (tileAt v8 v14 (tileOf arg5 X5) (i 2) (N)) (tileAt v11 v18 (tileOf arg5 X5) (i 2) (N)) (accs v25 (tileAt v8 v14 (tileOf arg5 X5) (i 2)) (tileOf arg6 X6) (i 2) (N)) (accs v25 (tileAt v11 v18 (tileOf arg5 X5) (i 2)) (tileOf arg6 X6) (i 2) (N)) (arg8.view.writes (Elt F) H8 ((st_k0_t1 (F := F) 𝒱 c bd i arg3 harg3 arg4 harg4 arg5 harg5 arg6 harg6 arg7 harg7 arg8 harg8 arg9 harg9 arg10 harg10 arg11 harg11 arg2 v8 v11 v14 v18 v25 v92 v93 v107 c1 X5 X6 G8 G9 G10 G11 init k).2.1 ++ I8)) (arg9.view.writes (Elt F) H9 ((st_k0_t1 (F := F) 𝒱 c bd i arg3 harg3 arg4 harg4 arg5 harg5 arg6 harg6 arg7 harg7 arg8 harg8 arg9 harg9 arg10 harg10 arg11 harg11 arg2 v8 v11 v14 v18 v25 v92 v93 v107 c1 X5 X6 G8 G9 G10 G11 init k).2.2.1 ++ I9)) (arg10.view.writes (Elt F) H10 ((st_k0_t1 (F := F) 𝒱 c bd i arg3 harg3 arg4 harg4 arg5 harg5 arg6 harg6 arg7 harg7 arg8 harg8 arg9 harg9 arg10 harg10 arg11 harg11 arg2 v8 v11 v14 v18 v25 v92 v93 v107 c1 X5 X6 G8 G9 G10 G11 init k).2.2.2.1 ++ I10)) (arg11.view.writes (Elt F) H11 ((st_k0_t1 (F := F) 𝒱 c bd i arg3 harg3 arg4 harg4 arg5 harg5 arg6 harg6 arg7 harg7 arg8 harg8 arg9 harg9 arg10 harg10 arg11 harg11 arg2 v8 v11 v14 v18 v25 v92 v93 v107 c1 X5 X6 G8 G9 G10 G11 init k).2.2.2.2 ++ I11)) := by
  have key := loop_holds (F := F) 𝒱 c bd i arg3 harg3 arg4 harg4 arg5 harg5 arg6 harg6 arg7 harg7 arg8 harg8 arg9 harg9 arg10 harg10 arg11 harg11 arg2 v8 v11 v14 v18 v25 v92 v93 v107 c1 X5 X6 G8 G9 G10 G11 _ _ _ _ init hi hG hH k hk.le
  have h2 : 2 * k = N := by rw [hk, t1_trips, hN]
  rw [h2] at key
  simp only [← View.writes_append] at key
  exact ⟨key.1, key.2.2⟩

end Cert.KernelIdeal.Attn
-- ==== Proof.Attn.Run.lean ====
module

public import proofs.«01_k».proof.Proof.Gen.KernelIdeal.Frame
public import proofs.«01_k».proof.Proof.Gen.KernelIdeal.Loops

@[expose] public section

set_option maxRecDepth 16384

noncomputable section

/-! The body of the attention at one grid point, run: what it reads it leaves, and it stores its block of the output. At an
    odd query block one tile is still to be scored after the loop over pairs, at an even one none. -/

namespace Cert.KernelIdeal.Attn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
/-- The pieces the body stores at an odd query block, with the run that stores them. -/
def runOdd (c : Dev nD) (i : grid0.Coords) (arg3 : Memref sig .tc .smem S8 .f32) (harg3 : arg3.IsWhole) (arg4 : Memref sig .tc .vmem S1x256x128 .bf16) (harg4 : arg4.IsWhole) (arg5 : Memref sig .tc .vmem S1x8x128x256 .bf16) (harg5 : arg5.IsWhole) (arg6 : Memref sig .tc .vmem S1x8x128x256 .bf16) (harg6 : arg6.IsWhole) (arg7 : Memref sig .tc .vmem S1x256x128 .f32) (harg7 : arg7.IsWhole) (arg8 : Memref sig .tc .vmem S2x2x256x256 .bf16) (harg8 : arg8.IsWhole) (arg9 : Memref sig .tc .vmem S2x2x256x256 .f32) (harg9 : arg9.IsWhole) (arg10 : Memref sig .tc .vmem S2x2x256x1 .f32) (harg10 : arg10.IsWhole) (arg11 : Memref sig .tc .vmem S2x256x128 .f32) (harg11 : arg11.IsWhole)
    (X3 : BufTy.Contents (Elt F) arg3.view.ty) (X4 : BufTy.Contents (Elt F) arg4.view.ty) (X5 : BufTy.Contents (Elt F) arg5.view.ty) (X6 : BufTy.Contents (Elt F) arg6.view.ty)
    (f8 : BufTy.Contents (Elt F) arg8.view.ty) (f9 : BufTy.Contents (Elt F) arg9.view.ty) (f10 : BufTy.Contents (Elt F) arg10.view.ty) (f11 : BufTy.Contents (Elt F) arg11.view.ty)
    (hc1 : Scalar.cmpi .ne (Scalar.extui (Scalar.cmpi .eq (Scalar.select (Scalar.andi (Scalar.xori (Scalar.cmpi .slt (Scalar.remsi (BitVec.ofNat 32 ↑(i 2)) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ↑(i 2)) (Scalar.select (Scalar.cmpi .eq 2#32 0#32) 1#32 2#32)) 0#32)) (Scalar.addi (Scalar.remsi (BitVec.ofNat 32 ↑(i 2)) (Scalar.select (Scalar.cmpi .eq 2#32 0#32) 1#32 2#32)) (Scalar.select (Scalar.cmpi .eq 2#32 0#32) 1#32 2#32)) (Scalar.remsi (BitVec.ofNat 32 ↑(i 2)) (Scalar.select (Scalar.cmpi .eq 2#32 0#32) 1#32 2#32))) 1#32)) 0#32 = 1#1)
    (hc2 : ¬ Scalar.cmpi .ne (Scalar.extui (Scalar.cmpi .eq (Scalar.select (Scalar.andi (Scalar.xori (Scalar.cmpi .slt (Scalar.remsi (BitVec.ofNat 32 ↑(i 2)) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ↑(i 2)) (Scalar.select (Scalar.cmpi .eq 2#32 0#32) 1#32 2#32)) 0#32)) (Scalar.addi (Scalar.remsi (BitVec.ofNat 32 ↑(i 2)) (Scalar.select (Scalar.cmpi .eq 2#32 0#32) 1#32 2#32)) (Scalar.select (Scalar.cmpi .eq 2#32 0#32) 1#32 2#32)) (Scalar.remsi (BitVec.ofNat 32 ↑(i 2)) (Scalar.select (Scalar.cmpi .eq 2#32 0#32) 1#32 2#32))) 0#32)) 0#32 = 1#1) :
    { L : List (View.Piece (Elt F) S1x256x128 .f32) // ∀ f7 : BufTy.Contents (Elt F) arg7.view.ty,
      (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)) : sProp 𝕄)
      ⊢ wp frame (wpE (defs₀ (F := F)) Variants.none (c : Thread nD τ) none) Set.univ (cc0_sb_attn_prompt (F := F) i arg3 harg3 arg4 harg4 arg5 harg5 arg6 harg6 arg7 harg7 arg8 harg8 arg9 harg9 arg10 harg10 arg11 harg11)
          (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} (arg7.view.writes (Elt F) f7 L)) ∗ (∃ g : BufTy.Contents (Elt F) arg8.view.ty, (arg8.view.loc (c : Thread nD τ) ↦[arg8.view.set]{fullShare} g)) ∗ (∃ g : BufTy.Contents (Elt F) arg9.view.ty, (arg9.view.loc (c : Thread nD τ) ↦[arg9.view.set]{fullShare} g)) ∗ (∃ g : BufTy.Contents (Elt F) arg10.view.ty, (arg10.view.loc (c : Thread nD τ) ↦[arg10.view.set]{fullShare} g)) ∗ (∃ g : BufTy.Contents (Elt F) arg11.view.ty, (arg11.view.loc (c : Thread nD τ) ↦[arg11.view.set]{fullShare} g)))) } := by
  refine ⟨?_, fun f7 => ?run⟩
  case run =>
    simp only [cc0_sb_attn_prompt_eq_skeleton]; unfold cc0_sb_attn_prompt_skel
    simp only [k0_part18_eq_skeleton, k0_part19_eq_skeleton, k0_part20_eq_skeleton, k0_part21_eq_skeleton]
    iintro ⟨H3, H4, H5, H6, H7, H8, H9, H10, H11⟩
    sl_exec
    sl_step
    sl_close

set_option maxHeartbeats 4000000 in
/-- The pieces the body stores at an even query block, with the run that stores them. -/
def runEven (c : Dev nD) (i : grid0.Coords) (arg3 : Memref sig .tc .smem S8 .f32) (harg3 : arg3.IsWhole) (arg4 : Memref sig .tc .vmem S1x256x128 .bf16) (harg4 : arg4.IsWhole) (arg5 : Memref sig .tc .vmem S1x8x128x256 .bf16) (harg5 : arg5.IsWhole) (arg6 : Memref sig .tc .vmem S1x8x128x256 .bf16) (harg6 : arg6.IsWhole) (arg7 : Memref sig .tc .vmem S1x256x128 .f32) (harg7 : arg7.IsWhole) (arg8 : Memref sig .tc .vmem S2x2x256x256 .bf16) (harg8 : arg8.IsWhole) (arg9 : Memref sig .tc .vmem S2x2x256x256 .f32) (harg9 : arg9.IsWhole) (arg10 : Memref sig .tc .vmem S2x2x256x1 .f32) (harg10 : arg10.IsWhole) (arg11 : Memref sig .tc .vmem S2x256x128 .f32) (harg11 : arg11.IsWhole)
    (X3 : BufTy.Contents (Elt F) arg3.view.ty) (X4 : BufTy.Contents (Elt F) arg4.view.ty) (X5 : BufTy.Contents (Elt F) arg5.view.ty) (X6 : BufTy.Contents (Elt F) arg6.view.ty)
    (f8 : BufTy.Contents (Elt F) arg8.view.ty) (f9 : BufTy.Contents (Elt F) arg9.view.ty) (f10 : BufTy.Contents (Elt F) arg10.view.ty) (f11 : BufTy.Contents (Elt F) arg11.view.ty)
    (hc1 : ¬ Scalar.cmpi .ne (Scalar.extui (Scalar.cmpi .eq (Scalar.select (Scalar.andi (Scalar.xori (Scalar.cmpi .slt (Scalar.remsi (BitVec.ofNat 32 ↑(i 2)) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ↑(i 2)) (Scalar.select (Scalar.cmpi .eq 2#32 0#32) 1#32 2#32)) 0#32)) (Scalar.addi (Scalar.remsi (BitVec.ofNat 32 ↑(i 2)) (Scalar.select (Scalar.cmpi .eq 2#32 0#32) 1#32 2#32)) (Scalar.select (Scalar.cmpi .eq 2#32 0#32) 1#32 2#32)) (Scalar.remsi (BitVec.ofNat 32 ↑(i 2)) (Scalar.select (Scalar.cmpi .eq 2#32 0#32) 1#32 2#32))) 1#32)) 0#32 = 1#1)
    (hc2 : Scalar.cmpi .ne (Scalar.extui (Scalar.cmpi .eq (Scalar.select (Scalar.andi (Scalar.xori (Scalar.cmpi .slt (Scalar.remsi (BitVec.ofNat 32 ↑(i 2)) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ↑(i 2)) (Scalar.select (Scalar.cmpi .eq 2#32 0#32) 1#32 2#32)) 0#32)) (Scalar.addi (Scalar.remsi (BitVec.ofNat 32 ↑(i 2)) (Scalar.select (Scalar.cmpi .eq 2#32 0#32) 1#32 2#32)) (Scalar.select (Scalar.cmpi .eq 2#32 0#32) 1#32 2#32)) (Scalar.remsi (BitVec.ofNat 32 ↑(i 2)) (Scalar.select (Scalar.cmpi .eq 2#32 0#32) 1#32 2#32))) 0#32)) 0#32 = 1#1) :
    { L : List (View.Piece (Elt F) S1x256x128 .f32) // ∀ f7 : BufTy.Contents (Elt F) arg7.view.ty,
      (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)) : sProp 𝕄)
      ⊢ wp frame (wpE (defs₀ (F := F)) Variants.none (c : Thread nD τ) none) Set.univ (cc0_sb_attn_prompt (F := F) i arg3 harg3 arg4 harg4 arg5 harg5 arg6 harg6 arg7 harg7 arg8 harg8 arg9 harg9 arg10 harg10 arg11 harg11)
          (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} (arg7.view.writes (Elt F) f7 L)) ∗ (∃ g : BufTy.Contents (Elt F) arg8.view.ty, (arg8.view.loc (c : Thread nD τ) ↦[arg8.view.set]{fullShare} g)) ∗ (∃ g : BufTy.Contents (Elt F) arg9.view.ty, (arg9.view.loc (c : Thread nD τ) ↦[arg9.view.set]{fullShare} g)) ∗ (∃ g : BufTy.Contents (Elt F) arg10.view.ty, (arg10.view.loc (c : Thread nD τ) ↦[arg10.view.set]{fullShare} g)) ∗ (∃ g : BufTy.Contents (Elt F) arg11.view.ty, (arg11.view.loc (c : Thread nD τ) ↦[arg11.view.set]{fullShare} g)))) } := by
  refine ⟨?_, fun f7 => ?run⟩
  case run =>
    simp only [cc0_sb_attn_prompt_eq_skeleton]; unfold cc0_sb_attn_prompt_skel
    simp only [k0_part18_eq_skeleton, k0_part19_eq_skeleton, k0_part20_eq_skeleton, k0_part21_eq_skeleton]
    iintro ⟨H3, H4, H5, H6, H7, H8, H9, H10, H11⟩
    sl_exec
    sl_step
    sl_close

end Cert.KernelIdeal.Attn
-- ==== Proof.Attn.Out.lean ====
module

public import proofs.«01_k».proof.Proof.Attn.Loop
public import proofs.«01_k».proof.Proof.Attn.Run

@[expose] public section

set_option maxRecDepth 16384

noncomputable section

/-! What the body stores at one grid point: for each of the two heads the weighted values of the tiles from the diagonal
    back to the first, lane by lane from the head that owns the lane. -/

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- A head's weighted values over all its tiles. -/
def headOut (q : FVec F S256x128 .bf16) (b : Elt F .f32) (K V : ℕ → Vec F S1x1x128x256 .bf16) (qi : ℕ) : FVec F S256x128 .f32 :=
  accs k0_pay110 (tileAt q b K qi) V qi (qi + 1)

/-- The stored block: lanes below 64 from the first head, the others from the second. -/
def outBlock (i : grid0.Coords) (arg3 : Memref sig .tc .smem S8 .f32) (arg4 : Memref sig .tc .vmem S1x256x128 .bf16) (arg5 : Memref sig .tc .vmem S1x8x128x256 .bf16) (arg6 : Memref sig .tc .vmem S1x8x128x256 .bf16) (X3 : BufTy.Contents (Elt F) arg3.view.ty) (X4 : BufTy.Contents (Elt F) arg4.view.ty) (X5 : BufTy.Contents (Elt F) arg5.view.ty) (X6 : BufTy.Contents (Elt F) arg6.view.ty) : FVec F S1x256x128 .f32 :=
  shapeCast S1x256x128 (select k0_pay107
    (headOut (k0_pay108 (arg4.view.readAt (Elt F) (Rect.unit (s := S1x256x128) ![0, 0, 0] S1x256x128.size inb_S1x256x128_S1x256x128_0_0_0).toLoadRect X4)) (arg3.view.readAt (Elt F) (Rect.unit (s := S8) (k0_off1 i) S1.size (k0_off1_inb i)).toLoadRect X3 (Shape.Idx.first (by decide : 0 < S1.numel))) (tileOf arg5 X5) (tileOf arg6 X6) (i 2))
    (headOut (k0_pay109 (arg4.view.readAt (Elt F) (Rect.unit (s := S1x256x128) ![0, 0, 0] S1x256x128.size inb_S1x256x128_S1x256x128_0_0_0).toLoadRect X4)) (arg3.view.readAt (Elt F) (Rect.unit (s := S8) (k0_off2 i) S1.size (k0_off2_inb i)).toLoadRect X3 (Shape.Idx.first (by decide : 0 < S1.numel))) (tileOf arg5 X5) (tileOf arg6 X6) (i 2))) shapeCasts_S256x128_S1x256x128

/-- A load inside a region whose last store is a constant table over the whole reads the constant. -/
theorem read_const {sig' : RefSig} {κ' : Kind} {sp' : Space} {s : Shape} {e : EltTy} {Val : EltTy → Type} (v : View sig' κ' sp' s e)
    (g : v.ty.Contents Val) (r r' : Rect s) (z : Val e) (w : r'.shape.Idx → Val e) (hw : w = fun _ => z) (h : r'.set = Finset.univ)
    (L : List (View.Piece Val s e)) : v.readAt Val r.toLoadRect (v.writes Val g (⟨r', w⟩ :: L)) = fun _ => z := by
  funext x
  have hx : r.toLoadRect.idx x ∈ r'.set := h ▸ Finset.mem_univ _
  rw [← Rect.map_emb_univ, Finset.mem_map] at hx
  obtain ⟨y, -, hy⟩ := hx
  rw [View.readAt_apply, ← hy, View.read_writes_cons_emb, hw]

theorem whole_set {s : Shape} (h : ∀ a, (0 : ℕ) + s.size a ≤ s.size a) : (Rect.unit (fun _ => 0) s.size h).set = Finset.univ := by
  ext x
  simp only [Rect.mem_set_unit, Finset.mem_univ, iff_true]
  intro a
  exact ⟨Nat.zero_le _, by simpa using (x a).isLt⟩

theorem init_holds (i : grid0.Coords) (arg5 arg6 : Memref sig .tc .vmem S1x8x128x256 .bf16) (arg8 : Memref sig .tc .vmem S2x2x256x256 .bf16) (arg9 : Memref sig .tc .vmem S2x2x256x256 .f32) (arg10 : Memref sig .tc .vmem S2x2x256x1 .f32) (arg11 : Memref sig .tc .vmem S2x256x128 .f32)
    (X5 : BufTy.Contents (Elt F) arg5.view.ty) (X6 : BufTy.Contents (Elt F) arg6.view.ty) (g8 : BufTy.Contents (Elt F) arg8.view.ty) (g9 : BufTy.Contents (Elt F) arg9.view.ty) (g10 : BufTy.Contents (Elt F) arg10.view.ty) (g11 : BufTy.Contents (Elt F) arg11.view.ty) (q0 q1 : FVec F S256x128 .bf16) (b0 b1 : Elt F .f32) (u : FVec F S256x256 .bf16) :
    Holds arg8 arg9 arg10 arg11 ((tileAt q0 b0 (tileOf arg5 X5) (i 2)) 0) ((tileAt q1 b1 (tileOf arg5 X5) (i 2)) 0) (accs u (tileAt q0 b0 (tileOf arg5 X5) (i 2)) (tileOf arg6 X6) (i 2) 0) (accs u (tileAt q1 b1 (tileOf arg5 X5) (i 2)) (tileOf arg6 X6) (i 2) 0)
      (arg8.view.writes (Elt F) g8 [⟨Rect.unit (s := S2x2x256x256) ![0, 1, 0, 0] S1x1x256x256.size inb_S2x2x256x256_S1x1x256x256_0_1_0_0, shapeCast S1x1x256x256 (diag q1 b1 (arg5.view.readAt (Elt F) (Rect.unit (s := S1x8x128x256) (k0_off3 i) S1x1x128x256.size (k0_off3_inb i)).toLoadRect X5)).sp shapeCasts_S256x256_S1x1x256x256⟩, ⟨Rect.unit (s := S2x2x256x256) ![0, 0, 0, 0] S1x1x256x256.size inb_S2x2x256x256_S1x1x256x256_0_0_0_0, shapeCast S1x1x256x256 (diag q0 b0 (arg5.view.readAt (Elt F) (Rect.unit (s := S1x8x128x256) (k0_off3 i) S1x1x128x256.size (k0_off3_inb i)).toLoadRect X5)).sp shapeCasts_S256x256_S1x1x256x256⟩])
      (arg9.view.writes (Elt F) g9 [⟨Rect.unit (s := S2x2x256x256) ![0, 1, 0, 0] S1x1x256x256.size inb_S2x2x256x256_S1x1x256x256_0_1_0_0, shapeCast S1x1x256x256 (diag q1 b1 (arg5.view.readAt (Elt F) (Rect.unit (s := S1x8x128x256) (k0_off3 i) S1x1x128x256.size (k0_off3_inb i)).toLoadRect X5)).zs shapeCasts_S256x256_S1x1x256x256⟩, ⟨Rect.unit (s := S2x2x256x256) ![0, 0, 0, 0] S1x1x256x256.size inb_S2x2x256x256_S1x1x256x256_0_0_0_0, shapeCast S1x1x256x256 (diag q0 b0 (arg5.view.readAt (Elt F) (Rect.unit (s := S1x8x128x256) (k0_off3 i) S1x1x128x256.size (k0_off3_inb i)).toLoadRect X5)).zs shapeCasts_S256x256_S1x1x256x256⟩])
      (arg10.view.writes (Elt F) g10 [⟨Rect.unit (s := S2x2x256x1) ![0, 1, 0, 0] S1x1x256x1.size inb_S2x2x256x1_S1x1x256x1_0_1_0_0, shapeCast S1x1x256x1 (diag q1 b1 (arg5.view.readAt (Elt F) (Rect.unit (s := S1x8x128x256) (k0_off3 i) S1x1x128x256.size (k0_off3_inb i)).toLoadRect X5)).sp0 shapeCasts_S256x1_S1x1x256x1⟩, ⟨Rect.unit (s := S2x2x256x1) ![0, 0, 0, 0] S1x1x256x1.size inb_S2x2x256x1_S1x1x256x1_0_0_0_0, shapeCast S1x1x256x1 (diag q0 b0 (arg5.view.readAt (Elt F) (Rect.unit (s := S1x8x128x256) (k0_off3 i) S1x1x128x256.size (k0_off3_inb i)).toLoadRect X5)).sp0 shapeCasts_S256x1_S1x1x256x1⟩])
      (arg11.view.writes (Elt F) g11 [⟨Rect.unit (s := S2x256x128) ![0, 0, 0] S2x256x128.size inb_S2x256x128_S2x256x128_0_0_0, k0_pay112⟩]) := by
  have e3 := tileOf_eq arg5 X5 _ _ (off3_eq i) (i 2).isLt (k0_off3_inb i)
  have hz : (k0_pay112 : FVec F S2x256x128 .f32) = fun _ => Scalar.ofBits .f32 0x00000000#32 := by
    unfold k0_pay112
    exact shapeCast_self _ _
  have hw : (Rect.unit (s := S2x256x128) ![0, 0, 0] S2x256x128.size inb_S2x256x128_S2x256x128_0_0_0).set = Finset.univ := by
    ext x
    simp only [Finset.mem_univ, iff_true]
    exact View.mem_set_unit_zero (by decide) _ x
  have hr := fun r => read_const arg11.view g11 r _ _ _ hz hw []
  rw [e3]
  constructor <;> first | (simp only [hit_S2x2x256x256_00, hit_S2x2x256x256_01, hit_S2x2x256x256_10, hit_S2x2x256x256_11, hit_S2x2x256x1_00, hit_S2x2x256x1_01, hit_S2x2x256x1_10, hit_S2x2x256x1_11, hit_S2x256x128_0, hit_S2x256x128_1, read_miss _ _ _ _ _ _ apart_S2x2x256x256_00_01, read_miss _ _ _ _ _ _ apart_S2x2x256x256_00_10, read_miss _ _ _ _ _ _ apart_S2x2x256x256_00_11, read_miss _ _ _ _ _ _ apart_S2x2x256x256_01_00, read_miss _ _ _ _ _ _ apart_S2x2x256x256_01_10, read_miss _ _ _ _ _ _ apart_S2x2x256x256_01_11, read_miss _ _ _ _ _ _ apart_S2x2x256x256_10_00, read_miss _ _ _ _ _ _ apart_S2x2x256x256_10_01, read_miss _ _ _ _ _ _ apart_S2x2x256x256_10_11, read_miss _ _ _ _ _ _ apart_S2x2x256x256_11_00, read_miss _ _ _ _ _ _ apart_S2x2x256x256_11_01, read_miss _ _ _ _ _ _ apart_S2x2x256x256_11_10, read_miss _ _ _ _ _ _ apart_S2x2x256x1_00_01, read_miss _ _ _ _ _ _ apart_S2x2x256x1_00_10, read_miss _ _ _ _ _ _ apart_S2x2x256x1_00_11, read_miss _ _ _ _ _ _ apart_S2x2x256x1_01_00, read_miss _ _ _ _ _ _ apart_S2x2x256x1_01_10, read_miss _ _ _ _ _ _ apart_S2x2x256x1_01_11, read_miss _ _ _ _ _ _ apart_S2x2x256x1_10_00, read_miss _ _ _ _ _ _ apart_S2x2x256x1_10_01, read_miss _ _ _ _ _ _ apart_S2x2x256x1_10_11, read_miss _ _ _ _ _ _ apart_S2x2x256x1_11_00, read_miss _ _ _ _ _ _ apart_S2x2x256x1_11_01, read_miss _ _ _ _ _ _ apart_S2x2x256x1_11_10, read_miss _ _ _ _ _ _ apart_S2x256x128_0_1, read_miss _ _ _ _ _ _ apart_S2x256x128_1_0]; rfl) | (rw [hr]; rfl)

theorem st2_zero (𝒱 : Variants) (c : Dev nD) (bd : Option 𝒱.V) (i : grid0.Coords) (arg3 : Memref sig .tc .smem S8 .f32) (harg3 : arg3.IsWhole) (arg4 : Memref sig .tc .vmem S1x256x128 .bf16) (harg4 : arg4.IsWhole) (arg5 : Memref sig .tc .vmem S1x8x128x256 .bf16) (harg5 : arg5.IsWhole) (arg6 : Memref sig .tc .vmem S1x8x128x256 .bf16) (harg6 : arg6.IsWhole) (arg7 : Memref sig .tc .vmem S1x256x128 .f32) (harg7 : arg7.IsWhole) (arg8 : Memref sig .tc .vmem S2x2x256x256 .bf16) (harg8 : arg8.IsWhole) (arg9 : Memref sig .tc .vmem S2x2x256x256 .f32) (harg9 : arg9.IsWhole) (arg10 : Memref sig .tc .vmem S2x2x256x1 .f32) (harg10 : arg10.IsWhole) (arg11 : Memref sig .tc .vmem S2x256x128 .f32) (harg11 : arg11.IsWhole)
    (arg2 : BitVec 32) (v8 v11 : FVec F S256x128 .bf16) (v14 v18 : Elt F .f32) (v25 : FVec F S256x256 .bf16) (v92 : FVec F S256x1 .f32) (v93 : BitVec 32) (v107 : BitVec 1) (c1 v114 : BitVec 32)
    (X5 : BufTy.Contents (Elt F) arg5.view.ty) (X6 : BufTy.Contents (Elt F) arg6.view.ty) (G8 : BufTy.Contents (Elt F) arg8.view.ty) (G9 : BufTy.Contents (Elt F) arg9.view.ty) (G10 : BufTy.Contents (Elt F) arg10.view.ty) (G11 : BufTy.Contents (Elt F) arg11.view.ty) (init : FVec F S256x1 .f32 × FVec F S256x1 .f32) (n : ℕ) (hn : n = 0) :
    st_k0_t2 (F := F) 𝒱 c bd i arg3 harg3 arg4 harg4 arg5 harg5 arg6 harg6 arg7 harg7 arg8 harg8 arg9 harg9 arg10 harg10 arg11 harg11 arg2 v8 v11 v14 v18 v25 v92 v93 v107 c1 v114 X5 X6 G8 G9 G10 G11 init n = (init, [], [], [], []) := by
  subst hn
  rfl

set_option maxHeartbeats 2000000 in
theorem runEven_val (c : Dev nD) (i : grid0.Coords) (arg3 : Memref sig .tc .smem S8 .f32) (harg3 : arg3.IsWhole) (arg4 : Memref sig .tc .vmem S1x256x128 .bf16) (harg4 : arg4.IsWhole) (arg5 : Memref sig .tc .vmem S1x8x128x256 .bf16) (harg5 : arg5.IsWhole) (arg6 : Memref sig .tc .vmem S1x8x128x256 .bf16) (harg6 : arg6.IsWhole) (arg7 : Memref sig .tc .vmem S1x256x128 .f32) (harg7 : arg7.IsWhole) (arg8 : Memref sig .tc .vmem S2x2x256x256 .bf16) (harg8 : arg8.IsWhole) (arg9 : Memref sig .tc .vmem S2x2x256x256 .f32) (harg9 : arg9.IsWhole) (arg10 : Memref sig .tc .vmem S2x2x256x1 .f32) (harg10 : arg10.IsWhole) (arg11 : Memref sig .tc .vmem S2x256x128 .f32) (harg11 : arg11.IsWhole)
    (X3 : BufTy.Contents (Elt F) arg3.view.ty) (X4 : BufTy.Contents (Elt F) arg4.view.ty) (X5 : BufTy.Contents (Elt F) arg5.view.ty) (X6 : BufTy.Contents (Elt F) arg6.view.ty)
    (f8 : BufTy.Contents (Elt F) arg8.view.ty) (f9 : BufTy.Contents (Elt F) arg9.view.ty) (f10 : BufTy.Contents (Elt F) arg10.view.ty) (f11 : BufTy.Contents (Elt F) arg11.view.ty)
    (hc1 : ¬ Scalar.cmpi .ne (Scalar.extui (Scalar.cmpi .eq (Scalar.select (Scalar.andi (Scalar.xori (Scalar.cmpi .slt (Scalar.remsi (BitVec.ofNat 32 ↑(i 2)) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ↑(i 2)) (Scalar.select (Scalar.cmpi .eq 2#32 0#32) 1#32 2#32)) 0#32)) (Scalar.addi (Scalar.remsi (BitVec.ofNat 32 ↑(i 2)) (Scalar.select (Scalar.cmpi .eq 2#32 0#32) 1#32 2#32)) (Scalar.select (Scalar.cmpi .eq 2#32 0#32) 1#32 2#32)) (Scalar.remsi (BitVec.ofNat 32 ↑(i 2)) (Scalar.select (Scalar.cmpi .eq 2#32 0#32) 1#32 2#32))) 1#32)) 0#32 = 1#1)
    (hc2 : Scalar.cmpi .ne (Scalar.extui (Scalar.cmpi .eq (Scalar.select (Scalar.andi (Scalar.xori (Scalar.cmpi .slt (Scalar.remsi (BitVec.ofNat 32 ↑(i 2)) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ↑(i 2)) (Scalar.select (Scalar.cmpi .eq 2#32 0#32) 1#32 2#32)) 0#32)) (Scalar.addi (Scalar.remsi (BitVec.ofNat 32 ↑(i 2)) (Scalar.select (Scalar.cmpi .eq 2#32 0#32) 1#32 2#32)) (Scalar.select (Scalar.cmpi .eq 2#32 0#32) 1#32 2#32)) (Scalar.remsi (BitVec.ofNat 32 ↑(i 2)) (Scalar.select (Scalar.cmpi .eq 2#32 0#32) 1#32 2#32))) 0#32)) 0#32 = 1#1) (he : (i 2 : ℕ) % 2 = 0) :
    (runEven (F := F) c i arg3 harg3 arg4 harg4 arg5 harg5 arg6 harg6 arg7 harg7 arg8 harg8 arg9 harg9 arg10 harg10 arg11 harg11 X3 X4 X5 X6 f8 f9 f10 f11 hc1 hc2).1 =
      [⟨(Rect.unit (s := S1x256x128) ![0, 0, 0] ![1, 256, 128] inb_S1x256x128_S1x256x128_0_0_0), outBlock i arg3 arg4 arg5 arg6 X3 X4 X5 X6⟩] := by
  unfold runEven outBlock
  sl_unfold_run_names
  unfold View.readCov
  simp only [t2_trips, List.nil_append]
  generalize hst : st_k0_t1 (F := F) Variants.none c none i arg3 harg3 arg4 harg4 arg5 harg5 arg6 harg6 arg7 harg7 arg8 harg8 arg9 harg9 arg10 harg10 arg11 harg11 _ _ _ _ _ _ _ _ _ _ X5 X6 _ _ _ _ _ _ = st
  generalize hst2 : st_k0_t2 (F := F) Variants.none c none i arg3 harg3 arg4 harg4 arg5 harg5 arg6 harg6 arg7 harg7 arg8 harg8 arg9 harg9 arg10 harg10 arg11 harg11 _ _ _ _ _ _ _ _ _ _ _ X5 X6 _ _ _ _ _ _ = st2
  generalize hI8 : ([⟨_, _⟩, ⟨_, _⟩] : List (View.Piece (Elt F) S2x2x256x256 .bf16)) = I8
  generalize hI9 : ([⟨_, _⟩, ⟨_, _⟩] : List (View.Piece (Elt F) S2x2x256x256 .f32)) = I9
  generalize hI10 : ([⟨_, _⟩, ⟨_, _⟩] : List (View.Piece (Elt F) S2x2x256x1 .f32)) = I10 at hst
  generalize hI11 : ([⟨_, _⟩] : List (View.Piece (Elt F) S2x256x128 .f32)) = I11
  have e2 : st2 = (st.1, [], [], [], []) := by
    rw [← hst2]
    exact st2_zero _ _ _ _ _ _ _ _ _ _ _ _ _ _ _ _ _ _ _ _ _ _ _ _ _ _ _ _ _ _ _ _ _ _ _ _ _ _ _ _ _ (t2_trips i)
  simp only [e2, List.nil_append]
  have hN : 2 * ((i 2 : ℕ) / 2) = (i 2 : ℕ) := by omega
  obtain ⟨hs, hS⟩ : st.1 = (laters k0_pay110 (tileAt (k0_pay108 (arg4.view.readAt (Elt F) (Rect.unit (s := S1x256x128) ![0, 0, 0] S1x256x128.size inb_S1x256x128_S1x256x128_0_0_0).toLoadRect X4)) (arg3.view.readAt (Elt F) (Rect.unit (s := S8) (k0_off1 i) S1.size (k0_off1_inb i)).toLoadRect X3 (Shape.Idx.first (by decide : 0 < S1.numel))) (tileOf arg5 X5) (i 2)) (i 2 : ℕ), laters k0_pay110 (tileAt (k0_pay109 (arg4.view.readAt (Elt F) (Rect.unit (s := S1x256x128) ![0, 0, 0] S1x256x128.size inb_S1x256x128_S1x256x128_0_0_0).toLoadRect X4)) (arg3.view.readAt (Elt F) (Rect.unit (s := S8) (k0_off2 i) S1.size (k0_off2_inb i)).toLoadRect X3 (Shape.Idx.first (by decide : 0 < S1.numel))) (tileOf arg5 X5) (i 2)) (i 2 : ℕ)) ∧ Holds arg8 arg9 arg10 arg11 ((tileAt (k0_pay108 (arg4.view.readAt (Elt F) (Rect.unit (s := S1x256x128) ![0, 0, 0] S1x256x128.size inb_S1x256x128_S1x256x128_0_0_0).toLoadRect X4)) (arg3.view.readAt (Elt F) (Rect.unit (s := S8) (k0_off1 i) S1.size (k0_off1_inb i)).toLoadRect X3 (Shape.Idx.first (by decide : 0 < S1.numel))) (tileOf arg5 X5) (i 2)) (i 2 : ℕ)) ((tileAt (k0_pay109 (arg4.view.readAt (Elt F) (Rect.unit (s := S1x256x128) ![0, 0, 0] S1x256x128.size inb_S1x256x128_S1x256x128_0_0_0).toLoadRect X4)) (arg3.view.readAt (Elt F) (Rect.unit (s := S8) (k0_off2 i) S1.size (k0_off2_inb i)).toLoadRect X3 (Shape.Idx.first (by decide : 0 < S1.numel))) (tileOf arg5 X5) (i 2)) (i 2 : ℕ)) (accs k0_pay110 (tileAt (k0_pay108 (arg4.view.readAt (Elt F) (Rect.unit (s := S1x256x128) ![0, 0, 0] S1x256x128.size inb_S1x256x128_S1x256x128_0_0_0).toLoadRect X4)) (arg3.view.readAt (Elt F) (Rect.unit (s := S8) (k0_off1 i) S1.size (k0_off1_inb i)).toLoadRect X3 (Shape.Idx.first (by decide : 0 < S1.numel))) (tileOf arg5 X5) (i 2)) (tileOf arg6 X6) (i 2) (i 2 : ℕ)) (accs k0_pay110 (tileAt (k0_pay109 (arg4.view.readAt (Elt F) (Rect.unit (s := S1x256x128) ![0, 0, 0] S1x256x128.size inb_S1x256x128_S1x256x128_0_0_0).toLoadRect X4)) (arg3.view.readAt (Elt F) (Rect.unit (s := S8) (k0_off2 i) S1.size (k0_off2_inb i)).toLoadRect X3 (Shape.Idx.first (by decide : 0 < S1.numel))) (tileOf arg5 X5) (i 2)) (tileOf arg6 X6) (i 2) (i 2 : ℕ)) (arg8.view.writes (Elt F) arg8.view.junk (st.2.1 ++ I8)) (arg9.view.writes (Elt F) arg9.view.junk (st.2.2.1 ++ I9)) (arg10.view.writes (Elt F) arg10.view.junk (st.2.2.2.1 ++ I10)) (arg11.view.writes (Elt F) arg11.view.junk (st.2.2.2.2 ++ I11)) := by
    rw [← hst]
    refine loop_end _ _ _ _ _ _ _ _ _ _ _ _ _ _ _ _ _ _ _ _ _ _ _ _ _ _ _ _ _ _ _ _ _ _ _ _ _ _ _ _ _ _ _ _ _ _ _ _ _ rfl hN rfl ?_ ?_
    · rw [← hI10]
      exact init_holds (F := F) i arg5 arg6 arg8 arg9 arg10 arg11 X5 X6 _ _ _ _ (k0_pay108 (arg4.view.readAt (Elt F) (Rect.unit (s := S1x256x128) ![0, 0, 0] S1x256x128.size inb_S1x256x128_S1x256x128_0_0_0).toLoadRect X4)) (k0_pay109 (arg4.view.readAt (Elt F) (Rect.unit (s := S1x256x128) ![0, 0, 0] S1x256x128.size inb_S1x256x128_S1x256x128_0_0_0).toLoadRect X4)) (arg3.view.readAt (Elt F) (Rect.unit (s := S8) (k0_off1 i) S1.size (k0_off1_inb i)).toLoadRect X3 (Shape.Idx.first (by decide : 0 < S1.numel))) (arg3.view.readAt (Elt F) (Rect.unit (s := S8) (k0_off2 i) S1.size (k0_off2_inb i)).toLoadRect X3 (Shape.Idx.first (by decide : 0 < S1.numel))) k0_pay110
    · rw [← hI8, ← hI9, ← hI10, ← hI11]
      exact init_holds (F := F) i arg5 arg6 arg8 arg9 arg10 arg11 X5 X6 _ _ _ _ (k0_pay108 (arg4.view.readAt (Elt F) (Rect.unit (s := S1x256x128) ![0, 0, 0] S1x256x128.size inb_S1x256x128_S1x256x128_0_0_0).toLoadRect X4)) (k0_pay109 (arg4.view.readAt (Elt F) (Rect.unit (s := S1x256x128) ![0, 0, 0] S1x256x128.size inb_S1x256x128_S1x256x128_0_0_0).toLoadRect X4)) (arg3.view.readAt (Elt F) (Rect.unit (s := S8) (k0_off1 i) S1.size (k0_off1_inb i)).toLoadRect X3 (Shape.Idx.first (by decide : 0 < S1.numel))) (arg3.view.readAt (Elt F) (Rect.unit (s := S8) (k0_off2 i) S1.size (k0_off2_inb i)).toLoadRect X3 (Shape.Idx.first (by decide : 0 < S1.numel))) k0_pay110
  obtain ⟨h1, h2, h3, h4, h5, h6, h7, h8⟩ := hS
  have hd1 := congrArg Prod.fst hs
  have hd2 := congrArg Prod.snd hs
  dsimp only at hd1 hd2
  simp only [hit_S2x2x256x256_00, hit_S2x2x256x256_01, hit_S2x2x256x256_10, hit_S2x2x256x256_11, hit_S2x2x256x1_00, hit_S2x2x256x1_01, hit_S2x2x256x1_10, hit_S2x2x256x1_11, hit_S2x256x128_0, hit_S2x256x128_1, read_miss _ _ _ _ _ _ apart_S2x2x256x256_00_01, read_miss _ _ _ _ _ _ apart_S2x2x256x256_00_10, read_miss _ _ _ _ _ _ apart_S2x2x256x256_00_11, read_miss _ _ _ _ _ _ apart_S2x2x256x256_01_00, read_miss _ _ _ _ _ _ apart_S2x2x256x256_01_10, read_miss _ _ _ _ _ _ apart_S2x2x256x256_01_11, read_miss _ _ _ _ _ _ apart_S2x2x256x256_10_00, read_miss _ _ _ _ _ _ apart_S2x2x256x256_10_01, read_miss _ _ _ _ _ _ apart_S2x2x256x256_10_11, read_miss _ _ _ _ _ _ apart_S2x2x256x256_11_00, read_miss _ _ _ _ _ _ apart_S2x2x256x256_11_01, read_miss _ _ _ _ _ _ apart_S2x2x256x256_11_10, read_miss _ _ _ _ _ _ apart_S2x2x256x1_00_01, read_miss _ _ _ _ _ _ apart_S2x2x256x1_00_10, read_miss _ _ _ _ _ _ apart_S2x2x256x1_00_11, read_miss _ _ _ _ _ _ apart_S2x2x256x1_01_00, read_miss _ _ _ _ _ _ apart_S2x2x256x1_01_10, read_miss _ _ _ _ _ _ apart_S2x2x256x1_01_11, read_miss _ _ _ _ _ _ apart_S2x2x256x1_10_00, read_miss _ _ _ _ _ _ apart_S2x2x256x1_10_01, read_miss _ _ _ _ _ _ apart_S2x2x256x1_10_11, read_miss _ _ _ _ _ _ apart_S2x2x256x1_11_00, read_miss _ _ _ _ _ _ apart_S2x2x256x1_11_01, read_miss _ _ _ _ _ _ apart_S2x2x256x1_11_10, read_miss _ _ _ _ _ _ apart_S2x256x128_0_1, read_miss _ _ _ _ _ _ apart_S2x256x128_1_0, k0_pay1, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, List.nil_append, hd1, hd2, h1, h2, h3, h4, h5, h6, h7, h8]
  unfold headOut
  rw [accs_succ, accs_succ, Nat.sub_self]
  rfl

set_option maxHeartbeats 2000000 in
theorem runOdd_val (c : Dev nD) (i : grid0.Coords) (arg3 : Memref sig .tc .smem S8 .f32) (harg3 : arg3.IsWhole) (arg4 : Memref sig .tc .vmem S1x256x128 .bf16) (harg4 : arg4.IsWhole) (arg5 : Memref sig .tc .vmem S1x8x128x256 .bf16) (harg5 : arg5.IsWhole) (arg6 : Memref sig .tc .vmem S1x8x128x256 .bf16) (harg6 : arg6.IsWhole) (arg7 : Memref sig .tc .vmem S1x256x128 .f32) (harg7 : arg7.IsWhole) (arg8 : Memref sig .tc .vmem S2x2x256x256 .bf16) (harg8 : arg8.IsWhole) (arg9 : Memref sig .tc .vmem S2x2x256x256 .f32) (harg9 : arg9.IsWhole) (arg10 : Memref sig .tc .vmem S2x2x256x1 .f32) (harg10 : arg10.IsWhole) (arg11 : Memref sig .tc .vmem S2x256x128 .f32) (harg11 : arg11.IsWhole)
    (X3 : BufTy.Contents (Elt F) arg3.view.ty) (X4 : BufTy.Contents (Elt F) arg4.view.ty) (X5 : BufTy.Contents (Elt F) arg5.view.ty) (X6 : BufTy.Contents (Elt F) arg6.view.ty)
    (f8 : BufTy.Contents (Elt F) arg8.view.ty) (f9 : BufTy.Contents (Elt F) arg9.view.ty) (f10 : BufTy.Contents (Elt F) arg10.view.ty) (f11 : BufTy.Contents (Elt F) arg11.view.ty)
    (hc1 : Scalar.cmpi .ne (Scalar.extui (Scalar.cmpi .eq (Scalar.select (Scalar.andi (Scalar.xori (Scalar.cmpi .slt (Scalar.remsi (BitVec.ofNat 32 ↑(i 2)) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ↑(i 2)) (Scalar.select (Scalar.cmpi .eq 2#32 0#32) 1#32 2#32)) 0#32)) (Scalar.addi (Scalar.remsi (BitVec.ofNat 32 ↑(i 2)) (Scalar.select (Scalar.cmpi .eq 2#32 0#32) 1#32 2#32)) (Scalar.select (Scalar.cmpi .eq 2#32 0#32) 1#32 2#32)) (Scalar.remsi (BitVec.ofNat 32 ↑(i 2)) (Scalar.select (Scalar.cmpi .eq 2#32 0#32) 1#32 2#32))) 1#32)) 0#32 = 1#1)
    (hc2 : ¬ Scalar.cmpi .ne (Scalar.extui (Scalar.cmpi .eq (Scalar.select (Scalar.andi (Scalar.xori (Scalar.cmpi .slt (Scalar.remsi (BitVec.ofNat 32 ↑(i 2)) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ↑(i 2)) (Scalar.select (Scalar.cmpi .eq 2#32 0#32) 1#32 2#32)) 0#32)) (Scalar.addi (Scalar.remsi (BitVec.ofNat 32 ↑(i 2)) (Scalar.select (Scalar.cmpi .eq 2#32 0#32) 1#32 2#32)) (Scalar.select (Scalar.cmpi .eq 2#32 0#32) 1#32 2#32)) (Scalar.remsi (BitVec.ofNat 32 ↑(i 2)) (Scalar.select (Scalar.cmpi .eq 2#32 0#32) 1#32 2#32))) 0#32)) 0#32 = 1#1) (he : (i 2 : ℕ) % 2 = 1) :
    (runOdd (F := F) c i arg3 harg3 arg4 harg4 arg5 harg5 arg6 harg6 arg7 harg7 arg8 harg8 arg9 harg9 arg10 harg10 arg11 harg11 X3 X4 X5 X6 f8 f9 f10 f11 hc1 hc2).1 =
      [⟨(Rect.unit (s := S1x256x128) ![0, 0, 0] ![1, 256, 128] inb_S1x256x128_S1x256x128_0_0_0), outBlock i arg3 arg4 arg5 arg6 X3 X4 X5 X6⟩] := by
  unfold runOdd outBlock
  sl_unfold_run_names
  unfold View.readCov
  simp only [t2_trips, List.nil_append]
  generalize hst : st_k0_t1 (F := F) Variants.none c none i arg3 harg3 arg4 harg4 arg5 harg5 arg6 harg6 arg7 harg7 arg8 harg8 arg9 harg9 arg10 harg10 arg11 harg11 _ _ _ _ _ _ _ _ _ _ X5 X6 _ _ _ _ _ _ = st
  generalize hst2 : st_k0_t2 (F := F) Variants.none c none i arg3 harg3 arg4 harg4 arg5 harg5 arg6 harg6 arg7 harg7 arg8 harg8 arg9 harg9 arg10 harg10 arg11 harg11 _ _ _ _ _ _ _ _ _ _ _ X5 X6 _ _ _ _ _ _ = st2
  generalize hI8 : ([⟨_, _⟩, ⟨_, _⟩] : List (View.Piece (Elt F) S2x2x256x256 .bf16)) = I8
  generalize hI9 : ([⟨_, _⟩, ⟨_, _⟩] : List (View.Piece (Elt F) S2x2x256x256 .f32)) = I9
  generalize hI10 : ([⟨_, _⟩, ⟨_, _⟩] : List (View.Piece (Elt F) S2x2x256x1 .f32)) = I10 at hst
  generalize hI11 : ([⟨_, _⟩] : List (View.Piece (Elt F) S2x256x128 .f32)) = I11
  have e2 : st2 = (st.1, [], [], [], []) := by
    rw [← hst2]
    exact st2_zero _ _ _ _ _ _ _ _ _ _ _ _ _ _ _ _ _ _ _ _ _ _ _ _ _ _ _ _ _ _ _ _ _ _ _ _ _ _ _ _ _ (t2_trips i)
  simp only [e2, List.nil_append]
  obtain ⟨N, hN1⟩ : ∃ N, (i 2 : ℕ) = N + 1 := ⟨(i 2 : ℕ) - 1, by omega⟩
  have hN : 2 * ((i 2 : ℕ) / 2) = N := by omega
  obtain ⟨hs, hS⟩ : st.1 = (laters k0_pay110 (tileAt (k0_pay108 (arg4.view.readAt (Elt F) (Rect.unit (s := S1x256x128) ![0, 0, 0] S1x256x128.size inb_S1x256x128_S1x256x128_0_0_0).toLoadRect X4)) (arg3.view.readAt (Elt F) (Rect.unit (s := S8) (k0_off1 i) S1.size (k0_off1_inb i)).toLoadRect X3 (Shape.Idx.first (by decide : 0 < S1.numel))) (tileOf arg5 X5) (i 2)) N, laters k0_pay110 (tileAt (k0_pay109 (arg4.view.readAt (Elt F) (Rect.unit (s := S1x256x128) ![0, 0, 0] S1x256x128.size inb_S1x256x128_S1x256x128_0_0_0).toLoadRect X4)) (arg3.view.readAt (Elt F) (Rect.unit (s := S8) (k0_off2 i) S1.size (k0_off2_inb i)).toLoadRect X3 (Shape.Idx.first (by decide : 0 < S1.numel))) (tileOf arg5 X5) (i 2)) N) ∧ Holds arg8 arg9 arg10 arg11 ((tileAt (k0_pay108 (arg4.view.readAt (Elt F) (Rect.unit (s := S1x256x128) ![0, 0, 0] S1x256x128.size inb_S1x256x128_S1x256x128_0_0_0).toLoadRect X4)) (arg3.view.readAt (Elt F) (Rect.unit (s := S8) (k0_off1 i) S1.size (k0_off1_inb i)).toLoadRect X3 (Shape.Idx.first (by decide : 0 < S1.numel))) (tileOf arg5 X5) (i 2)) N) ((tileAt (k0_pay109 (arg4.view.readAt (Elt F) (Rect.unit (s := S1x256x128) ![0, 0, 0] S1x256x128.size inb_S1x256x128_S1x256x128_0_0_0).toLoadRect X4)) (arg3.view.readAt (Elt F) (Rect.unit (s := S8) (k0_off2 i) S1.size (k0_off2_inb i)).toLoadRect X3 (Shape.Idx.first (by decide : 0 < S1.numel))) (tileOf arg5 X5) (i 2)) N) (accs k0_pay110 (tileAt (k0_pay108 (arg4.view.readAt (Elt F) (Rect.unit (s := S1x256x128) ![0, 0, 0] S1x256x128.size inb_S1x256x128_S1x256x128_0_0_0).toLoadRect X4)) (arg3.view.readAt (Elt F) (Rect.unit (s := S8) (k0_off1 i) S1.size (k0_off1_inb i)).toLoadRect X3 (Shape.Idx.first (by decide : 0 < S1.numel))) (tileOf arg5 X5) (i 2)) (tileOf arg6 X6) (i 2) N) (accs k0_pay110 (tileAt (k0_pay109 (arg4.view.readAt (Elt F) (Rect.unit (s := S1x256x128) ![0, 0, 0] S1x256x128.size inb_S1x256x128_S1x256x128_0_0_0).toLoadRect X4)) (arg3.view.readAt (Elt F) (Rect.unit (s := S8) (k0_off2 i) S1.size (k0_off2_inb i)).toLoadRect X3 (Shape.Idx.first (by decide : 0 < S1.numel))) (tileOf arg5 X5) (i 2)) (tileOf arg6 X6) (i 2) N) (arg8.view.writes (Elt F) arg8.view.junk (st.2.1 ++ I8)) (arg9.view.writes (Elt F) arg9.view.junk (st.2.2.1 ++ I9)) (arg10.view.writes (Elt F) arg10.view.junk (st.2.2.2.1 ++ I10)) (arg11.view.writes (Elt F) arg11.view.junk (st.2.2.2.2 ++ I11)) := by
    rw [← hst]
    refine loop_end _ _ _ _ _ _ _ _ _ _ _ _ _ _ _ _ _ _ _ _ _ _ _ _ _ _ _ _ _ _ _ _ _ _ _ _ _ _ _ _ _ _ _ _ _ _ _ _ _ rfl hN rfl ?_ ?_
    · rw [← hI10]
      exact init_holds (F := F) i arg5 arg6 arg8 arg9 arg10 arg11 X5 X6 _ _ _ _ (k0_pay108 (arg4.view.readAt (Elt F) (Rect.unit (s := S1x256x128) ![0, 0, 0] S1x256x128.size inb_S1x256x128_S1x256x128_0_0_0).toLoadRect X4)) (k0_pay109 (arg4.view.readAt (Elt F) (Rect.unit (s := S1x256x128) ![0, 0, 0] S1x256x128.size inb_S1x256x128_S1x256x128_0_0_0).toLoadRect X4)) (arg3.view.readAt (Elt F) (Rect.unit (s := S8) (k0_off1 i) S1.size (k0_off1_inb i)).toLoadRect X3 (Shape.Idx.first (by decide : 0 < S1.numel))) (arg3.view.readAt (Elt F) (Rect.unit (s := S8) (k0_off2 i) S1.size (k0_off2_inb i)).toLoadRect X3 (Shape.Idx.first (by decide : 0 < S1.numel))) k0_pay110
    · rw [← hI8, ← hI9, ← hI10, ← hI11]
      exact init_holds (F := F) i arg5 arg6 arg8 arg9 arg10 arg11 X5 X6 _ _ _ _ (k0_pay108 (arg4.view.readAt (Elt F) (Rect.unit (s := S1x256x128) ![0, 0, 0] S1x256x128.size inb_S1x256x128_S1x256x128_0_0_0).toLoadRect X4)) (k0_pay109 (arg4.view.readAt (Elt F) (Rect.unit (s := S1x256x128) ![0, 0, 0] S1x256x128.size inb_S1x256x128_S1x256x128_0_0_0).toLoadRect X4)) (arg3.view.readAt (Elt F) (Rect.unit (s := S8) (k0_off1 i) S1.size (k0_off1_inb i)).toLoadRect X3 (Shape.Idx.first (by decide : 0 < S1.numel))) (arg3.view.readAt (Elt F) (Rect.unit (s := S8) (k0_off2 i) S1.size (k0_off2_inb i)).toLoadRect X3 (Shape.Idx.first (by decide : 0 < S1.numel))) k0_pay110
  obtain ⟨h1, h2, h3, h4, h5, h6, h7, h8⟩ := hS
  have hd1 := congrArg Prod.fst hs
  have hd2 := congrArg Prod.snd hs
  dsimp only at hd1 hd2
  simp only [hit_S2x2x256x256_00, hit_S2x2x256x256_01, hit_S2x2x256x256_10, hit_S2x2x256x256_11, hit_S2x2x256x1_00, hit_S2x2x256x1_01, hit_S2x2x256x1_10, hit_S2x2x256x1_11, hit_S2x256x128_0, hit_S2x256x128_1, read_miss _ _ _ _ _ _ apart_S2x2x256x256_00_01, read_miss _ _ _ _ _ _ apart_S2x2x256x256_00_10, read_miss _ _ _ _ _ _ apart_S2x2x256x256_00_11, read_miss _ _ _ _ _ _ apart_S2x2x256x256_01_00, read_miss _ _ _ _ _ _ apart_S2x2x256x256_01_10, read_miss _ _ _ _ _ _ apart_S2x2x256x256_01_11, read_miss _ _ _ _ _ _ apart_S2x2x256x256_10_00, read_miss _ _ _ _ _ _ apart_S2x2x256x256_10_01, read_miss _ _ _ _ _ _ apart_S2x2x256x256_10_11, read_miss _ _ _ _ _ _ apart_S2x2x256x256_11_00, read_miss _ _ _ _ _ _ apart_S2x2x256x256_11_01, read_miss _ _ _ _ _ _ apart_S2x2x256x256_11_10, read_miss _ _ _ _ _ _ apart_S2x2x256x1_00_01, read_miss _ _ _ _ _ _ apart_S2x2x256x1_00_10, read_miss _ _ _ _ _ _ apart_S2x2x256x1_00_11, read_miss _ _ _ _ _ _ apart_S2x2x256x1_01_00, read_miss _ _ _ _ _ _ apart_S2x2x256x1_01_10, read_miss _ _ _ _ _ _ apart_S2x2x256x1_01_11, read_miss _ _ _ _ _ _ apart_S2x2x256x1_10_00, read_miss _ _ _ _ _ _ apart_S2x2x256x1_10_01, read_miss _ _ _ _ _ _ apart_S2x2x256x1_10_11, read_miss _ _ _ _ _ _ apart_S2x2x256x1_11_00, read_miss _ _ _ _ _ _ apart_S2x2x256x1_11_01, read_miss _ _ _ _ _ _ apart_S2x2x256x1_11_10, read_miss _ _ _ _ _ _ apart_S2x256x128_0_1, read_miss _ _ _ _ _ _ apart_S2x256x128_1_0, k0_pay1, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, List.nil_append, hd1, hd2, h1, h2, h3, h4, h5, h6, h7, h8]
  unfold headOut
  have e1 : (i 2 : ℕ) - N = 1 := by omega
  have e0 : (i 2 : ℕ) - (N + 1) = 0 := by omega
  rw [show (i 2 : ℕ) + 1 = N + 1 + 1 by omega]
  simp only [accs_succ, tileAt_succ, e1, e0]
  rfl

end Cert.KernelIdeal.Attn
-- ==== Proof.Attn.Body.lean ====
module

public import Idealize.ShloMosaic.Lib.Claim
public import proofs.«01_k».proof.Proof.Attn.Out
public import proofs.«01_k».proof.Proof.Attn.Run

@[expose] public section

set_option maxRecDepth 16384

noncomputable section

/-! The body of the attention at every grid point, the launch, and the frame. -/

namespace Cert.KernelIdeal.Attn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UR sig nD τ) ℕ

/-- Tile `j` of a head pair's keys or values. -/
def rowTile (x : Vec F S1x8x128x256 .bf16) (j : ℕ) : Vec F S1x1x128x256 .bf16 :=
  View.ld x (Rect.unit (s := S1x8x128x256) ![0, j % 8, 0, 0] ![1, 1, 128, 256] (tile_inb j))

/-- The whole block of queries. -/
def queries (x1 : Vec F S1x256x128 .bf16) : Vec F S1x256x128 .bf16 :=
  View.ld x1 (Rect.unit (s := S1x256x128) ![0, 0, 0] S1x256x128.size inb_S1x256x128_S1x256x128_0_0_0)

/-- The bias of the first head of the pair, -/
def biasA (i : grid0.Coords) (x0 : Vec F S8 .f32) : Elt F .f32 :=
  View.ld x0 (Rect.unit (s := S8) (k0_off1 i) S1.size (k0_off1_inb i)) (Shape.Idx.first (by decide : 0 < S1.numel))

/-- and of the second. -/
def biasB (i : grid0.Coords) (x0 : Vec F S8 .f32) : Elt F .f32 :=
  View.ld x0 (Rect.unit (s := S8) (k0_off2 i) S1.size (k0_off2_inb i)) (Shape.Idx.first (by decide : 0 < S1.numel))

/-- The block stored at a grid point, from the blocks loaded there. -/
def blockVal (i : grid0.Coords) (x0 : Vec F S8 .f32) (x1 : Vec F S1x256x128 .bf16) (x2 x3 : Vec F S1x8x128x256 .bf16) : Vec F S1x256x128 .f32 :=
  shapeCast S1x256x128 (select k0_pay107
    (headOut (k0_pay108 (queries x1)) (biasA i x0) (rowTile x2) (rowTile x3) (i 2))
    (headOut (k0_pay109 (queries x1)) (biasB i x0) (rowTile x2) (rowTile x3) (i 2))) shapeCasts_S256x128_S1x256x128

/-- The stored block in terms of what the four memrefs read. -/
theorem outBlock_eq (i : grid0.Coords) (arg3 : Memref sig .tc .smem S8 .f32) (arg4 : Memref sig .tc .vmem S1x256x128 .bf16) (arg5 : Memref sig .tc .vmem S1x8x128x256 .bf16) (arg6 : Memref sig .tc .vmem S1x8x128x256 .bf16) (X3 : BufTy.Contents (Elt F) arg3.view.ty) (X4 : BufTy.Contents (Elt F) arg4.view.ty) (X5 : BufTy.Contents (Elt F) arg5.view.ty) (X6 : BufTy.Contents (Elt F) arg6.view.ty) :
    outBlock i arg3 arg4 arg5 arg6 X3 X4 X5 X6 = blockVal i (arg3.view.read (Elt F) X3) (arg4.view.read (Elt F) X4) (arg5.view.read (Elt F) X5) (arg6.view.read (Elt F) X6) := rfl

/-- The two branches of the body are taken at odd and at even query blocks. -/
theorem odd_or_even : ∀ x : Fin 8, ((x : ℕ) % 2 = 1 ∧ Scalar.cmpi .ne (Scalar.extui (Scalar.cmpi .eq (Scalar.select (Scalar.andi (Scalar.xori (Scalar.cmpi .slt (Scalar.remsi (BitVec.ofNat 32 ↑x) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ↑x) (Scalar.select (Scalar.cmpi .eq 2#32 0#32) 1#32 2#32)) 0#32)) (Scalar.addi (Scalar.remsi (BitVec.ofNat 32 ↑x) (Scalar.select (Scalar.cmpi .eq 2#32 0#32) 1#32 2#32)) (Scalar.select (Scalar.cmpi .eq 2#32 0#32) 1#32 2#32)) (Scalar.remsi (BitVec.ofNat 32 ↑x) (Scalar.select (Scalar.cmpi .eq 2#32 0#32) 1#32 2#32))) 1#32)) 0#32 = 1#1 ∧ ¬ Scalar.cmpi .ne (Scalar.extui (Scalar.cmpi .eq (Scalar.select (Scalar.andi (Scalar.xori (Scalar.cmpi .slt (Scalar.remsi (BitVec.ofNat 32 ↑x) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ↑x) (Scalar.select (Scalar.cmpi .eq 2#32 0#32) 1#32 2#32)) 0#32)) (Scalar.addi (Scalar.remsi (BitVec.ofNat 32 ↑x) (Scalar.select (Scalar.cmpi .eq 2#32 0#32) 1#32 2#32)) (Scalar.select (Scalar.cmpi .eq 2#32 0#32) 1#32 2#32)) (Scalar.remsi (BitVec.ofNat 32 ↑x) (Scalar.select (Scalar.cmpi .eq 2#32 0#32) 1#32 2#32))) 0#32)) 0#32 = 1#1) ∨ ((x : ℕ) % 2 = 0 ∧ ¬ Scalar.cmpi .ne (Scalar.extui (Scalar.cmpi .eq (Scalar.select (Scalar.andi (Scalar.xori (Scalar.cmpi .slt (Scalar.remsi (BitVec.ofNat 32 ↑x) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ↑x) (Scalar.select (Scalar.cmpi .eq 2#32 0#32) 1#32 2#32)) 0#32)) (Scalar.addi (Scalar.remsi (BitVec.ofNat 32 ↑x) (Scalar.select (Scalar.cmpi .eq 2#32 0#32) 1#32 2#32)) (Scalar.select (Scalar.cmpi .eq 2#32 0#32) 1#32 2#32)) (Scalar.remsi (BitVec.ofNat 32 ↑x) (Scalar.select (Scalar.cmpi .eq 2#32 0#32) 1#32 2#32))) 1#32)) 0#32 = 1#1 ∧ Scalar.cmpi .ne (Scalar.extui (Scalar.cmpi .eq (Scalar.select (Scalar.andi (Scalar.xori (Scalar.cmpi .slt (Scalar.remsi (BitVec.ofNat 32 ↑x) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 ↑x) (Scalar.select (Scalar.cmpi .eq 2#32 0#32) 1#32 2#32)) 0#32)) (Scalar.addi (Scalar.remsi (BitVec.ofNat 32 ↑x) (Scalar.select (Scalar.cmpi .eq 2#32 0#32) 1#32 2#32)) (Scalar.select (Scalar.cmpi .eq 2#32 0#32) 1#32 2#32)) (Scalar.remsi (BitVec.ofNat 32 ↑x) (Scalar.select (Scalar.cmpi .eq 2#32 0#32) 1#32 2#32))) 0#32)) 0#32 = 1#1) := by
  decide +kernel

/-- What one run of the body leaves in the output's block, whatever it held. -/
theorem read_block (arg7 : Memref sig .tc .vmem S1x256x128 .f32) (f7 : BufTy.Contents (Elt F) arg7.view.ty) (v : Vec F S1x256x128 .f32) :
    arg7.view.read (Elt F) (arg7.view.writes (Elt F) f7 [⟨Rect.unit (s := S1x256x128) ![0, 0, 0] ![1, 256, 128] inb_S1x256x128_S1x256x128_0_0_0, v⟩]) = v :=
  (View.read_writes_eq_canon _ _ _ (View.cover_of_tiled [⟨Rect.unit (s := S1x256x128) ![0, 0, 0] ![1, 256, 128] inb_S1x256x128_S1x256x128_0_0_0, v⟩] S1x256x128.size (by rfl))).trans
    (View.canon_unit_zero (S := S1x256x128) (by decide) _ v)

/-- What a run of the body leaves, said of what the memrefs read. -/
theorem run_post (c : Dev nD) (i : grid0.Coords) (arg3 : Memref sig .tc .smem S8 .f32) (harg3 : arg3.IsWhole) (arg4 : Memref sig .tc .vmem S1x256x128 .bf16) (harg4 : arg4.IsWhole) (arg5 : Memref sig .tc .vmem S1x8x128x256 .bf16) (harg5 : arg5.IsWhole) (arg6 : Memref sig .tc .vmem S1x8x128x256 .bf16) (harg6 : arg6.IsWhole) (arg7 : Memref sig .tc .vmem S1x256x128 .f32) (harg7 : arg7.IsWhole) (arg8 : Memref sig .tc .vmem S2x2x256x256 .bf16) (harg8 : arg8.IsWhole) (arg9 : Memref sig .tc .vmem S2x2x256x256 .f32) (harg9 : arg9.IsWhole) (arg10 : Memref sig .tc .vmem S2x2x256x1 .f32) (harg10 : arg10.IsWhole) (arg11 : Memref sig .tc .vmem S2x256x128 .f32) (harg11 : arg11.IsWhole)
    (X3 : BufTy.Contents (Elt F) arg3.view.ty) (X4 : BufTy.Contents (Elt F) arg4.view.ty) (X5 : BufTy.Contents (Elt F) arg5.view.ty) (X6 : BufTy.Contents (Elt F) arg6.view.ty) (f7 : BufTy.Contents (Elt F) arg7.view.ty) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} (arg7.view.writes (Elt F) f7 [⟨Rect.unit (s := S1x256x128) ![0, 0, 0] ![1, 256, 128] inb_S1x256x128_S1x256x128_0_0_0, outBlock i arg3 arg4 arg5 arg6 X3 X4 X5 X6⟩])) ∗ (∃ g : BufTy.Contents (Elt F) arg8.view.ty, (arg8.view.loc (c : Thread nD τ) ↦[arg8.view.set]{fullShare} g)) ∗ (∃ g : BufTy.Contents (Elt F) arg9.view.ty, (arg9.view.loc (c : Thread nD τ) ↦[arg9.view.set]{fullShare} g)) ∗ (∃ g : BufTy.Contents (Elt F) arg10.view.ty, (arg10.view.loc (c : Thread nD τ) ↦[arg10.view.set]{fullShare} g)) ∗ (∃ g : BufTy.Contents (Elt F) arg11.view.ty, (arg11.view.loc (c : Thread nD τ) ↦[arg11.view.set]{fullShare} g))) : sProp 𝕄)
      ⊢ iprop(owns (c : Thread nD τ) arg3 fullShare (arg3.view.read (Elt F) X3) ∗ owns (c : Thread nD τ) arg4 fullShare (arg4.view.read (Elt F) X4) ∗ owns (c : Thread nD τ) arg5 fullShare (arg5.view.read (Elt F) X5) ∗ owns (c : Thread nD τ) arg6 fullShare (arg6.view.read (Elt F) X6) ∗ owns (c : Thread nD τ) arg7 fullShare (blockVal i (arg3.view.read (Elt F) X3) (arg4.view.read (Elt F) X4) (arg5.view.read (Elt F) X5) (arg6.view.read (Elt F) X6)) ∗ (∃ f : BufTy.Contents (Elt F) arg8.view.ty, (arg8.view.loc (c : Thread nD τ) ↦[arg8.view.set]{fullShare} f)) ∗ (∃ f : BufTy.Contents (Elt F) arg9.view.ty, (arg9.view.loc (c : Thread nD τ) ↦[arg9.view.set]{fullShare} f)) ∗ (∃ f : BufTy.Contents (Elt F) arg10.view.ty, (arg10.view.loc (c : Thread nD τ) ↦[arg10.view.set]{fullShare} f)) ∗ (∃ f : BufTy.Contents (Elt F) arg11.view.ty, (arg11.view.loc (c : Thread nD τ) ↦[arg11.view.set]{fullShare} f))) := by
  unfold owns
  iintro ⟨H3, H4, H5, H6, H7, H8⟩
  isplitl [H3]
  · iexists X3; isplitr; · ipureintro; rfl
    iexact H3
  isplitl [H4]
  · iexists X4; isplitr; · ipureintro; rfl
    iexact H4
  isplitl [H5]
  · iexists X5; isplitr; · ipureintro; rfl
    iexact H5
  isplitl [H6]
  · iexists X6; isplitr; · ipureintro; rfl
    iexact H6
  isplitl [H7]
  · iexists _; isplitr
    swap; · iexact H7
    ipureintro
    exact (read_block arg7 f7 _).trans (outBlock_eq ..)
  iexact H8

/-- The body from given contents, at odd and at even query blocks alike. -/
theorem run_body (c : Dev nD) (i : grid0.Coords) (arg3 : Memref sig .tc .smem S8 .f32) (harg3 : arg3.IsWhole) (arg4 : Memref sig .tc .vmem S1x256x128 .bf16) (harg4 : arg4.IsWhole) (arg5 : Memref sig .tc .vmem S1x8x128x256 .bf16) (harg5 : arg5.IsWhole) (arg6 : Memref sig .tc .vmem S1x8x128x256 .bf16) (harg6 : arg6.IsWhole) (arg7 : Memref sig .tc .vmem S1x256x128 .f32) (harg7 : arg7.IsWhole) (arg8 : Memref sig .tc .vmem S2x2x256x256 .bf16) (harg8 : arg8.IsWhole) (arg9 : Memref sig .tc .vmem S2x2x256x256 .f32) (harg9 : arg9.IsWhole) (arg10 : Memref sig .tc .vmem S2x2x256x1 .f32) (harg10 : arg10.IsWhole) (arg11 : Memref sig .tc .vmem S2x256x128 .f32) (harg11 : arg11.IsWhole)
    (X3 : BufTy.Contents (Elt F) arg3.view.ty) (X4 : BufTy.Contents (Elt F) arg4.view.ty) (X5 : BufTy.Contents (Elt F) arg5.view.ty) (X6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)) : sProp 𝕄)
      ⊢ wp frame (wpE (defs₀ (F := F)) Variants.none (c : Thread nD τ) none) Set.univ (cc0_sb_attn_prompt (F := F) i arg3 harg3 arg4 harg4 arg5 harg5 arg6 harg6 arg7 harg7 arg8 harg8 arg9 harg9 arg10 harg10 arg11 harg11)
          (fun _ => iprop(owns (c : Thread nD τ) arg3 fullShare (arg3.view.read (Elt F) X3) ∗ owns (c : Thread nD τ) arg4 fullShare (arg4.view.read (Elt F) X4) ∗ owns (c : Thread nD τ) arg5 fullShare (arg5.view.read (Elt F) X5) ∗ owns (c : Thread nD τ) arg6 fullShare (arg6.view.read (Elt F) X6) ∗ owns (c : Thread nD τ) arg7 fullShare (blockVal i (arg3.view.read (Elt F) X3) (arg4.view.read (Elt F) X4) (arg5.view.read (Elt F) X5) (arg6.view.read (Elt F) X6)) ∗ (∃ f : BufTy.Contents (Elt F) arg8.view.ty, (arg8.view.loc (c : Thread nD τ) ↦[arg8.view.set]{fullShare} f)) ∗ (∃ f : BufTy.Contents (Elt F) arg9.view.ty, (arg9.view.loc (c : Thread nD τ) ↦[arg9.view.set]{fullShare} f)) ∗ (∃ f : BufTy.Contents (Elt F) arg10.view.ty, (arg10.view.loc (c : Thread nD τ) ↦[arg10.view.set]{fullShare} f)) ∗ (∃ f : BufTy.Contents (Elt F) arg11.view.ty, (arg11.view.loc (c : Thread nD τ) ↦[arg11.view.set]{fullShare} f)))) := by
  rcases odd_or_even (i 2) with ⟨he, hc1, hc2⟩ | ⟨he, hc1, hc2⟩
  · have h := (runOdd (F := F) c i arg3 harg3 arg4 harg4 arg5 harg5 arg6 harg6 arg7 harg7 arg8 harg8 arg9 harg9 arg10 harg10 arg11 harg11 X3 X4 X5 X6 f8 f9 f10 f11 hc1 hc2).2 f7
    rw [runOdd_val (F := F) c i arg3 harg3 arg4 harg4 arg5 harg5 arg6 harg6 arg7 harg7 arg8 harg8 arg9 harg9 arg10 harg10 arg11 harg11 X3 X4 X5 X6 f8 f9 f10 f11 hc1 hc2 he] at h
    exact h.trans (wp_mono _ _ _ fun _ => run_post c i arg3 harg3 arg4 harg4 arg5 harg5 arg6 harg6 arg7 harg7 arg8 harg8 arg9 harg9 arg10 harg10 arg11 harg11 X3 X4 X5 X6 f7)
  · have h := (runEven (F := F) c i arg3 harg3 arg4 harg4 arg5 harg5 arg6 harg6 arg7 harg7 arg8 harg8 arg9 harg9 arg10 harg10 arg11 harg11 X3 X4 X5 X6 f8 f9 f10 f11 hc1 hc2).2 f7
    rw [runEven_val (F := F) c i arg3 harg3 arg4 harg4 arg5 harg5 arg6 harg6 arg7 harg7 arg8 harg8 arg9 harg9 arg10 harg10 arg11 harg11 X3 X4 X5 X6 f8 f9 f10 f11 hc1 hc2 he] at h
    exact h.trans (wp_mono _ _ _ fun _ => run_post c i arg3 harg3 arg4 harg4 arg5 harg5 arg6 harg6 arg7 harg7 arg8 harg8 arg9 harg9 arg10 harg10 arg11 harg11 X3 X4 X5 X6 f7)

set_option maxHeartbeats 1000000 in
/-- The body on whole memrefs: the four inputs keep their contents, the output's block holds `blockVal`, and the scratch
    buffers hold something. -/
theorem sound_kernel (c : Dev nD) (i : grid0.Coords) (arg3 : Memref sig .tc .smem S8 .f32) (harg3 : arg3.IsWhole) (arg4 : Memref sig .tc .vmem S1x256x128 .bf16) (harg4 : arg4.IsWhole) (arg5 : Memref sig .tc .vmem S1x8x128x256 .bf16) (harg5 : arg5.IsWhole) (arg6 : Memref sig .tc .vmem S1x8x128x256 .bf16) (harg6 : arg6.IsWhole) (arg7 : Memref sig .tc .vmem S1x256x128 .f32) (harg7 : arg7.IsWhole) (arg8 : Memref sig .tc .vmem S2x2x256x256 .bf16) (harg8 : arg8.IsWhole) (arg9 : Memref sig .tc .vmem S2x2x256x256 .f32) (harg9 : arg9.IsWhole) (arg10 : Memref sig .tc .vmem S2x2x256x1 .f32) (harg10 : arg10.IsWhole) (arg11 : Memref sig .tc .vmem S2x256x128 .f32) (harg11 : arg11.IsWhole)
    (x0 : Vec F S8 .f32) (x1 : Vec F S1x256x128 .bf16) (x2 x3 : Vec F S1x8x128x256 .bf16) :
    (iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ f : BufTy.Contents (Elt F) arg8.view.ty, (arg8.view.loc (c : Thread nD τ) ↦[arg8.view.set]{fullShare} f)) ∗ (∃ f : BufTy.Contents (Elt F) arg9.view.ty, (arg9.view.loc (c : Thread nD τ) ↦[arg9.view.set]{fullShare} f)) ∗ (∃ f : BufTy.Contents (Elt F) arg10.view.ty, (arg10.view.loc (c : Thread nD τ) ↦[arg10.view.set]{fullShare} f)) ∗ (∃ f : BufTy.Contents (Elt F) arg11.view.ty, (arg11.view.loc (c : Thread nD τ) ↦[arg11.view.set]{fullShare} f))) : sProp 𝕄)
      ⊢ wp frame (wpE (defs₀ (F := F)) Variants.none (c : Thread nD τ) none) Set.univ (cc0_sb_attn_prompt (F := F) i arg3 harg3 arg4 harg4 arg5 harg5 arg6 harg6 arg7 harg7 arg8 harg8 arg9 harg9 arg10 harg10 arg11 harg11)
          (fun _ => iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (blockVal i x0 x1 x2 x3) ∗ (∃ f : BufTy.Contents (Elt F) arg8.view.ty, (arg8.view.loc (c : Thread nD τ) ↦[arg8.view.set]{fullShare} f)) ∗ (∃ f : BufTy.Contents (Elt F) arg9.view.ty, (arg9.view.loc (c : Thread nD τ) ↦[arg9.view.set]{fullShare} f)) ∗ (∃ f : BufTy.Contents (Elt F) arg10.view.ty, (arg10.view.loc (c : Thread nD τ) ↦[arg10.view.set]{fullShare} f)) ∗ (∃ f : BufTy.Contents (Elt F) arg11.view.ty, (arg11.view.loc (c : Thread nD τ) ↦[arg11.view.set]{fullShare} f)))) := by
  have key := fun X3 X4 X5 X6 f7 f8 f9 f10 f11 => run_body (F := F) c i arg3 harg3 arg4 harg4 arg5 harg5 arg6 harg6 arg7 harg7 arg8 harg8 arg9 harg9 arg10 harg10 arg11 harg11 X3 X4 X5 X6 f7 f8 f9 f10 f11
  unfold owns at key ⊢
  iintro ⟨⟨%X3, %h3, H3⟩, ⟨%X4, %h4, H4⟩, ⟨%X5, %h5, H5⟩, ⟨%X6, %h6, H6⟩, ⟨%d7, %f7, -, H7⟩, ⟨%f8, H8⟩, ⟨%f9, H9⟩, ⟨%f10, H10⟩, ⟨%f11, H11⟩⟩
  subst h3 h4 h5 h6
  iapply (key X3 X4 X5 X6 f7 f8 f9 f10 f11)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

section Launch

variable (m : (ℓ : Loc nD τ sig) → Buf (Elt F) ℓ) (ρ : Dev nD → PrngReg)

/-- The proof data of the pipeline: the arrays as the call finds them, every input's block left in place, and the output's block
    the one the body stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => blockVal (grid0.coords t) (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = blockVal (grid0.coords t) (iblk m c 0 t) (iblk m c 1 t) (iblk m c 2 t) (iblk m c 3 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body finds at grid point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The scratch buffers are the call's own, and nothing of them is kept from one point to the next. -/
theorem scratch_eq (c : Dev nD) : (Pipeline.ΦA (Val := Elt F) (U := UR sig nD τ) spec0 c : sProp 𝕄) =
    iprop(((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f)) ∗ ∃ r, prngReg c r) := by
  unfold Pipeline.ΦA
  rw [scopedRest0_eq]

set_option maxHeartbeats 1000000 in
/-- The body at any grid point. -/
theorem sound_body (c : Dev nD) (t : Fin cfg0.N) :
    bodyPre m c t ⊢ wp frame (wpE (defs₀ (F := F)) Variants.none c none) Set.univ (bodyAt0 t) (fun _ => bodyPost m c t) := by
  have hk := sound_kernel (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole cc0_scratch0) (Memref.isWhole_whole _) (Memref.whole cc0_scratch1) (Memref.isWhole_whole _) (Memref.whole cc0_scratch2) (Memref.isWhole_whole _) (Memref.whole cc0_scratch3) (Memref.isWhole_whole _)
    (iblk m c 0 t) (iblk m c 1 t) (iblk m c 2 t) (iblk m c 3 t)
  simp only [Memref.view_whole, View.set_whole] at hk
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, show (dats m 0 c).Φ t.castSucc = Pipeline.ΦA spec0 c from rfl, scratch_eq]
  iintro ⟨⟨⟨S0, S1, S2, S3⟩, Hr⟩, Ho, ⟨%d0, H0⟩, ⟨%d1, H1⟩, ⟨%d2, H2⟩, ⟨%d3, H3⟩, ⟨%d4, H4⟩⟩
  iapply wp_wand_r
  isplitl [S0 S1 S2 S3 H0 H1 H2 H3 H4]
  · iapply hk
    isplitl [H0]; · iexact H0
    isplitl [H1]; · iexact H1
    isplitl [H2]; · iexact H2
    isplitl [H3]; · iexact H3
    isplitl [H4]; · iexists _; iexact H4
    isplitl [S0]; · iexact S0
    isplitl [S1]; · iexact S1
    isplitl [S2]; · iexact S2
    iexact S3
  iintro %u ⟨H0, H1, H2, H3, H4, S0, S1, S2, S3⟩
  isplitl [S0 S1 S2 S3 Hr]
  · isplitl [S0 S1 S2 S3]
    · isplitl [S0]; · iexact S0
      isplitl [S1]; · iexact S1
      isplitl [S2]; · iexact S2
      iexact S3
    iexact Hr
  isplitl [Ho]; · iexact Ho
  isplitl [H0]; · iexact H0
  isplitl [H1]; · iexact H1
  isplitl [H2]; · iexact H2
  isplitl [H3]; · iexact H3
  iexact H4

theorem row_eq (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

set_option backward.isDefEq.respectTransparency.types false in
set_option maxHeartbeats 800000 in
/-- Every run ends, with the output the body's blocks, every other array as it was, and no signal left. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments end as they were, and no signal is left. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  θ_run_and (frame_of m ρ (dats m) (A_eq m) ((θ_run defs _ _).mono (fun _ h => h.1) (run_main m ρ))) ((θ_run defs _ _).mono (fun _ h => h.2) (run_main m ρ))

end Launch

end Cert.KernelIdeal.Attn
-- ==== Proof.Attn.Row.lean ====
module

public import Idealize.ShloMosaic.PureOps.Ideal.Laws
public import Mathlib.Algebra.BigOperators.Intervals
public import Mathlib.Analysis.SpecialFunctions.Log.Basic

@[expose] public section

noncomputable section

/-! One row of the stick-breaking attention in the reals: from the scores `z` of the query at position `s`, the weight
    of the key at each position. -/

namespace Cert.Row

/-- The softplus, written so that the exponential never overflows. -/
def splus (x : ℝ) : ℝ := max x 0 + Real.log (1 + Real.exp (-|x|))

theorem splus_neg (x : ℝ) : splus (-x) = splus x - x := by
  unfold splus
  rw [abs_neg]
  rcases le_total x 0 with h | h
  · rw [max_eq_left (by linarith : (0 : ℝ) ≤ -x), max_eq_right h]; ring
  · rw [max_eq_right (by linarith : -x ≤ (0 : ℝ)), max_eq_left h]; ring

/-- The softplus of the score of a key before the query, zero from the query on. -/
def keep (z : ℕ → ℝ) (s j : ℕ) : ℝ := if j < s then splus (z j) else 0

/-- The sum of what is kept from position `j` on. -/
def tail (z : ℕ → ℝ) (s j : ℕ) : ℝ := ∑ i ∈ Finset.Ico j 2048, keep z s i

/-- The weight of the key at position `j`. -/
def weight (z : ℕ → ℝ) (s j : ℕ) : ℝ := if j < s then Real.exp (z j - splus (z j) - tail z s (j + 1)) else 0

theorem tail_split (z : ℕ → ℝ) (s : ℕ) {i j : ℕ} (h : i ≤ j) (hj : j ≤ 2048) :
    ∑ k ∈ Finset.Ico i j, keep z s k + tail z s j = tail z s i :=
  Finset.sum_Ico_consecutive _ h hj

theorem tail_zero (z : ℕ → ℝ) {s j : ℕ} (h : s ≤ j) : tail z s j = 0 :=
  Finset.sum_eq_zero fun i hi => if_neg (by have := (Finset.mem_Ico.mp hi).1; omega)

/-- A sum over the 256 positions of a tile. -/
theorem sum_tile {M : Type} [AddCommMonoid M] (f : ℕ → M) (a : ℕ) :
    ∑ x : Fin 256, f (a + x) = ∑ i ∈ Finset.Ico a (a + 256), f i := by
  rw [Finset.sum_Ico_eq_sum_range, Nat.add_sub_cancel_left, Finset.sum_range]

/-- The part of a tile after its position `c`. -/
theorem sum_after (f : ℕ → ℝ) (a : ℕ) (c : Fin 256) :
    ∑ x : Fin 256, (if c < x then f (a + x) else 0) = ∑ i ∈ Finset.Ico (a + c + 1) (a + 256), f i := by
  have h := sum_tile (fun i => if a + c < i then f i else 0) a
  rw [← Finset.sum_Ico_consecutive _ (by omega : a ≤ a + c + 1) (by omega : a + c + 1 ≤ a + 256),
    Finset.sum_eq_zero (s := Finset.Ico a (a + c + 1)) (fun i hi => if_neg (by have := (Finset.mem_Ico.mp hi).2; omega)), zero_add,
    Finset.sum_congr (s₁ := Finset.Ico (a + c + 1) (a + 256)) rfl
      (fun i hi => if_pos (by have := (Finset.mem_Ico.mp hi).1; omega))] at h
  rw [← h]
  refine Finset.sum_congr rfl fun x _ => ?_
  by_cases hx : c < x
  · rw [if_pos hx, if_pos (by have : (c : ℕ) < x := hx; omega)]
  · rw [if_neg hx, if_neg (by have : ¬ (c : ℕ) < x := hx; omega)]

theorem coe_max (x y : ℝ) : ((max x y : ℝ) : EReal) = max (x : EReal) y := EReal.coe_strictMono.monotone.map_max

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The softplus as written in the kernels, at a real number. -/
theorem splus_ereal (x : ℝ) :
    max (x : EReal) 0 + Idealize.ShloMosaic.Ideal.log (1 + Idealize.ShloMosaic.Ideal.exp (0 - max (x : EReal) (-x))) = (splus x : EReal) := by
  have h0 : (0 : EReal) - max (x : EReal) (-x) = ((-|x| : ℝ) : EReal) := by
    rw [zero_sub, ← EReal.coe_neg, ← coe_max, ← EReal.coe_neg]; rfl
  rw [h0, Idealize.ShloMosaic.Ideal.exp_coe, ← EReal.coe_one, ← EReal.coe_add, Idealize.ShloMosaic.Ideal.log_coe,
    if_neg (by have := Real.exp_pos (-|x|); linarith), ← EReal.coe_zero, ← coe_max, ← EReal.coe_add]
  rfl

end Cert.Row
-- ==== Proof.Attn.HeadValue.lean ====
module

public import proofs.«01_k».proof.Proof.Attn.Out
public import proofs.«01_k».proof.Proof.Attn.Row
public import Idealize.ShloMosaic.Lib.Pointwise

@[expose] public section

set_option maxRecDepth 16384

noncomputable section

/-! One row of a head's output, on the extended reals: the weighted sum of the values, with the weights of `Row`. -/

namespace Cert.KernelIdeal.Attn

open Cert.KernelIdeal Cert.KernelIdeal.Gen Cert.Row
open Idealize.ShloMosaic

/-- A score: the product over the 128 lanes, and the head's bias. -/
theorem logits_apply (q : FVec Ideal S256x128 .bf16) (b : Elt Ideal .f32) (K : Vec Ideal S1x1x128x256 .bf16) (r c : Fin 256) :
    logits q b K (ix2 r c) = (∑ l : Fin 128, q (ix2 r l) * K (ix4 0 0 l c)) + b := by
  pointwise [logits]

theorem softplus_apply (z : FVec Ideal S256x256 .f32) (r c : Fin 256) (x : ℝ) (h : z (ix2 r c) = (x : EReal)) :
    softplus z (ix2 r c) = (splus x : EReal) := by
  have e : softplus z (ix2 r c) = max (z (ix2 r c)) 0 + Ideal.log (1 + Ideal.exp (0 - FloatOps.absf (F := Ideal) (φ := .f32) (z (ix2 r c)))) := by
    pointwise [softplus]
  rw [e, h]
  exact splus_ereal x

theorem after_apply (r c : Fin 256) : (k0_pay110 : FVec Ideal S256x256 .bf16) (ix2 r c) = if c < r then 1 else 0 := by
  have e : (k0_pay110 : FVec Ideal S256x256 .bf16) (ix2 r c) =
      Scalar.select (IntOp.cmpi CmpIPredicate.sgt (BitVec.ofNat 32 ↑r) (BitVec.ofNat 32 ↑c)) (1 : EReal) 0 := by
    pointwise [k0_pay110]
  rw [e, WordCmp.cmpi_sgt_ofNat (by have := r.isLt; omega) (by have := c.isLt; omega)]
  by_cases h : c < r
  · rw [if_pos h, decide_eq_true (by exact h)]; rfl
  · rw [if_neg h, decide_eq_false (by exact h)]; rfl

theorem before_apply (r c : Fin 256) : k0_pay111 (ix2 r c) = if c < r then 1#1 else 0#1 := by
  have e : k0_pay111 (ix2 r c) = IntOp.cmpi CmpIPredicate.slt (BitVec.ofNat 32 ↑c) (BitVec.ofNat 32 ↑r) := by
    pointwise [k0_pay111]
  rw [e, WordCmp.cmpi_slt_ofNat (by have := c.isLt; omega) (by have := r.isLt; omega)]
  by_cases h : c < r
  · rw [if_pos h, decide_eq_true (by exact h)]; rfl
  · rw [if_neg h, decide_eq_false (by exact h)]; rfl

/-- The tile's row `r` holds the tables of the keys at positions `a, …, a + 255`, for the query at position `s`. -/
structure IsRow (T : Tile Ideal) (z : ℕ → ℝ) (s a : ℕ) (r : Fin 256) : Prop where
  sp : ∀ c : Fin 256, T.sp (ix2 r c) = (keep z s (a + c) : EReal)
  zs : ∀ c : Fin 256, T.zs (ix2 r c) = if a + c < s then ((z (a + c) - splus (z (a + c)) : ℝ) : EReal) else ⊥
  sp0 : T.sp0 (ix2 r 0) = (keep z s a : EReal)

theorem score_isRow (q : FVec Ideal S256x128 .bf16) (b : Elt Ideal .f32) (K : Vec Ideal S1x1x128x256 .bf16) (z : ℕ → ℝ) (s a : ℕ)
    (r : Fin 256) (h : ∀ c : Fin 256, logits q b K (ix2 r c) = (z (a + c) : EReal)) (hs : a + 256 ≤ s) :
    IsRow (score q b K) z s a r where
  sp c := by
    have e : (score q b K).sp (ix2 r c) = softplus (logits q b K) (ix2 r c) := by pointwise [score]
    rw [e, softplus_apply _ _ _ _ (h c), keep, if_pos (by have := c.isLt; omega)]
  zs c := by
    have e : (score q b K).zs (ix2 r c) = logits q b K (ix2 r c) - softplus (logits q b K) (ix2 r c) := by pointwise [score]
    rw [e, softplus_apply _ _ _ _ (h c), h c, if_pos (by have := c.isLt; omega), EReal.coe_sub]
  sp0 := by
    have e : (score q b K).sp0 (ix2 r 0) = softplus (logits q b K) (ix2 r 0) := by pointwise [score]
    rw [e, softplus_apply _ _ _ _ (h 0), keep, if_pos (by omega)]
    rfl

theorem diag_isRow (q : FVec Ideal S256x128 .bf16) (b : Elt Ideal .f32) (K : Vec Ideal S1x1x128x256 .bf16) (z : ℕ → ℝ) (a : ℕ)
    (r : Fin 256) (h : ∀ c : Fin 256, logits q b K (ix2 r c) = (z (a + c) : EReal)) :
    IsRow (diag q b K) z (a + r) a r where
  sp c := by
    have e : (diag q b K).sp (ix2 r c) = Scalar.select (k0_pay111 (ix2 r c)) (softplus (logits q b K) (ix2 r c)) 0 := by
      pointwise [diag, softplusDiag]
    rw [e, softplus_apply _ _ _ _ (h c), before_apply, keep]
    by_cases hc : c < r
    · rw [if_pos hc, if_pos (by have : (c : ℕ) < r := hc; omega)]; rfl
    · rw [if_neg hc, if_neg (by have : ¬ (c : ℕ) < r := hc; omega)]; rfl
  zs c := by
    have e : (diag q b K).zs (ix2 r c) = Scalar.select (k0_pay111 (ix2 r c))
        (logits q b K (ix2 r c) - softplus (logits q b K) (ix2 r c)) (Named.named (F := Ideal) κ "mask" 0xF149F2CA#32 : Ideal .f32) := by
      pointwise [diag]
    rw [e, softplus_apply _ _ _ _ (h c), h c, before_apply, IdealRules.named_const.ideal_named_scalar κ "mask" _ ⊥ rfl]
    by_cases hc : c < r
    · rw [if_pos hc, if_pos (by have : (c : ℕ) < r := hc; omega), EReal.coe_sub]; rfl
    · rw [if_neg hc, if_neg (by have : ¬ (c : ℕ) < r := hc; omega)]; rfl
  sp0 := by
    have e : (diag q b K).sp0 (ix2 r 0) = Scalar.select (k0_pay111 (ix2 r 0)) (softplus (logits q b K) (ix2 r 0)) 0 := by
      pointwise [diag, softplusDiag]
    rw [e, softplus_apply _ _ _ _ (h 0), before_apply, keep]
    by_cases hc : 0 < r
    · rw [if_pos hc, if_pos (by have : ((0 : Fin 256) : ℕ) < r := hc; simpa using this)]; rfl
    · rw [if_neg hc, if_neg (by have : ¬ ((0 : Fin 256) : ℕ) < r := hc; simpa using this)]; rfl

variable {T : Tile Ideal} {z : ℕ → ℝ} {s a : ℕ} {r : Fin 256}

theorem excl_row (h : IsRow T z s a r) (c : Fin 256) :
    excl k0_pay110 T (ix2 r c) = ((∑ i ∈ Finset.Ico (a + c + 1) (a + 256), keep z s i : ℝ) : EReal) := by
  have e : excl k0_pay110 T (ix2 r c) = ∑ x : Fin 256, T.sp (ix2 r x) * (k0_pay110 : FVec Ideal S256x256 .bf16) (ix2 x c) := by
    pointwise [excl]
  rw [e, ← sum_after, coe_sum]
  refine Finset.sum_congr rfl fun x _ => ?_
  rw [h.sp, after_apply]
  by_cases hx : c < x
  · rw [if_pos hx, if_pos hx, mul_one]
  · rw [if_neg hx, if_neg hx, mul_zero, EReal.coe_zero]

/-- One tile more: the running sum reaches back to the tile's first position. -/
theorem later_row (h : IsRow T z s a r) (ha : a + 256 ≤ 2048) (l : FVec Ideal S256x1 .f32)
    (hl : l (ix2 r 0) = (tail z s (a + 256) : EReal)) : later k0_pay110 T l (ix2 r 0) = (tail z s a : EReal) := by
  have e : later k0_pay110 T l (ix2 r 0) = l (ix2 r 0) + excl k0_pay110 T (ix2 r 0) + T.sp0 (ix2 r 0) := by pointwise [later]
  rw [e, excl_row h, h.sp0, hl, ← EReal.coe_add, ← EReal.coe_add, ← tail_split z s (by omega : a ≤ a + 256) ha,
    Finset.sum_eq_sum_Ico_succ_bot (by omega : a < a + 256)]
  congr 1
  simp only [Fin.val_zero, add_zero]
  ring

theorem weights_row (h : IsRow T z s a r) (ha : a + 256 ≤ 2048) (l : FVec Ideal S256x1 .f32)
    (hl : l (ix2 r 0) = (tail z s (a + 256) : EReal)) (c : Fin 256) :
    weights k0_pay110 T l (ix2 r c) = (weight z s (a + c) : EReal) := by
  have e : weights k0_pay110 T l (ix2 r c) = Ideal.exp (T.zs (ix2 r c) - excl k0_pay110 T (ix2 r c) - l (ix2 r 0)) := by
    pointwise [weights]
  rw [e, excl_row h, h.zs, hl, weight]
  by_cases hc : a + c < s
  · rw [if_pos hc, if_pos hc, ← EReal.coe_sub, ← EReal.coe_sub, Ideal.exp_coe,
      ← tail_split z s (by have := c.isLt; omega : a + c + 1 ≤ a + 256) ha]
    congr 2
    ring
  · rw [if_neg hc, if_neg hc, EReal.bot_sub, EReal.bot_sub]
    rfl

/-- One tile more: its weighted values join the sum. -/
theorem accum_row (h : IsRow T z s a r) (ha : a + 256 ≤ 2048) (l : FVec Ideal S256x1 .f32)
    (hl : l (ix2 r 0) = (tail z s (a + 256) : EReal)) (V : Vec Ideal S1x1x128x256 .bf16) (v : ℕ → EReal) (d : Fin 128)
    (hv : ∀ c : Fin 256, V (ix4 0 0 d c) = v (a + c)) (acc : FVec Ideal S256x128 .f32)
    (hacc : acc (ix2 r d) = ∑ i ∈ Finset.Ico (a + 256) 2048, (weight z s i : EReal) * v i) :
    accum k0_pay110 T V l acc (ix2 r d) = ∑ i ∈ Finset.Ico a 2048, (weight z s i : EReal) * v i := by
  have e : accum k0_pay110 T V l acc (ix2 r d) = acc (ix2 r d) + ∑ x : Fin 256, weights k0_pay110 T l (ix2 r x) * V (ix4 0 0 d x) := by
    pointwise [accum]
  rw [e, hacc, add_comm, ← Finset.sum_Ico_consecutive _ (by omega : a ≤ a + 256) ha, ← sum_tile]
  congr 1
  refine Finset.sum_congr rfl fun x _ => ?_
  rw [weights_row h ha l hl, hv]

/-- The head's output at row `r` and lane `d`. -/
theorem headOut_row (q : FVec Ideal S256x128 .bf16) (b : Elt Ideal .f32) (K V : ℕ → Vec Ideal S1x1x128x256 .bf16) (qi : ℕ) (hqi : qi < 8)
    (z : ℕ → ℝ) (v : ℕ → EReal) (r : Fin 256) (d : Fin 128)
    (hz : ∀ m, m < 8 → ∀ c : Fin 256, logits q b (K m) (ix2 r c) = (z (256 * m + c) : EReal))
    (hv : ∀ m, m < 8 → ∀ c : Fin 256, V m (ix4 0 0 d c) = v (256 * m + c)) :
    headOut q b K V qi (ix2 r d) = ∑ i ∈ Finset.range 2048, (weight z (256 * qi + r) i : EReal) * v i := by
  have hT : ∀ n, n ≤ qi → IsRow (tileAt q b K qi n) z (256 * qi + r) (256 * (qi - n)) r := by
    rintro (_ | n) hn
    · exact diag_isRow _ _ _ _ _ _ (hz qi hqi)
    · exact score_isRow _ _ _ _ _ _ _ (hz _ (by omega)) (by omega)
  have hend : ∀ i, 256 * (qi + 1) ≤ i → 256 * qi + r ≤ i := fun i hi => by have := r.isLt; omega
  have key : ∀ n, n ≤ qi + 1 →
      laters k0_pay110 (tileAt q b K qi) n (ix2 r 0) = (tail z (256 * qi + r) (256 * (qi + 1 - n)) : EReal) ∧
      accs k0_pay110 (tileAt q b K qi) V qi n (ix2 r d) =
        ∑ i ∈ Finset.Ico (256 * (qi + 1 - n)) 2048, (weight z (256 * qi + r) i : EReal) * v i := by
    intro n
    induction n with
    | zero =>
      intro _
      constructor
      · rw [tail_zero z (hend _ (by omega))]
        have e : laters k0_pay110 (tileAt q b K qi) 0 (ix2 r 0) = 0 := by pointwise [laters]
        rw [e, EReal.coe_zero]
      · have e : accs k0_pay110 (tileAt q b K qi) V qi 0 (ix2 r d) = 0 := by pointwise [accs]
        rw [e]
        refine (Finset.sum_eq_zero fun i hi => ?_).symm
        rw [weight, if_neg (by have := hend i (by have := (Finset.mem_Ico.mp hi).1; omega); omega), EReal.coe_zero, zero_mul]
    | succ n ih =>
      intro hn
      obtain ⟨hl, ha⟩ := ih (by omega)
      have e1 : qi + 1 - (n + 1) = qi - n := by omega
      have e2 : 256 * (qi + 1 - n) = 256 * (qi - n) + 256 := by omega
      rw [e2] at hl ha
      rw [e1]
      exact ⟨later_row (hT n (by omega)) (by omega) _ hl,
        accum_row (hT n (by omega)) (by omega) _ hl _ v d (hv _ (by omega)) _ ha⟩
  have := (key (qi + 1) le_rfl).2
  rw [Nat.sub_self, Nat.mul_zero, ← Finset.range_eq_Ico] at this
  exact this

end Cert.KernelIdeal.Attn
-- ==== Proof.Attn.RefValue.lean ====
module

public import proofs.«01_k».proof.Proof.Gen.ReferenceIdeal.Read
public import proofs.«01_k».proof.Proof.Attn.Row
public import Idealize.ShloMosaic.Lib.Pointwise
public import Idealize.ShloMosaic.Lib.WordCmp

@[expose] public section

set_option maxRecDepth 16384

noncomputable section

/-! The reference attention on the extended reals, read at an index: the weighted sum of the values, with the weights
    of `Row`. -/

namespace Cert.ReferenceIdeal.Attn

open Cert.ReferenceIdeal Cert.ReferenceIdeal.Gen Cert.ReferenceIdeal.Read Cert.Row
open Idealize.ShloMosaic

/-- A left fold of additions over the positions below `N` is their sum. -/
theorem foldl_add {N : ℕ} (f : Fin N → EReal) (x : EReal) : (List.finRange N).foldl (fun r n => r + f n) x = x + ∑ n, f n := by
  have key : ∀ (l : List (Fin N)) (x : EReal), l.foldl (fun r n => r + f n) x = x + (l.map f).sum := by
    intro l
    induction l with
    | nil => intro x; simp
    | cons a l ih => intro x; rw [List.foldl_cons, ih, List.map_cons, List.sum_cons, add_assoc]
  rw [key, Fin.sum_univ_def]

/-- A windowed sum from zero, at an index: the sum over the window's positions of the elements inside the operand. -/
theorem window_apply {s t u : Shape} {φ : FTy} (window strides lo hi : Fin s.rank → ℕ) (x : FVec Ideal s φ) (init : FVec Ideal u φ)
    (h : s.ReduceWindows window strides lo hi t) (hu : 0 < u.numel) (h0 : init (Shape.Idx.first hu) = (0 : EReal)) (j : t.Idx) :
    Host.reduceWindowAdd window strides lo hi x init h hu j =
      ∑ p : (⟨s.rank, window⟩ : Shape).Idx,
        (if hin : ∀ a, lo a ≤ (j (a.cast h.1.symm)).val * strides a + (p a).val ∧
            (j (a.cast h.1.symm)).val * strides a + (p a).val - lo a < s.size a then
          (x (fun a => ⟨(j (a.cast h.1.symm)).val * strides a + (p a).val - lo a, (hin a).2⟩) : EReal) else 0) := by
  rw [← Equiv.sum_comp (⟨s.rank, window⟩ : Shape).rowMajor.symm]
  refine (foldl_add (N := (⟨s.rank, window⟩ : Shape).numel) _ _).trans ?_
  rw [h0, zero_add]
  refine Finset.sum_congr rfl fun n _ => ?_
  split_ifs <;> rfl

/-- A sum over the window's positions is the sum over its one long axis. -/
theorem sum_window (g : (⟨4, ![1, 1, 1, 2048]⟩ : Shape).Idx → EReal) :
    ∑ p, g p = ∑ n : Fin 2048, g (ix4 0 0 0 n) := by
  refine (Fintype.sum_bijective (fun n : Fin 2048 => (ix4 0 0 0 n : (⟨4, ![1, 1, 1, 2048]⟩ : Shape).Idx)) ⟨?_, ?_⟩ _ _ fun _ => rfl).symm
  · intro x y hxy
    exact congrFun hxy 3
  · intro p
    refine ⟨p 3, funext fun a => ?_⟩
    have hp := (p a).isLt
    fin_cases a
    · exact Fin.ext (by have : (p 0).val < 1 := (p 0).isLt; show 0 = (p 0).val; omega)
    · exact Fin.ext (by have : (p 1).val < 1 := (p 1).isLt; show 0 = (p 1).val; omega)
    · exact Fin.ext (by have : (p 2).val < 1 := (p 2).isLt; show 0 = (p 2).val; omega)
    · rfl

/-- The sum over the offsets that stay below the end is the sum from a position on. -/
theorem sum_from (X : ℕ → ℝ) (i : Fin 2048) :
    ∑ n : Fin 2048, (if (i : ℕ) + n < 2048 then X (i + n) else 0) = ∑ j ∈ Finset.Ico (i : ℕ) 2048, X j := by
  rw [← Finset.sum_range (fun n => if (i : ℕ) + n < 2048 then X (i + n) else 0), Finset.sum_Ico_eq_sum_range, Finset.range_eq_Ico,
    ← Finset.sum_Ico_consecutive _ (Nat.zero_le (2048 - i)) (by omega : 2048 - (i : ℕ) ≤ 2048),
    Finset.sum_eq_zero (s := Finset.Ico (2048 - (i : ℕ)) 2048)
      (fun n hn => if_neg (by have := (Finset.mem_Ico.mp hn).1; omega)), add_zero, ← Finset.range_eq_Ico]
  exact Finset.sum_congr rfl fun n hn => if_pos (by have := Finset.mem_range.mp hn; omega)

variable (q : (⟨S16x2048x512, .bf16⟩ : BufTy).Contents (Elt Ideal)) (k v : (⟨S16x8x512x256, .bf16⟩ : BufTy).Contents (Elt Ideal))
  (w : (⟨S8, .f32⟩ : BufTy).Contents (Elt Ideal))

/-- A score of the reference: the product over the head's 64 dimensions, and the head's bias. -/
theorem scores_apply (b : Fin 16) (h : Fin 8) (s j : Fin 2048) :
    val_main_v17 q k w (ix4 b h s j) = ∑ d : Fin 64, q (ix3 b s ⟨h * 64 + d, by omega⟩) *
      k (ix4 b ⟨j / 256, by omega⟩ ⟨h * 64 + d, by omega⟩ ⟨j % 256, by omega⟩) + w (ix1 h) := by
  pointwise [val_main_v17, val_main_v16, val_main_v15, val_main_v14, val_main_v1, val_main_v0, val_main_v4, val_main_v3, val_main_v2]

theorem values_apply (b : Fin 16) (j : Fin 2048) (h : Fin 8) (d : Fin 64) :
    val_main_v7 v (ix4 b j h d) = v (ix4 b ⟨j / 256, by omega⟩ ⟨h * 64 + d, by omega⟩ ⟨j % 256, by omega⟩) := by
  pointwise [val_main_v7, val_main_v6, val_main_v5]

theorem mask_apply (s j : Fin 2048) : (val_main_v13 (F := Ideal)) (ix2 s j) = if j < s then 1#1 else 0#1 := by
  have e : (val_main_v13 (F := Ideal)) (ix2 s j) = IntOp.cmpi CmpIPredicate.slt (BitVec.ofNat 32 ↑j) (BitVec.ofNat 32 ↑s) := by
    pointwise [val_main_v13, val_main_v12, val_main_v11, val_main_v10, val_main_v9, val_main_v8]
  rw [e, WordCmp.cmpi_slt_ofNat (by have := j.isLt; omega) (by have := s.isLt; omega)]
  by_cases h : j < s
  · rw [if_pos h, decide_eq_true (by exact h)]; rfl
  · rw [if_neg h, decide_eq_false (by exact h)]; rfl

/-- The reference's softplus. -/
theorem splus_ref (x : ℝ) : (if (x : EReal) ≠ x then (x : EReal) else max (x : EReal) 0 + Ideal.log1p (Ideal.exp (-max (x : EReal) (-x)))) =
    (splus x : EReal) := by
  rw [if_neg (by simp), ← splus_ereal, zero_sub]
  rfl

variable (b : Fin 16) (h : Fin 8) (s : Fin 2048) (z : ℕ → ℝ) (hz : ∀ j : Fin 2048, val_main_v17 q k w (ix4 b h s j) = (z j : EReal))

include hz

theorem softplus_apply (j : Fin 2048) : val_main_v18 q k w (ix4 b h s j) = (splus (z j) : EReal) := by
  have e : val_main_v18 q k w (ix4 b h s j) = if val_main_v17 q k w (ix4 b h s j) ≠ val_main_v17 q k w (ix4 b h s j) then val_main_v17 q k w (ix4 b h s j)
      else max (val_main_v17 q k w (ix4 b h s j)) 0 + Ideal.log1p (Ideal.exp (-FloatOps.absf (F := Ideal) (φ := .f32) (val_main_v17 q k w (ix4 b h s j)))) := by
    pointwise [val_main_v18, val_main_call0_v11, val_main_call0_v10, val_main_call0_v9, val_main_call0_v8, val_main_call0_v7,
      val_main_call0_v6, val_main_call0_v5, val_main_call0_v4, val_main_call0_v3, val_main_call0_v2, val_main_call0_v1, val_main_call0_v0,
      val_main_call0_cst]
  rw [e, hz]
  exact splus_ref _

theorem logSigmoid_apply (j : Fin 2048) : val_main_v22 q k w (ix4 b h s j) = ((z j - splus (z j) : ℝ) : EReal) := by
  have e : val_main_v22 q k w (ix4 b h s j) = -(if -val_main_v17 q k w (ix4 b h s j) ≠ -val_main_v17 q k w (ix4 b h s j) then -val_main_v17 q k w (ix4 b h s j)
      else max (-val_main_v17 q k w (ix4 b h s j)) 0 + Ideal.log1p (Ideal.exp (-FloatOps.absf (F := Ideal) (φ := .f32) (-val_main_v17 q k w (ix4 b h s j))))) := by
    pointwise [val_main_v22, val_main_call3_v1, val_main_call3_v0, val_main_call3_call0_v11, val_main_call3_call0_v10, val_main_call3_call0_v9,
      val_main_call3_call0_v8, val_main_call3_call0_v7, val_main_call3_call0_v6, val_main_call3_call0_v5, val_main_call3_call0_v4,
      val_main_call3_call0_v3, val_main_call3_call0_v2, val_main_call3_call0_v1, val_main_call3_call0_v0, val_main_call3_call0_cst]
  have e2 := splus_ref (-z j)
  rw [EReal.coe_neg, splus_neg] at e2
  rw [e, hz]
  refine (congrArg Neg.neg e2).trans ?_
  rw [← EReal.coe_neg, neg_sub]

theorem kept_apply (j : Fin 2048) : val_main_v19 q k w (ix4 b h s j) = (keep z s j : EReal) := by
  have e : val_main_v19 q k w (ix4 b h s j) = Scalar.select ((val_main_v13 (F := Ideal)) (ix2 s j)) (val_main_v18 q k w (ix4 b h s j)) 0 := by
    pointwise [val_main_v19, val_main_call1_v0, val_main_call1_v1, val_main_call1_v2, val_main_cst]
    exact congrArg (Scalar.select _ _) Ideal.ofBits_zero_f32
  rw [e, mask_apply, softplus_apply q k w b h s z hz, keep]
  by_cases hc : j < s
  · rw [if_pos hc, if_pos (by exact hc)]; rfl
  · rw [if_neg hc, if_neg (by exact hc)]; rfl

omit hz in
/-- The running sum from the far end: at each position, the sum from that position on. -/
theorem cumsum_apply (X : ℕ → ℝ) (hX : ∀ j : Fin 2048, val_main_v19 q k w (ix4 b h s j) = (X j : EReal)) (i : Fin 2048) :
    val_main_v20 q k w (ix4 b h s i) = ((∑ j ∈ Finset.Ico (i : ℕ) 2048, X j : ℝ) : EReal) := by
  unfold val_main_v20
  generalize val_main_v19 q k w = y at hX
  have h0 : (val_main_call2_v0 (F := Ideal)) (Shape.Idx.first h_S_) = 0 := Ideal.ofBits_zero_f32
  refine (window_apply (s := S16x8x2048x2048) (t := S16x8x2048x2048) _ _ _ _ y _ _ _ h0 _).trans ?_
  refine (sum_window _).trans ?_
  rw [← sum_from, coe_sum]
  refine Finset.sum_congr rfl fun n _ => ?_
  have hb := b.isLt
  have hh := h.isLt
  have hs := s.isLt
  by_cases hi : (i : ℕ) + n < 2048
  · rw [dif_pos, if_pos hi]
    · rw [← hX ⟨i + n, hi⟩]
      congr 1
      funext a
      fin_cases a
      · exact Fin.ext (by show (b : ℕ) * 1 + 0 - 0 = b; omega)
      · exact Fin.ext (by show (h : ℕ) * 1 + 0 - 0 = h; omega)
      · exact Fin.ext (by show (s : ℕ) * 1 + 0 - 0 = s; omega)
      · exact Fin.ext (by show (i : ℕ) * 1 + n - 0 = i + n; omega)
    · intro a
      fin_cases a
      · exact ⟨Nat.zero_le _, by show (b : ℕ) * 1 + 0 - 0 < 16; omega⟩
      · exact ⟨Nat.zero_le _, by show (h : ℕ) * 1 + 0 - 0 < 8; omega⟩
      · exact ⟨Nat.zero_le _, by show (s : ℕ) * 1 + 0 - 0 < 2048; omega⟩
      · exact ⟨Nat.zero_le _, by show (i : ℕ) * 1 + n - 0 < 2048; omega⟩
  · rw [dif_neg, if_neg hi, EReal.coe_zero]
    intro hin
    have h3 := (hin 3).2
    have h3' : (i : ℕ) * 1 + n - 0 < 2048 := h3
    omega

theorem weight_apply (j : Fin 2048) : val_main_v25 q k w (ix4 b h s j) = (weight z s j : EReal) := by
  have e : val_main_v25 q k w (ix4 b h s j) = Scalar.select ((val_main_v13 (F := Ideal)) (ix2 s j))
      (Ideal.exp (val_main_v22 q k w (ix4 b h s j) - (val_main_v20 q k w (ix4 b h s j) - val_main_v19 q k w (ix4 b h s j)))) 0 := by
    pointwise [val_main_v25, val_main_v24, val_main_v23, val_main_v21, val_main_call4_v0, val_main_call4_v1, val_main_call4_v2, val_main_cst_0]
    exact congrArg (Scalar.select _ _) Ideal.ofBits_zero_f32
  rw [e, mask_apply, logSigmoid_apply q k w b h s z hz, kept_apply q k w b h s z hz,
    cumsum_apply q k w b h s _ (kept_apply q k w b h s z hz), weight]
  by_cases hc : j < s
  · rw [if_pos hc, if_pos (by exact hc), ← EReal.coe_sub, ← EReal.coe_sub, Ideal.exp_coe]
    refine congrArg (fun x : ℝ => ((Real.exp x : ℝ) : EReal)) ?_
    have := Finset.sum_eq_sum_Ico_succ_bot j.isLt (keep z s)
    rw [this, tail]
    ring
  · rw [if_neg hc, if_neg (by exact hc)]; rfl

/-- The reference's result at batch `b`, position `s`, head `h`, dimension `d`. -/
theorem result_apply (d : Fin 64) (val : ℕ → EReal)
    (hv : ∀ j : Fin 2048, v (ix4 b ⟨j / 256, by omega⟩ ⟨h * 64 + d, by omega⟩ ⟨j % 256, by omega⟩) = val j) :
    val_main_v28 q k v w (ix3 b s ⟨h * 64 + d, by omega⟩) = ∑ j ∈ Finset.range 2048, (weight z s j : EReal) * val j := by
  have e : val_main_v28 q k v w (ix3 b s ⟨h * 64 + d, by omega⟩) =
      ∑ x : Fin 2048, val_main_v7 v (ix4 b x h d) * val_main_v25 q k w (ix4 b h s x) := by
    pointwise [val_main_v28, val_main_v27, val_main_v26]
  rw [e, Finset.sum_range]
  refine Finset.sum_congr rfl fun x _ => ?_
  rw [values_apply, weight_apply q k w b h s z hz, hv, mul_comm]

end Cert.ReferenceIdeal.Attn
-- ==== Proof.Attn.BlockValue.lean ====
module

public import proofs.«01_k».proof.Proof.Attn.Body
public import proofs.«01_k».proof.Proof.Attn.HeadValue
public import proofs.«01_k».proof.Proof.Attn.RefValue

@[expose] public section

set_option maxRecDepth 16384

noncomputable section

/-! The block stored at a grid point is the reference's result there. -/

namespace Cert.KernelIdeal.Attn

open Cert.KernelIdeal Cert.KernelIdeal.Gen Cert.Row
open Idealize.ShloMosaic

/-- A product over 128 lanes with the upper ones masked is a product over 64. -/
theorem sum_low (f g : Fin 128 → EReal) :
    ∑ l : Fin 128, (if (l : ℕ) < 64 then f l else 0) * g l = ∑ d : Fin 64, f ⟨0 + d, by omega⟩ * g ⟨0 + d, by omega⟩ := by
  rw [Fin.sum_univ_add (a := 64) (b := 64) (fun l : Fin (64 + 64) => (if (l : ℕ) < 64 then f l else 0) * g l),
    Finset.sum_eq_zero (s := Finset.univ) (f := fun i : Fin 64 => (if ((Fin.natAdd 64 i : Fin (64 + 64)) : ℕ) < 64 then f (Fin.natAdd 64 i) else 0) * g (Fin.natAdd 64 i))
      (fun i _ => by rw [if_neg (by rw [Fin.val_natAdd]; omega), zero_mul]), add_zero]
  refine Finset.sum_congr rfl fun d _ => ?_
  have e : (Fin.castAdd 64 d : Fin (64 + 64)) = (⟨0 + d, by omega⟩ : Fin 128) := Fin.ext (by simp)
  rw [e, if_pos (by simp)]

/-- And with the lower ones masked. -/
theorem sum_high (f g : Fin 128 → EReal) :
    ∑ l : Fin 128, (if (l : ℕ) < 64 then 0 else f l) * g l = ∑ d : Fin 64, f ⟨64 + d, by omega⟩ * g ⟨64 + d, by omega⟩ := by
  rw [Fin.sum_univ_add (a := 64) (b := 64) (fun l : Fin (64 + 64) => (if (l : ℕ) < 64 then 0 else f l) * g l),
    Finset.sum_eq_zero (s := Finset.univ) (f := fun i : Fin 64 => (if ((Fin.castAdd 64 i : Fin (64 + 64)) : ℕ) < 64 then 0 else f (Fin.castAdd 64 i)) * g (Fin.castAdd 64 i))
      (fun i _ => by rw [if_pos (by rw [Fin.val_castAdd]; omega), zero_mul]), zero_add]
  refine Finset.sum_congr rfl fun d _ => ?_
  have e : (Fin.natAdd 64 d : Fin (64 + 64)) = (⟨64 + d, by omega⟩ : Fin 128) := Fin.ext rfl
  rw [e, if_neg (by simp)]

theorem lane_apply (r : Fin 256) (l : Fin 128) : k0_pay107 (ix2 r l) = if (l : ℕ) < 64 then 1#1 else 0#1 := by
  have e : k0_pay107 (ix2 r l) = IntOp.cmpi CmpIPredicate.slt (BitVec.ofNat 32 ↑l) 64#32 := by pointwise [k0_pay107]
  rw [e, show (64#32 : BitVec 32) = BitVec.ofNat 32 64 from rfl, WordCmp.cmpi_slt_ofNat (by have := l.isLt; omega) (by omega)]
  by_cases h : (l : ℕ) < 64
  · rw [if_pos h, decide_eq_true h]; rfl
  · rw [if_neg h, decide_eq_false h]; rfl

theorem low_apply (x1 : Vec Ideal S1x256x128 .bf16) (r : Fin 256) (l : Fin 128) :
    k0_pay108 (queries x1) (ix2 r l) = if (l : ℕ) < 64 then x1 (ix3 0 r l) else 0 := by
  have e : k0_pay108 (queries x1) (ix2 r l) = Scalar.select (k0_pay107 (ix2 r l)) (x1 (ix3 0 r l)) 0 := by
    pointwise [k0_pay108, queries, k0_pay106]
  rw [e, lane_apply]
  by_cases h : (l : ℕ) < 64 <;> simp [h, Scalar.select]

theorem high_apply (x1 : Vec Ideal S1x256x128 .bf16) (r : Fin 256) (l : Fin 128) :
    k0_pay109 (queries x1) (ix2 r l) = if (l : ℕ) < 64 then 0 else x1 (ix3 0 r l) := by
  have e : k0_pay109 (queries x1) (ix2 r l) = Scalar.select (k0_pay107 (ix2 r l)) 0 (x1 (ix3 0 r l)) := by
    pointwise [k0_pay109, queries, k0_pay106]
  rw [e, lane_apply]
  by_cases h : (l : ℕ) < 64 <;> simp [h, Scalar.select]

theorem rowTile_apply (x : Vec Ideal S1x8x128x256 .bf16) (m : ℕ) (l : Fin 128) (c : Fin 256) :
    rowTile x m (ix4 0 0 l c) = x (ix4 0 ⟨m % 8, by omega⟩ l c) := by
  pointwise [rowTile]

theorem off1 (i : grid0.Coords) : k0_off1 i 0 = 2 * (i 1 : ℕ) :=
  (by decide +kernel : ∀ x : Fin 4, (Scalar.indexCast (Scalar.muli 2#32 (BitVec.ofNat 32 x.val)) : Index).toNat = 2 * x.val) (i 1)
theorem off2 (i : grid0.Coords) : k0_off2 i 0 = 2 * (i 1 : ℕ) + 1 :=
  (by decide +kernel : ∀ x : Fin 4, (Scalar.indexCast (Scalar.addi (Scalar.muli 2#32 (BitVec.ofNat 32 x.val)) 1#32) : Index).toNat = 2 * x.val + 1) (i 1)

theorem biasA_eq (i : grid0.Coords) (x0 : Vec Ideal S8 .f32) (h : Fin 8) (hh : (h : ℕ) = 2 * (i 1 : ℕ)) : biasA i x0 = x0 (ix1 h) := by
  have e : biasA i x0 = x0 (ix1 ⟨k0_off1 i 0, by rw [off1, ← hh]; exact h.isLt⟩) := by
    unfold biasA
    pointwise []
  rw [e]
  exact congrArg (fun j => x0 (ix1 j)) (Fin.ext ((off1 i).trans hh.symm))

theorem biasB_eq (i : grid0.Coords) (x0 : Vec Ideal S8 .f32) (h : Fin 8) (hh : (h : ℕ) = 2 * (i 1 : ℕ) + 1) : biasB i x0 = x0 (ix1 h) := by
  have e : biasB i x0 = x0 (ix1 ⟨k0_off2 i 0, by rw [off2, ← hh]; exact h.isLt⟩) := by
    unfold biasB
    pointwise []
  rw [e]
  exact congrArg (fun j => x0 (ix1 j)) (Fin.ext ((off2 i).trans hh.symm))

variable (q : (⟨S16x2048x512, .bf16⟩ : BufTy).Contents (Elt Ideal)) (k v : (⟨S16x8x512x256, .bf16⟩ : BufTy).Contents (Elt Ideal))
  (w : (⟨S8, .f32⟩ : BufTy).Contents (Elt Ideal))

/-- The blocks loaded at batch `b`, head pair `hp` and query block `qi` are the arrays there. -/
structure Loaded (b : Fin 16) (hp : Fin 4) (qi : Fin 8) (x0 : Vec Ideal S8 .f32) (x1 : Vec Ideal S1x256x128 .bf16)
    (x2 x3 : Vec Ideal S1x8x128x256 .bf16) : Prop where
  bias : ∀ h : Fin 8, x0 (ix1 h) = w (ix1 h)
  query : ∀ (r : Fin 256) (l : Fin 128), x1 (ix3 0 r l) = q (ix3 b ⟨256 * qi + r, by omega⟩ ⟨128 * hp + l, by omega⟩)
  key : ∀ (m : Fin 8) (l : Fin 128) (c : Fin 256), x2 (ix4 0 m l c) = k (ix4 b m ⟨128 * hp + l, by omega⟩ c)
  value : ∀ (m : Fin 8) (l : Fin 128) (c : Fin 256), x3 (ix4 0 m l c) = v (ix4 b m ⟨128 * hp + l, by omega⟩ c)

/-- One head of the block: lanes `o, …, o + 63`, the reference's head `h`. -/
theorem head_eq (b : Fin 16) (hp : Fin 4) (qi : Fin 8) (x0 : Vec Ideal S8 .f32) (x1 : Vec Ideal S1x256x128 .bf16)
    (x2 x3 : Vec Ideal S1x8x128x256 .bf16) (L : Loaded q k v w b hp qi x0 x1 x2 x3) (h : Fin 8) (o : ℕ) (ho : o ≤ 64)
    (hh : 128 * (hp : ℕ) + o = h * 64) (qm : FVec Ideal S256x128 .bf16) (bias : Elt Ideal .f32) (r : Fin 256)
    (hlog : ∀ m c, logits qm bias (rowTile x2 m) (ix2 r c) =
      ∑ d : Fin 64, x1 (ix3 0 r ⟨o + d, by omega⟩) * x2 (ix4 0 ⟨m % 8, by omega⟩ ⟨o + d, by omega⟩ c) + x0 (ix1 h))
    (hfin : ∀ j : Fin 2048, ∃ x : ℝ, ReferenceIdeal.Read.val_main_v17 q k w (ix4 b h ⟨256 * qi + r, by omega⟩ j) = (x : EReal)) (d : Fin 64) :
    headOut qm bias (rowTile x2) (rowTile x3) qi (ix2 r ⟨o + d, by omega⟩) =
      ReferenceIdeal.Read.val_main_v28 q k v w (ix3 b ⟨256 * qi + r, by omega⟩ ⟨h * 64 + d, by omega⟩) := by
  choose z' hz' using hfin
  have ez : ∀ (j : ℕ) (hj : j < 2048), (if hj : j < 2048 then z' ⟨j, hj⟩ else 0) = z' ⟨j, hj⟩ := fun j hj => dif_pos hj
  have ev : ∀ (j : ℕ) (hj : j < 2048), (if hj : j < 2048 then v (ix4 b ⟨j / 256, by omega⟩ ⟨h * 64 + d, by omega⟩ ⟨j % 256, by omega⟩) else 0) =
      v (ix4 b ⟨j / 256, by omega⟩ ⟨h * 64 + d, by omega⟩ ⟨j % 256, by omega⟩) := fun j hj => dif_pos hj
  rw [headOut_row qm bias (rowTile x2) (rowTile x3) qi qi.isLt (fun j => if hj : j < 2048 then z' ⟨j, hj⟩ else 0)
    (fun j => if hj : j < 2048 then v (ix4 b ⟨j / 256, by omega⟩ ⟨h * 64 + d, by omega⟩ ⟨j % 256, by omega⟩) else 0) r ⟨o + d, by omega⟩]
  · refine (ReferenceIdeal.Attn.result_apply q k v w b h ⟨256 * qi + r, by omega⟩ _ (fun j => ?_) d _ (fun j => ?_)).symm
    · rw [hz']
      exact congrArg _ (ez j j.isLt).symm
    · exact (ev j j.isLt).symm
  · intro m hm c
    rw [hlog]
    refine Eq.trans ?_ ((hz' ⟨256 * m + c, by omega⟩).trans (congrArg _ (ez _ (by omega)).symm))
    rw [ReferenceIdeal.Attn.scores_apply, L.bias]
    congr 1
    refine Finset.sum_congr rfl fun x _ => ?_
    rw [L.query, L.key]
    congr 2
    · congr 1
      exact Fin.ext (by show 128 * (hp : ℕ) + (o + x) = h * 64 + x; omega)
    · congr 1
      · exact Fin.ext (by show m % 8 = (256 * m + c) / 256; omega)
      · exact Fin.ext (by show 128 * (hp : ℕ) + (o + x) = h * 64 + x; omega)
      · exact Fin.ext (by show (c : ℕ) = (256 * m + c) % 256; omega)
  · intro m hm c
    rw [ev _ (by omega), rowTile_apply, L.value]
    congr 2
    · exact Fin.ext (by show m % 8 = (256 * m + c) / 256; omega)
    · exact Fin.ext (by show 128 * (hp : ℕ) + (o + d) = h * 64 + d; omega)
    · exact Fin.ext (by show (c : ℕ) = (256 * m + c) % 256; omega)

/-- The whole block. -/
theorem block_eq (i : grid0.Coords) (b : Fin 16) (hp : Fin 4) (qi : Fin 8) (hi1 : (i 1 : ℕ) = hp) (hi2 : (i 2 : ℕ) = qi) (x0 : Vec Ideal S8 .f32)
    (x1 : Vec Ideal S1x256x128 .bf16) (x2 x3 : Vec Ideal S1x8x128x256 .bf16) (L : Loaded q k v w b hp qi x0 x1 x2 x3)
    (hfin : ∀ h s j, ∃ x : ℝ, ReferenceIdeal.Read.val_main_v17 q k w (ix4 b h s j) = (x : EReal)) (r : Fin 256) (l : Fin 128) :
    blockVal i x0 x1 x2 x3 (ix3 0 r l) =
      ReferenceIdeal.Read.val_main_v28 q k v w (ix3 b ⟨256 * qi + r, by omega⟩ ⟨128 * hp + l, by omega⟩) := by
  have e : blockVal i x0 x1 x2 x3 (ix3 0 r l) = Scalar.select (k0_pay107 (ix2 r l))
      (headOut (k0_pay108 (queries x1)) (biasA i x0) (rowTile x2) (rowTile x3) (i 2) (ix2 r l))
      (headOut (k0_pay109 (queries x1)) (biasB i x0) (rowTile x2) (rowTile x3) (i 2) (ix2 r l)) := by
    pointwise [blockVal]
  rw [e, lane_apply, hi2]
  by_cases hl : (l : ℕ) < 64
  · rw [if_pos hl]
    refine Eq.trans ?_ ((head_eq q k v w b hp qi x0 x1 x2 x3 L ⟨2 * hp, by omega⟩ 0 (by omega) (by show 128 * (hp : ℕ) + 0 = 2 * hp * 64; omega) (k0_pay108 (queries x1)) (biasA i x0) r
      (fun m c => ?_) (fun j => hfin _ _ j) ⟨l, hl⟩).trans ?_)
    · exact congrArg (headOut _ _ _ _ _) (congrArg (ix2 r) (Fin.ext (by show (l : ℕ) = 0 + l; omega)))
    · rw [logits_apply, biasA_eq i x0 ⟨2 * hp, by omega⟩ (by rw [hi1])]
      simp only [low_apply, rowTile_apply]
      rw [sum_low (fun l => x1 (ix3 0 r l)) (fun l => x2 (ix4 0 ⟨m % 8, by omega⟩ l c))]
    · congr 2
      exact Fin.ext (by show 2 * (hp : ℕ) * 64 + l = 128 * hp + l; omega)
  · rw [if_neg hl]
    refine Eq.trans ?_ ((head_eq q k v w b hp qi x0 x1 x2 x3 L ⟨2 * hp + 1, by omega⟩ 64 (by omega) (by show 128 * (hp : ℕ) + 64 = (2 * hp + 1) * 64; omega) (k0_pay109 (queries x1)) (biasB i x0) r
      (fun m c => ?_) (fun j => hfin _ _ j) ⟨l - 64, by omega⟩).trans ?_)
    · exact congrArg (headOut _ _ _ _ _) (congrArg (ix2 r) (Fin.ext (by show (l : ℕ) = 64 + (l - 64); omega)))
    · rw [logits_apply, biasB_eq i x0 ⟨2 * hp + 1, by omega⟩ (by rw [hi1])]
      simp only [high_apply, rowTile_apply]
      rw [sum_high (fun l => x1 (ix3 0 r l)) (fun l => x2 (ix4 0 ⟨m % 8, by omega⟩ l c))]
    · congr 2
      exact Fin.ext (by show (2 * (hp : ℕ) + 1) * 64 + (l - 64) = 128 * hp + l; omega)

end Cert.KernelIdeal.Attn
-- ==== Proof.Attn.ArrayValue.lean ====
module

public import proofs.«01_k».proof.Proof.Attn.BlockValue

@[expose] public section

set_option maxRecDepth 16384

noncomputable section

/-! The attention's result array is the reference's, whatever the values, given finite scores. -/

namespace Cert.KernelIdeal.Attn

open Cert.KernelIdeal Cert.KernelIdeal.Gen Cert.Row
open Idealize.ShloMosaic Idealize.ShloMosaic.TcCoe Idealize.SL.Sem

variable (m : (ℓ : Loc nD τ sig) → Buf (Elt Ideal) ℓ) (ρ : Dev nD → PrngReg) (c : Dev nD)

/-- The reference's result on the kernel's own arguments. -/
abbrev result : Buf (Elt Ideal) ((c : Thread nD τ).loc main_v0) :=
  ReferenceIdeal.Read.val_main_v28 (F := Ideal) (m ((c : Thread nD τ).loc main_arg0)) (m ((c : Thread nD τ).loc main_arg1))
    (m ((c : Thread nD τ).loc main_arg2)) (m ((c : Thread nD τ).loc main_arg3))

/-- Every score the reference forms from the kernel's arguments is finite. -/
def Finite : Prop := ∀ b h s j, ∃ x : ℝ, ReferenceIdeal.Read.val_main_v17 (F := Ideal) (m ((c : Thread nD τ).loc main_arg0))
  (m ((c : Thread nD τ).loc main_arg1)) (m ((c : Thread nD τ).loc main_arg3)) (ix4 b h s j) = (x : EReal)

/-- Where each window's block starts at a grid point. -/
theorem idx0 (i : grid0.Coords) : cc0_transform_0 i = ![0] := rfl
theorem idx1 (i : grid0.Coords) : cc0_transform_1 i = ![(i 0 : ℕ), (i 2 : ℕ), (i 1 : ℕ)] := by
  have h0 : (i 0 : ℕ) < 16 := (i 0).isLt
  have h1 : (i 1 : ℕ) < 4 := (i 1).isLt
  have h2 : (i 2 : ℕ) < 8 := (i 2).isLt
  simp only [cc0_transform_1, BitVec.toNat_ofNat]
  rw [Nat.mod_eq_of_lt (by omega), Nat.mod_eq_of_lt (by omega), Nat.mod_eq_of_lt (by omega)]
theorem idx4 (i : grid0.Coords) : cc0_transform_4 i = ![(i 0 : ℕ), (i 2 : ℕ), (i 1 : ℕ)] := idx1 i
theorem idx2 (i : grid0.Coords) : cc0_transform_2 i = ![(i 0 : ℕ), 0, (i 1 : ℕ), 0] := by
  have h0 : (i 0 : ℕ) < 16 := (i 0).isLt
  have h1 : (i 1 : ℕ) < 4 := (i 1).isLt
  simp only [cc0_transform_2, BitVec.toNat_ofNat]
  rw [Nat.mod_eq_of_lt (by omega : (i 0 : ℕ) < 2 ^ 32), Nat.mod_eq_of_lt (by omega : (i 1 : ℕ) < 2 ^ 32)]
theorem idx3 (i : grid0.Coords) : cc0_transform_3 i = ![(i 0 : ℕ), 0, (i 1 : ℕ), 0] := idx2 i

theorem blk0_apply (t : Fin cfg0.N) (h : Fin 8) : iblk m c 0 t (ix1 h) = m ((c : Thread nD τ).loc main_arg3) (ix1 h) := by
  refine congrArg (m ((c : Thread nD τ).loc main_arg3)) (funext fun a => ?_)
  fin_cases a
  exact Fin.ext (by show 0 * 8 + 1 * (h : ℕ) = h; omega)

theorem blk1_apply (t : Fin cfg0.N) (r : Fin 256) (l : Fin 128) (b : Fin 16) (hp : Fin 4) (qi : Fin 8)
    (h0 : (grid0.coords t 0 : ℕ) = b) (h1 : (grid0.coords t 1 : ℕ) = hp) (h2 : (grid0.coords t 2 : ℕ) = qi) :
    iblk m c 1 t (ix3 0 r l) = m ((c : Thread nD τ).loc main_arg0) (ix3 b ⟨256 * qi + r, by omega⟩ ⟨128 * hp + l, by omega⟩) := by
  refine congrArg (m ((c : Thread nD τ).loc main_arg0)) (funext fun a => ?_)
  have hx := idx1 (grid0.coords t)
  rw [h0, h1, h2] at hx
  fin_cases a
  · exact Fin.ext (by show cc0_transform_1 (grid0.coords t) 0 * 1 + 1 * 0 = b; rw [hx]; show (b : ℕ) * 1 + 1 * 0 = b; omega)
  · exact Fin.ext (by show cc0_transform_1 (grid0.coords t) 1 * 256 + 1 * r = 256 * qi + r; rw [hx]; show (qi : ℕ) * 256 + 1 * r = 256 * qi + r; omega)
  · exact Fin.ext (by show cc0_transform_1 (grid0.coords t) 2 * 128 + 1 * l = 128 * hp + l; rw [hx]; show (hp : ℕ) * 128 + 1 * l = 128 * hp + l; omega)

theorem blk2_apply (t : Fin cfg0.N) (n : Fin 8) (l : Fin 128) (x : Fin 256) (b : Fin 16) (hp : Fin 4)
    (h0 : (grid0.coords t 0 : ℕ) = b) (h1 : (grid0.coords t 1 : ℕ) = hp) :
    iblk m c 2 t (ix4 0 n l x) = m ((c : Thread nD τ).loc main_arg1) (ix4 b n ⟨128 * hp + l, by omega⟩ x) := by
  refine congrArg (m ((c : Thread nD τ).loc main_arg1)) (funext fun a => ?_)
  have hx := idx2 (grid0.coords t)
  rw [h0, h1] at hx
  fin_cases a
  · exact Fin.ext (by show cc0_transform_2 (grid0.coords t) 0 * 1 + 1 * 0 = b; rw [hx]; show (b : ℕ) * 1 + 1 * 0 = b; omega)
  · exact Fin.ext (by show cc0_transform_2 (grid0.coords t) 1 * 8 + 1 * n = n; rw [hx]; show 0 * 8 + 1 * (n : ℕ) = n; omega)
  · exact Fin.ext (by show cc0_transform_2 (grid0.coords t) 2 * 128 + 1 * l = 128 * hp + l; rw [hx]; show (hp : ℕ) * 128 + 1 * l = 128 * hp + l; omega)
  · exact Fin.ext (by show cc0_transform_2 (grid0.coords t) 3 * 256 + 1 * x = x; rw [hx]; show 0 * 256 + 1 * (x : ℕ) = x; omega)

theorem blk3_apply (t : Fin cfg0.N) (n : Fin 8) (l : Fin 128) (x : Fin 256) (b : Fin 16) (hp : Fin 4)
    (h0 : (grid0.coords t 0 : ℕ) = b) (h1 : (grid0.coords t 1 : ℕ) = hp) :
    iblk m c 3 t (ix4 0 n l x) = m ((c : Thread nD τ).loc main_arg2) (ix4 b n ⟨128 * hp + l, by omega⟩ x) := by
  refine congrArg (m ((c : Thread nD τ).loc main_arg2)) (funext fun a => ?_)
  have hx := idx3 (grid0.coords t)
  rw [h0, h1] at hx
  fin_cases a
  · exact Fin.ext (by show cc0_transform_3 (grid0.coords t) 0 * 1 + 1 * 0 = b; rw [hx]; show (b : ℕ) * 1 + 1 * 0 = b; omega)
  · exact Fin.ext (by show cc0_transform_3 (grid0.coords t) 1 * 8 + 1 * n = n; rw [hx]; show 0 * 8 + 1 * (n : ℕ) = n; omega)
  · exact Fin.ext (by show cc0_transform_3 (grid0.coords t) 2 * 128 + 1 * l = 128 * hp + l; rw [hx]; show (hp : ℕ) * 128 + 1 * l = 128 * hp + l; omega)
  · exact Fin.ext (by show cc0_transform_3 (grid0.coords t) 3 * 256 + 1 * x = x; rw [hx]; show 0 * 256 + 1 * (x : ℕ) = x; omega)

/-- What a grid point writes back is its block of the reference's result. -/
theorem flushed_eq (hfin : Finite m c) (t : Fin cfg0.N) :
    (dats m 0 c).flushed 4 t = ((cfg0.win 4).blk t).view.read (Elt Ideal) (result m c) := by
  show (cfg0.win 4).cut (grid0.coords t) ((dats m 0 c).after 4 t) = _
  rw [after0_4]
  funext j
  obtain ⟨r, l, rfl⟩ : ∃ (r : Fin 256) (l : Fin 128), j = ix3 0 r l := by
    refine ⟨⟨(j 1).val, (j 1).isLt⟩, ⟨(j 2).val, (j 2).isLt⟩, funext fun a => ?_⟩
    fin_cases a
    · exact Fin.ext (by have : (j 0).val < 1 := (j 0).isLt; show (j 0).val = 0; omega)
    · rfl
    · rfl
  have h0 : (grid0.coords t 0 : ℕ) < 16 := (grid0.coords t 0).isLt
  have h1 : (grid0.coords t 1 : ℕ) < 4 := (grid0.coords t 1).isLt
  have h2 : (grid0.coords t 2 : ℕ) < 8 := (grid0.coords t 2).isLt
  refine (block_eq _ _ _ _ (grid0.coords t) ⟨_, h0⟩ ⟨_, h1⟩ ⟨_, h2⟩ rfl rfl _ _ _ _
    ⟨blk0_apply m c t, fun r l => blk1_apply m c t r l ⟨_, h0⟩ ⟨_, h1⟩ ⟨_, h2⟩ rfl rfl rfl,
      fun n l x => blk2_apply m c t n l x ⟨_, h0⟩ ⟨_, h1⟩ rfl rfl, fun n l x => blk3_apply m c t n l x ⟨_, h0⟩ ⟨_, h1⟩ rfl rfl⟩
    (fun h s j => hfin _ h s j) r l).trans ?_
  refine congrArg (result m c) (funext fun a => ?_)
  have hx := idx4 (grid0.coords t)
  fin_cases a
  · exact Fin.ext (by show (grid0.coords t 0 : ℕ) = cc0_transform_4 (grid0.coords t) 0 * 1 + 1 * 0; rw [hx]; show (grid0.coords t 0 : ℕ) = (grid0.coords t 0 : ℕ) * 1 + 1 * 0; omega)
  · exact Fin.ext (by show 256 * (grid0.coords t 2 : ℕ) + r = cc0_transform_4 (grid0.coords t) 1 * 256 + 1 * r; rw [hx]; show 256 * (grid0.coords t 2 : ℕ) + r = (grid0.coords t 2 : ℕ) * 256 + 1 * r; omega)
  · exact Fin.ext (by show 128 * (grid0.coords t 1 : ℕ) + l = cc0_transform_4 (grid0.coords t) 2 * 128 + 1 * l; rw [hx]; show 128 * (grid0.coords t 1 : ℕ) + l = (grid0.coords t 1 : ℕ) * 128 + 1 * l; omega)

/-- The grid's points run through the query blocks, then the head pairs, then the batch. -/
theorem coords_eq : ∀ t : Fin cfg0.N, (grid0.coords t 0 : ℕ) = t / 32 ∧ (grid0.coords t 1 : ℕ) = t / 8 % 4 ∧ (grid0.coords t 2 : ℕ) = t % 8 :=
  (by decide +kernel : ∀ t : Fin grid0.N, (grid0.coords t 0 : ℕ) = t / 32 ∧ (grid0.coords t 1 : ℕ) = t / 8 % 4 ∧ (grid0.coords t 2 : ℕ) = t % 8)

/-- The grid point of a batch, a head pair and a query block. -/
theorem coords_onto (b : Fin 16) (hp : Fin 4) (qi : Fin 8) : ∃ t : Fin cfg0.N,
    (grid0.coords t 0 : ℕ) = b ∧ (grid0.coords t 1 : ℕ) = hp ∧ (grid0.coords t 2 : ℕ) = qi := by
  have hN : cfg0.N = 512 := by decide +kernel
  have ht : ((b : ℕ) * 4 + hp) * 8 + qi < cfg0.N := by rw [hN]; omega
  obtain ⟨e0, e1, e2⟩ := coords_eq ⟨_, ht⟩
  refine ⟨⟨_, ht⟩, e0.trans ?_, e1.trans ?_, e2.trans ?_⟩
  · show (((b : ℕ) * 4 + hp) * 8 + qi) / 32 = b; omega
  · show (((b : ℕ) * 4 + hp) * 8 + qi) / 8 % 4 = hp; omega
  · show (((b : ℕ) * 4 + hp) * 8 + qi) % 8 = qi; omega

theorem mem_blk (t : Fin cfg0.N) (i : S16x2048x512.Idx) : i ∈ ((cfg0.win 4).blk t).view.set ↔
    ∀ a : Fin 3, cc0_transform_4 (grid0.coords t) a * S1x256x128.size a ≤ (i a : ℕ) ∧
      (i a : ℕ) < cc0_transform_4 (grid0.coords t) a * S1x256x128.size a + S1x256x128.size a := by
  show i ∈ ((View.whole main_v0).slice (win0_4.rect t)).set ↔ _
  rw [View.set_slice_whole, Rect.mem_set_unit]
  exact Iff.rfl

/-- The blocks tile the result. -/
theorem cover (i : S16x2048x512.Idx) : ∃ t : Fin cfg0.N, (cfg0.win 4).flush t = true ∧ i ∈ ((cfg0.win 4).blk t).view.set := by
  have h0 : (i 0 : ℕ) < 16 := (i 0).isLt
  have h1 : (i 1 : ℕ) < 2048 := (i 1).isLt
  have h2 : (i 2 : ℕ) < 512 := (i 2).isLt
  obtain ⟨t, e0, e1, e2⟩ := coords_onto ⟨i 0, h0⟩ ⟨(i 2 : ℕ) / 128, by omega⟩ ⟨(i 1 : ℕ) / 256, by omega⟩
  refine ⟨t, flush0_4 t, ?_⟩
  rw [mem_blk, idx4, e0, e1, e2]
  intro a
  fin_cases a
  · show (i 0 : ℕ) * 1 ≤ i 0 ∧ (i 0 : ℕ) < i 0 * 1 + 1; omega
  · show (i 1 : ℕ) / 256 * 256 ≤ i 1 ∧ (i 1 : ℕ) < (i 1 : ℕ) / 256 * 256 + 256; omega
  · show (i 2 : ℕ) / 128 * 128 ≤ i 2 ∧ (i 2 : ℕ) < (i 2 : ℕ) / 128 * 128 + 128; omega

theorem final (hfin : Finite m c) : (dats m 0 c).arrAt 4 cfg0.N = result m c :=
  (dats m 0 c).arrAt_eq_of_cover 4 (result m c) (fun t _ => flushed_eq m c hfin t) cover

/-- The run, read: the result array at the reference's result, the arguments unchanged. -/
theorem run_value (hfin : ∀ c, Finite m c) : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h.1 c).1 4).trans (final m c (hfin c)),
    ((h.1 c).1 1).trans (((dats m 0 c).arrAt_in 1 rfl _).trans (A_eq m c 1)),
    ((h.1 c).1 2).trans (((dats m 0 c).arrAt_in 2 rfl _).trans (A_eq m c 2)),
    ((h.1 c).1 3).trans (((dats m 0 c).arrAt_in 3 rfl _).trans (A_eq m c 3)),
    ((h.1 c).1 0).trans (((dats m 0 c).arrAt_in 0 rfl _).trans (A_eq m c 0))⟩)
    (run_main m ρ)

end Cert.KernelIdeal.Attn
-- ==== Proof.AttnBits.Trip.lean ====
module

public import proofs.«01_k».proof.Proof.AttnBits.Tile

@[expose] public section

set_option maxRecDepth 16384

noncomputable section

/-! One trip of the kernel's loop: the next tile is scored into slot 1 and the held one weighed, the one after scored
    into slot 0 and slot 1 weighed. -/

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option maxHeartbeats 2000000 in
/-- What the trip yields: the running sums, two tiles on. -/
theorem trip_sums (𝒱 : Variants) (c : Dev nD) (bd : Option 𝒱.V) (i : grid0.Coords) (arg3 : Memref sig .tc .smem S8 .f32) (harg3 : arg3.IsWhole) (arg4 : Memref sig .tc .vmem S1x256x128 .bf16) (harg4 : arg4.IsWhole) (arg5 : Memref sig .tc .vmem S1x8x128x256 .bf16) (harg5 : arg5.IsWhole) (arg6 : Memref sig .tc .vmem S1x8x128x256 .bf16) (harg6 : arg6.IsWhole) (arg7 : Memref sig .tc .vmem S1x256x128 .f32) (harg7 : arg7.IsWhole) (arg8 : Memref sig .tc .vmem S2x2x256x256 .bf16) (harg8 : arg8.IsWhole) (arg9 : Memref sig .tc .vmem S2x2x256x256 .f32) (harg9 : arg9.IsWhole) (arg10 : Memref sig .tc .vmem S2x2x256x1 .f32) (harg10 : arg10.IsWhole) (arg11 : Memref sig .tc .vmem S2x256x128 .f32) (harg11 : arg11.IsWhole)
    (arg2 : BitVec 32) (v8 v11 : FVec F S256x128 .bf16) (v14 v18 : Elt F .f32) (v25 : FVec F S256x256 .bf16) (v92 : FVec F S256x1 .f32) (v93 : BitVec 32) (v107 : BitVec 1) (c1 : BitVec 32)
    (X5 : BufTy.Contents (Elt F) arg5.view.ty) (X6 : BufTy.Contents (Elt F) arg6.view.ty) (k : Fin (k0_t1_loop i).trips) (acc : FVec F S256x1 .f32 × FVec F S256x1 .f32) (f8 : BufTy.Contents (Elt F) arg8.view.ty) (f9 : BufTy.Contents (Elt F) arg9.view.ty) (f10 : BufTy.Contents (Elt F) arg10.view.ty) (f11 : BufTy.Contents (Elt F) arg11.view.ty)
    (T0 T1 : Tile F) (a0 a1 : FVec F S256x128 .f32) (h : Holds arg8 arg9 arg10 arg11 T0 T1 a0 a1 f8 f9 f10 f11) :
    tripR_k0_t1 (F := F) 𝒱 c bd i arg3 harg3 arg4 harg4 arg5 harg5 arg6 harg6 arg7 harg7 arg8 harg8 arg9 harg9 arg10 harg10 arg11 harg11 arg2 v8 v11 v14 v18 v25 v92 v93 v107 c1 X5 X6 k acc f8 f9 f10 f11 =
      (later v25 (score v8 v14 (arg5.view.readAt (Elt F) (Rect.unit (s := S1x8x128x256) (k0_off4 i k) S1x1x128x256.size (k0_off4_inb i k)).toLoadRect X5)) (later v25 T0 acc.1),
       later v25 (score v11 v18 (arg5.view.readAt (Elt F) (Rect.unit (s := S1x8x128x256) (k0_off4 i k) S1x1x128x256.size (k0_off4_inb i k)).toLoadRect X5)) (later v25 T1 acc.2)) := by
  obtain ⟨h1, h2, h3, h4, h5, h6, h7, h8⟩ := h
  unfold tripR_k0_t1 trip_k0_t1

  sl_unfold_run_names
  unfold View.readCov
  simp only [hit_S2x2x256x256_00, hit_S2x2x256x256_01, hit_S2x2x256x256_10, hit_S2x2x256x256_11, hit_S2x2x256x1_00, hit_S2x2x256x1_01, hit_S2x2x256x1_10, hit_S2x2x256x1_11, hit_S2x256x128_0, hit_S2x256x128_1, k0_pay130, k0_pay131, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay132, k0_pay133, k0_pay134, k0_pay135, read_miss _ _ _ _ _ _ apart_S2x2x256x256_00_01, read_miss _ _ _ _ _ _ apart_S2x2x256x256_00_10, read_miss _ _ _ _ _ _ apart_S2x2x256x256_00_11, read_miss _ _ _ _ _ _ apart_S2x2x256x256_01_00, read_miss _ _ _ _ _ _ apart_S2x2x256x256_01_10, read_miss _ _ _ _ _ _ apart_S2x2x256x256_01_11, read_miss _ _ _ _ _ _ apart_S2x2x256x256_10_00, read_miss _ _ _ _ _ _ apart_S2x2x256x256_10_01, read_miss _ _ _ _ _ _ apart_S2x2x256x256_10_11, read_miss _ _ _ _ _ _ apart_S2x2x256x256_11_00, read_miss _ _ _ _ _ _ apart_S2x2x256x256_11_01, read_miss _ _ _ _ _ _ apart_S2x2x256x256_11_10, read_miss _ _ _ _ _ _ apart_S2x2x256x1_00_01, read_miss _ _ _ _ _ _ apart_S2x2x256x1_00_10, read_miss _ _ _ _ _ _ apart_S2x2x256x1_00_11, read_miss _ _ _ _ _ _ apart_S2x2x256x1_01_00, read_miss _ _ _ _ _ _ apart_S2x2x256x1_01_10, read_miss _ _ _ _ _ _ apart_S2x2x256x1_01_11, read_miss _ _ _ _ _ _ apart_S2x2x256x1_10_00, read_miss _ _ _ _ _ _ apart_S2x2x256x1_10_01, read_miss _ _ _ _ _ _ apart_S2x2x256x1_10_11, read_miss _ _ _ _ _ _ apart_S2x2x256x1_11_00, read_miss _ _ _ _ _ _ apart_S2x2x256x1_11_01, read_miss _ _ _ _ _ _ apart_S2x2x256x1_11_10, read_miss _ _ _ _ _ _ apart_S2x256x128_0_1, read_miss _ _ _ _ _ _ apart_S2x256x128_1_0, h1, h2, h3, h4, h5, h6, h7, h8]
  rfl

set_option maxHeartbeats 2000000 in
/-- What the trip leaves in the scratches, over any base: the tile two places on in slot 0, the values weighed. -/
theorem trip_holds (𝒱 : Variants) (c : Dev nD) (bd : Option 𝒱.V) (i : grid0.Coords) (arg3 : Memref sig .tc .smem S8 .f32) (harg3 : arg3.IsWhole) (arg4 : Memref sig .tc .vmem S1x256x128 .bf16) (harg4 : arg4.IsWhole) (arg5 : Memref sig .tc .vmem S1x8x128x256 .bf16) (harg5 : arg5.IsWhole) (arg6 : Memref sig .tc .vmem S1x8x128x256 .bf16) (harg6 : arg6.IsWhole) (arg7 : Memref sig .tc .vmem S1x256x128 .f32) (harg7 : arg7.IsWhole) (arg8 : Memref sig .tc .vmem S2x2x256x256 .bf16) (harg8 : arg8.IsWhole) (arg9 : Memref sig .tc .vmem S2x2x256x256 .f32) (harg9 : arg9.IsWhole) (arg10 : Memref sig .tc .vmem S2x2x256x1 .f32) (harg10 : arg10.IsWhole) (arg11 : Memref sig .tc .vmem S2x256x128 .f32) (harg11 : arg11.IsWhole)
    (arg2 : BitVec 32) (v8 v11 : FVec F S256x128 .bf16) (v14 v18 : Elt F .f32) (v25 : FVec F S256x256 .bf16) (v92 : FVec F S256x1 .f32) (v93 : BitVec 32) (v107 : BitVec 1) (c1 : BitVec 32)
    (X5 : BufTy.Contents (Elt F) arg5.view.ty) (X6 : BufTy.Contents (Elt F) arg6.view.ty) (k : Fin (k0_t1_loop i).trips) (acc : FVec F S256x1 .f32 × FVec F S256x1 .f32) (f8 : BufTy.Contents (Elt F) arg8.view.ty) (f9 : BufTy.Contents (Elt F) arg9.view.ty) (f10 : BufTy.Contents (Elt F) arg10.view.ty) (f11 : BufTy.Contents (Elt F) arg11.view.ty)
    (T0 T1 : Tile F) (a0 a1 : FVec F S256x128 .f32) (h : Holds arg8 arg9 arg10 arg11 T0 T1 a0 a1 f8 f9 f10 f11)
    (g8 : BufTy.Contents (Elt F) arg8.view.ty) (g9 : BufTy.Contents (Elt F) arg9.view.ty) (g10 : BufTy.Contents (Elt F) arg10.view.ty) (g11 : BufTy.Contents (Elt F) arg11.view.ty) :
    Holds arg8 arg9 arg10 arg11 (score v8 v14 (arg5.view.readAt (Elt F) (Rect.unit (s := S1x8x128x256) (k0_off6 i k) S1x1x128x256.size (k0_off6_inb i k)).toLoadRect X5)) (score v11 v18 (arg5.view.readAt (Elt F) (Rect.unit (s := S1x8x128x256) (k0_off6 i k) S1x1x128x256.size (k0_off6_inb i k)).toLoadRect X5))
      (accum v25 (score v8 v14 (arg5.view.readAt (Elt F) (Rect.unit (s := S1x8x128x256) (k0_off4 i k) S1x1x128x256.size (k0_off4_inb i k)).toLoadRect X5)) (arg6.view.readAt (Elt F) (Rect.unit (s := S1x8x128x256) (k0_off4 i k) S1x1x128x256.size (k0_off4_inb i k)).toLoadRect X6) (later v25 T0 acc.1) (accum v25 T0 (arg6.view.readAt (Elt F) (Rect.unit (s := S1x8x128x256) (k0_off5 i k) S1x1x128x256.size (k0_off5_inb i k)).toLoadRect X6) acc.1 a0))
      (accum v25 (score v11 v18 (arg5.view.readAt (Elt F) (Rect.unit (s := S1x8x128x256) (k0_off4 i k) S1x1x128x256.size (k0_off4_inb i k)).toLoadRect X5)) (arg6.view.readAt (Elt F) (Rect.unit (s := S1x8x128x256) (k0_off4 i k) S1x1x128x256.size (k0_off4_inb i k)).toLoadRect X6) (later v25 T1 acc.2) (accum v25 T1 (arg6.view.readAt (Elt F) (Rect.unit (s := S1x8x128x256) (k0_off5 i k) S1x1x128x256.size (k0_off5_inb i k)).toLoadRect X6) acc.2 a1))
      (arg8.view.writes (Elt F) g8 (tripL_k0_t1 (F := F) 𝒱 c bd i arg3 harg3 arg4 harg4 arg5 harg5 arg6 harg6 arg7 harg7 arg8 harg8 arg9 harg9 arg10 harg10 arg11 harg11 arg2 v8 v11 v14 v18 v25 v92 v93 v107 c1 X5 X6 k acc f8 f9 f10 f11).1)
      (arg9.view.writes (Elt F) g9 (tripL_k0_t1 (F := F) 𝒱 c bd i arg3 harg3 arg4 harg4 arg5 harg5 arg6 harg6 arg7 harg7 arg8 harg8 arg9 harg9 arg10 harg10 arg11 harg11 arg2 v8 v11 v14 v18 v25 v92 v93 v107 c1 X5 X6 k acc f8 f9 f10 f11).2.1)
      (arg10.view.writes (Elt F) g10 (tripL_k0_t1 (F := F) 𝒱 c bd i arg3 harg3 arg4 harg4 arg5 harg5 arg6 harg6 arg7 harg7 arg8 harg8 arg9 harg9 arg10 harg10 arg11 harg11 arg2 v8 v11 v14 v18 v25 v92 v93 v107 c1 X5 X6 k acc f8 f9 f10 f11).2.2.1)
      (arg11.view.writes (Elt F) g11 (tripL_k0_t1 (F := F) 𝒱 c bd i arg3 harg3 arg4 harg4 arg5 harg5 arg6 harg6 arg7 harg7 arg8 harg8 arg9 harg9 arg10 harg10 arg11 harg11 arg2 v8 v11 v14 v18 v25 v92 v93 v107 c1 X5 X6 k acc f8 f9 f10 f11).2.2.2) := by
  obtain ⟨h1, h2, h3, h4, h5, h6, h7, h8⟩ := h
  unfold tripL_k0_t1 trip_k0_t1
  sl_unfold_run_names
  unfold View.readCov
  constructor <;>
    (simp only [hit_S2x2x256x256_00, hit_S2x2x256x256_01, hit_S2x2x256x256_10, hit_S2x2x256x256_11, hit_S2x2x256x1_00, hit_S2x2x256x1_01, hit_S2x2x256x1_10, hit_S2x2x256x1_11, hit_S2x256x128_0, hit_S2x256x128_1, k0_pay130, k0_pay131, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay132, k0_pay133, k0_pay134, k0_pay135, read_miss _ _ _ _ _ _ apart_S2x2x256x256_00_01, read_miss _ _ _ _ _ _ apart_S2x2x256x256_00_10, read_miss _ _ _ _ _ _ apart_S2x2x256x256_00_11, read_miss _ _ _ _ _ _ apart_S2x2x256x256_01_00, read_miss _ _ _ _ _ _ apart_S2x2x256x256_01_10, read_miss _ _ _ _ _ _ apart_S2x2x256x256_01_11, read_miss _ _ _ _ _ _ apart_S2x2x256x256_10_00, read_miss _ _ _ _ _ _ apart_S2x2x256x256_10_01, read_miss _ _ _ _ _ _ apart_S2x2x256x256_10_11, read_miss _ _ _ _ _ _ apart_S2x2x256x256_11_00, read_miss _ _ _ _ _ _ apart_S2x2x256x256_11_01, read_miss _ _ _ _ _ _ apart_S2x2x256x256_11_10, read_miss _ _ _ _ _ _ apart_S2x2x256x1_00_01, read_miss _ _ _ _ _ _ apart_S2x2x256x1_00_10, read_miss _ _ _ _ _ _ apart_S2x2x256x1_00_11, read_miss _ _ _ _ _ _ apart_S2x2x256x1_01_00, read_miss _ _ _ _ _ _ apart_S2x2x256x1_01_10, read_miss _ _ _ _ _ _ apart_S2x2x256x1_01_11, read_miss _ _ _ _ _ _ apart_S2x2x256x1_10_00, read_miss _ _ _ _ _ _ apart_S2x2x256x1_10_01, read_miss _ _ _ _ _ _ apart_S2x2x256x1_10_11, read_miss _ _ _ _ _ _ apart_S2x2x256x1_11_00, read_miss _ _ _ _ _ _ apart_S2x2x256x1_11_01, read_miss _ _ _ _ _ _ apart_S2x2x256x1_11_10, read_miss _ _ _ _ _ _ apart_S2x256x128_0_1, read_miss _ _ _ _ _ _ apart_S2x256x128_1_0, h1, h2, h3, h4, h5, h6, h7, h8]; rfl)

end Cert.Kernel.Attn
-- ==== Proof.Attn.Claim.lean ====
module

public import proofs.«01_k».proof.Defs
public import proofs.«01_k».proof.Proof.Attn.ArrayValue
public import proofs.«01_k».proof.Proof.AttnBits.Body
public import proofs.«01_k».proof.Proof.Gen.Pre_finite_scores
public import proofs.«01_k».proof.Proof.Gen.ReferenceIdeal.Run

@[expose] public section

set_option maxRecDepth 16384

noncomputable section

/-! The attention's claims. The value claim: with finite queries, keys and biases every score is finite, so the kernel's result is
    the reference's. -/

namespace Cert.KernelIdeal.Attn

open Cert.KernelIdeal Cert.KernelIdeal.Gen Cert.Row
open Idealize.ShloMosaic Idealize.ShloMosaic.TcCoe Idealize.SL.Sem

theorem top_bf16 : Ideal.ofBits .bf16 0x7F80#16 = ⊤ := by simp [Ideal.ofBits, Ideal.ieee]
theorem top_f32 : Ideal.ofBits .f32 0x7F800000#32 = ⊤ := by simp [Ideal.ofBits, Ideal.ieee]

/-- An absolute value below infinity is that of a real number. -/
theorem real_of_abs (x : EReal) (h : Ideal.cmp .olt (max x (-x)) ⊤ = 1#1) : ∃ y : ℝ, x = (y : EReal) := by
  induction x using EReal.rec with
  | bot => simp [Ideal.cmp] at h
  | top => simp [Ideal.cmp] at h
  | coe y => exact ⟨y, rfl⟩

/-- A sum of products of real numbers is real. -/
theorem real_dot {n : ℕ} (f g : Fin n → EReal) (w : EReal) (hf : ∀ d, ∃ y : ℝ, f d = (y : EReal)) (hg : ∀ d, ∃ y : ℝ, g d = (y : EReal))
    (hw : ∃ y : ℝ, w = (y : EReal)) : ∃ y : ℝ, ∑ d, f d * g d + w = (y : EReal) := by
  choose f' hf' using hf
  choose g' hg' using hg
  obtain ⟨w', hw'⟩ := hw
  refine ⟨∑ d, f' d * g' d + w', ?_⟩
  rw [EReal.coe_add, coe_sum, hw']
  congr 1
  exact Finset.sum_congr rfl fun d _ => by rw [hf', hg', EReal.coe_mul]

theorem finite_of_pre (m : (ℓ : Loc nD τ sig) → Buf (Elt Ideal) ℓ) (h : Cert.Pre_KernelIdeal_finite_scores m) (c : Dev nD) : Finite m c := by
  obtain ⟨hq, hk, hw⟩ := h c
  intro b hd s j
  rw [ReferenceIdeal.Attn.scores_apply]
  refine real_dot _ _ _ (fun d => real_of_abs _ ?_) (fun d => real_of_abs _ ?_) (real_of_abs _ ?_)
  · have e := congrFun hq (ix3 b s ⟨hd * 64 + d, by omega⟩)
    rw [← top_bf16]; exact e
  · have e := congrFun hk (ix4 b ⟨j / 256, by omega⟩ ⟨hd * 64 + d, by omega⟩ ⟨j % 256, by omega⟩)
    rw [← top_bf16]; exact e
  · have e := congrFun hw (ix1 hd)
    rw [← top_f32]; exact e

theorem algebraic : Cert.algebraic_KernelIdeal_ReferenceIdeal_pre_finite_scores := by
  intro m g m' g' hpre hagree
  refine ⟨fun c => result m c, run_value m g (finite_of_pre m hpre), ?_⟩
  refine (θ_run _ _ _).mono (fun r h c => ⟨(h c).1.trans ?_, (h c).2⟩) (ReferenceIdeal.Value.run m' g')
  rw [ReferenceIdeal.Read.val_main_v28_eq, (hagree c).1, (hagree c).2.1, (hagree c).2.2.1, (hagree c).2.2.2]

theorem frame_bits : Cert.quiescent_Kernel := fun m g _ => Kernel.Attn.frame_main m g

theorem frame_ideal : Cert.quiescent_KernelIdeal := fun m g _ => frame_main m g

theorem frame_ideal_pre : Cert.quiescent_KernelIdeal_pre_finite_scores := fun m g _ => frame_main m g

theorem frame_reference : Cert.quiescent_ReferenceIdeal := fun m g _ =>
  (θ_run _ _ _).mono (fun r h => ⟨fun c => (h c).2, sem_eq_zero_of_no_sems (by decide) r.2⟩) (ReferenceIdeal.Value.run m g)

theorem frame_reference_pre : Cert.quiescent_ReferenceIdeal_pre_finite_scores := fun m g _ => frame_reference m g trivial

theorem preserves : Cert.preserves_Kernel_KernelIdeal :=
  IdealRules.named_const.statement Cert.KernelIdeal.κ "mask" .f32 0xF149F2CA#32 ⊥ rfl

end Cert.KernelIdeal.Attn
-- ==== Proof.Mix.Row.lean ====
module

public import Idealize.ShloMosaic.PureOps.Ideal.Laws
public import Mathlib.Algebra.BigOperators.Fin

@[expose] public section

set_option maxRecDepth 16384

noncomputable section

/-! One token's row through the end of a layer: the mixers' outputs, projected onto the residual stream, and the MLP. -/

namespace Cert.MixRow

open Idealize.ShloMosaic

/-- A root-mean-square norm, the row's length given as a float word. -/
def rms {n : ℕ} (len : BitVec 32) (x g : Fin n → EReal) (i : Fin n) : EReal :=
  x i * Ideal.rsqrt (Ideal.div (∑ j, x j * x j) (Ideal.ofBits .f32 len) + Ideal.ofBits .f32 897988541#32) * g i

/-- A hidden unit: the positive part of its input, squared. -/
def unit {n k : ℕ} (h : Fin n → EReal) (up : Fin n → Fin k → EReal) (j : Fin k) : EReal :=
  max (∑ i, h i * up i j) 0 * max (∑ i, h i * up i j) 0

/-- What a set of hidden units adds to a column. -/
def mlp {n k p : ℕ} (h : Fin n → EReal) (up : Fin n → Fin k → EReal) (down : Fin k → Fin p → EReal) (c : Fin p) : EReal :=
  ∑ j, unit h up j * down j c

/-- The three mixers' outputs, side by side. -/
def joined (a : Fin 512 → EReal) (b d : Fin 256 → EReal) (k : Fin 1024) : EReal :=
  if h : (k : ℕ) < 512 then a ⟨k, h⟩ else if h' : (k : ℕ) < 768 then b ⟨k - 512, by omega⟩ else d ⟨k - 768, by omega⟩

theorem joined_first (a : Fin 512 → EReal) (b d : Fin 256 → EReal) (k : Fin 512) : joined a b d ⟨k, by omega⟩ = a k := by
  unfold joined
  rw [dif_pos (by exact k.isLt)]

theorem joined_second (a : Fin 512 → EReal) (b d : Fin 256 → EReal) (k : Fin 256) : joined a b d ⟨512 + k, by omega⟩ = b k := by
  unfold joined
  have hk := k.isLt
  rw [dif_neg (by show ¬512 + (k : ℕ) < 512; omega), dif_pos (by show 512 + (k : ℕ) < 768; omega)]
  exact congrArg b (Fin.ext (by show 512 + (k : ℕ) - 512 = k; omega))

theorem joined_third (a : Fin 512 → EReal) (b d : Fin 256 → EReal) (k : Fin 256) : joined a b d ⟨768 + k, by omega⟩ = d k := by
  unfold joined
  have hk := k.isLt
  rw [dif_neg (by show ¬768 + (k : ℕ) < 512; omega), dif_neg (by show ¬768 + (k : ℕ) < 768; omega)]
  exact congrArg d (Fin.ext (by show 768 + (k : ℕ) - 768 = k; omega))

/-- The residual stream after the mixers. -/
def mixed (x : Fin 1024 → EReal) (a : Fin 512 → EReal) (b d : Fin 256 → EReal) (w : Fin 1024 → Fin 1024 → EReal) (c : Fin 1024) : EReal :=
  x c + ∑ k, joined a b d k * w k c

/-- The residual stream after the MLP. -/
def deep (x g : Fin 1024 → EReal) (up : Fin 1024 → Fin 4096 → EReal) (down : Fin 4096 → Fin 1024 → EReal) (c : Fin 1024) : EReal :=
  x c + mlp (rms 1149239296#32 x g) up down c

/-- A sum over the joined columns, mixer by mixer. -/
theorem sum_joined (f : Fin 1024 → EReal) :
    ∑ k, f k = (∑ k : Fin 512, f ⟨k, by omega⟩) + (∑ k : Fin 256, f ⟨512 + k, by omega⟩) + ∑ k : Fin 256, f ⟨768 + k, by omega⟩ := by
  rw [Fin.sum_univ_add (a := 768) (b := 256) f, Fin.sum_univ_add (a := 512) (b := 256) fun k => f (Fin.castAdd 256 k)]
  rfl

/-- The projection of the joined columns, mixer by mixer. -/
theorem mixed_parts (x : Fin 1024 → EReal) (a : Fin 512 → EReal) (b d : Fin 256 → EReal) (w : Fin 1024 → Fin 1024 → EReal) (c : Fin 1024) :
    x c + ((∑ k, a k * w ⟨k, by omega⟩ c) + (∑ k, b k * w ⟨512 + k, by omega⟩ c) + ∑ k, d k * w ⟨768 + k, by omega⟩ c) = mixed x a b d w c := by
  unfold mixed
  rw [sum_joined fun k => joined a b d k * w k c]
  refine congrArg (x c + ·) (congrArg₂ (· + ·) (congrArg₂ (· + ·) ?_ ?_) ?_)
  · exact Finset.sum_congr rfl fun k _ => congrArg (· * w _ c) (joined_first a b d k).symm
  · exact Finset.sum_congr rfl fun k _ => congrArg (· * w _ c) (joined_second a b d k).symm
  · exact Finset.sum_congr rfl fun k _ => congrArg (· * w _ c) (joined_third a b d k).symm

/-- The columns of the first projection that feed a quarter of the hidden units. -/
def upPart (up : Fin 1024 → Fin 4096 → EReal) (q : ℕ) (hq : q + 1024 ≤ 4096) (i j : Fin 1024) : EReal := up i ⟨q + j, by omega⟩

/-- The rows of the second projection that a quarter of the hidden units feed. -/
def downPart (down : Fin 4096 → Fin 1024 → EReal) (q : ℕ) (hq : q + 1024 ≤ 4096) (j c : Fin 1024) : EReal := down ⟨q + j, by omega⟩ c

/-- The hidden units, quarter by quarter. -/
theorem mlp_parts (x h : Fin 1024 → EReal) (up : Fin 1024 → Fin 4096 → EReal) (down : Fin 4096 → Fin 1024 → EReal) (c : Fin 1024) :
    x c + mlp h (upPart up 0 (by omega)) (downPart down 0 (by omega)) c + mlp h (upPart up 1024 (by omega)) (downPart down 1024 (by omega)) c
        + mlp h (upPart up 2048 (by omega)) (downPart down 2048 (by omega)) c + mlp h (upPart up 3072 (by omega)) (downPart down 3072 (by omega)) c
      = x c + mlp h up down c := by
  have e : mlp h up down c = mlp h (upPart up 0 (by omega)) (downPart down 0 (by omega)) c + mlp h (upPart up 1024 (by omega)) (downPart down 1024 (by omega)) c
      + mlp h (upPart up 2048 (by omega)) (downPart down 2048 (by omega)) c + mlp h (upPart up 3072 (by omega)) (downPart down 3072 (by omega)) c := by
    unfold mlp
    rw [Fin.sum_univ_add (a := 3072) (b := 1024) fun j => unit h up j * down j c,
      Fin.sum_univ_add (a := 2048) (b := 1024) fun j => unit h up (Fin.castAdd 1024 j) * down (Fin.castAdd 1024 j) c,
      Fin.sum_univ_add (a := 1024) (b := 1024) fun j => unit h up (Fin.castAdd 1024 (Fin.castAdd 1024 j)) * down (Fin.castAdd 1024 (Fin.castAdd 1024 j)) c]
    refine congrArg₂ (· + ·) (congrArg₂ (· + ·) (congrArg₂ (· + ·) ?_ rfl) rfl) rfl
    refine Finset.sum_congr rfl fun j _ => ?_
    have hj : (⟨0 + j, by omega⟩ : Fin 4096) = Fin.castAdd 1024 (Fin.castAdd 1024 (Fin.castAdd 1024 j)) := Fin.ext (Nat.zero_add _)
    show unit h up _ * down _ c = (unit h fun i j => up i ⟨0 + j, by omega⟩) j * down ⟨0 + j, by omega⟩ c
    rw [hj]
    unfold unit
    simp only [hj]
  rw [e]
  simp only [add_assoc]

end Cert.MixRow
-- ==== Proof.Mix.BlockValue.lean ====
module

public import proofs.«01_k».proof.Proof.Gen.Kernel2Ideal.Value
public import proofs.«01_k».proof.Proof.Mix.Row
public import Idealize.ShloMosaic.Lib.Pointwise

@[expose] public section

set_option maxRecDepth 16384

noncomputable section

/-! A block of 512 tokens through the kernel's body, read at an index: the row functions of `Row`. -/

namespace Cert.Kernel2Ideal.Mix

open Cert.Kernel2Ideal Cert.Kernel2Ideal.Gen Cert.MixRow
open Idealize.ShloMosaic

variable (x0 : Vec Ideal S512x1024 .f32) (x1 : Vec Ideal S512x512 .f32) (x2 x3 : Vec Ideal S512x256 .f32) (x4 : Vec Ideal S1x512 .f32)
  (x5 : Vec Ideal S1024x1024 .bf16) (x6 : Vec Ideal S1x1024 .f32) (x7 : Vec Ideal S1024x4096 .bf16) (x8 : Vec Ideal S4096x1024 .bf16)
  (x9 : Vec Ideal S1x1024 .f32) (r : Fin 512)

/-- The residual stream after the mixers: three products, one for each mixer's rows of the projection. -/
theorem mixed_apply (c : Fin 1024) : k0_pay8 x0 x1 x2 x3 x4 x5 x6 x7 x8 x9 (ix2 r c) =
    mixed (fun c => x0 (ix2 r c)) (rms 1140850688#32 (fun k => x1 (ix2 r k)) fun k => x4 (ix2 0 k)) (fun k => x2 (ix2 r k))
      (fun k => x3 (ix2 r k)) (fun k c => x5 (ix2 k c)) c := by
  rw [← mixed_parts]
  unfold rms
  pointwise [k0_pay8, k0_pay2]

/-- The sum of its squares. -/
theorem squares_apply : k0_pay10 x0 x1 x2 x3 x4 x5 x6 x7 x8 x9 (ix1 r) =
    ∑ c : Fin 1024, k0_pay8 x0 x1 x2 x3 x4 x5 x6 x7 x8 x9 (ix2 r c) * k0_pay8 x0 x1 x2 x3 x4 x5 x6 x7 x8 x9 (ix2 r c) := by
  unfold k0_pay8
  pointwise [k0_pay10, k0_pay4]

/-- Its norm. -/
theorem normed_apply (x : FVec Ideal S512x1024 .f32) (s : FVec Ideal S512 .f32) (hs : s (ix1 r) = ∑ c : Fin 1024, x (ix2 r c) * x (ix2 r c))
    (c : Fin 1024) : k0_pay5 x (k0_pay9 x0 x1 x2 x3 x4 x5 x6 x7 x8 x9) s (ix2 r c) =
      rms 1149239296#32 (fun c => x (ix2 r c)) (fun c => x6 (ix2 0 c)) c := by
  unfold rms
  rw [← hs]
  pointwise [k0_pay5, k0_pay9, k0_pay3]

/-- The first half of the hidden units. -/
theorem firstHalf_apply (x : FVec Ideal S512x1024 .f32) (g : FVec Ideal S1x1024 .f32) (s : FVec Ideal S512 .f32) (c : Fin 1024) :
    k0_pay6 x g s (View.ld x7 r0_8) (View.ld x8 r0_9) (View.ld x7 r0_10) (View.ld x8 r0_11) (ix2 r c) =
      x (ix2 r c) + mlp (fun c => k0_pay5 x g s (ix2 r c)) (upPart (fun i j => x7 (ix2 i j)) 0 (by omega)) (downPart (fun j c => x8 (ix2 j c)) 0 (by omega)) c
        + mlp (fun c => k0_pay5 x g s (ix2 r c)) (upPart (fun i j => x7 (ix2 i j)) 1024 (by omega)) (downPart (fun j c => x8 (ix2 j c)) 1024 (by omega)) c := by
  unfold mlp unit upPart downPart
  pointwise [k0_pay6]

/-- The third quarter. -/
theorem thirdQuarter_apply (x : FVec Ideal S512x1024 .f32) (g : FVec Ideal S1x1024 .f32) (s : FVec Ideal S512 .f32) (c : Fin 1024) :
    k0_pay7 x g s (View.ld x7 r0_12) (View.ld x8 r0_13) (ix2 r c) =
      mlp (fun c => k0_pay5 x g s (ix2 r c)) (upPart (fun i j => x7 (ix2 i j)) 2048 (by omega)) (downPart (fun j c => x8 (ix2 j c)) 2048 (by omega)) c := by
  unfold mlp unit upPart downPart
  pointwise [k0_pay7]

/-- The last quarter, added to what the others gave, and the final norm. -/
theorem last_apply (h : FVec Ideal S512x1024 .bf16) (y z : FVec Ideal S512x1024 .f32) (c : Fin 1024) :
    k0_pay1 h y z (View.ld x7 r0_14) (View.ld x8 r0_15) (View.ld x9 r0_7) (ix2 r c) =
      rms 1149239296#32 (fun c => y (ix2 r c) + z (ix2 r c) + mlp (fun c => h (ix2 r c)) (upPart (fun i j => x7 (ix2 i j)) 3072 (by omega))
        (downPart (fun j c => x8 (ix2 j c)) 3072 (by omega)) c) (fun c => x9 (ix2 0 c)) c := by
  unfold rms mlp unit upPart downPart
  pointwise [k0_pay1]

/-- A row of the block that the body stores. -/
theorem block_apply (c : Fin 1024) : out0_10 x0 x1 x2 x3 x4 x5 x6 x7 x8 x9 (ix2 r c) =
    rms 1149239296#32 (deep (mixed (fun c => x0 (ix2 r c)) (rms 1140850688#32 (fun k => x1 (ix2 r k)) fun k => x4 (ix2 0 k))
      (fun k => x2 (ix2 r k)) (fun k => x3 (ix2 r k)) fun k c => x5 (ix2 k c)) (fun c => x6 (ix2 0 c)) (fun i j => x7 (ix2 i j))
      fun j c => x8 (ix2 j c)) (fun c => x9 (ix2 0 c)) c := by
  unfold out0_10
  rw [View.canon_unit_zero (by funext a; fin_cases a <;> rfl), last_apply]
  refine congrArg (fun f => rms 1149239296#32 f (fun c => x9 (ix2 0 c)) c) (funext fun c => ?_)
  rw [firstHalf_apply, thirdQuarter_apply,
    funext (normed_apply x0 x1 x2 x3 x4 x5 x6 x7 x8 x9 r _ _ (squares_apply x0 x1 x2 x3 x4 x5 x6 x7 x8 x9 r)),
    ← funext (mixed_apply x0 x1 x2 x3 x4 x5 x6 x7 x8 x9 r)]
  exact mlp_parts (fun c => k0_pay8 x0 x1 x2 x3 x4 x5 x6 x7 x8 x9 (ix2 r c)) _ _ _ c

end Cert.Kernel2Ideal.Mix
-- ==== Proof.Mix.RefValue.lean ====
module

public import proofs.«01_k».proof.Proof.Gen.Reference2Ideal.Read
public import proofs.«01_k».proof.Proof.Mix.Row
public import Idealize.ShloMosaic.Lib.Pointwise

@[expose] public section

set_option maxRecDepth 16384

noncomputable section

/-! The reference's end of a layer on the extended reals, read at an index: the row functions of `Row`. -/

namespace Cert.Reference2Ideal.Mix

open Cert.Reference2Ideal Cert.Reference2Ideal.Gen Cert.Reference2Ideal.Read Cert.MixRow
open Idealize.ShloMosaic

variable (x0 : Vec Ideal S32768x1024 .f32) (x1 : Vec Ideal S32768x512 .f32) (x2 x3 : Vec Ideal S32768x256 .f32) (x4 : Vec Ideal S512 .f32)
  (x5 : Vec Ideal S1024x1024 .bf16) (x6 : Vec Ideal S1024 .f32) (x7 : Vec Ideal S1024x4096 .bf16) (x8 : Vec Ideal S4096x1024 .bf16)
  (x9 : Vec Ideal S1024 .f32) (t : Fin 32768)

/-- The normed attention output. -/
theorem attention_apply (k : Fin 512) : val_main_v12 (F := Ideal) x1 x4 (ix2 t k) =
    rms 1140850688#32 (fun k => x1 (ix2 t k)) (fun k => x4 (ix1 k)) k := by
  unfold rms
  pointwise [val_main_v12, val_main_v11, val_main_v10, val_main_v9, val_main_v8, val_main_v7, val_main_v6, val_main_v5, val_main_cst_1,
    val_main_v4, val_main_v3, val_main_cst_0, val_main_v2, val_main_v1, val_main_cst, val_main_v0]

/-- The mixers' outputs side by side. -/
theorem joined_apply (k : Fin 1024) : val_main_v13 (F := Ideal) x1 x2 x3 x4 (ix2 t k) =
    joined (rms 1140850688#32 (fun k => x1 (ix2 t k)) fun k => x4 (ix1 k)) (fun k => x2 (ix2 t k)) (fun k => x3 (ix2 t k)) k := by
  unfold joined
  by_cases h : (k : ℕ) < 512
  · rw [dif_pos h, ← attention_apply]
    pointwise [val_main_v13]
    exact dif_pos h
  · by_cases h' : (k : ℕ) < 768
    · rw [dif_neg h, dif_pos h']
      pointwise [val_main_v13]
      exact (dif_neg h).trans (dif_pos (by omega))
    · rw [dif_neg h, dif_neg h']
      pointwise [val_main_v13]
      exact (dif_neg h).trans ((dif_neg (by omega)).trans
        (congrArg (fun k => x3 (ix2 t k)) (Fin.ext (by show (k : ℕ) - 512 - 256 = k - 768; omega))))

/-- The residual stream after the mixers. -/
theorem mixed_apply (c : Fin 1024) : val_main_v16 (F := Ideal) x0 x1 x2 x3 x4 x5 (ix2 t c) =
    mixed (fun c => x0 (ix2 t c)) (rms 1140850688#32 (fun k => x1 (ix2 t k)) fun k => x4 (ix1 k)) (fun k => x2 (ix2 t k))
      (fun k => x3 (ix2 t k)) (fun k c => x5 (ix2 k c)) c := by
  unfold mixed
  simp only [← joined_apply]
  pointwise [val_main_v16, val_main_v15, val_main_v14]

/-- Its norm. -/
theorem normed_apply (c : Fin 1024) : val_main_v29 (F := Ideal) x0 x1 x2 x3 x4 x5 x6 (ix2 t c) =
    rms 1149239296#32 (fun c => val_main_v16 (F := Ideal) x0 x1 x2 x3 x4 x5 (ix2 t c)) (fun c => x6 (ix1 c)) c := by
  unfold rms
  pointwise [val_main_v29, val_main_v28, val_main_v27, val_main_v26, val_main_v25, val_main_v24, val_main_v23, val_main_v22, val_main_cst_4,
    val_main_v21, val_main_v20, val_main_cst_3, val_main_v19, val_main_v18, val_main_cst_2, val_main_v17]

/-- The hidden units. -/
theorem hidden_apply (j : Fin 4096) : val_main_v33 (F := Ideal) x0 x1 x2 x3 x4 x5 x6 x7 (ix2 t j) =
    unit (fun c => val_main_v29 (F := Ideal) x0 x1 x2 x3 x4 x5 x6 (ix2 t c)) (fun i j => x7 (ix2 i j)) j := by
  unfold unit
  pointwise [val_main_v33, val_main_v32, val_main_v31, val_main_v30, val_main_call0_v0, val_main_call0_cst]

/-- The residual stream after the MLP. -/
theorem deep_apply (c : Fin 1024) : val_main_v36 (F := Ideal) x0 x1 x2 x3 x4 x5 x6 x7 x8 (ix2 t c) =
    deep (fun c => val_main_v16 (F := Ideal) x0 x1 x2 x3 x4 x5 (ix2 t c)) (fun c => x6 (ix1 c)) (fun i j => x7 (ix2 i j))
      (fun j c => x8 (ix2 j c)) c := by
  unfold deep mlp
  rw [← funext (normed_apply x0 x1 x2 x3 x4 x5 x6 t)]
  simp only [← hidden_apply]
  pointwise [val_main_v36, val_main_v35, val_main_v34]

/-- The result. -/
theorem result_apply (c : Fin 1024) : val_main_v49 (F := Ideal) x0 x1 x2 x3 x4 x5 x6 x7 x8 x9 (ix2 t c) =
    rms 1149239296#32 (deep (mixed (fun c => x0 (ix2 t c)) (rms 1140850688#32 (fun k => x1 (ix2 t k)) fun k => x4 (ix1 k))
      (fun k => x2 (ix2 t k)) (fun k => x3 (ix2 t k)) fun k c => x5 (ix2 k c)) (fun c => x6 (ix1 c)) (fun i j => x7 (ix2 i j))
      fun j c => x8 (ix2 j c)) (fun c => x9 (ix1 c)) c := by
  rw [← funext (mixed_apply x0 x1 x2 x3 x4 x5 t), ← funext (deep_apply x0 x1 x2 x3 x4 x5 x6 x7 x8 t)]
  unfold rms
  pointwise [val_main_v49, val_main_v48, val_main_v47, val_main_v46, val_main_v45, val_main_v44, val_main_v43, val_main_v42, val_main_cst_7,
    val_main_v41, val_main_v40, val_main_cst_6, val_main_v39, val_main_v38, val_main_cst_5, val_main_v37]

end Cert.Reference2Ideal.Mix
-- ==== Proof.Mix.ArrayValue.lean ====
module

public import proofs.«01_k».proof.Proof.Mix.BlockValue
public import proofs.«01_k».proof.Proof.Mix.RefValue

@[expose] public section

set_option maxRecDepth 16384

noncomputable section

/-! The result array of the layer's end is the reference's, whatever the arguments. -/

namespace Cert.Kernel2Ideal.Mix

open Cert.Kernel2Ideal Cert.Kernel2Ideal.Gen Cert.MixRow
open Idealize.ShloMosaic Idealize.ShloMosaic.TcCoe Idealize.SL.Sem

variable (m : (ℓ : Loc nD τ sig) → Buf (Elt Ideal) ℓ) (ρ : Dev nD → PrngReg) (c : Dev nD)

/-- The reference's result on the kernel's own arguments. -/
abbrev result : Buf (Elt Ideal) ((c : Thread nD τ).loc main_v3) :=
  Reference2Ideal.Read.val_main_v49 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9))

/-- Where each window's block starts at a grid point: the tokens' blocks move with it, the weights stay. -/
theorem idx0 (i : grid0.Coords) : cc0_transform_0 i = ![(i 0 : ℕ), 0] := by
  have h0 : (i 0 : ℕ) < 64 := (i 0).isLt
  simp only [cc0_transform_0, BitVec.toNat_ofNat]
  rw [Nat.mod_eq_of_lt (by omega : (i 0 : ℕ) < 2 ^ 32)]
theorem idx1 (i : grid0.Coords) : cc0_transform_1 i = ![(i 0 : ℕ), 0] := idx0 i
theorem idx2 (i : grid0.Coords) : cc0_transform_2 i = ![(i 0 : ℕ), 0] := idx0 i
theorem idx3 (i : grid0.Coords) : cc0_transform_3 i = ![(i 0 : ℕ), 0] := idx0 i
theorem idx10 (i : grid0.Coords) : cc0_transform_10 i = ![(i 0 : ℕ), 0] := idx0 i

/-- The norms' weights reach the kernel as tables of one row. -/
theorem V_v0 : V m c main_v0 = fun i => shapeCast S1x512 (m ((c : Thread nD τ).loc main_arg4)) shapeCasts_S512_S1x512 i := by
  show StableHlo.after hostOps0 _ _ = _
  after_results
  rfl
theorem V_v1 : V m c main_v1 = fun i => shapeCast S1x1024 (m ((c : Thread nD τ).loc main_arg6)) shapeCasts_S1024_S1x1024 i := by
  show StableHlo.after hostOps0 _ _ = _
  after_results
  rfl
theorem V_v2 : V m c main_v2 = fun i => shapeCast S1x1024 (m ((c : Thread nD τ).loc main_arg9)) shapeCasts_S1024_S1x1024 i := by
  show StableHlo.after hostOps0 _ _ = _
  after_results
  rfl

theorem blk0_apply (t : Fin cfg0.N) (r : Fin 512) (k : Fin 1024) (b : Fin 64) (h0 : (grid0.coords t 0 : ℕ) = b) :
    iblk m c 0 t (ix2 r k) = m ((c : Thread nD τ).loc main_arg0) (ix2 ⟨512 * b + r, by omega⟩ k) := by
  refine (congrArg (V m c main_arg0) (funext fun a => ?_)).trans (congrFun (V_main_arg0 m c) _)
  have hx := idx0 (grid0.coords t)
  rw [h0] at hx
  fin_cases a
  · exact Fin.ext (by show cc0_transform_0 (grid0.coords t) 0 * 512 + 1 * r = 512 * b + r; rw [hx]; show (b : ℕ) * 512 + 1 * r = 512 * b + r; omega)
  · exact Fin.ext (by show cc0_transform_0 (grid0.coords t) 1 * 1024 + 1 * k = k; rw [hx]; show 0 * 1024 + 1 * (k : ℕ) = k; omega)

theorem blk1_apply (t : Fin cfg0.N) (r k : Fin 512) (b : Fin 64) (h0 : (grid0.coords t 0 : ℕ) = b) :
    iblk m c 1 t (ix2 r k) = m ((c : Thread nD τ).loc main_arg1) (ix2 ⟨512 * b + r, by omega⟩ k) := by
  refine (congrArg (V m c main_arg1) (funext fun a => ?_)).trans (congrFun (V_main_arg1 m c) _)
  have hx := idx1 (grid0.coords t)
  rw [h0] at hx
  fin_cases a
  · exact Fin.ext (by show cc0_transform_1 (grid0.coords t) 0 * 512 + 1 * r = 512 * b + r; rw [hx]; show (b : ℕ) * 512 + 1 * r = 512 * b + r; omega)
  · exact Fin.ext (by show cc0_transform_1 (grid0.coords t) 1 * 512 + 1 * k = k; rw [hx]; show 0 * 512 + 1 * (k : ℕ) = k; omega)

theorem blk2_apply (t : Fin cfg0.N) (r : Fin 512) (k : Fin 256) (b : Fin 64) (h0 : (grid0.coords t 0 : ℕ) = b) :
    iblk m c 2 t (ix2 r k) = m ((c : Thread nD τ).loc main_arg2) (ix2 ⟨512 * b + r, by omega⟩ k) := by
  refine (congrArg (V m c main_arg2) (funext fun a => ?_)).trans (congrFun (V_main_arg2 m c) _)
  have hx := idx2 (grid0.coords t)
  rw [h0] at hx
  fin_cases a
  · exact Fin.ext (by show cc0_transform_2 (grid0.coords t) 0 * 512 + 1 * r = 512 * b + r; rw [hx]; show (b : ℕ) * 512 + 1 * r = 512 * b + r; omega)
  · exact Fin.ext (by show cc0_transform_2 (grid0.coords t) 1 * 256 + 1 * k = k; rw [hx]; show 0 * 256 + 1 * (k : ℕ) = k; omega)

theorem blk3_apply (t : Fin cfg0.N) (r : Fin 512) (k : Fin 256) (b : Fin 64) (h0 : (grid0.coords t 0 : ℕ) = b) :
    iblk m c 3 t (ix2 r k) = m ((c : Thread nD τ).loc main_arg3) (ix2 ⟨512 * b + r, by omega⟩ k) := by
  refine (congrArg (V m c main_arg3) (funext fun a => ?_)).trans (congrFun (V_main_arg3 m c) _)
  have hx := idx3 (grid0.coords t)
  rw [h0] at hx
  fin_cases a
  · exact Fin.ext (by show cc0_transform_3 (grid0.coords t) 0 * 512 + 1 * r = 512 * b + r; rw [hx]; show (b : ℕ) * 512 + 1 * r = 512 * b + r; omega)
  · exact Fin.ext (by show cc0_transform_3 (grid0.coords t) 1 * 256 + 1 * k = k; rw [hx]; show 0 * 256 + 1 * (k : ℕ) = k; omega)

theorem blk4_apply (t : Fin cfg0.N) (k : Fin 512) : iblk m c 4 t (ix2 0 k) = m ((c : Thread nD τ).loc main_arg4) (ix1 k) := by
  refine (congrArg (V m c main_v0) (funext fun a => ?_ : _ = ix2 0 k)).trans ((congrFun (V_v0 m c) _).trans ?_)
  · fin_cases a
    · exact Fin.ext (by show 0 * 1 + 1 * 0 = 0; omega)
    · exact Fin.ext (by show 0 * 512 + 1 * (k : ℕ) = k; omega)
  · pointwise []

theorem blk6_apply (t : Fin cfg0.N) (k : Fin 1024) : iblk m c 6 t (ix2 0 k) = m ((c : Thread nD τ).loc main_arg6) (ix1 k) := by
  refine (congrArg (V m c main_v1) (funext fun a => ?_ : _ = ix2 0 k)).trans ((congrFun (V_v1 m c) _).trans ?_)
  · fin_cases a
    · exact Fin.ext (by show 0 * 1 + 1 * 0 = 0; omega)
    · exact Fin.ext (by show 0 * 1024 + 1 * (k : ℕ) = k; omega)
  · pointwise []

theorem blk9_apply (t : Fin cfg0.N) (k : Fin 1024) : iblk m c 9 t (ix2 0 k) = m ((c : Thread nD τ).loc main_arg9) (ix1 k) := by
  refine (congrArg (V m c main_v2) (funext fun a => ?_ : _ = ix2 0 k)).trans ((congrFun (V_v2 m c) _).trans ?_)
  · fin_cases a
    · exact Fin.ext (by show 0 * 1 + 1 * 0 = 0; omega)
    · exact Fin.ext (by show 0 * 1024 + 1 * (k : ℕ) = k; omega)
  · pointwise []

theorem blk5_apply (t : Fin cfg0.N) (k j : Fin 1024) : iblk m c 5 t (ix2 k j) = m ((c : Thread nD τ).loc main_arg5) (ix2 k j) := by
  refine (congrArg (V m c main_arg5) (funext fun a => ?_)).trans (congrFun (V_main_arg5 m c) _)
  fin_cases a
  · exact Fin.ext (by show 0 * 1024 + 1 * (k : ℕ) = k; omega)
  · exact Fin.ext (by show 0 * 1024 + 1 * (j : ℕ) = j; omega)

theorem blk7_apply (t : Fin cfg0.N) (k : Fin 1024) (j : Fin 4096) : iblk m c 7 t (ix2 k j) = m ((c : Thread nD τ).loc main_arg7) (ix2 k j) := by
  refine (congrArg (V m c main_arg7) (funext fun a => ?_)).trans (congrFun (V_main_arg7 m c) _)
  fin_cases a
  · exact Fin.ext (by show 0 * 1024 + 1 * (k : ℕ) = k; omega)
  · exact Fin.ext (by show 0 * 4096 + 1 * (j : ℕ) = j; omega)

theorem blk8_apply (t : Fin cfg0.N) (k : Fin 4096) (j : Fin 1024) : iblk m c 8 t (ix2 k j) = m ((c : Thread nD τ).loc main_arg8) (ix2 k j) := by
  refine (congrArg (V m c main_arg8) (funext fun a => ?_)).trans (congrFun (V_main_arg8 m c) _)
  fin_cases a
  · exact Fin.ext (by show 0 * 4096 + 1 * (k : ℕ) = k; omega)
  · exact Fin.ext (by show 0 * 1024 + 1 * (j : ℕ) = j; omega)

/-- What a grid point writes back is its block of the reference's result. -/
theorem flushed_eq (t : Fin cfg0.N) : (dats m 0 c).flushed 10 t = ((cfg0.win 10).blk t).view.read (Elt Ideal) (result m c) := by
  rw [Value.flushed10]
  funext j
  obtain ⟨r, l, rfl⟩ : ∃ (r : Fin 512) (l : Fin 1024), j = ix2 r l := by
    refine ⟨⟨(j 0).val, (j 0).isLt⟩, ⟨(j 1).val, (j 1).isLt⟩, funext fun a => ?_⟩
    fin_cases a <;> rfl
  have h0 : (grid0.coords t 0 : ℕ) < 64 := (grid0.coords t 0).isLt
  refine (block_apply _ _ _ _ _ _ _ _ _ _ r l).trans ?_
  simp only [blk0_apply m c t _ _ ⟨_, h0⟩ rfl, blk1_apply m c t _ _ ⟨_, h0⟩ rfl, blk2_apply m c t _ _ ⟨_, h0⟩ rfl,
    blk3_apply m c t _ _ ⟨_, h0⟩ rfl, blk4_apply, blk5_apply, blk6_apply, blk7_apply, blk8_apply, blk9_apply]
  refine (Reference2Ideal.Mix.result_apply _ _ _ _ _ _ _ _ _ _ ⟨512 * (grid0.coords t 0 : ℕ) + r, by omega⟩ l).symm.trans ?_
  refine congrArg (result m c) (funext fun a => ?_)
  have hx := idx10 (grid0.coords t)
  fin_cases a
  · exact Fin.ext (by show 512 * (grid0.coords t 0 : ℕ) + r = cc0_transform_10 (grid0.coords t) 0 * 512 + 1 * r; rw [hx]; show 512 * (grid0.coords t 0 : ℕ) + r = (grid0.coords t 0 : ℕ) * 512 + 1 * r; omega)
  · exact Fin.ext (by show (l : ℕ) = cc0_transform_10 (grid0.coords t) 1 * 1024 + 1 * l; rw [hx]; show (l : ℕ) = 0 * 1024 + 1 * l; omega)

theorem coords_eq : ∀ t : Fin cfg0.N, (grid0.coords t 0 : ℕ) = t :=
  (by decide +kernel : ∀ t : Fin grid0.N, (grid0.coords t 0 : ℕ) = t)

theorem mem_blk (t : Fin cfg0.N) (i : S32768x1024.Idx) : i ∈ ((cfg0.win 10).blk t).view.set ↔
    ∀ a : Fin 2, cc0_transform_10 (grid0.coords t) a * S512x1024.size a ≤ (i a : ℕ) ∧
      (i a : ℕ) < cc0_transform_10 (grid0.coords t) a * S512x1024.size a + S512x1024.size a := by
  show i ∈ ((View.whole main_v3).slice (win0_10.rect t)).set ↔ _
  rw [View.set_slice_whole, Rect.mem_set_unit]
  exact Iff.rfl

/-- The blocks tile the result. -/
theorem cover (i : S32768x1024.Idx) : ∃ t : Fin cfg0.N, (cfg0.win 10).flush t = true ∧ i ∈ ((cfg0.win 10).blk t).view.set := by
  have h0 : (i 0 : ℕ) < 32768 := (i 0).isLt
  have h1 : (i 1 : ℕ) < 1024 := (i 1).isLt
  have hN : cfg0.N = 64 := by decide +kernel
  have ht : (i 0 : ℕ) / 512 < cfg0.N := by rw [hN]; omega
  refine ⟨⟨_, ht⟩, flush0_10 _, ?_⟩
  rw [mem_blk, idx10, coords_eq]
  intro a
  fin_cases a
  · show (i 0 : ℕ) / 512 * 512 ≤ i 0 ∧ (i 0 : ℕ) < (i 0 : ℕ) / 512 * 512 + 512; omega
  · show 0 * 1024 ≤ (i 1 : ℕ) ∧ (i 1 : ℕ) < 0 * 1024 + 1024; omega

theorem final : (dats m 0 c).arrAt 10 cfg0.N = result m c :=
  (dats m 0 c).arrAt_eq_of_cover 10 (result m c) (fun t _ => flushed_eq m c t) cover

end Cert.Kernel2Ideal.Mix
-- ==== Proof.Mix.Claim.lean ====
module

public import proofs.«01_k».proof.Defs
public import proofs.«01_k».proof.Proof.Mix.ArrayValue
public import proofs.«01_k».proof.Proof.Gen.Kernel2.Frame
public import proofs.«01_k».proof.Proof.Gen.Reference2Ideal.Run

@[expose] public section

set_option maxRecDepth 16384

noncomputable section

/-! The claims about the end of the layer: the frames, and the kernel's result the reference's. -/

namespace Cert.Kernel2Ideal.Mix

open Cert.Kernel2Ideal Cert.Kernel2Ideal.Gen
open Idealize.ShloMosaic Idealize.ShloMosaic.TcCoe Idealize.SL.Sem

theorem frame_bits : Cert.quiescent_Kernel2 := fun m g _ => Kernel2.Gen.frame m g

theorem frame_ideal : Cert.quiescent_Kernel2Ideal := fun m g _ => frame m g

theorem frame_reference : Cert.quiescent_Reference2Ideal := fun m g _ =>
  (θ_run _ _ _).mono (fun r h => ⟨fun c => (h c).2, sem_eq_zero_of_no_sems (by decide) r.2⟩) (Reference2Ideal.Value.run m g)

theorem algebraic : Cert.algebraic_Kernel2Ideal_Reference2Ideal := by
  intro m g m' g' _ hagree
  refine ⟨fun c => result m c, (θ_run _ _ _).mono (fun r h c => ⟨(h c).1.trans (final m c), (h c).2⟩) (Value.run_blocks m g), ?_⟩
  refine (θ_run _ _ _).mono (fun r h c => ⟨(h c).1.trans ?_, (h c).2⟩) (Reference2Ideal.Value.run m' g')
  obtain ⟨h0, h1, h2, h3, h4, h5, h6, h7, h8, h9⟩ := hagree c
  rw [Reference2Ideal.Read.val_main_v49_eq, h0, h1, h2, h3, h4, h5, h6, h7, h8, h9]

end Cert.Kernel2Ideal.Mix
-- ==== Proof.InProj.Row.lean ====
module

public import proofs.«01_k».proof.Proof.Mix.Row

@[expose] public section

set_option maxRecDepth 16384

noncomputable section

/-! One token's row through the input projection. -/

namespace Cert.InRow

open Idealize.ShloMosaic

/-- A column of the projection of a token's normed row. -/
def proj (x g : Fin 1024 → EReal) (w : Fin 1024 → Fin 2832 → EReal) (j : Fin 2832) : EReal :=
  ∑ i, MixRow.rms 1149239296#32 x g i * w i j

/-- The queries' columns, scaled by 1/8. -/
def query (x g : Fin 1024 → EReal) (w : Fin 1024 → Fin 2832 → EReal) (j : Fin 512) : EReal :=
  proj x g w ⟨j, by omega⟩ * Ideal.ofBits .f32 1040187392#32

/-- The linear attention's columns: its queries scaled by 1/√32 as rounded, then its keys, values, gates and ranks, then zeros. -/
def linear (x g : Fin 1024 → EReal) (w : Fin 1024 → Fin 2832 → EReal) (j : Fin 896) : EReal :=
  if (j : ℕ) < 128 then proj x g w ⟨1536 + j, by omega⟩ * Ideal.ofBits .f32 1043662067#32
  else if (j : ℕ) < 784 then proj x g w ⟨1536 + j, by omega⟩ else 0

/-- The weights' columns with 112 columns of zeros before the RG-LRU's. -/
def padded (w : Fin 1024 → Fin 2832 → EReal) (i : Fin 1024) (j : Fin 2944) : EReal :=
  if h : (j : ℕ) < 2320 then w i ⟨j, by omega⟩ else if (j : ℕ) < 2432 then 0 else w i ⟨j - 112, by omega⟩

/-- Before the zeros a padded column is the column itself. -/
theorem padded_low (w : Fin 1024 → Fin 2832 → EReal) (i : Fin 1024) (j : ℕ) (h : j < 2320) :
    padded w i ⟨j, by omega⟩ = w i ⟨j, by omega⟩ := by
  unfold padded
  rw [dif_pos (by exact h)]

/-- After the zeros it is the column 112 before. -/
theorem padded_high (w : Fin 1024 → Fin 2832 → EReal) (i : Fin 1024) (j : ℕ) (h : j < 512) :
    padded w i ⟨2432 + j, by omega⟩ = w i ⟨2320 + j, by omega⟩ := by
  unfold padded
  rw [dif_neg (by show ¬2432 + j < 2320; omega), if_neg (by show ¬2432 + j < 2432; omega)]
  exact congrArg (w i) (Fin.ext (by show 2432 + j - 112 = 2320 + j; omega))

/-- The sum of a row against the zeros vanishes. -/
theorem padded_zero (h : Fin 1024 → EReal) (w : Fin 1024 → Fin 2832 → EReal) (j : ℕ) (h0 : 2320 ≤ j) (h1 : j < 2432) :
    ∑ i, h i * padded w i ⟨j, by omega⟩ = 0 := by
  refine Finset.sum_eq_zero fun i _ => ?_
  unfold padded
  rw [dif_neg (by show ¬j < 2320; omega), if_pos (by exact h1), mul_zero]

end Cert.InRow
-- ==== Proof.InProj.BlockValue.lean ====
module

public import proofs.«01_k».proof.Proof.Gen.Kernel3Ideal.Value
public import proofs.«01_k».proof.Proof.InProj.Row
public import Idealize.ShloMosaic.Lib.Pointwise

@[expose] public section

set_option maxRecDepth 16384

noncomputable section

/-! A block of 512 tokens through the kernel's body, read at an index: the row functions of `Row`. The weights come as the
host lays them out: the columns padded with zeros, and the transposed columns of the keys and values. -/

namespace Cert.Kernel3Ideal.InProj

open Cert.Kernel3Ideal Cert.Kernel3Ideal.Gen Cert.InRow
open Idealize.ShloMosaic

variable (x0 : Vec Ideal S1x512x1024 .f32) (x1 : Vec Ideal S1x1024 .f32) (x2 : Vec Ideal S1024x2944 .bf16) (x3 : Vec Ideal S1024x1024 .bf16)
  (w : Fin 1024 → Fin 2832 → EReal)

/-- A token's normed row. -/
theorem normed_apply (r : Fin 512) (i : Fin 1024) : k0_pay4 (View.ld x0 r0_0) (View.ld x1 r0_1) (ix2 r i) =
    MixRow.rms 1149239296#32 (fun i => x0 (ix3 0 r i)) (fun i => x1 (ix2 0 i)) i := by
  unfold MixRow.rms
  pointwise [k0_pay4]

/-- The queries' block. -/
theorem query_apply (h2 : ∀ i j, x2 (ix2 i j) = padded w i j) (r j : Fin 512) : out0_4 x0 x1 x2 x3 (ix3 0 r j) =
    query (fun i => x0 (ix3 0 r i)) (fun i => x1 (ix2 0 i)) w j := by
  unfold out0_4 query proj
  rw [View.canon_unit_zero (by funext a; fin_cases a <;> rfl)]
  simp only [← normed_apply, ← padded_low w _ _ (show (j : ℕ) < 2320 by omega), ← h2]
  pointwise [k0_pay5]

/-- The RG-LRU's block. -/
theorem recurrent_apply (h2 : ∀ i j, x2 (ix2 i j) = padded w i j) (r j : Fin 512) : out0_10 x0 x1 x2 x3 (ix3 0 r j) =
    proj (fun i => x0 (ix3 0 r i)) (fun i => x1 (ix2 0 i)) w ⟨2320 + j, by omega⟩ := by
  unfold out0_10 proj k0_pay13
  rw [View.canon_unit_zero (by funext a; fin_cases a <;> rfl)]
  simp only [← normed_apply, ← padded_high w _ _ j.isLt, ← h2]
  pointwise [k0_pay7]

/-- The linear attention's block. -/
theorem linear_apply (h2 : ∀ i j, x2 (ix2 i j) = padded w i j) (r : Fin 512) (j : Fin 896) : out0_9 x0 x1 x2 x3 (ix3 0 r j) =
    linear (fun i => x0 (ix3 0 r i)) (fun i => x1 (ix2 0 i)) w j := by
  have e : ∑ i, k0_pay4 (View.ld x0 r0_0) (View.ld x1 r0_1) (ix2 r i) * x2 (ix2 i ⟨1536 + j, by omega⟩) =
      if (j : ℕ) < 784 then proj (fun i => x0 (ix3 0 r i)) (fun i => x1 (ix2 0 i)) w ⟨1536 + j, by omega⟩ else 0 := by
    simp only [h2]
    by_cases h : (j : ℕ) < 784
    · rw [if_pos h]
      simp only [padded_low w _ _ (show 1536 + (j : ℕ) < 2320 by omega), normed_apply]
      rfl
    · rw [if_neg h]
      exact padded_zero _ w _ (by omega) (by omega)
  unfold out0_9 linear
  rw [View.canon_unit_zero (by funext a; fin_cases a <;> rfl)]
  by_cases h : (j : ℕ) < 128
  · rw [if_pos (by omega)] at e
    rw [if_pos h, ← e]
    pointwise [k0_pay6]
    exact dif_pos h
  · rw [if_neg h, ← e]
    pointwise [k0_pay6]
    refine (dif_neg h).trans (Finset.sum_congr rfl fun i _ => congrArg (k0_pay4 (View.ld x0 r0_0) (View.ld x1 r0_1) (ix2 r i) * ·) ?_)
    exact congrArg (fun j => x2 (ix2 i j)) (Fin.ext (by show 1664 + ((j : ℕ) - 128) = 1536 + j; omega))

/-- The product of the transposed weights' first half with the block's normed rows. -/
theorem keyProduct_apply (h3 : ∀ k i, x3 (ix2 k i) = w i ⟨512 + k, by omega⟩) (k r : Fin 512) :
    k0_pay8 (k0_pay4 (View.ld x0 r0_0) (View.ld x1 r0_1)) (View.ld x3 r0_8) (ix2 k r) =
      proj (fun i => x0 (ix3 0 r i)) (fun i => x1 (ix2 0 i)) w ⟨512 + k, by omega⟩ := by
  unfold proj
  simp only [← normed_apply, mul_comm _ (w _ _)]
  simp only [← h3 ⟨(k : ℕ), by omega⟩]
  pointwise [k0_pay8]

/-- The second half's. -/
theorem valueProduct_apply (h3 : ∀ k i, x3 (ix2 k i) = w i ⟨512 + k, by omega⟩) (k r : Fin 512) :
    k0_pay12 (k0_pay4 (View.ld x0 r0_0) (View.ld x1 r0_1)) (View.ld x3 r0_11) (ix2 k r) =
      proj (fun i => x0 (ix3 0 r i)) (fun i => x1 (ix2 0 i)) w ⟨1024 + k, by omega⟩ := by
  have e : ∀ i, x3 (ix2 ⟨512 + k, by omega⟩ i) = w i ⟨1024 + k, by omega⟩ := fun i =>
    (h3 _ i).trans (congrArg (w i) (Fin.ext (by show 512 + (512 + (k : ℕ)) = 1024 + k; omega)))
  unfold proj
  simp only [← normed_apply, mul_comm _ (w _ _), ← e]
  pointwise [k0_pay12]
  exact Finset.sum_congr rfl fun i _ => mul_comm _ _

/-- The keys' block. -/
theorem key_apply (h3 : ∀ k i, x3 (ix2 k i) = w i ⟨512 + k, by omega⟩) (k r : Fin 512) : out0_5 x0 x1 x2 x3 (ix3 0 k r) =
    proj (fun i => x0 (ix3 0 r i)) (fun i => x1 (ix2 0 i)) w ⟨512 + k, by omega⟩ := by
  rw [← keyProduct_apply x0 x1 x3 w h3]
  unfold out0_5 k0_pay13
  rw [View.canon_unit_zero (by funext a; fin_cases a <;> rfl)]
  pointwise [k0_pay9]

/-- The values' block. -/
theorem value_apply (h3 : ∀ k i, x3 (ix2 k i) = w i ⟨512 + k, by omega⟩) (k r : Fin 512) : out0_6 x0 x1 x2 x3 (ix3 0 k r) =
    proj (fun i => x0 (ix3 0 r i)) (fun i => x1 (ix2 0 i)) w ⟨1024 + k, by omega⟩ := by
  rw [← valueProduct_apply x0 x1 x3 w h3]
  unfold out0_6 k0_pay14 k0_pay13
  rw [View.canon_unit_zero (by funext a; fin_cases a <;> rfl)]
  pointwise [k0_pay1]

/-- The keys' two pages. -/
theorem keyPage_apply (h3 : ∀ k i, x3 (ix2 k i) = w i ⟨512 + k, by omega⟩) (p : Fin 2) (k : Fin 512) (j : Fin 256) :
    out0_7 x0 x1 x2 x3 (ix4 0 p k j) =
      proj (fun i => x0 (ix3 0 ⟨256 * p + j, by omega⟩ i)) (fun i => x1 (ix2 0 i)) w ⟨512 + k, by omega⟩ := by
  rw [← keyProduct_apply x0 x1 x3 w h3]
  refine (Value.canon7_eq (F := Ideal) (View.ld x0 r0_0) (View.ld x1 r0_1) (View.ld x3 r0_8) (ix4 0 p k j)).trans ?_
  refine congrArg (k0_pay8 (k0_pay4 (View.ld x0 r0_0) (View.ld x1 r0_1)) (View.ld x3 r0_8)) (funext fun a => ?_)
  fin_cases a <;> exact Fin.ext (by first | rfl | (show (p : ℕ) * 256 + j = 256 * p + j; omega))

/-- The values' two pages. -/
theorem valuePage_apply (h3 : ∀ k i, x3 (ix2 k i) = w i ⟨512 + k, by omega⟩) (p : Fin 2) (k : Fin 512) (j : Fin 256) :
    out0_8 x0 x1 x2 x3 (ix4 0 p k j) =
      proj (fun i => x0 (ix3 0 ⟨256 * p + j, by omega⟩ i)) (fun i => x1 (ix2 0 i)) w ⟨1024 + k, by omega⟩ := by
  rw [← valueProduct_apply x0 x1 x3 w h3]
  refine (Value.canon8_eq (F := Ideal) (View.ld x0 r0_0) (View.ld x1 r0_1) (View.ld x3 r0_11) (ix4 0 p k j)).trans ?_
  refine congrArg (k0_pay12 (k0_pay4 (View.ld x0 r0_0) (View.ld x1 r0_1)) (View.ld x3 r0_11)) (funext fun a => ?_)
  fin_cases a <;> exact Fin.ext (by first | rfl | (show (p : ℕ) * 256 + j = 256 * p + j; omega))

end Cert.Kernel3Ideal.InProj
-- ==== Proof.InProj.HostValue.lean ====
module

public import proofs.«01_k».proof.Proof.Gen.Kernel3Ideal.Value
public import proofs.«01_k».proof.Proof.InProj.Row
public import Idealize.ShloMosaic.Lib.Pointwise

@[expose] public section

set_option maxRecDepth 16384

noncomputable section

/-! What the host hands to the input projection, and the blocks of it that a grid point reads, in terms of the arguments. -/

namespace Cert.Kernel3Ideal.InProj

open Cert.Kernel3Ideal Cert.Kernel3Ideal.Gen Cert.InRow
open Idealize.ShloMosaic Idealize.ShloMosaic.TcCoe Idealize.SL.Sem

variable (m : (ℓ : Loc nD τ sig) → Buf (Elt Ideal) ℓ) (c : Dev nD)

/-- The projection's weights, as a table. -/
abbrev table (i : Fin 1024) (j : Fin 2832) : EReal := m ((c : Thread nD τ).loc main_arg2) (ix2 i j)

/-- The padded weights. -/
theorem padded_eq (i : Fin 1024) (j : Fin 2944) : V m c main_v6 (ix2 i j) = padded (table m c) i j := by
  have e : V m c main_v6 = fun x => truncf .bf16 (concatenate S1024x2944 1
      [⟨S1024x2320, extractStridedSlice S1024x2320 ![0, 0] (m ((c : Thread nD τ).loc main_arg2)) slices_S1024x2832_S1024x2320_0_0⟩,
        ⟨S1024x112, broadcastInDim S1024x112 ![] bcast_S_S1024x112 (constant (F := Ideal) S_ .f32 0x00000000#32)⟩,
        ⟨S1024x512, extractStridedSlice S1024x512 ![0, 2320] (m ((c : Thread nD τ).loc main_arg2)) slices_S1024x2832_S1024x512_0_2320⟩]
      concatenates_S1024x2320_S1024x112_S1024x512_S1024x2944_d1) bitsLt_bf16_f32 x := by
    show StableHlo.after hostOps0 _ _ = _
    after_results
    rfl
  rw [e]
  unfold padded table
  pointwise []
  by_cases h : (j : ℕ) < 2320
  · rw [dif_pos h, dif_pos h]
  rw [dif_neg h, dif_neg h]
  by_cases h' : (j : ℕ) < 2432
  · rw [dif_pos (by omega), if_pos h']
  · rw [dif_neg (by omega), if_neg h']
    exact congrArg (fun j => m ((c : Thread nD τ).loc main_arg2) (ix2 i j)) (Fin.ext (by show 2320 + ((j : ℕ) - 2320 - 112) = j - 112; omega))

/-- The transposed weights of the keys and values. -/
theorem transposed_eq (k i : Fin 1024) : V m c main_v7 (ix2 k i) = table m c i ⟨512 + k, by omega⟩ := by
  have e : V m c main_v7 = (truncf .bf16 (extractStridedSlice S1024x1024 ![512, 0]
      (transpose S2832x1024 [1, 0] (m ((c : Thread nD τ).loc main_arg2) : FVec Ideal S1024x2832 .f32) transposes_S1024x2832_S2832x1024_1_0)
      slices_S2832x1024_S1024x1024_512_0) bitsLt_bf16_f32 : FVec Ideal S1024x1024 .bf16) := by
    show StableHlo.after hostOps0 _ _ = _
    after_results
  rw [e]
  pointwise []

/-- The norm's weights as a table of one row. -/
theorem gain_eq (i : Fin 1024) : V m c main_v8 (ix2 0 i) = m ((c : Thread nD τ).loc main_arg1) (ix1 i) := by
  have e : V m c main_v8 = fun x => shapeCast S1x1024 (m ((c : Thread nD τ).loc main_arg1)) shapeCasts_S1024_S1x1024 x := by
    show StableHlo.after hostOps0 _ _ = _
    after_results
    rfl
  rw [e]
  pointwise []

/-- The grid point's block of tokens starts at its own place. -/
theorem idx0 (i : grid0.Coords) : cc0_transform_0 i = ![(i 0 : ℕ), (i 1 : ℕ), 0] := by
  have h0 : (i 0 : ℕ) < 16 := (i 0).isLt
  have h1 : (i 1 : ℕ) < 4 := (i 1).isLt
  simp only [cc0_transform_0, BitVec.toNat_ofNat]
  rw [Nat.mod_eq_of_lt (by omega : (i 0 : ℕ) < 2 ^ 32), Nat.mod_eq_of_lt (by omega : (i 1 : ℕ) < 2 ^ 32)]

theorem blk0_apply (t : Fin cfg0.N) (r : Fin 512) (i : Fin 1024) (b : Fin 16) (q : Fin 4) (h0 : (grid0.coords t 0 : ℕ) = b)
    (h1 : (grid0.coords t 1 : ℕ) = q) :
    iblk m c 0 t (ix3 0 r i) = m ((c : Thread nD τ).loc main_arg0) (ix3 b ⟨512 * q + r, by omega⟩ i) := by
  refine (congrArg (V m c main_arg0) (funext fun a => ?_)).trans (congrFun (V_main_arg0 m c) _)
  have hx := idx0 (grid0.coords t)
  rw [h0, h1] at hx
  fin_cases a
  · exact Fin.ext (by show cc0_transform_0 (grid0.coords t) 0 * 1 + 1 * 0 = b; rw [hx]; show (b : ℕ) * 1 + 1 * 0 = b; omega)
  · exact Fin.ext (by show cc0_transform_0 (grid0.coords t) 1 * 512 + 1 * r = 512 * q + r; rw [hx]; show (q : ℕ) * 512 + 1 * r = 512 * q + r; omega)
  · exact Fin.ext (by show cc0_transform_0 (grid0.coords t) 2 * 1024 + 1 * i = i; rw [hx]; show 0 * 1024 + 1 * (i : ℕ) = i; omega)

theorem blk1_apply (t : Fin cfg0.N) (i : Fin 1024) : iblk m c 1 t (ix2 0 i) = m ((c : Thread nD τ).loc main_arg1) (ix1 i) := by
  refine (congrArg (V m c main_v8) (funext fun a => ?_ : _ = ix2 0 i)).trans (gain_eq m c i)
  fin_cases a
  · exact Fin.ext (by show 0 * 1 + 1 * 0 = 0; omega)
  · exact Fin.ext (by show 0 * 1024 + 1 * (i : ℕ) = i; omega)

theorem blk2_apply (t : Fin cfg0.N) (i : Fin 1024) (j : Fin 2944) : iblk m c 2 t (ix2 i j) = padded (table m c) i j := by
  refine (congrArg (V m c main_v6) (funext fun a => ?_ : _ = ix2 i j)).trans (padded_eq m c i j)
  fin_cases a
  · exact Fin.ext (by show 0 * 1024 + 1 * (i : ℕ) = i; omega)
  · exact Fin.ext (by show 0 * 2944 + 1 * (j : ℕ) = j; omega)

theorem blk3_apply (t : Fin cfg0.N) (k i : Fin 1024) : iblk m c 3 t (ix2 k i) = table m c i ⟨512 + k, by omega⟩ := by
  refine (congrArg (V m c main_v7) (funext fun a => ?_ : _ = ix2 k i)).trans (transposed_eq m c k i)
  fin_cases a
  · exact Fin.ext (by show 0 * 1024 + 1 * (k : ℕ) = k; omega)
  · exact Fin.ext (by show 0 * 1024 + 1 * (i : ℕ) = i; omega)

end Cert.Kernel3Ideal.InProj
-- ==== Proof.InProj.RefValue.lean ====
module

public import proofs.«01_k».proof.Proof.Gen.Reference3Ideal.Read
public import proofs.«01_k».proof.Proof.InProj.Row
public import Idealize.ShloMosaic.Lib.Pointwise

@[expose] public section

set_option maxRecDepth 16384

noncomputable section

/-! The reference's input projection on the extended reals, read at an index: the row functions of `Row`. -/

namespace Cert.Reference3Ideal.InProj

open Cert.Reference3Ideal Cert.Reference3Ideal.Gen Cert.Reference3Ideal.Read Cert.InRow
open Idealize.ShloMosaic

variable (x0 : Vec Ideal S16x2048x1024 .f32) (x1 : Vec Ideal S1024 .f32) (x2 : Vec Ideal S1024x2832 .f32) (b : Fin 16)

/-- The normed input. -/
theorem normed_apply (t : Fin 2048) (i : Fin 1024) : val_main_v12 (F := Ideal) x0 x1 (ix3 b t i) =
    MixRow.rms 1149239296#32 (fun i => x0 (ix3 b t i)) (fun i => x1 (ix1 i)) i := by
  unfold MixRow.rms
  pointwise [val_main_v12, val_main_v11, val_main_v10, val_main_v9, val_main_v8, val_main_v7, val_main_v6, val_main_v5, val_main_cst_1,
    val_main_v4, val_main_v3, val_main_cst_0, val_main_v2, val_main_v1, val_main_cst, val_main_v0]

/-- The projection. -/
theorem proj_apply (t : Fin 2048) (j : Fin 2832) : val_main_v13 (F := Ideal) x0 x1 x2 (ix3 b t j) =
    proj (fun i => x0 (ix3 b t i)) (fun i => x1 (ix1 i)) (fun i j => x2 (ix2 i j)) j := by
  unfold proj
  simp only [← normed_apply]
  pointwise [val_main_v13]

/-- The queries. -/
theorem query_apply (t : Fin 2048) (j : Fin 512) : val_main_v25 (F := Ideal) x0 x1 x2 (ix3 b t j) =
    query (fun i => x0 (ix3 b t i)) (fun i => x1 (ix1 i)) (fun i j => x2 (ix2 i j)) j := by
  unfold query
  rw [← proj_apply]
  pointwise [val_main_v25, val_main_v16, val_main_v15, val_main_cst_2, val_main_v14]

/-- The keys, by feature. -/
theorem key_apply (k : Fin 512) (t : Fin 2048) : val_main_v26 (F := Ideal) x0 x1 x2 (ix3 b k t) =
    proj (fun i => x0 (ix3 b t i)) (fun i => x1 (ix1 i)) (fun i j => x2 (ix2 i j)) ⟨512 + k, by omega⟩ := by
  rw [← proj_apply]
  pointwise [val_main_v26, val_main_v17]

/-- The values, by feature. -/
theorem value_apply (k : Fin 512) (t : Fin 2048) : val_main_v27 (F := Ideal) x0 x1 x2 (ix3 b k t) =
    proj (fun i => x0 (ix3 b t i)) (fun i => x1 (ix1 i)) (fun i j => x2 (ix2 i j)) ⟨1024 + k, by omega⟩ := by
  rw [← proj_apply]
  pointwise [val_main_v27, val_main_v18]

/-- The keys, by page. -/
theorem keyPage_apply (p : Fin 8) (k : Fin 512) (j : Fin 256) : val_main_v30 (F := Ideal) x0 x1 x2 (ix4 b p k j) =
    val_main_v26 (F := Ideal) x0 x1 x2 (ix3 b k ⟨256 * p + j, by omega⟩) := by
  pointwise [val_main_v30, val_main_v29, val_main_v28, val_main_v26]
  exact congrArg (fun t => val_main_v17 (F := Ideal) x0 x1 x2 (ix3 b t k)) (Fin.ext (by show (p : ℕ) * 256 + j = 256 * p + j; omega))

/-- The values, by page. -/
theorem valuePage_apply (p : Fin 8) (k : Fin 512) (j : Fin 256) : val_main_v33 (F := Ideal) x0 x1 x2 (ix4 b p k j) =
    val_main_v27 (F := Ideal) x0 x1 x2 (ix3 b k ⟨256 * p + j, by omega⟩) := by
  pointwise [val_main_v33, val_main_v32, val_main_v31, val_main_v27]
  exact congrArg (fun t => val_main_v18 (F := Ideal) x0 x1 x2 (ix3 b t k)) (Fin.ext (by show (p : ℕ) * 256 + j = 256 * p + j; omega))

/-- The zeros beside it. -/
theorem zeros_apply (t : Fin 2048) (i : Fin 112) : val_main_v23 (F := Ideal) (ix3 b t i) = 0 := by
  pointwise [val_main_v23, val_main_cst_4]

/-- The linear attention's part. -/
theorem linear_apply (t : Fin 2048) (j : Fin 896) : val_main_v24 (F := Ideal) x0 x1 x2 (ix3 b t j) =
    linear (fun i => x0 (ix3 b t i)) (fun i => x1 (ix1 i)) (fun i j => x2 (ix2 i j)) j := by
  unfold linear
  simp only [← proj_apply]
  by_cases h : (j : ℕ) < 128
  · rw [if_pos h]
    pointwise [val_main_v24, val_main_v21, val_main_v20, val_main_cst_3, val_main_v19]
    exact dif_pos h
  · by_cases h' : (j : ℕ) < 784
    · rw [if_neg h, if_pos h']
      pointwise [val_main_v24, val_main_v22]
      exact (dif_neg h).trans ((dif_pos (by omega)).trans
        (congrArg (fun j => val_main_v13 (F := Ideal) x0 x1 x2 (ix3 b t j)) (Fin.ext (by show 1664 + ((j : ℕ) - 128) = 1536 + j; omega))))
    · rw [if_neg h, if_neg h']
      pointwise [val_main_v24, val_main_v23, val_main_cst_4]
      exact (dif_neg h).trans (dif_neg (by omega))

/-- The RG-LRU's part. -/
theorem recurrent_apply (t : Fin 2048) (j : Fin 512) : val_main_v34 (F := Ideal) x0 x1 x2 (ix3 b t j) =
    proj (fun i => x0 (ix3 b t i)) (fun i => x1 (ix1 i)) (fun i j => x2 (ix2 i j)) ⟨2320 + j, by omega⟩ := by
  rw [← proj_apply]
  pointwise [val_main_v34]

end Cert.Reference3Ideal.InProj
-- ==== Proof.InProj.ArrayValue.lean ====
module

public import proofs.«01_k».proof.Proof.InProj.BlockValue
public import proofs.«01_k».proof.Proof.InProj.HostValue
public import proofs.«01_k».proof.Proof.InProj.RefValue

@[expose] public section

set_option maxRecDepth 16384

noncomputable section

/-! The seven result arrays of the input projection are the reference's, whatever the arguments. -/

namespace Cert.Kernel3Ideal.InProj

open Cert.Kernel3Ideal Cert.Kernel3Ideal.Gen Cert.InRow
open Idealize.ShloMosaic Idealize.ShloMosaic.TcCoe Idealize.SL.Sem

variable (m : (ℓ : Loc nD τ sig) → Buf (Elt Ideal) ℓ) (c : Dev nD)

/-- The reference's results on the kernel's own arguments. -/
abbrev query : Vec Ideal S16x2048x512 .bf16 := Reference3Ideal.Read.val_main_v25 (F := Ideal) (m ((c : Thread nD τ).loc main_arg0))
  (m ((c : Thread nD τ).loc main_arg1)) (m ((c : Thread nD τ).loc main_arg2))
abbrev key : Vec Ideal S16x512x2048 .f32 := Reference3Ideal.Read.val_main_v26 (F := Ideal) (m ((c : Thread nD τ).loc main_arg0))
  (m ((c : Thread nD τ).loc main_arg1)) (m ((c : Thread nD τ).loc main_arg2))
abbrev value : Vec Ideal S16x512x2048 .f32 := Reference3Ideal.Read.val_main_v27 (F := Ideal) (m ((c : Thread nD τ).loc main_arg0))
  (m ((c : Thread nD τ).loc main_arg1)) (m ((c : Thread nD τ).loc main_arg2))
abbrev keyPage : Vec Ideal S16x8x512x256 .bf16 := Reference3Ideal.Read.val_main_v30 (F := Ideal) (m ((c : Thread nD τ).loc main_arg0))
  (m ((c : Thread nD τ).loc main_arg1)) (m ((c : Thread nD τ).loc main_arg2))
abbrev valuePage : Vec Ideal S16x8x512x256 .bf16 := Reference3Ideal.Read.val_main_v33 (F := Ideal) (m ((c : Thread nD τ).loc main_arg0))
  (m ((c : Thread nD τ).loc main_arg1)) (m ((c : Thread nD τ).loc main_arg2))
abbrev linear : Vec Ideal S16x2048x896 .f32 := Reference3Ideal.Read.val_main_v24 (F := Ideal) (m ((c : Thread nD τ).loc main_arg0))
  (m ((c : Thread nD τ).loc main_arg1)) (m ((c : Thread nD τ).loc main_arg2))
abbrev recurrent : Vec Ideal S16x2048x512 .f32 := Reference3Ideal.Read.val_main_v34 (F := Ideal) (m ((c : Thread nD τ).loc main_arg0))
  (m ((c : Thread nD τ).loc main_arg1)) (m ((c : Thread nD τ).loc main_arg2))

/-- Where a grid point's block of a result starts: of the results by token, by feature, by page. -/
theorem idx4 (i : grid0.Coords) : cc0_transform_4 i = ![(i 0 : ℕ), (i 1 : ℕ), 0] := idx0 i
theorem idx9 (i : grid0.Coords) : cc0_transform_9 i = ![(i 0 : ℕ), (i 1 : ℕ), 0] := idx0 i
theorem idx10 (i : grid0.Coords) : cc0_transform_10 i = ![(i 0 : ℕ), (i 1 : ℕ), 0] := idx0 i
theorem idx5 (i : grid0.Coords) : cc0_transform_5 i = ![(i 0 : ℕ), 0, (i 1 : ℕ)] := by
  have e := idx0 i
  funext a
  fin_cases a
  · exact congrFun e 0
  · exact congrFun e 2
  · exact congrFun e 1
theorem idx6 (i : grid0.Coords) : cc0_transform_6 i = ![(i 0 : ℕ), 0, (i 1 : ℕ)] := idx5 i
theorem idx7 (i : grid0.Coords) : cc0_transform_7 i = ![(i 0 : ℕ), (i 1 : ℕ), 0, 0] := by
  have e := idx0 i
  funext a
  fin_cases a
  · exact congrFun e 0
  · exact congrFun e 1
  · exact congrFun e 2
  · exact congrFun e 2
theorem idx8 (i : grid0.Coords) : cc0_transform_8 i = ![(i 0 : ℕ), (i 1 : ℕ), 0, 0] := idx7 i

/-- The sequence and the block of tokens of a grid point. -/
abbrev seqOf (t : Fin cfg0.N) : Fin 16 := grid0.coords t 0
abbrev quarter (t : Fin cfg0.N) : Fin 4 := grid0.coords t 1

/-- A token of the grid point's block. -/
abbrev token (t : Fin cfg0.N) (r : Fin 512) : Fin 2048 := ⟨512 * (quarter t : ℕ) + r, by have := (quarter t).isLt; omega⟩

/-- A token's row of the block is its row of the argument. -/
theorem row_eq (t : Fin cfg0.N) (r : Fin 512) : (fun i => iblk m c 0 t (ix3 0 r i)) =
    fun i => m ((c : Thread nD τ).loc main_arg0) (ix3 (seqOf t) (token t r) i) :=
  funext fun i => blk0_apply m c t r i (seqOf t) (quarter t) rfl rfl

/-- An index of a block of 512 tokens and `n` features is one of the two. -/
theorem exists_ix3 {n k : ℕ} (j : (⟨3, ![1, n, k]⟩ : Shape).Idx) : ∃ (r : Fin n) (l : Fin k), j = ix3 0 r l := by
  refine ⟨⟨(j 1).val, (j 1).isLt⟩, ⟨(j 2).val, (j 2).isLt⟩, funext fun a => ?_⟩
  have h : (j 0).val < 1 := (j 0).isLt
  fin_cases a
  · exact Fin.ext (by show (j 0).val = 0; omega)
  · rfl
  · rfl

/-- An index of a block of two pages is one of page, feature and token. -/
theorem exists_ix4 (j : S1x2x512x256.Idx) : ∃ (p : Fin 2) (k : Fin 512) (l : Fin 256), j = ix4 0 p k l := by
  refine ⟨⟨(j 1).val, (j 1).isLt⟩, ⟨(j 2).val, (j 2).isLt⟩, ⟨(j 3).val, (j 3).isLt⟩, funext fun a => ?_⟩
  have h : (j 0).val < 1 := (j 0).isLt
  fin_cases a
  · exact Fin.ext (by show (j 0).val = 0; omega)
  all_goals rfl

/-- Where an entry of a block lies in a result by token. -/
theorem by_token {T : Fin 3 → ℕ} (t : Fin cfg0.N) (hT : T = ![(seqOf t : ℕ), (quarter t : ℕ), 0]) {n : ℕ} (r : Fin 512) (l : Fin n)
    (y : (⟨3, ![16, 2048, n]⟩ : Shape).Idx) (h0 : (y 0).val = T 0 * 1 + 1 * 0) (h1 : (y 1).val = T 1 * 512 + 1 * r)
    (h2 : (y 2).val = T 2 * n + 1 * l) : ix3 (seqOf t) (token t r) l = y := by
  subst hT
  funext a
  fin_cases a
  · exact Fin.ext (h0.trans (by show (seqOf t : ℕ) * 1 + 1 * 0 = seqOf t; omega)).symm
  · exact Fin.ext (h1.trans (by show (quarter t : ℕ) * 512 + 1 * r = 512 * (quarter t : ℕ) + r; omega)).symm
  · exact Fin.ext (h2.trans (by show 0 * n + 1 * (l : ℕ) = l; omega)).symm

/-- The same of a result by feature. -/
theorem by_feature {T : Fin 3 → ℕ} (t : Fin cfg0.N) (hT : T = ![(seqOf t : ℕ), 0, (quarter t : ℕ)]) (k r : Fin 512)
    (y : S16x512x2048.Idx) (h0 : (y 0).val = T 0 * 1 + 1 * 0) (h1 : (y 1).val = T 1 * 512 + 1 * k)
    (h2 : (y 2).val = T 2 * 512 + 1 * r) : ix3 (seqOf t) k (token t r) = y := by
  subst hT
  funext a
  fin_cases a
  · exact Fin.ext (h0.trans (by show (seqOf t : ℕ) * 1 + 1 * 0 = seqOf t; omega)).symm
  · exact Fin.ext (h1.trans (by show 0 * 512 + 1 * (k : ℕ) = k; omega)).symm
  · exact Fin.ext (h2.trans (by show (quarter t : ℕ) * 512 + 1 * r = 512 * (quarter t : ℕ) + r; omega)).symm

/-- A page of the grid point's block. -/
abbrev page (t : Fin cfg0.N) (p : Fin 2) : Fin 8 := ⟨2 * (quarter t : ℕ) + p, by have := (quarter t).isLt; omega⟩

/-- The same of a result by page. -/
theorem by_page {T : Fin 4 → ℕ} (t : Fin cfg0.N) (hT : T = ![(seqOf t : ℕ), (quarter t : ℕ), 0, 0]) (p : Fin 2) (k : Fin 512) (l : Fin 256)
    (y : S16x8x512x256.Idx) (h0 : (y 0).val = T 0 * 1 + 1 * 0) (h1 : (y 1).val = T 1 * 2 + 1 * p)
    (h2 : (y 2).val = T 2 * 512 + 1 * k) (h3 : (y 3).val = T 3 * 256 + 1 * l) : ix4 (seqOf t) (page t p) k l = y := by
  subst hT
  funext a
  fin_cases a
  · exact Fin.ext (h0.trans (by show (seqOf t : ℕ) * 1 + 1 * 0 = seqOf t; omega)).symm
  · exact Fin.ext (h1.trans (by show (quarter t : ℕ) * 2 + 1 * p = 2 * (quarter t : ℕ) + p; omega)).symm
  · exact Fin.ext (h2.trans (by show 0 * 512 + 1 * (k : ℕ) = k; omega)).symm
  · exact Fin.ext (h3.trans (by show 0 * 256 + 1 * (l : ℕ) = l; omega)).symm

/-- A page's token, counted from the block's start or from the sequence's. -/
theorem page_token (t : Fin cfg0.N) (p : Fin 2) (l : Fin 256) : token t ⟨256 * p + l, by omega⟩ = ⟨256 * (page t p : ℕ) + l, by omega⟩ :=
  Fin.ext (by show 512 * (quarter t : ℕ) + (256 * p + l) = 256 * (2 * (quarter t : ℕ) + p) + l; omega)

/-- What a grid point writes back is its block of the queries. -/
theorem flushed_query (t : Fin cfg0.N) : (dats m 0 c).flushed 4 t = ((cfg0.win 4).blk t).view.read (Elt Ideal) (query m c) := by
  rw [Value.flushed4]
  funext j
  obtain ⟨r, l, rfl⟩ := exists_ix3 (n := 512) (k := 512) j
  refine (query_apply _ _ _ _ (table m c) (blk2_apply m c t) r l).trans ?_
  rw [row_eq, funext (blk1_apply m c t)]
  refine (Reference3Ideal.InProj.query_apply _ _ _ (seqOf t) (token t r) l).symm.trans ?_
  exact congrArg (query m c) (by_token t (idx4 (grid0.coords t)) r l _ rfl rfl rfl)

/-- Of the linear attention's part. -/
theorem flushed_linear (t : Fin cfg0.N) : (dats m 0 c).flushed 9 t = ((cfg0.win 9).blk t).view.read (Elt Ideal) (linear m c) := by
  rw [Value.flushed9]
  funext j
  obtain ⟨r, l, rfl⟩ := exists_ix3 (n := 512) (k := 896) j
  refine (linear_apply _ _ _ _ (table m c) (blk2_apply m c t) r l).trans ?_
  rw [row_eq, funext (blk1_apply m c t)]
  refine (Reference3Ideal.InProj.linear_apply _ _ _ (seqOf t) (token t r) l).symm.trans ?_
  exact congrArg (linear m c) (by_token t (idx9 (grid0.coords t)) r l _ rfl rfl rfl)

/-- Of the RG-LRU's part. -/
theorem flushed_recurrent (t : Fin cfg0.N) : (dats m 0 c).flushed 10 t = ((cfg0.win 10).blk t).view.read (Elt Ideal) (recurrent m c) := by
  rw [Value.flushed10]
  funext j
  obtain ⟨r, l, rfl⟩ := exists_ix3 (n := 512) (k := 512) j
  refine (recurrent_apply _ _ _ _ (table m c) (blk2_apply m c t) r l).trans ?_
  rw [row_eq, funext (blk1_apply m c t)]
  refine (Reference3Ideal.InProj.recurrent_apply _ _ _ (seqOf t) (token t r) l).symm.trans ?_
  exact congrArg (recurrent m c) (by_token t (idx10 (grid0.coords t)) r l _ rfl rfl rfl)

/-- Of the keys by feature. -/
theorem flushed_key (t : Fin cfg0.N) : (dats m 0 c).flushed 5 t = ((cfg0.win 5).blk t).view.read (Elt Ideal) (key m c) := by
  rw [Value.flushed5]
  funext j
  obtain ⟨k, r, rfl⟩ := exists_ix3 (n := 512) (k := 512) j
  refine (key_apply _ _ _ _ (table m c) (blk3_apply m c t) k r).trans ?_
  rw [row_eq, funext (blk1_apply m c t)]
  refine (Reference3Ideal.InProj.key_apply _ _ _ (seqOf t) k (token t r)).symm.trans ?_
  exact congrArg (key m c) (by_feature t (idx5 (grid0.coords t)) k r _ rfl rfl rfl)

/-- Of the values by feature. -/
theorem flushed_value (t : Fin cfg0.N) : (dats m 0 c).flushed 6 t = ((cfg0.win 6).blk t).view.read (Elt Ideal) (value m c) := by
  rw [Value.flushed6]
  funext j
  obtain ⟨k, r, rfl⟩ := exists_ix3 (n := 512) (k := 512) j
  refine (value_apply _ _ _ _ (table m c) (blk3_apply m c t) k r).trans ?_
  rw [row_eq, funext (blk1_apply m c t)]
  refine (Reference3Ideal.InProj.value_apply _ _ _ (seqOf t) k (token t r)).symm.trans ?_
  exact congrArg (value m c) (by_feature t (idx6 (grid0.coords t)) k r _ rfl rfl rfl)

/-- Of the keys by page. -/
theorem flushed_keyPage (t : Fin cfg0.N) : (dats m 0 c).flushed 7 t = ((cfg0.win 7).blk t).view.read (Elt Ideal) (keyPage m c) := by
  rw [Value.flushed7]
  funext j
  obtain ⟨p, k, l, rfl⟩ := exists_ix4 j
  refine (keyPage_apply _ _ _ _ (table m c) (blk3_apply m c t) p k l).trans ?_
  rw [row_eq, funext (blk1_apply m c t), page_token]
  refine (Reference3Ideal.InProj.key_apply _ _ _ (seqOf t) k _).symm.trans ?_
  refine (Reference3Ideal.InProj.keyPage_apply _ _ _ (seqOf t) (page t p) k l).symm.trans ?_
  exact congrArg (keyPage m c) (by_page t (idx7 (grid0.coords t)) p k l _ rfl rfl rfl rfl)

/-- Of the values by page. -/
theorem flushed_valuePage (t : Fin cfg0.N) : (dats m 0 c).flushed 8 t = ((cfg0.win 8).blk t).view.read (Elt Ideal) (valuePage m c) := by
  rw [Value.flushed8]
  funext j
  obtain ⟨p, k, l, rfl⟩ := exists_ix4 j
  refine (valuePage_apply _ _ _ _ (table m c) (blk3_apply m c t) p k l).trans ?_
  rw [row_eq, funext (blk1_apply m c t), page_token]
  refine (Reference3Ideal.InProj.value_apply _ _ _ (seqOf t) k _).symm.trans ?_
  refine (Reference3Ideal.InProj.valuePage_apply _ _ _ (seqOf t) (page t p) k l).symm.trans ?_
  exact congrArg (valuePage m c) (by_page t (idx8 (grid0.coords t)) p k l _ rfl rfl rfl rfl)

end Cert.Kernel3Ideal.InProj
-- ==== Proof.InProj.Cover.lean ====
module

public import proofs.«01_k».proof.Proof.InProj.ArrayValue

@[expose] public section

set_option maxRecDepth 16384

noncomputable section

/-! The grid points' blocks tile each of the seven results, so that each is the reference's as a whole. -/

namespace Cert.Kernel3Ideal.InProj

open Cert.Kernel3Ideal Cert.Kernel3Ideal.Gen
open Idealize.ShloMosaic Idealize.ShloMosaic.TcCoe Idealize.SL.Sem

variable (m : (ℓ : Loc nD τ sig) → Buf (Elt Ideal) ℓ) (c : Dev nD)

/-- The grid point of a sequence and a block of tokens. -/
theorem exists_point (b : Fin 16) (q : Fin 4) : ∃ t : Fin cfg0.N, seqOf t = b ∧ quarter t = q := by
  have e : ∀ (b : Fin 16) (q : Fin 4), ∃ t : Fin grid0.N, (grid0.coords t 0 : ℕ) = b ∧ (grid0.coords t 1 : ℕ) = q := by
    decide +kernel
  obtain ⟨t, h0, h1⟩ := e b q
  exact ⟨t, Fin.ext h0, Fin.ext h1⟩

/-- Some grid point's block holds an entry of a result by token. -/
theorem token_cover {n : ℕ} (i : (⟨3, ![16, 2048, n]⟩ : Shape).Idx) : ∃ t : Fin cfg0.N, ∀ a : Fin 3,
    (![(seqOf t : ℕ), (quarter t : ℕ), 0] : Fin 3 → ℕ) a * (![1, 512, n] : Fin 3 → ℕ) a ≤ (i a).val ∧
      (i a).val < (![(seqOf t : ℕ), (quarter t : ℕ), 0] : Fin 3 → ℕ) a * (![1, 512, n] : Fin 3 → ℕ) a + (![1, 512, n] : Fin 3 → ℕ) a := by
  have h0 : (i 0).val < 16 := (i 0).isLt
  have h1 : (i 1).val < 2048 := (i 1).isLt
  have h2 : (i 2).val < n := (i 2).isLt
  obtain ⟨t, hs, hq⟩ := exists_point ⟨(i 0).val, h0⟩ ⟨(i 1).val / 512, by omega⟩
  refine ⟨t, fun a => ?_⟩
  rw [hs, hq]
  fin_cases a
  · show (i 0).val * 1 ≤ (i 0).val ∧ (i 0).val < (i 0).val * 1 + 1; omega
  · show (i 1).val / 512 * 512 ≤ (i 1).val ∧ (i 1).val < (i 1).val / 512 * 512 + 512; omega
  · show 0 * n ≤ (i 2).val ∧ (i 2).val < 0 * n + n; omega

/-- Of a result by feature. -/
theorem feature_cover (i : S16x512x2048.Idx) : ∃ t : Fin cfg0.N, ∀ a : Fin 3,
    (![(seqOf t : ℕ), 0, (quarter t : ℕ)] : Fin 3 → ℕ) a * (![1, 512, 512] : Fin 3 → ℕ) a ≤ (i a).val ∧
      (i a).val < (![(seqOf t : ℕ), 0, (quarter t : ℕ)] : Fin 3 → ℕ) a * (![1, 512, 512] : Fin 3 → ℕ) a + (![1, 512, 512] : Fin 3 → ℕ) a := by
  have h0 : (i 0).val < 16 := (i 0).isLt
  have h1 : (i 1).val < 512 := (i 1).isLt
  have h2 : (i 2).val < 2048 := (i 2).isLt
  obtain ⟨t, hs, hq⟩ := exists_point ⟨(i 0).val, h0⟩ ⟨(i 2).val / 512, by omega⟩
  refine ⟨t, fun a => ?_⟩
  rw [hs, hq]
  fin_cases a
  · show (i 0).val * 1 ≤ (i 0).val ∧ (i 0).val < (i 0).val * 1 + 1; omega
  · show 0 * 512 ≤ (i 1).val ∧ (i 1).val < 0 * 512 + 512; omega
  · show (i 2).val / 512 * 512 ≤ (i 2).val ∧ (i 2).val < (i 2).val / 512 * 512 + 512; omega

/-- Of a result by page. -/
theorem page_cover (i : S16x8x512x256.Idx) : ∃ t : Fin cfg0.N, ∀ a : Fin 4,
    (![(seqOf t : ℕ), (quarter t : ℕ), 0, 0] : Fin 4 → ℕ) a * (![1, 2, 512, 256] : Fin 4 → ℕ) a ≤ (i a).val ∧
      (i a).val < (![(seqOf t : ℕ), (quarter t : ℕ), 0, 0] : Fin 4 → ℕ) a * (![1, 2, 512, 256] : Fin 4 → ℕ) a
        + (![1, 2, 512, 256] : Fin 4 → ℕ) a := by
  have h0 : (i 0).val < 16 := (i 0).isLt
  have h1 : (i 1).val < 8 := (i 1).isLt
  have h2 : (i 2).val < 512 := (i 2).isLt
  have h3 : (i 3).val < 256 := (i 3).isLt
  obtain ⟨t, hs, hq⟩ := exists_point ⟨(i 0).val, h0⟩ ⟨(i 1).val / 2, by omega⟩
  refine ⟨t, fun a => ?_⟩
  rw [hs, hq]
  fin_cases a
  · show (i 0).val * 1 ≤ (i 0).val ∧ (i 0).val < (i 0).val * 1 + 1; omega
  · show (i 1).val / 2 * 2 ≤ (i 1).val ∧ (i 1).val < (i 1).val / 2 * 2 + 2; omega
  · show 0 * 512 ≤ (i 2).val ∧ (i 2).val < 0 * 512 + 512; omega
  · show 0 * 256 ≤ (i 3).val ∧ (i 3).val < 0 * 256 + 256; omega

/-- The queries. -/
theorem final_query : (dats m 0 c).arrAt 4 cfg0.N = query m c :=
  (dats m 0 c).arrAt_eq_of_cover 4 (query m c) (fun t _ => flushed_query m c t) fun i => by
    obtain ⟨t, ht⟩ := token_cover (n := 512) i
    refine ⟨t, flush0_4 t, ?_⟩
    show i ∈ ((View.whole main_v9_0).slice (win0_4.rect t)).set
    rw [View.set_slice_whole, Rect.mem_set_unit]
    exact fun a => (congrArg (fun T : Fin 3 → ℕ => T a * S1x512x512.size a ≤ (i a).val ∧ (i a).val < T a * S1x512x512.size a + S1x512x512.size a)
      (idx4 (grid0.coords t))).mpr (ht a)

/-- The keys by feature. -/
theorem final_key : (dats m 0 c).arrAt 5 cfg0.N = key m c :=
  (dats m 0 c).arrAt_eq_of_cover 5 (key m c) (fun t _ => flushed_key m c t) fun i => by
    obtain ⟨t, ht⟩ := feature_cover i
    refine ⟨t, flush0_5 t, ?_⟩
    show i ∈ ((View.whole main_v9_1).slice (win0_5.rect t)).set
    rw [View.set_slice_whole, Rect.mem_set_unit]
    exact fun a => (congrArg (fun T : Fin 3 → ℕ => T a * S1x512x512.size a ≤ (i a).val ∧ (i a).val < T a * S1x512x512.size a + S1x512x512.size a)
      (idx5 (grid0.coords t))).mpr (ht a)

/-- The values by feature. -/
theorem final_value : (dats m 0 c).arrAt 6 cfg0.N = value m c :=
  (dats m 0 c).arrAt_eq_of_cover 6 (value m c) (fun t _ => flushed_value m c t) fun i => by
    obtain ⟨t, ht⟩ := feature_cover i
    refine ⟨t, flush0_6 t, ?_⟩
    show i ∈ ((View.whole main_v9_2).slice (win0_6.rect t)).set
    rw [View.set_slice_whole, Rect.mem_set_unit]
    exact fun a => (congrArg (fun T : Fin 3 → ℕ => T a * S1x512x512.size a ≤ (i a).val ∧ (i a).val < T a * S1x512x512.size a + S1x512x512.size a)
      (idx6 (grid0.coords t))).mpr (ht a)

/-- The keys by page. -/
theorem final_keyPage : (dats m 0 c).arrAt 7 cfg0.N = keyPage m c :=
  (dats m 0 c).arrAt_eq_of_cover 7 (keyPage m c) (fun t _ => flushed_keyPage m c t) fun i => by
    obtain ⟨t, ht⟩ := page_cover i
    refine ⟨t, flush0_7 t, ?_⟩
    show i ∈ ((View.whole main_v9_3).slice (win0_7.rect t)).set
    rw [View.set_slice_whole, Rect.mem_set_unit]
    exact fun a => (congrArg (fun T : Fin 4 → ℕ => T a * S1x2x512x256.size a ≤ (i a).val ∧ (i a).val < T a * S1x2x512x256.size a + S1x2x512x256.size a)
      (idx7 (grid0.coords t))).mpr (ht a)

/-- The values by page. -/
theorem final_valuePage : (dats m 0 c).arrAt 8 cfg0.N = valuePage m c :=
  (dats m 0 c).arrAt_eq_of_cover 8 (valuePage m c) (fun t _ => flushed_valuePage m c t) fun i => by
    obtain ⟨t, ht⟩ := page_cover i
    refine ⟨t, flush0_8 t, ?_⟩
    show i ∈ ((View.whole main_v9_4).slice (win0_8.rect t)).set
    rw [View.set_slice_whole, Rect.mem_set_unit]
    exact fun a => (congrArg (fun T : Fin 4 → ℕ => T a * S1x2x512x256.size a ≤ (i a).val ∧ (i a).val < T a * S1x2x512x256.size a + S1x2x512x256.size a)
      (idx8 (grid0.coords t))).mpr (ht a)

/-- The linear attention's part. -/
theorem final_linear : (dats m 0 c).arrAt 9 cfg0.N = linear m c :=
  (dats m 0 c).arrAt_eq_of_cover 9 (linear m c) (fun t _ => flushed_linear m c t) fun i => by
    obtain ⟨t, ht⟩ := token_cover (n := 896) i
    refine ⟨t, flush0_9 t, ?_⟩
    show i ∈ ((View.whole main_v9_5).slice (win0_9.rect t)).set
    rw [View.set_slice_whole, Rect.mem_set_unit]
    exact fun a => (congrArg (fun T : Fin 3 → ℕ => T a * S1x512x896.size a ≤ (i a).val ∧ (i a).val < T a * S1x512x896.size a + S1x512x896.size a)
      (idx9 (grid0.coords t))).mpr (ht a)

/-- The RG-LRU's part. -/
theorem final_recurrent : (dats m 0 c).arrAt 10 cfg0.N = recurrent m c :=
  (dats m 0 c).arrAt_eq_of_cover 10 (recurrent m c) (fun t _ => flushed_recurrent m c t) fun i => by
    obtain ⟨t, ht⟩ := token_cover (n := 512) i
    refine ⟨t, flush0_10 t, ?_⟩
    show i ∈ ((View.whole main_v9_6).slice (win0_10.rect t)).set
    rw [View.set_slice_whole, Rect.mem_set_unit]
    exact fun a => (congrArg (fun T : Fin 3 → ℕ => T a * S1x512x512.size a ≤ (i a).val ∧ (i a).val < T a * S1x512x512.size a + S1x512x512.size a)
      (idx10 (grid0.coords t))).mpr (ht a)

end Cert.Kernel3Ideal.InProj
-- ==== Proof.InProj.Claim.lean ====
module

public import proofs.«01_k».proof.Defs
public import proofs.«01_k».proof.Proof.InProj.Cover
public import proofs.«01_k».proof.Proof.Gen.Kernel3.Frame
public import proofs.«01_k».proof.Proof.Gen.Reference3Ideal.Run

@[expose] public section

set_option maxRecDepth 16384

noncomputable section

/-! The claims about the input projection: the frames, and the kernel's seven results the reference's. -/

namespace Cert.Kernel3Ideal.InProj

open Cert.Kernel3Ideal Cert.Kernel3Ideal.Gen
open Idealize.ShloMosaic Idealize.ShloMosaic.TcCoe Idealize.SL.Sem

theorem frame_bits : Cert.quiescent_Kernel3 := fun m g _ => Kernel3.Gen.frame m g

theorem frame_ideal : Cert.quiescent_Kernel3Ideal := fun m g _ => frame m g

theorem frame_reference : Cert.quiescent_Reference3Ideal := fun m g _ =>
  (θ_run _ _ _).mono (fun r h => ⟨fun c => (h c).2.2.2.2.2.2.2, sem_eq_zero_of_no_sems (by decide) r.2⟩) (Reference3Ideal.Value.run m g)

theorem algebraic : Cert.algebraic_Kernel3Ideal_Reference3Ideal := by
  intro m g m' g' _ hagree
  refine ⟨query m, key m, value m, keyPage m, valuePage m, linear m, recurrent m,
    (θ_run _ _ _).mono (fun r h c => ?_) (Value.run_blocks m g), (θ_run _ _ _).mono (fun r h c => ?_) (Reference3Ideal.Value.run m' g')⟩
  · obtain ⟨h4, h5, h6, h7, h8, h9, h10, hargs⟩ := h c
    exact ⟨h4.trans (final_query m c), h5.trans (final_key m c), h6.trans (final_value m c), h7.trans (final_keyPage m c),
      h8.trans (final_valuePage m c), h9.trans (final_linear m c), h10.trans (final_recurrent m c), hargs⟩
  · obtain ⟨a0, a1, a2⟩ := hagree c
    obtain ⟨h4, h5, h6, h7, h8, h9, h10, hargs⟩ := h c
    refine ⟨h4.trans ?_, h5.trans ?_, h6.trans ?_, h7.trans ?_, h8.trans ?_, h9.trans ?_, h10.trans ?_, hargs⟩
    · rw [Reference3Ideal.Read.val_main_v25_eq, a0, a1, a2]
    · rw [Reference3Ideal.Read.val_main_v26_eq, a0, a1, a2]
    · rw [Reference3Ideal.Read.val_main_v27_eq, a0, a1, a2]
    · rw [Reference3Ideal.Read.val_main_v30_eq, a0, a1, a2]
    · rw [Reference3Ideal.Read.val_main_v33_eq, a0, a1, a2]
    · rw [Reference3Ideal.Read.val_main_v24_eq, a0, a1, a2]
    · rw [Reference3Ideal.Read.val_main_v34_eq, a0, a1, a2]

end Cert.Kernel3Ideal.InProj
-- ==== Proof.InStep.BlockValue.lean ====
module

public import proofs.«01_k».proof.Proof.Gen.Kernel4Ideal.Value
public import proofs.«01_k».proof.Proof.InProj.Row
public import Idealize.ShloMosaic.Lib.Pointwise

@[expose] public section

set_option maxRecDepth 16384

noncomputable section

/-! The 32 sampled tokens through the kernel's body, read at an index: the row functions of the prompt's projection. The
weights come as the host pads them. -/

namespace Cert.Kernel4Ideal.InStep

open Cert.Kernel4Ideal Cert.Kernel4Ideal.Gen Cert.InRow
open Idealize.ShloMosaic

variable (x0 : Vec Ideal S32x1024 .f32) (x1 : Vec Ideal S1x1024 .f32) (x2 : Vec Ideal S1024x2944 .bf16)
  (w : Fin 1024 → Fin 2832 → EReal)

/-- A token's normed row. -/
theorem normed_apply (r : Fin 32) (i : Fin 1024) : k0_pay4 (View.ld x0 r0_0) (View.ld x1 r0_1) (ix2 r i) =
    MixRow.rms 1149239296#32 (fun i => x0 (ix2 r i)) (fun i => x1 (ix2 0 i)) i := by
  unfold MixRow.rms
  pointwise [k0_pay4]

/-- The queries. -/
theorem query_apply (h2 : ∀ i j, x2 (ix2 i j) = padded w i j) (r : Fin 32) (j : Fin 512) : out0_3 x0 x1 x2 (ix2 r j) =
    query (fun i => x0 (ix2 r i)) (fun i => x1 (ix2 0 i)) w j := by
  unfold out0_3 query proj
  rw [View.canon_unit_zero (by funext a; fin_cases a <;> rfl)]
  simp only [← normed_apply, ← padded_low w _ _ (show (j : ℕ) < 2320 by omega), ← h2]
  pointwise [k0_pay5]

/-- The keys. -/
theorem key_apply (h2 : ∀ i j, x2 (ix2 i j) = padded w i j) (r : Fin 32) (j : Fin 512) : out0_4 x0 x1 x2 (ix2 r j) =
    proj (fun i => x0 (ix2 r i)) (fun i => x1 (ix2 0 i)) w ⟨512 + j, by omega⟩ := by
  unfold out0_4 proj k0_pay8
  rw [View.canon_unit_zero (by funext a; fin_cases a <;> rfl)]
  simp only [← normed_apply, ← padded_low w _ _ (show 512 + (j : ℕ) < 2320 by omega), ← h2]
  pointwise [k0_pay2]

/-- The values. -/
theorem value_apply (h2 : ∀ i j, x2 (ix2 i j) = padded w i j) (r : Fin 32) (j : Fin 512) : out0_5 x0 x1 x2 (ix2 r j) =
    proj (fun i => x0 (ix2 r i)) (fun i => x1 (ix2 0 i)) w ⟨1024 + j, by omega⟩ := by
  unfold out0_5 proj k0_pay8
  rw [View.canon_unit_zero (by funext a; fin_cases a <;> rfl)]
  simp only [← normed_apply, ← padded_low w _ _ (show 1024 + (j : ℕ) < 2320 by omega), ← h2]
  pointwise [k0_pay3]

/-- The RG-LRU's part. -/
theorem recurrent_apply (h2 : ∀ i j, x2 (ix2 i j) = padded w i j) (r : Fin 32) (j : Fin 512) : out0_7 x0 x1 x2 (ix2 r j) =
    proj (fun i => x0 (ix2 r i)) (fun i => x1 (ix2 0 i)) w ⟨2320 + j, by omega⟩ := by
  unfold out0_7 proj k0_pay8
  rw [View.canon_unit_zero (by funext a; fin_cases a <;> rfl)]
  simp only [← normed_apply, ← padded_high w _ _ j.isLt, ← h2]
  pointwise [k0_pay1, k0_pay7]

/-- The linear attention's part. -/
theorem linear_apply (h2 : ∀ i j, x2 (ix2 i j) = padded w i j) (r : Fin 32) (j : Fin 896) : out0_6 x0 x1 x2 (ix2 r j) =
    linear (fun i => x0 (ix2 r i)) (fun i => x1 (ix2 0 i)) w j := by
  have e : ∑ i, k0_pay4 (View.ld x0 r0_0) (View.ld x1 r0_1) (ix2 r i) * x2 (ix2 i ⟨1536 + j, by omega⟩) =
      if (j : ℕ) < 784 then proj (fun i => x0 (ix2 r i)) (fun i => x1 (ix2 0 i)) w ⟨1536 + j, by omega⟩ else 0 := by
    simp only [h2]
    by_cases h : (j : ℕ) < 784
    · rw [if_pos h]
      simp only [padded_low w _ _ (show 1536 + (j : ℕ) < 2320 by omega), normed_apply]
      rfl
    · rw [if_neg h]
      exact padded_zero _ w _ (by omega) (by omega)
  unfold out0_6 linear
  rw [View.canon_unit_zero (by funext a; fin_cases a <;> rfl)]
  by_cases h : (j : ℕ) < 128
  · rw [if_pos (by omega)] at e
    rw [if_pos h, ← e]
    pointwise [k0_pay6]
    exact dif_pos h
  · rw [if_neg h, ← e]
    pointwise [k0_pay6]
    refine (dif_neg h).trans (Finset.sum_congr rfl fun i _ => congrArg (k0_pay4 (View.ld x0 r0_0) (View.ld x1 r0_1) (ix2 r i) * ·) ?_)
    exact congrArg (fun j => x2 (ix2 i j)) (Fin.ext (by show 1664 + ((j : ℕ) - 128) = 1536 + j; omega))

end Cert.Kernel4Ideal.InStep
-- ==== Proof.InStep.HostValue.lean ====
module

public import proofs.«01_k».proof.Proof.Gen.Kernel4Ideal.Value
public import proofs.«01_k».proof.Proof.InProj.Row
public import Idealize.ShloMosaic.Lib.Pointwise

@[expose] public section

set_option maxRecDepth 16384

noncomputable section

/-! What the host hands to the input projection of the sampled tokens, in terms of the arguments. -/

namespace Cert.Kernel4Ideal.InStep

open Cert.Kernel4Ideal Cert.Kernel4Ideal.Gen Cert.InRow
open Idealize.ShloMosaic Idealize.ShloMosaic.TcCoe Idealize.SL.Sem

variable (m : (ℓ : Loc nD τ sig) → Buf (Elt Ideal) ℓ) (c : Dev nD)

/-- The projection's weights, as a table. -/
abbrev table (i : Fin 1024) (j : Fin 2832) : EReal := m ((c : Thread nD τ).loc main_arg2) (ix2 i j)

/-- The padded weights. -/
theorem padded_eq (i : Fin 1024) (j : Fin 2944) : V m c main_v4 (ix2 i j) = padded (table m c) i j := by
  have e : V m c main_v4 = fun x => truncf .bf16 (concatenate S1024x2944 1
      [⟨S1024x2320, extractStridedSlice S1024x2320 ![0, 0] (m ((c : Thread nD τ).loc main_arg2)) slices_S1024x2832_S1024x2320_0_0⟩,
        ⟨S1024x112, broadcastInDim S1024x112 ![] bcast_S_S1024x112 (constant (F := Ideal) S_ .f32 0x00000000#32)⟩,
        ⟨S1024x512, extractStridedSlice S1024x512 ![0, 2320] (m ((c : Thread nD τ).loc main_arg2)) slices_S1024x2832_S1024x512_0_2320⟩]
      concatenates_S1024x2320_S1024x112_S1024x512_S1024x2944_d1) bitsLt_bf16_f32 x := by
    show StableHlo.after hostOps0 _ _ = _
    after_results
    rfl
  rw [e]
  unfold padded table
  pointwise []
  by_cases h : (j : ℕ) < 2320
  · rw [dif_pos h, dif_pos h]
  rw [dif_neg h, dif_neg h]
  by_cases h' : (j : ℕ) < 2432
  · rw [dif_pos (by omega), if_pos h']
  · rw [dif_neg (by omega), if_neg h']
    exact congrArg (fun j => m ((c : Thread nD τ).loc main_arg2) (ix2 i j)) (Fin.ext (by show 2320 + ((j : ℕ) - 2320 - 112) = j - 112; omega))

/-- The norm's weights as a table of one row. -/
theorem gain_eq (i : Fin 1024) : V m c main_v5 (ix2 0 i) = m ((c : Thread nD τ).loc main_arg1) (ix1 i) := by
  have e : V m c main_v5 = fun x => shapeCast S1x1024 (m ((c : Thread nD τ).loc main_arg1)) shapeCasts_S1024_S1x1024 x := by
    show StableHlo.after hostOps0 _ _ = _
    after_results
    rfl
  rw [e]
  pointwise []

/-- The blocks of the one grid point are the arrays themselves. -/
theorem blk0_apply (t : Fin cfg0.N) (r : Fin 32) (i : Fin 1024) : iblk m c 0 t (ix2 r i) = m ((c : Thread nD τ).loc main_arg0) (ix2 r i) := by
  refine (congrArg (V m c main_arg0) (funext fun a => ?_ : _ = ix2 r i)).trans (congrFun (V_main_arg0 m c) _)
  fin_cases a
  · exact Fin.ext (by show 0 * 32 + 1 * (r : ℕ) = r; omega)
  · exact Fin.ext (by show 0 * 1024 + 1 * (i : ℕ) = i; omega)

theorem blk1_apply (t : Fin cfg0.N) (i : Fin 1024) : iblk m c 1 t (ix2 0 i) = m ((c : Thread nD τ).loc main_arg1) (ix1 i) := by
  refine (congrArg (V m c main_v5) (funext fun a => ?_ : _ = ix2 0 i)).trans (gain_eq m c i)
  fin_cases a
  · exact Fin.ext (by show 0 * 1 + 1 * 0 = 0; omega)
  · exact Fin.ext (by show 0 * 1024 + 1 * (i : ℕ) = i; omega)

theorem blk2_apply (t : Fin cfg0.N) (i : Fin 1024) (j : Fin 2944) : iblk m c 2 t (ix2 i j) = padded (table m c) i j := by
  refine (congrArg (V m c main_v4) (funext fun a => ?_ : _ = ix2 i j)).trans (padded_eq m c i j)
  fin_cases a
  · exact Fin.ext (by show 0 * 1024 + 1 * (i : ℕ) = i; omega)
  · exact Fin.ext (by show 0 * 2944 + 1 * (j : ℕ) = j; omega)

end Cert.Kernel4Ideal.InStep
-- ==== Proof.InStep.RefValue.lean ====
module

public import proofs.«01_k».proof.Proof.Gen.Reference4Ideal.Read
public import proofs.«01_k».proof.Proof.InProj.Row
public import Idealize.ShloMosaic.Lib.Pointwise

@[expose] public section

set_option maxRecDepth 16384

noncomputable section

/-! The reference's input projection of the sampled tokens, read at an index: the row functions of the prompt's projection. -/

namespace Cert.Reference4Ideal.InStep

open Cert.Reference4Ideal Cert.Reference4Ideal.Gen Cert.Reference4Ideal.Read Cert.InRow
open Idealize.ShloMosaic

variable (x0 : Vec Ideal S32x1024 .f32) (x1 : Vec Ideal S1024 .f32) (x2 : Vec Ideal S1024x2832 .f32) (b : Fin 32)

/-- The normed input. -/
theorem normed_apply (i : Fin 1024) : val_main_v12 (F := Ideal) x0 x1 (ix2 b i) =
    MixRow.rms 1149239296#32 (fun i => x0 (ix2 b i)) (fun i => x1 (ix1 i)) i := by
  unfold MixRow.rms
  pointwise [val_main_v12, val_main_v11, val_main_v10, val_main_v9, val_main_v8, val_main_v7, val_main_v6, val_main_v5, val_main_cst_1,
    val_main_v4, val_main_v3, val_main_cst_0, val_main_v2, val_main_v1, val_main_cst, val_main_v0]

/-- The projection. -/
theorem proj_apply (j : Fin 2832) : val_main_v13 (F := Ideal) x0 x1 x2 (ix2 b j) =
    proj (fun i => x0 (ix2 b i)) (fun i => x1 (ix1 i)) (fun i j => x2 (ix2 i j)) j := by
  unfold proj
  simp only [← normed_apply]
  pointwise [val_main_v13]

/-- The queries. -/
theorem query_apply (j : Fin 512) : val_main_v22 (F := Ideal) x0 x1 x2 (ix2 b j) =
    query (fun i => x0 (ix2 b i)) (fun i => x1 (ix1 i)) (fun i j => x2 (ix2 i j)) j := by
  unfold query
  rw [← proj_apply]
  pointwise [val_main_v22, val_main_v21, val_main_v20, val_main_cst_4]

/-- The keys. -/
theorem key_apply (j : Fin 512) : val_main_v23 (F := Ideal) x0 x1 x2 (ix2 b j) =
    proj (fun i => x0 (ix2 b i)) (fun i => x1 (ix1 i)) (fun i j => x2 (ix2 i j)) ⟨512 + j, by omega⟩ := by
  rw [← proj_apply]
  pointwise [val_main_v23]

/-- The values. -/
theorem value_apply (j : Fin 512) : val_main_v24 (F := Ideal) x0 x1 x2 (ix2 b j) =
    proj (fun i => x0 (ix2 b i)) (fun i => x1 (ix1 i)) (fun i j => x2 (ix2 i j)) ⟨1024 + j, by omega⟩ := by
  rw [← proj_apply]
  pointwise [val_main_v24]

/-- The linear attention's part. -/
theorem linear_apply (j : Fin 896) : val_main_v19 (F := Ideal) x0 x1 x2 (ix2 b j) =
    linear (fun i => x0 (ix2 b i)) (fun i => x1 (ix1 i)) (fun i j => x2 (ix2 i j)) j := by
  unfold linear
  simp only [← proj_apply]
  by_cases h : (j : ℕ) < 128
  · rw [if_pos h]
    pointwise [val_main_v19, val_main_v16, val_main_v15, val_main_cst_2, val_main_v14]
    exact dif_pos h
  · by_cases h' : (j : ℕ) < 784
    · rw [if_neg h, if_pos h']
      pointwise [val_main_v19, val_main_v17]
      exact (dif_neg h).trans ((dif_pos (by omega)).trans
        (congrArg (fun j => val_main_v13 (F := Ideal) x0 x1 x2 (ix2 b j)) (Fin.ext (by show 1664 + ((j : ℕ) - 128) = 1536 + j; omega))))
    · rw [if_neg h, if_neg h']
      pointwise [val_main_v19, val_main_v18, val_main_cst_3]
      exact (dif_neg h).trans (dif_neg (by omega))

/-- The RG-LRU's part. -/
theorem recurrent_apply (j : Fin 512) : val_main_v25 (F := Ideal) x0 x1 x2 (ix2 b j) =
    proj (fun i => x0 (ix2 b i)) (fun i => x1 (ix1 i)) (fun i j => x2 (ix2 i j)) ⟨2320 + j, by omega⟩ := by
  rw [← proj_apply]
  pointwise [val_main_v25]

end Cert.Reference4Ideal.InStep
-- ==== Proof.InStep.ArrayValue.lean ====
module

public import proofs.«01_k».proof.Proof.InStep.BlockValue
public import proofs.«01_k».proof.Proof.InStep.HostValue
public import proofs.«01_k».proof.Proof.InStep.RefValue

@[expose] public section

set_option maxRecDepth 16384

noncomputable section

/-! The five result arrays of the sampled tokens' input projection are the reference's, whatever the arguments. -/

namespace Cert.Kernel4Ideal.InStep

open Cert.Kernel4Ideal Cert.Kernel4Ideal.Gen Cert.InRow
open Idealize.ShloMosaic Idealize.ShloMosaic.TcCoe Idealize.SL.Sem

variable (m : (ℓ : Loc nD τ sig) → Buf (Elt Ideal) ℓ) (c : Dev nD)

/-- The reference's results on the kernel's own arguments. -/
abbrev query : Vec Ideal S32x512 .f32 := Reference4Ideal.Read.val_main_v22 (F := Ideal) (m ((c : Thread nD τ).loc main_arg0))
  (m ((c : Thread nD τ).loc main_arg1)) (m ((c : Thread nD τ).loc main_arg2))
abbrev key : Vec Ideal S32x512 .f32 := Reference4Ideal.Read.val_main_v23 (F := Ideal) (m ((c : Thread nD τ).loc main_arg0))
  (m ((c : Thread nD τ).loc main_arg1)) (m ((c : Thread nD τ).loc main_arg2))
abbrev value : Vec Ideal S32x512 .f32 := Reference4Ideal.Read.val_main_v24 (F := Ideal) (m ((c : Thread nD τ).loc main_arg0))
  (m ((c : Thread nD τ).loc main_arg1)) (m ((c : Thread nD τ).loc main_arg2))
abbrev linear : Vec Ideal S32x896 .f32 := Reference4Ideal.Read.val_main_v19 (F := Ideal) (m ((c : Thread nD τ).loc main_arg0))
  (m ((c : Thread nD τ).loc main_arg1)) (m ((c : Thread nD τ).loc main_arg2))
abbrev recurrent : Vec Ideal S32x512 .f32 := Reference4Ideal.Read.val_main_v25 (F := Ideal) (m ((c : Thread nD τ).loc main_arg0))
  (m ((c : Thread nD τ).loc main_arg1)) (m ((c : Thread nD τ).loc main_arg2))

/-- An index of a table is one of row and column. -/
theorem exists_ix2 {n k : ℕ} (j : (⟨2, ![n, k]⟩ : Shape).Idx) : ∃ (r : Fin n) (l : Fin k), j = ix2 r l := by
  refine ⟨⟨(j 0).val, (j 0).isLt⟩, ⟨(j 1).val, (j 1).isLt⟩, funext fun a => ?_⟩
  fin_cases a <;> rfl

/-- The one block of a result starts at its corner: an entry's place in the block is its place in the array. -/
theorem at_place {n k : ℕ} (r : Fin n) (l : Fin k) (y : (⟨2, ![n, k]⟩ : Shape).Idx) (h0 : (y 0).val = 0 * n + 1 * r)
    (h1 : (y 1).val = 0 * k + 1 * l) : ix2 r l = y := by
  funext a
  fin_cases a
  · exact Fin.ext (h0.trans (by show 0 * n + 1 * (r : ℕ) = r; omega)).symm
  · exact Fin.ext (h1.trans (by show 0 * k + 1 * (l : ℕ) = l; omega)).symm

/-- So the one block holds every entry. -/
theorem covered {n k : ℕ} (i : (⟨2, ![n, k]⟩ : Shape).Idx) (a : Fin 2) :
    (0 : ℕ) * (![n, k] : Fin 2 → ℕ) a ≤ (i a).val ∧ (i a).val < 0 * (![n, k] : Fin 2 → ℕ) a + (![n, k] : Fin 2 → ℕ) a := by
  have h : (i a).val < (![n, k] : Fin 2 → ℕ) a := (i a).isLt
  omega

/-- The rows of the one block are the argument's. -/
theorem row_eq (t : Fin cfg0.N) (r : Fin 32) : (fun i => iblk m c 0 t (ix2 r i)) = fun i => m ((c : Thread nD τ).loc main_arg0) (ix2 r i) :=
  funext fun i => blk0_apply m c t r i

/-- The one grid point. -/
abbrev point : Fin cfg0.N := ⟨0, by decide⟩

theorem final_query : (dats m 0 c).arrAt 3 cfg0.N = query m c := by
  refine (dats m 0 c).arrAt_eq_of_cover 3 (query m c) (fun t _ => ?_) fun i => ⟨point, flush0_3 point, ?_⟩
  · rw [Value.flushed3]
    funext j
    obtain ⟨r, l, rfl⟩ := exists_ix2 (n := 32) (k := 512) j
    refine (query_apply _ _ _ (table m c) (blk2_apply m c t) r l).trans ?_
    rw [row_eq, funext (blk1_apply m c t)]
    exact (Reference4Ideal.InStep.query_apply _ _ _ r l).symm.trans (congrArg (query m c) (at_place r l _ rfl rfl))
  · show i ∈ ((View.whole main_v6_0).slice (win0_3.rect point)).set
    rw [View.set_slice_whole, Rect.mem_set_unit]
    exact covered (n := 32) (k := 512) i

theorem final_key : (dats m 0 c).arrAt 4 cfg0.N = key m c := by
  refine (dats m 0 c).arrAt_eq_of_cover 4 (key m c) (fun t _ => ?_) fun i => ⟨point, flush0_4 point, ?_⟩
  · rw [Value.flushed4]
    funext j
    obtain ⟨r, l, rfl⟩ := exists_ix2 (n := 32) (k := 512) j
    refine (key_apply _ _ _ (table m c) (blk2_apply m c t) r l).trans ?_
    rw [row_eq, funext (blk1_apply m c t)]
    exact (Reference4Ideal.InStep.key_apply _ _ _ r l).symm.trans (congrArg (key m c) (at_place r l _ rfl rfl))
  · show i ∈ ((View.whole main_v6_1).slice (win0_4.rect point)).set
    rw [View.set_slice_whole, Rect.mem_set_unit]
    exact covered (n := 32) (k := 512) i

theorem final_value : (dats m 0 c).arrAt 5 cfg0.N = value m c := by
  refine (dats m 0 c).arrAt_eq_of_cover 5 (value m c) (fun t _ => ?_) fun i => ⟨point, flush0_5 point, ?_⟩
  · rw [Value.flushed5]
    funext j
    obtain ⟨r, l, rfl⟩ := exists_ix2 (n := 32) (k := 512) j
    refine (value_apply _ _ _ (table m c) (blk2_apply m c t) r l).trans ?_
    rw [row_eq, funext (blk1_apply m c t)]
    exact (Reference4Ideal.InStep.value_apply _ _ _ r l).symm.trans (congrArg (value m c) (at_place r l _ rfl rfl))
  · show i ∈ ((View.whole main_v6_2).slice (win0_5.rect point)).set
    rw [View.set_slice_whole, Rect.mem_set_unit]
    exact covered (n := 32) (k := 512) i

theorem final_linear : (dats m 0 c).arrAt 6 cfg0.N = linear m c := by
  refine (dats m 0 c).arrAt_eq_of_cover 6 (linear m c) (fun t _ => ?_) fun i => ⟨point, flush0_6 point, ?_⟩
  · rw [Value.flushed6]
    funext j
    obtain ⟨r, l, rfl⟩ := exists_ix2 (n := 32) (k := 896) j
    refine (linear_apply _ _ _ (table m c) (blk2_apply m c t) r l).trans ?_
    rw [row_eq, funext (blk1_apply m c t)]
    exact (Reference4Ideal.InStep.linear_apply _ _ _ r l).symm.trans (congrArg (linear m c) (at_place r l _ rfl rfl))
  · show i ∈ ((View.whole main_v6_3).slice (win0_6.rect point)).set
    rw [View.set_slice_whole, Rect.mem_set_unit]
    exact covered (n := 32) (k := 896) i

theorem final_recurrent : (dats m 0 c).arrAt 7 cfg0.N = recurrent m c := by
  refine (dats m 0 c).arrAt_eq_of_cover 7 (recurrent m c) (fun t _ => ?_) fun i => ⟨point, flush0_7 point, ?_⟩
  · rw [Value.flushed7]
    funext j
    obtain ⟨r, l, rfl⟩ := exists_ix2 (n := 32) (k := 512) j
    refine (recurrent_apply _ _ _ (table m c) (blk2_apply m c t) r l).trans ?_
    rw [row_eq, funext (blk1_apply m c t)]
    exact (Reference4Ideal.InStep.recurrent_apply _ _ _ r l).symm.trans (congrArg (recurrent m c) (at_place r l _ rfl rfl))
  · show i ∈ ((View.whole main_v6_4).slice (win0_7.rect point)).set
    rw [View.set_slice_whole, Rect.mem_set_unit]
    exact covered (n := 32) (k := 512) i

end Cert.Kernel4Ideal.InStep
-- ==== Proof.InStep.Claim.lean ====
module

public import proofs.«01_k».proof.Defs
public import proofs.«01_k».proof.Proof.InStep.ArrayValue
public import proofs.«01_k».proof.Proof.Gen.Kernel4.Frame
public import proofs.«01_k».proof.Proof.Gen.Reference4Ideal.Run

@[expose] public section

set_option maxRecDepth 16384

noncomputable section

/-! The claims about the input projection of the sampled tokens: the frames, and the kernel's five results the reference's. -/

namespace Cert.Kernel4Ideal.InStep

open Cert.Kernel4Ideal Cert.Kernel4Ideal.Gen
open Idealize.ShloMosaic Idealize.ShloMosaic.TcCoe Idealize.SL.Sem

theorem frame_bits : Cert.quiescent_Kernel4 := fun m g _ => Kernel4.Gen.frame m g

theorem frame_ideal : Cert.quiescent_Kernel4Ideal := fun m g _ => frame m g

theorem frame_reference : Cert.quiescent_Reference4Ideal := fun m g _ =>
  (θ_run _ _ _).mono (fun r h => ⟨fun c => (h c).2.2.2.2.2, sem_eq_zero_of_no_sems (by decide) r.2⟩) (Reference4Ideal.Value.run m g)

theorem algebraic : Cert.algebraic_Kernel4Ideal_Reference4Ideal := by
  intro m g m' g' _ hagree
  refine ⟨query m, key m, value m, linear m, recurrent m,
    (θ_run _ _ _).mono (fun r h c => ?_) (Value.run_blocks m g), (θ_run _ _ _).mono (fun r h c => ?_) (Reference4Ideal.Value.run m' g')⟩
  · obtain ⟨h3, h4, h5, h6, h7, hargs⟩ := h c
    exact ⟨h3.trans (final_query m c), h4.trans (final_key m c), h5.trans (final_value m c), h6.trans (final_linear m c),
      h7.trans (final_recurrent m c), hargs⟩
  · obtain ⟨a0, a1, a2⟩ := hagree c
    obtain ⟨h3, h4, h5, h6, h7, hargs⟩ := h c
    refine ⟨h3.trans ?_, h4.trans ?_, h5.trans ?_, h6.trans ?_, h7.trans ?_, hargs⟩
    · rw [Reference4Ideal.Read.val_main_v22_eq, a0, a1, a2]
    · rw [Reference4Ideal.Read.val_main_v23_eq, a0, a1, a2]
    · rw [Reference4Ideal.Read.val_main_v24_eq, a0, a1, a2]
    · rw [Reference4Ideal.Read.val_main_v19_eq, a0, a1, a2]
    · rw [Reference4Ideal.Read.val_main_v25_eq, a0, a1, a2]

end Cert.Kernel4Ideal.InStep
-- ==== Proof.Lru.Row.lean ====
module

public import proofs.«01_k».proof.Proof.Mix.Row

@[expose] public section

set_option maxRecDepth 16384

noncomputable section

/-! One token's row through the convolution's gates and the RG-LRU. -/

namespace Cert.LruRow

open Idealize.ShloMosaic

/-- The convolution of four neighbours. -/
def conv (p q r s : EReal) (w : Fin 4 → EReal) (b : EReal) : EReal := p * w 0 + q * w 1 + r * w 2 + s * w 3 + b

/-- A gate's input: a product by blocks of 64 features. -/
def blocked (x : Fin 256 → EReal) (w : Fin 4 → Fin 64 → Fin 64 → EReal) (c : Fin 256) : EReal :=
  ∑ i : Fin 64, x ⟨64 * (c / 64) + i, by omega⟩ * w ⟨c / 64, by omega⟩ i ⟨c % 64, by omega⟩

/-- A gate: the sigmoid of its input. -/
def gate (x : Fin 256 → EReal) (w : Fin 4 → Fin 64 → Fin 64 → EReal) (b : Fin 256 → EReal) (c : Fin 256) : EReal :=
  Ideal.div 1 (1 + Ideal.exp (-(blocked x w c + b c)))

/-- The logarithm of the sigmoid. -/
def logSigmoid (z : EReal) : EReal := -(max (-z) 0 + Ideal.log (1 + Ideal.exp (-max (-z) z)))

/-- The logarithm of a feature's decay. -/
def logDecay (x : Fin 256 → EReal) (w : Fin 4 → Fin 64 → Fin 64 → EReal) (b lam : Fin 256 → EReal) (c : Fin 256) : EReal :=
  Ideal.ofBits .f32 1090519040#32 * gate x w b c * logSigmoid (lam c)

/-- What a token adds to the state. -/
def drive (x : Fin 256 → EReal) (wa : Fin 4 → Fin 64 → Fin 64 → EReal) (ba : Fin 256 → EReal) (wx : Fin 4 → Fin 64 → Fin 64 → EReal)
    (bx lam : Fin 256 → EReal) (c : Fin 256) : EReal :=
  Ideal.sqrt (-(Ideal.exp (2 * logDecay x wa ba lam c) - 1)) * (gate x wx bx c * x c)

/-- The GELU, by the hyperbolic tangent. -/
def gelu (z : EReal) : EReal :=
  z * (Ideal.ofBits .f32 1056964608#32 *
    (1 + Ideal.tanh (Ideal.ofBits .f32 1061962282#32 * (z + Ideal.ofBits .f32 1027024659#32 * (z * z * z)))))

/-- The output: the state times the gate's GELU, normed. -/
def output (h g n : Fin 256 → EReal) (c : Fin 256) : EReal := MixRow.rms 1132462080#32 (fun c => h c * gelu (g c)) n c

/-- The convolution, as the kernel adds it up. -/
theorem conv_eq (p q r s : EReal) (w : Fin 4 → EReal) (b : EReal) : s * w 3 + b + p * w 0 + q * w 1 + r * w 2 = conv p q r s w b := by
  unfold conv
  ac_rfl

/-- What a token adds to the state, as the kernel computes it. -/
def driveBy (a i x : EReal) : EReal := Ideal.sqrt ((0 - Ideal.tanh a) * (Ideal.exp a * Ideal.exp a + 1)) * (i * x)

/-- The GELU, as the kernel multiplies it. -/
theorem gelu_eq (z : EReal) : Ideal.ofBits .f32 1056964608#32 * z *
    (1 + Ideal.tanh (Ideal.ofBits .f32 1061962282#32 * (z + Ideal.ofBits .f32 1027024659#32 * (z * z * z)))) = gelu z := by
  unfold gelu
  rw [mul_comm _ z, mul_assoc]

/-- The table of 256 features that holds four blocks of 64 along its diagonal, and 0 elsewhere. -/
def Laid (x : Fin 256 → Fin 256 → EReal) (w : Fin 4 → Fin 64 → Fin 64 → EReal) : Prop :=
  ∀ k c : Fin 256, x k c = if (k : ℕ) / 64 = c / 64 then w ⟨k / 64, by omega⟩ ⟨k % 64, by omega⟩ ⟨c % 64, by omega⟩ else 0

/-- A product with weights laid out on the diagonal is the product by blocks. -/
theorem blocked_eq (x : Fin 256 → EReal) (w : Fin 4 → Fin 64 → Fin 64 → EReal) (c : Fin 256) (d : Fin 256 → Fin 256 → EReal)
    (hd : ∀ k c : Fin 256, d k c = if (k : ℕ) / 64 = c / 64 then w ⟨k / 64, by omega⟩ ⟨k % 64, by omega⟩ ⟨c % 64, by omega⟩ else 0) :
    ∑ k, x k * d k c = blocked x w c := by
  have hc := c.isLt
  unfold blocked
  rw [← Finset.sum_subset (s₁ := Finset.univ.image fun i : Fin 64 => (⟨64 * (c / 64) + i, by omega⟩ : Fin 256)) (Finset.subset_univ _)]
  · rw [Finset.sum_image fun i _ j _ h => by
      have := congrArg Fin.val h
      dsimp only at this
      exact Fin.ext (by omega)]
    refine Finset.sum_congr rfl fun i _ => congrArg (x _ * ·) ?_
    have hi := i.isLt
    rw [hd, if_pos (by show (64 * ((c : ℕ) / 64) + i) / 64 = c / 64; omega)]
    exact congrArg₂ (fun a b => w a b _) (Fin.ext (by show (64 * ((c : ℕ) / 64) + i) / 64 = c / 64; omega))
      (Fin.ext (by show (64 * ((c : ℕ) / 64) + i) % 64 = i; omega))
  · intro k _ hk
    rw [hd, if_neg, mul_zero]
    intro h
    have hk' := k.isLt
    refine hk (Finset.mem_image.2 ⟨⟨k % 64, by omega⟩, Finset.mem_univ _, Fin.ext ?_⟩)
    show 64 * ((c : ℕ) / 64) + k % 64 = k
    omega

/-- The mask that lays a gate's blocks on the diagonal. -/
theorem mask_eq (a b : ℕ) (ha : a < 4) (hb : b < 4) : FloatOps.uitofp (F := Ideal) .f32
    (IntOp.cmpi .eq (IntOp.addi (BitVec.ofNat 32 a) 0#32) (BitVec.ofNat 32 b)) = if a = b then (1 : EReal) else 0 := by
  have h : ∀ a b : Fin 4, IntOp.cmpi .eq (IntOp.addi (BitVec.ofNat 32 (a : ℕ)) 0#32) (BitVec.ofNat 32 (b : ℕ)) = if (a : ℕ) = b then 1#1 else 0#1 := by
    decide
  rw [h ⟨a, ha⟩ ⟨b, hb⟩]
  show (((if a = b then 1#1 else 0#1 : BitVec 1).toNat : ℝ) : EReal) = _
  split_ifs <;> simp

theorem log_one : Ideal.log 1 = 0 := by
  rw [← EReal.coe_one, Ideal.log_coe, if_neg (by norm_num), Real.log_one, EReal.coe_zero]

theorem coe_max (x y : ℝ) : ((max x y : ℝ) : EReal) = max (x : EReal) y := EReal.coe_strictMono.monotone.map_max

theorem coe_min (x y : ℝ) : ((min x y : ℝ) : EReal) = min (x : EReal) y := EReal.coe_strictMono.monotone.map_min

/-- The logarithm of the sigmoid, as the kernel computes it. -/
theorem logSigmoid_eq (z : EReal) : min z 0 - Ideal.log (1 + Ideal.exp (0 - max z (-z))) = logSigmoid z := by
  unfold logSigmoid
  induction z using EReal.rec with
  | bot => simp [log_one]
  | top => simp [log_one]
  | coe z =>
    have e : max (z : EReal) (-z) = max (-(z : EReal)) z := max_comm _ _
    rw [e, zero_sub]
    have hp : (0 : ℝ) < 1 + Real.exp (-max (-z) z) := by positivity
    have h1 : Ideal.log (1 + Ideal.exp (-max (-(z : EReal)) z)) = (Real.log (1 + Real.exp (-max (-z) z)) : EReal) := by
      have : -max (-(z : EReal)) z = ((-max (-z) z : ℝ) : EReal) := by
        rw [EReal.coe_neg, coe_max, EReal.coe_neg]
      rw [this, Ideal.exp_coe, ← EReal.coe_one, ← EReal.coe_add, Ideal.log_coe, if_neg (not_le.2 hp)]
    rw [h1, ← EReal.coe_neg, ← EReal.coe_zero, ← coe_min, ← coe_max, ← EReal.coe_sub, ← EReal.coe_add, ← EReal.coe_neg]
    refine congrArg _ ?_
    rcases le_total z 0 with h | h
    · rw [min_eq_left h, max_eq_left (by linarith : (0 : ℝ) ≤ -z)]; ring
    · rw [min_eq_right h, max_eq_right (by linarith : -z ≤ (0 : ℝ))]; ring

theorem ofBits_two : Ideal.ofBits .f32 1073741824#32 = 2 := by
  rw [show (2 : EReal) = ((2 : ℝ) : EReal) by rfl]
  simp [Ideal.ofBits, Ideal.ieee, -EReal.coe_mul]; norm_num

/-- The square of what remains, as the kernel computes it. -/
theorem remain_eq (x : EReal) : (0 - Ideal.tanh x) * (Ideal.exp x * Ideal.exp x + 1) = -(Ideal.exp (2 * x) - 1) := by
  induction x using EReal.rec with
  | bot => simp [EReal.mul_bot_of_pos]
  | top =>
    have h1 : (⊤ : EReal) + 1 = ⊤ := EReal.top_add_coe 1
    have h2 : (⊤ : EReal) - 1 = ⊤ := EReal.top_sub_coe 1
    simp [EReal.mul_top_of_pos, h1, h2]
  | coe x =>
    have h2 : (2 : EReal) * (x : EReal) = ((2 * x : ℝ) : EReal) := by rw [EReal.coe_mul]; rfl
    rw [h2, Ideal.tanh_coe, Ideal.exp_coe, Ideal.exp_coe, ← EReal.coe_zero, ← EReal.coe_one, ← EReal.coe_sub, ← EReal.coe_mul,
      ← EReal.coe_add, ← EReal.coe_mul, ← EReal.coe_sub, ← EReal.coe_neg]
    refine congrArg _ ?_
    rw [Real.tanh_eq_sinh_div_cosh, Real.sinh_eq, Real.cosh_eq, Real.exp_neg, two_mul, Real.exp_add]
    have h := Real.exp_pos x
    field_simp
    ring

theorem driveBy_eq (x : Fin 256 → EReal) (wa : Fin 4 → Fin 64 → Fin 64 → EReal) (ba : Fin 256 → EReal) (wx : Fin 4 → Fin 64 → Fin 64 → EReal)
    (bx lam : Fin 256 → EReal) (c : Fin 256) :
    driveBy (logDecay x wa ba lam c) (gate x wx bx c) (x c) = drive x wa ba wx bx lam c := by
  unfold driveBy drive
  rw [remain_eq]

/-- A decay is a real number, and not negative. -/
theorem exists_decay (x : Fin 256 → EReal) (w : Fin 4 → Fin 64 → Fin 64 → EReal) (b lam : Fin 256 → EReal) (c : Fin 256) :
    ∃ a : ℝ, 0 ≤ a ∧ Ideal.exp (logDecay x w b lam c) = a := by
  have hexp : ∀ z : EReal, 0 ≤ Ideal.exp z := fun z => by
    induction z using EReal.rec with
    | bot => simp
    | top => simp
    | coe z => rw [Ideal.exp_coe]; exact EReal.coe_nonneg.2 (Real.exp_pos z).le
  have hgate : 0 ≤ gate x w b c := by
    unfold gate Ideal.div
    have h : (0 : EReal) < 1 + Ideal.exp (-(blocked x w c + b c)) := lt_of_lt_of_le zero_lt_one (le_add_of_nonneg_right (hexp _))
    rw [if_neg h.ne', one_mul]
    exact EReal.inv_nonneg_of_nonneg h.le
  have hsig : logSigmoid (lam c) ≤ 0 := by
    rw [← logSigmoid_eq]
    suffices hl : 0 ≤ Ideal.log (1 + Ideal.exp (0 - max (lam c) (-lam c))) from
      (EReal.sub_le_sub (min_le_right _ _) hl).trans_eq (sub_zero 0)
    have h : (1 : EReal) ≤ 1 + Ideal.exp (0 - max (lam c) (-lam c)) := le_add_of_nonneg_right (hexp _)
    generalize 1 + Ideal.exp (0 - max (lam c) (-lam c)) = y at h
    induction y using EReal.rec with
    | bot => exact absurd (lt_of_lt_of_le zero_lt_one h) not_lt_bot
    | top => simp
    | coe y =>
      have hy : 1 ≤ y := by exact_mod_cast h
      rw [Ideal.log_coe, if_neg (by linarith)]
      exact EReal.coe_nonneg.2 (Real.log_nonneg hy)
  have h8 : (0 : EReal) ≤ Ideal.ofBits .f32 1090519040#32 := by
    have h : Ideal.ofBits .f32 1090519040#32 = ((8 : ℝ) : EReal) := by
      simp [Ideal.ofBits, Ideal.ieee, -EReal.coe_mul]; norm_num
    rw [h]
    exact EReal.coe_nonneg.2 (by norm_num)
  have hle : logDecay x w b lam c ≤ 0 := mul_nonpos_of_nonneg_of_nonpos (mul_nonneg h8 hgate) hsig
  generalize logDecay x w b lam c = z at hle
  induction z using EReal.rec with
  | bot => exact ⟨0, le_rfl, by simp⟩
  | top => exact absurd hle (by simp)
  | coe z => exact ⟨Real.exp z, (Real.exp_pos z).le, Ideal.exp_coe z⟩

end Cert.LruRow
-- ==== Proof.LruStep.BlockValue.lean ====
module

public import proofs.«01_k».proof.Proof.Gen.Kernel5Ideal.Value
public import proofs.«01_k».proof.Proof.Lru.Row
public import Idealize.ShloMosaic.Lib.Pointwise

@[expose] public section

set_option maxRecDepth 16384

noncomputable section

/-! The block of 32 sampled tokens through the RG-LRU's body, read at an index: the row functions of `Row`. -/

namespace Cert.Kernel5Ideal.LruStep

open Cert.Kernel5Ideal Cert.Kernel5Ideal.Gen Cert.LruRow
open Idealize.ShloMosaic

variable (x0 : Vec Ideal S32x512 .f32) (x1 : Vec Ideal S32x768 .f32) (x2 : Vec Ideal S32x256 .f32) (x3 : Vec Ideal S4x256 .f32)
  (x4 : Vec Ideal S1x256 .f32) (x5 : Vec Ideal S256x256 .bf16) (x6 : Vec Ideal S1x256 .f32) (x7 : Vec Ideal S256x256 .bf16)
  (x8 x9 x10 : Vec Ideal S1x256 .f32) (r : Fin 32)

/-- The convolution's row. -/
def row (c : Fin 256) : EReal := conv (x1 (ix2 r ⟨c, by omega⟩)) (x1 (ix2 r ⟨256 + c, by omega⟩)) (x1 (ix2 r ⟨512 + c, by omega⟩))
  (x0 (ix2 r ⟨c, by omega⟩)) (fun j => x3 (ix2 j c)) (x4 (ix2 0 c))

theorem conv_apply (c : Fin 256) : k0_pay13 x0 x1 x2 x3 x4 x5 x6 x7 x8 x9 x10 (ix2 r c) = row x0 x1 x3 x4 r c := by
  unfold row
  rw [← conv_eq]
  pointwise [k0_pay13, k0_pay2]

/-- A row's product with a table of 256 features. -/
abbrev times (x : Fin 256 → EReal) (w : Vec Ideal S256x256 .bf16) (c : Fin 256) : EReal := ∑ k, x k * w (ix2 k c)

/-- The recurrence gate's input. -/
theorem forget_apply (c : Fin 256) : k0_pay14 x0 x1 x2 x3 x4 x5 x6 x7 x8 x9 x10 (ix2 r c) = times (row x0 x1 x3 x4 r) x5 c + x6 (ix2 0 c) := by
  simp only [times, ← conv_apply x0 x1 x2 x3 x4 x5 x6 x7 x8 x9 x10]
  pointwise [k0_pay13, k0_pay14, k0_pay4, k0_pay3]

/-- The input gate. -/
theorem input_apply (c : Fin 256) : k0_pay15 x0 x1 x2 x3 x4 x5 x6 x7 x8 x9 x10 (ix2 r c) =
    Ideal.div 1 (1 + Ideal.exp (0 - (times (row x0 x1 x3 x4 r) x7 c + x8 (ix2 0 c)))) := by
  simp only [times, ← conv_apply x0 x1 x2 x3 x4 x5 x6 x7 x8 x9 x10]
  pointwise [k0_pay13, k0_pay15, k0_pay5, k0_pay3]

/-- The logarithm of the decay. -/
theorem log_apply (f : FVec Ideal S32x256 .f32) (c : Fin 256) : k0_pay6 f (View.ld x9 r0_3) (ix2 r c) =
    Ideal.ofBits .f32 1090519040#32 * Ideal.div 1 (1 + Ideal.exp (0 - f (ix2 r c))) * logSigmoid (x9 (ix2 0 c)) := by
  rw [← logSigmoid_eq]
  pointwise [k0_pay6]
  rfl

variable (wa wx : Fin 4 → Fin 64 → Fin 64 → EReal)
  (hwa : Laid (fun k c => x5 (ix2 k c)) wa)
  (hwx : Laid (fun k c => x7 (ix2 k c)) wx)

include hwa in
theorem logDecay_apply (c : Fin 256) : k0_pay6 (k0_pay14 x0 x1 x2 x3 x4 x5 x6 x7 x8 x9 x10) (View.ld x9 r0_3) (ix2 r c) =
    logDecay (row x0 x1 x3 x4 r) wa (fun c => x6 (ix2 0 c)) (fun c => x9 (ix2 0 c)) c := by
  rw [log_apply, forget_apply, zero_sub]
  unfold logDecay gate
  rw [← blocked_eq _ wa c (fun k c => x5 (ix2 k c)) hwa]

include hwx in
theorem gate_apply (c : Fin 256) : k0_pay15 x0 x1 x2 x3 x4 x5 x6 x7 x8 x9 x10 (ix2 r c) = gate (row x0 x1 x3 x4 r) wx (fun c => x8 (ix2 0 c)) c := by
  rw [input_apply, zero_sub]
  unfold gate
  rw [← blocked_eq _ wx c (fun k c => x7 (ix2 k c)) hwx]

/-- The state. -/
def state (c : Fin 256) : EReal :=
  Ideal.exp (logDecay (row x0 x1 x3 x4 r) wa (fun c => x6 (ix2 0 c)) (fun c => x9 (ix2 0 c)) c) * x2 (ix2 r c)
    + drive (row x0 x1 x3 x4 r) wa (fun c => x6 (ix2 0 c)) wx (fun c => x8 (ix2 0 c)) (fun c => x9 (ix2 0 c)) c

/-- The state, of what the body's parts hand on. -/
abbrev held : FVec Ideal S32x256 .f32 :=
  k0_pay10 (k0_pay13 x0 x1 x2 x3 x4 x5 x6 x7 x8 x9 x10) (k0_pay15 x0 x1 x2 x3 x4 x5 x6 x7 x8 x9 x10) (k0_pay16 x0 x1 x2 x3 x4 x5 x6 x7 x8 x9 x10)
    (k0_pay17 x0 x1 x2 x3 x4 x5 x6 x7 x8 x9 x10) (k0_pay18 x0 x1 x2 x3 x4 x5 x6 x7 x8 x9 x10) (View.ld x2 r0_11)

include hwa hwx in
theorem held_apply (c : Fin 256) : held x0 x1 x2 x3 x4 x5 x6 x7 x8 x9 x10 (ix2 r c) = state x0 x1 x2 x3 x4 x6 x8 x9 r wa wx c := by
  unfold state
  rw [← driveBy_eq, ← logDecay_apply x0 x1 x2 x3 x4 x5 x6 x7 x8 x9 x10 r wa hwa, ← gate_apply x0 x1 x2 x3 x4 x5 x6 x7 x8 x9 x10 r wx hwx,
    ← conv_apply x0 x1 x2 x3 x4 x5 x6 x7 x8 x9 x10]
  unfold driveBy
  pointwise [k0_pay10, k0_pay16, k0_pay17, k0_pay18, k0_pay7, k0_pay8, k0_pay9]

include hwa hwx in
theorem state_block (c : Fin 256) : out0_13 x0 x1 x2 x3 x4 x5 x6 x7 x8 x9 x10 (ix2 r c) = state x0 x1 x2 x3 x4 x6 x8 x9 r wa wx c := by
  unfold out0_13
  rw [View.canon_unit_zero (by funext a; fin_cases a <;> rfl)]
  exact held_apply x0 x1 x2 x3 x4 x5 x6 x7 x8 x9 x10 r wa wx hwa hwx c

include hwa hwx in
/-- The output. -/
theorem output_block (c : Fin 256) : out0_11 x0 x1 x2 x3 x4 x5 x6 x7 x8 x9 x10 (ix2 r c) =
    output (state x0 x1 x2 x3 x4 x6 x8 x9 r wa wx) (fun c => x0 (ix2 r ⟨256 + c, by omega⟩)) (fun c => x10 (ix2 0 c)) c := by
  unfold out0_11
  rw [View.canon_unit_zero (by funext a; fin_cases a <;> rfl)]
  unfold output MixRow.rms
  simp only [← held_apply x0 x1 x2 x3 x4 x5 x6 x7 x8 x9 x10 r wa wx hwa hwx, ← gelu_eq]
  pointwise [k0_pay11]

/-- The buffer's last two tokens, and the new one, side by side. -/
def moved : Vec Ideal S32x768 .f32 := fun i =>
  if h : (i 1 : ℕ) < 512 then x1 (ix2 ⟨i 0, (i 0).isLt⟩ ⟨256 + i 1, by omega⟩)
  else x0 (ix2 ⟨i 0, (i 0).isLt⟩ ⟨i 1 - 512, by have h1 : (i 1 : ℕ) < 768 := (i 1).isLt; omega⟩)

theorem moved_old (i : S32x768.Idx) (h : (i 1 : ℕ) < 512) : moved x0 x1 i = x1 (ix2 ⟨i 0, (i 0).isLt⟩ ⟨256 + i 1, by omega⟩) := dif_pos h

theorem moved_new (i : S32x768.Idx) (h : ¬ (i 1 : ℕ) < 512) : moved x0 x1 i =
    x0 (ix2 ⟨i 0, (i 0).isLt⟩ ⟨i 1 - 512, by have h1 : (i 1 : ℕ) < 768 := (i 1).isLt; omega⟩) := dif_neg h

/-- An index of a table is one of row and column. -/
theorem exists_ix2 {n k : ℕ} (j : (⟨2, ![n, k]⟩ : Shape).Idx) : ∃ (r : Fin n) (l : Fin k), j = ix2 r l := by
  refine ⟨⟨(j 0).val, (j 0).isLt⟩, ⟨(j 1).val, (j 1).isLt⟩, funext fun a => ?_⟩
  fin_cases a <;> rfl

theorem middle_apply (v : Vec Ideal S32x256 .f32) (x : S32x256.Idx) : k0_pay1 v x = v x := by
  obtain ⟨r, l, rfl⟩ := exists_ix2 (n := 32) (k := 256) x
  pointwise [k0_pay1]

theorem first_apply (v : Vec Ideal S32x256 .f32) (x : S32x256.Idx) : k0_pay12 v x = v x := by
  obtain ⟨r, l, rfl⟩ := exists_ix2 (n := 32) (k := 256) x
  pointwise [k0_pay12]

theorem moved_block (i : S32x768.Idx) : out0_12 x0 x1 x2 x3 x4 x5 x6 x7 x8 x9 x10 i = moved x0 x1 i := by
  unfold out0_12
  refine View.canon_apply_of_pieces (moved x0 x1) _ ?_ i (cover0_12 _ _ _ i)
  intro p hp x
  simp only [List.mem_cons, List.not_mem_nil, or_false] at hp
  rcases hp with rfl | rfl | rfl
  · have h : ¬ ((r0_8.emb x 1 : Fin _) : ℕ) < 512 := by show ¬ 512 + 1 * (x 1 : ℕ) < 512; omega
    refine Eq.trans (congrArg x0 ?_) (moved_new x0 x1 _ h).symm
    funext a; refine Fin.ext ?_; fin_cases a
    · show 0 + 1 * (x 0 : ℕ) = 0 + 1 * (x 0 : ℕ); rfl
    · show 0 + 1 * (x 1 : ℕ) = 512 + 1 * (x 1 : ℕ) - 512; omega
  · have h1 : (x 1 : ℕ) < 256 := (x 1).isLt
    have h : ((r0_6.emb x 1 : Fin _) : ℕ) < 512 := by show 256 + 1 * (x 1 : ℕ) < 512; omega
    refine Eq.trans (show k0_pay1 (View.ld x1 r0_8) x = _ from (middle_apply _ x).trans (congrArg x1 ?_)) (moved_old x0 x1 _ h).symm
    funext a; refine Fin.ext ?_; fin_cases a
    · show 0 + 1 * (x 0 : ℕ) = 0 + 1 * (x 0 : ℕ); rfl
    · show 512 + 1 * (x 1 : ℕ) = 256 + (256 + 1 * (x 1 : ℕ)); omega
  · have h1 : (x 1 : ℕ) < 256 := (x 1).isLt
    have h : ((r0_4.emb x 1 : Fin _) : ℕ) < 512 := by show 0 + 1 * (x 1 : ℕ) < 512; omega
    refine Eq.trans (show k0_pay12 (View.ld x1 r0_6) x = _ from (first_apply _ x).trans (congrArg x1 ?_)) (moved_old x0 x1 _ h).symm
    funext a; refine Fin.ext ?_; fin_cases a
    · show 0 + 1 * (x 0 : ℕ) = 0 + 1 * (x 0 : ℕ); rfl
    · show 256 + 1 * (x 1 : ℕ) = 256 + (0 + 1 * (x 1 : ℕ)); omega

end Cert.Kernel5Ideal.LruStep
-- ==== Proof.LruStep.HostValue.lean ====
module

public import proofs.«01_k».proof.Proof.Gen.Kernel5Ideal.Value
public import proofs.«01_k».proof.Proof.Lru.Row
public import Idealize.ShloMosaic.Lib.Pointwise

@[expose] public section

set_option maxRecDepth 16384

noncomputable section

/-! What the host hands to the sampled tokens' step of the RG-LRU, in terms of the arguments. -/

namespace Cert.Kernel5Ideal.LruStep

open Cert.Kernel5Ideal Cert.Kernel5Ideal.Gen Cert.LruRow
open Idealize.ShloMosaic Idealize.ShloMosaic.TcCoe Idealize.SL.Sem

variable (m : (ℓ : Loc nD τ sig) → Buf (Elt Ideal) ℓ) (c : Dev nD)

/-- A gate's weights on the diagonal, as the host lays them out. -/
def laid (w : Vec Ideal S4x64x64 .f32) : Vec Ideal S256x256 .bf16 :=
  truncf .bf16 (shapeCast S256x256 (mulf
    (broadcastInDim S4x64x4x64 ![0, 1, 2, 3] bcast_S4x64x1x64_S4x64x4x64_0_1_2_3 (broadcastInDim S4x64x1x64 ![0, 1, 3] bcast_S4x64x64_S4x64x1x64_0_1_3 w))
    (broadcastInDim S4x64x4x64 ![0, 1, 2, 3] bcast_S4x1x4x1_S4x64x4x64_0_1_2_3 (broadcastInDim S4x1x4x1 ![0, 2] bcast_S4x4_S4x1x4x1_0_2
      (uitofp (F := Ideal) .f32 (cmpi .eq (addi (iotaInDim S4x4 32 0) (broadcastInDim S4x4 ![] bcast_S_S4x4 (constantI S_ 32 0#32))) (iotaInDim S4x4 32 1))))))
    shapeCasts_S4x64x4x64_S256x256) bitsLt_bf16_f32

theorem laid_apply (w : Vec Ideal S4x64x64 .f32) (k c : Fin 256) : laid w (ix2 k c) =
    if (k : ℕ) / 64 = c / 64 then w (ix3 ⟨k / 64, by omega⟩ ⟨k % 64, by omega⟩ ⟨c % 64, by omega⟩) else 0 := by
  pointwise [laid]
  rw [mask_eq _ _ (by omega) (by omega), mul_ite, mul_one, mul_zero]

theorem V_v12 : V m c main_v12 = laid (m ((c : Thread nD τ).loc main_arg5)) := by
  show StableHlo.after hostOps0 _ _ = _
  after_results
  rfl

theorem V_v25 : V m c main_v25 = laid (m ((c : Thread nD τ).loc main_arg7)) := by
  show StableHlo.after hostOps0 _ _ = _
  after_results
  rfl

/-- The one block of an array starts at its corner. -/
theorem at_place {n k : ℕ} (r : Fin n) (l : Fin k) (y : (⟨2, ![n, k]⟩ : Shape).Idx) (h0 : (y 0).val = 0 * n + 1 * r)
    (h1 : (y 1).val = 0 * k + 1 * l) : y = ix2 r l := by
  funext a
  fin_cases a
  · exact Fin.ext (h0.trans (by show 0 * n + 1 * (r : ℕ) = r; omega))
  · exact Fin.ext (h1.trans (by show 0 * k + 1 * (l : ℕ) = l; omega))

/-- The blocks of the one grid point are the arrays themselves. -/
theorem blk0_apply (t : Fin cfg0.N) (r : Fin 32) (k : Fin 512) : iblk m c 0 t (ix2 r k) = m ((c : Thread nD τ).loc main_arg0) (ix2 r k) :=
  (congrArg (V m c main_arg0) (at_place r k _ rfl rfl)).trans (congrFun (V_main_arg0 m c) _)

theorem blk2_apply (t : Fin cfg0.N) (r : Fin 32) (k : Fin 256) : iblk m c 2 t (ix2 r k) = m ((c : Thread nD τ).loc main_arg2) (ix2 r k) :=
  (congrArg (V m c main_arg2) (at_place r k _ rfl rfl)).trans (congrFun (V_main_arg2 m c) _)

theorem blk3_apply (t : Fin cfg0.N) (r : Fin 4) (k : Fin 256) : iblk m c 3 t (ix2 r k) = m ((c : Thread nD τ).loc main_arg3) (ix2 r k) :=
  (congrArg (V m c main_arg3) (at_place r k _ rfl rfl)).trans (congrFun (V_main_arg3 m c) _)

/-- The buffer arrives with its three tokens side by side. -/
theorem blk1_apply (t : Fin cfg0.N) (r : Fin 32) (j : Fin 3) (k : Fin 256) :
    iblk m c 1 t (ix2 r ⟨256 * j + k, by omega⟩) = m ((c : Thread nD τ).loc main_arg1) (ix3 r j k) := by
  have e : V m c main_v26 = fun x => shapeCast S32x768 (m ((c : Thread nD τ).loc main_arg1)) shapeCasts_S32x3x256_S32x768 x := by
    show StableHlo.after hostOps0 _ _ = _
    after_results
    rfl
  refine (congrArg (V m c main_v26) (at_place r ⟨256 * j + k, by omega⟩ _ rfl rfl)).trans ?_
  rw [e]
  pointwise []

/-- A gate's weights. -/
theorem blk5_apply (t : Fin cfg0.N) (k l : Fin 256) : iblk m c 5 t (ix2 k l) = laid (m ((c : Thread nD τ).loc main_arg5)) (ix2 k l) :=
  (congrArg (V m c main_v12) (at_place k l _ rfl rfl)).trans (congrFun (V_v12 m c) _)

theorem blk7_apply (t : Fin cfg0.N) (k l : Fin 256) : iblk m c 7 t (ix2 k l) = laid (m ((c : Thread nD τ).loc main_arg7)) (ix2 k l) :=
  (congrArg (V m c main_v25) (at_place k l _ rfl rfl)).trans (congrFun (V_v25 m c) _)

/-- The vectors arrive as tables of one row. -/
theorem blk4_apply (t : Fin cfg0.N) (k : Fin 256) : iblk m c 4 t (ix2 0 k) = m ((c : Thread nD τ).loc main_arg4) (ix1 k) := by
  have e : V m c main_v27 = fun x => shapeCast S1x256 (m ((c : Thread nD τ).loc main_arg4)) shapeCasts_S256_S1x256 x := by
    show StableHlo.after hostOps0 _ _ = _
    after_results
    rfl
  refine (congrArg (V m c main_v27) (at_place 0 k _ rfl rfl)).trans ?_
  rw [e]
  pointwise []

theorem blk6_apply (t : Fin cfg0.N) (k : Fin 256) : iblk m c 6 t (ix2 0 k) = m ((c : Thread nD τ).loc main_arg6) (ix1 k) := by
  have e : V m c main_v28 = fun x => shapeCast S1x256 (m ((c : Thread nD τ).loc main_arg6)) shapeCasts_S256_S1x256 x := by
    show StableHlo.after hostOps0 _ _ = _
    after_results
    rfl
  refine (congrArg (V m c main_v28) (at_place 0 k _ rfl rfl)).trans ?_
  rw [e]
  pointwise []

theorem blk8_apply (t : Fin cfg0.N) (k : Fin 256) : iblk m c 8 t (ix2 0 k) = m ((c : Thread nD τ).loc main_arg8) (ix1 k) := by
  have e : V m c main_v29 = fun x => shapeCast S1x256 (m ((c : Thread nD τ).loc main_arg8)) shapeCasts_S256_S1x256 x := by
    show StableHlo.after hostOps0 _ _ = _
    after_results
    rfl
  refine (congrArg (V m c main_v29) (at_place 0 k _ rfl rfl)).trans ?_
  rw [e]
  pointwise []

theorem blk9_apply (t : Fin cfg0.N) (k : Fin 256) : iblk m c 9 t (ix2 0 k) = m ((c : Thread nD τ).loc main_arg9) (ix1 k) := by
  have e : V m c main_v30 = fun x => shapeCast S1x256 (m ((c : Thread nD τ).loc main_arg9)) shapeCasts_S256_S1x256 x := by
    show StableHlo.after hostOps0 _ _ = _
    after_results
    rfl
  refine (congrArg (V m c main_v30) (at_place 0 k _ rfl rfl)).trans ?_
  rw [e]
  pointwise []

theorem blk10_apply (t : Fin cfg0.N) (k : Fin 256) : iblk m c 10 t (ix2 0 k) = m ((c : Thread nD τ).loc main_arg10) (ix1 k) := by
  have e : V m c main_v31 = fun x => shapeCast S1x256 (m ((c : Thread nD τ).loc main_arg10)) shapeCasts_S256_S1x256 x := by
    show StableHlo.after hostOps0 _ _ = _
    after_results
    rfl
  refine (congrArg (V m c main_v31) (at_place 0 k _ rfl rfl)).trans ?_
  rw [e]
  pointwise []

end Cert.Kernel5Ideal.LruStep
-- ==== Proof.LruStep.RefValue.lean ====
module

public import proofs.«01_k».proof.Proof.Lru.Row
public import proofs.«01_k».proof.Proof.Gen.Reference5Ideal.Read
public import Idealize.ShloMosaic.Lib.Pointwise

@[expose] public section

set_option maxRecDepth 16384

noncomputable section

/-! The reference's step of the RG-LRU on the extended reals, read at an index: the row functions of `Row`. -/

namespace Cert.Reference5Ideal.LruStep

open Cert.Reference5Ideal Cert.Reference5Ideal.Gen Cert.Reference5Ideal.Read Cert.LruRow
open Idealize.ShloMosaic

variable (x0 : Vec Ideal S32x512 .f32) (x1 : Vec Ideal S32x3x256 .f32) (x2 : Vec Ideal S32x256 .f32) (x3 : Vec Ideal S4x256 .f32)
  (x4 : Vec Ideal S256 .f32) (x5 : Vec Ideal S4x64x64 .f32) (x6 : Vec Ideal S256 .f32) (x7 : Vec Ideal S4x64x64 .f32)
  (x8 x9 x10 : Vec Ideal S256 .f32) (t : Fin 32)

/-- The buffer's tokens, then the new one. -/
theorem old_apply (j : Fin 3) (c : Fin 256) : val_main_v3 (F := Ideal) x0 x1 (ix3 t ⟨j, by omega⟩ c) = x1 (ix3 t j c) := by
  pointwise [val_main_v3]

theorem new_apply (c : Fin 256) : val_main_v3 (F := Ideal) x0 x1 (ix3 t 3 c) = x0 (ix2 t ⟨c, by omega⟩) := by
  pointwise [val_main_v3, val_main_v2, val_main_v0]

/-- The convolution's row. -/
abbrev row (c : Fin 256) : EReal := conv (x1 (ix3 t 0 c)) (x1 (ix3 t 1 c)) (x1 (ix3 t 2 c)) (x0 (ix2 t ⟨c, by omega⟩)) (fun j => x3 (ix2 j c)) (x4 (ix1 c))

theorem conv_apply (c : Fin 256) : val_main_v35 (F := Ideal) x0 x1 x3 x4 (ix3 t 0 c) = row x0 x1 x3 x4 t c := by
  unfold row conv
  rw [← old_apply x0 x1 t 0, ← old_apply x0 x1 t 1, ← old_apply x0 x1 t 2, ← new_apply x0 x1 t c]
  pointwise [val_main_v4, val_main_v5, val_main_v6, val_main_v7, val_main_v8, val_main_v9, val_main_cst, val_main_v10, val_main_v11,
    val_main_v12, val_main_v13, val_main_v14, val_main_v15, val_main_v16, val_main_v17, val_main_v18, val_main_v19, val_main_v20,
    val_main_v21, val_main_v22, val_main_v23, val_main_v24, val_main_v25, val_main_v26, val_main_v27, val_main_v28, val_main_v29,
    val_main_v30, val_main_v31, val_main_v32, val_main_v33, val_main_v34, val_main_v35]

/-- Its product by blocks. -/
theorem blocked_apply (c : Fin 256) : val_main_v39 (F := Ideal) x0 x1 x3 x4 x5 (ix3 t 0 c) =
    blocked (row x0 x1 x3 x4 t) (fun b i j => x5 (ix3 b i j)) c := by
  unfold blocked
  simp only [← conv_apply, mul_comm (val_main_v35 (F := Ideal) x0 x1 x3 x4 _)]
  have e (i : Fin 64) : (⟨64 * (c / 64) + i, by omega⟩ : Fin 256) = ⟨c / 64 * 64 + i, by omega⟩ := Fin.ext (by show 64 * ((c : ℕ) / 64) + i = c / 64 * 64 + i; omega)
  simp only [e]
  pointwise [val_main_v39, val_main_v38, val_main_v37, val_main_v36]

/-- The recurrence gate. -/
theorem forget_apply (c : Fin 256) : val_main_v48 (F := Ideal) x0 x1 x3 x4 x5 x6 (ix3 t 0 c) =
    gate (row x0 x1 x3 x4 t) (fun b i j => x5 (ix3 b i j)) (fun c => x6 (ix1 c)) c := by
  unfold gate
  rw [← blocked_apply]
  pointwise [val_main_v40, val_main_v41, val_main_v42, val_main_v43, val_main_v44, val_main_cst_0, val_main_v45, val_main_v46,
    val_main_cst_1, val_main_v47, val_main_v48]

/-- The input gate. -/
theorem blocked_input (c : Fin 256) : val_main_v51 (F := Ideal) x0 x1 x3 x4 x7 (ix3 t 0 c) =
    blocked (row x0 x1 x3 x4 t) (fun b i j => x7 (ix3 b i j)) c :=
  blocked_apply x0 x1 x3 x4 x7 t c

theorem input_apply (c : Fin 256) : val_main_v60 (F := Ideal) x0 x1 x3 x4 x7 x8 (ix3 t 0 c) =
    gate (row x0 x1 x3 x4 t) (fun b i j => x7 (ix3 b i j)) (fun c => x8 (ix1 c)) c :=
  forget_apply x0 x1 x3 x4 x7 x8 t c

/-- The logarithm of the sigmoid: no extended real differs from itself, so the case for that is never taken. -/
theorem logSigmoid_apply (c : Fin 256) : val_main_v63 (F := Ideal) x9 (ix1 c) = logSigmoid (x9 (ix1 c)) := by
  unfold logSigmoid
  pointwise [val_main_v63, val_main_call0_v0, val_main_call0_v1, val_main_call0_call0_cst, val_main_call0_call0_v0, val_main_call0_call0_v1,
    val_main_call0_call0_v2, val_main_call0_call0_v3, val_main_call0_call0_v4, val_main_call0_call0_v5, val_main_call0_call0_v6,
    val_main_call0_call0_v7, val_main_call0_call0_v8, val_main_call0_call0_v9, val_main_call0_call0_v10, val_main_call0_call0_v11]
  rw [if_neg (not_not.2 rfl)]
  show -(max (-x9 (ix1 c)) 0 + Ideal.log (1 + Ideal.exp (-max (-x9 (ix1 c)) (- -x9 (ix1 c))))) = _
  rw [neg_neg]

/-- The logarithm of the decay. -/
theorem logDecay_apply (c : Fin 256) : val_main_v66 (F := Ideal) x0 x1 x3 x4 x5 x6 x9 (ix3 t 0 c) =
    logDecay (row x0 x1 x3 x4 t) (fun b i j => x5 (ix3 b i j)) (fun c => x6 (ix1 c)) (fun c => x9 (ix1 c)) c := by
  unfold logDecay
  rw [← forget_apply, ← logSigmoid_apply]
  pointwise [val_main_cst_4, val_main_v61, val_main_v62, val_main_v64, val_main_v65, val_main_v66]

/-- What the token adds to the state. -/
theorem drive_apply (c : Fin 256) : val_main_v74 (F := Ideal) x0 x1 x3 x4 x5 x6 x7 x8 x9 (ix3 t 0 c) =
    drive (row x0 x1 x3 x4 t) (fun b i j => x5 (ix3 b i j)) (fun c => x6 (ix1 c)) (fun b i j => x7 (ix3 b i j)) (fun c => x8 (ix1 c))
      (fun c => x9 (ix1 c)) c := by
  unfold drive
  rw [← logDecay_apply, ← input_apply, ← conv_apply, ← ofBits_two]
  pointwise [val_main_cst_5, val_main_v68, val_main_v69, val_main_v70, val_main_v71, val_main_v72, val_main_v73, val_main_v74]

/-- The state. -/
def state (c : Fin 256) : EReal :=
  Ideal.exp (logDecay (row x0 x1 x3 x4 t) (fun b i j => x5 (ix3 b i j)) (fun c => x6 (ix1 c)) (fun c => x9 (ix1 c)) c) * x2 (ix2 t c)
    + drive (row x0 x1 x3 x4 t) (fun b i j => x5 (ix3 b i j)) (fun c => x6 (ix1 c)) (fun b i j => x7 (ix3 b i j)) (fun c => x8 (ix1 c))
      (fun c => x9 (ix1 c)) c

theorem state_apply (c : Fin 256) : val_main_v78 (F := Ideal) x0 x1 x2 x3 x4 x5 x6 x7 x8 x9 (ix2 t c) = state x0 x1 x2 x3 x4 x5 x6 x7 x8 x9 t c := by
  unfold state
  rw [← logDecay_apply, ← drive_apply]
  pointwise [val_main_v67, val_main_v75, val_main_v76, val_main_v77, val_main_v78]

/-- The gate's GELU. -/
theorem gelu_apply (c : Fin 256) : val_main_v91 (F := Ideal) x0 (ix2 t c) = gelu (x0 (ix2 t ⟨256 + c, by omega⟩)) := by
  unfold gelu
  pointwise [val_main_v1, val_main_v79, val_main_v80, val_main_cst_6, val_main_v81, val_main_v82, val_main_v83, val_main_cst_7, val_main_v84,
    val_main_v85, val_main_v86, val_main_cst_8, val_main_v87, val_main_v88, val_main_cst_9, val_main_v89, val_main_v90, val_main_v91]

/-- The output. -/
theorem output_apply (c : Fin 256) : val_main_v105 (F := Ideal) x0 x1 x2 x3 x4 x5 x6 x7 x8 x9 x10 (ix2 t c) =
    output (state x0 x1 x2 x3 x4 x5 x6 x7 x8 x9 t) (fun c => x0 (ix2 t ⟨256 + c, by omega⟩)) (fun c => x10 (ix1 c)) c := by
  unfold output MixRow.rms
  simp only [← state_apply, ← gelu_apply]
  pointwise [val_main_v92, val_main_v93, val_main_cst_10, val_main_v94, val_main_v95, val_main_cst_11, val_main_v96, val_main_v97,
    val_main_cst_12, val_main_v98, val_main_v99, val_main_v100, val_main_v101, val_main_v102, val_main_v103, val_main_v104, val_main_v105]

/-- The buffer's last two tokens and the new one. -/
theorem moved_apply (j : Fin 3) (c : Fin 256) : val_main_v107 (F := Ideal) x0 x1 (ix2 t ⟨256 * j + c, by omega⟩) =
    val_main_v3 (F := Ideal) x0 x1 (ix3 t ⟨j + 1, by omega⟩ c) := by
  pointwise [val_main_v106, val_main_v107]
  exact congrArg (fun j => val_main_v3 (F := Ideal) x0 x1 (ix3 t j c)) (Fin.ext (Nat.add_comm _ _))

end Cert.Reference5Ideal.LruStep
-- ==== Proof.LruStep.ArrayValue.lean ====
module

public import proofs.«01_k».proof.Proof.LruStep.BlockValue
public import proofs.«01_k».proof.Proof.LruStep.HostValue
public import proofs.«01_k».proof.Proof.LruStep.RefValue

@[expose] public section

set_option maxRecDepth 16384

noncomputable section

/-! The three result arrays of the sampled tokens' RG-LRU are the reference's, whatever the arguments. -/

namespace Cert.Kernel5Ideal.LruStep

open Cert.Kernel5Ideal Cert.Kernel5Ideal.Gen Cert.LruRow
open Idealize.ShloMosaic Idealize.ShloMosaic.TcCoe Idealize.SL.Sem

variable (m : (ℓ : Loc nD τ sig) → Buf (Elt Ideal) ℓ) (c : Dev nD)

/-- The reference's results on the kernel's own arguments. -/
abbrev result : Vec Ideal S32x256 .f32 := Reference5Ideal.Read.val_main_v105 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10))
abbrev buffer : Vec Ideal S32x768 .f32 := Reference5Ideal.Read.val_main_v107 (F := Ideal) (m ((c : Thread nD τ).loc main_arg0)) (m ((c : Thread nD τ).loc main_arg1))
abbrev carried : Vec Ideal S32x256 .f32 := Reference5Ideal.Read.val_main_v78 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9))

/-- The one block holds every entry. -/
theorem covered {n k : ℕ} (i : (⟨2, ![n, k]⟩ : Shape).Idx) (a : Fin 2) :
    (0 : ℕ) * (![n, k] : Fin 2 → ℕ) a ≤ (i a).val ∧ (i a).val < 0 * (![n, k] : Fin 2 → ℕ) a + (![n, k] : Fin 2 → ℕ) a := by
  have h : (i a).val < (![n, k] : Fin 2 → ℕ) a := (i a).isLt
  omega

/-- The buffer's token of age `j`. -/
theorem token (t : Fin cfg0.N) (r : Fin 32) (j : Fin 3) (k : Fin 256) (l : Fin 768) (h : (l : ℕ) = 256 * j + k) :
    iblk m c 1 t (ix2 r l) = m ((c : Thread nD τ).loc main_arg1) (ix3 r j k) :=
  (congrArg (fun l => iblk m c 1 t (ix2 r l)) (Fin.ext h)).trans (blk1_apply m c t r j k)

/-- The convolution's row is the reference's. -/
theorem row_eq (t : Fin cfg0.N) (r : Fin 32) : row (iblk m c 0 t) (iblk m c 1 t) (iblk m c 3 t) (iblk m c 4 t) r =
    Reference5Ideal.LruStep.row (m ((c : Thread nD τ).loc main_arg0)) (m ((c : Thread nD τ).loc main_arg1))
      (m ((c : Thread nD τ).loc main_arg3)) (m ((c : Thread nD τ).loc main_arg4)) r := by
  funext k
  unfold row Reference5Ideal.LruStep.row
  rw [token m c t r 0 k ⟨k, by omega⟩ (by show (k : ℕ) = 256 * 0 + k; omega), token m c t r 1 k ⟨256 + k, by omega⟩ (by show 256 + (k : ℕ) = 256 * 1 + k; omega),
    token m c t r 2 k ⟨512 + k, by omega⟩ (by show 512 + (k : ℕ) = 256 * 2 + k; omega), blk0_apply, blk4_apply, funext fun j => blk3_apply m c t j k]

/-- The weights of the two gates, as the reference holds them. -/
abbrev forget (b : Fin 4) (i j : Fin 64) : EReal := m ((c : Thread nD τ).loc main_arg5) (ix3 b i j)
abbrev admission (b : Fin 4) (i j : Fin 64) : EReal := m ((c : Thread nD τ).loc main_arg7) (ix3 b i j)

theorem forget_laid (t : Fin cfg0.N) : Laid (fun k l => iblk m c 5 t (ix2 k l)) (forget m c) := fun k l =>
  (blk5_apply m c t k l).trans (laid_apply _ k l)

theorem admission_laid (t : Fin cfg0.N) : Laid (fun k l => iblk m c 7 t (ix2 k l)) (admission m c) := fun k l =>
  (blk7_apply m c t k l).trans (laid_apply _ k l)

/-- The state is the reference's. -/
theorem state_eq (t : Fin cfg0.N) (r : Fin 32) : state (iblk m c 0 t) (iblk m c 1 t) (iblk m c 2 t) (iblk m c 3 t) (iblk m c 4 t)
      (iblk m c 6 t) (iblk m c 8 t) (iblk m c 9 t) r (forget m c) (admission m c) =
    Reference5Ideal.LruStep.state (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) r := by
  funext k
  unfold state Reference5Ideal.LruStep.state
  rw [row_eq, funext (blk6_apply m c t), funext (blk8_apply m c t), funext (blk9_apply m c t), blk2_apply]

/-- The one grid point. -/
abbrev point : Fin cfg0.N := ⟨0, by decide⟩

theorem final_result : (dats m 0 c).arrAt 11 cfg0.N = result m c := by
  refine (dats m 0 c).arrAt_eq_of_cover 11 (result m c) (fun t _ => ?_) fun i => ⟨point, flush0_11 point, ?_⟩
  · rw [Value.flushed11]
    funext j
    obtain ⟨r, l, rfl⟩ := exists_ix2 (n := 32) (k := 256) j
    refine (output_block _ _ _ _ _ _ _ _ _ _ _ r (forget m c) (admission m c) (forget_laid m c t) (admission_laid m c t) l).trans ?_
    rw [state_eq, funext (blk10_apply m c t), funext fun k : Fin 256 => blk0_apply m c t r ⟨256 + k, by omega⟩]
    exact (Reference5Ideal.LruStep.output_apply _ _ _ _ _ _ _ _ _ _ _ r l).symm.trans (congrArg (result m c) (at_place r l _ rfl rfl).symm)
  · show i ∈ ((View.whole main_v32_0).slice (win0_11.rect point)).set
    rw [View.set_slice_whole, Rect.mem_set_unit]
    exact covered (n := 32) (k := 256) i

theorem final_carried : (dats m 0 c).arrAt 13 cfg0.N = carried m c := by
  refine (dats m 0 c).arrAt_eq_of_cover 13 (carried m c) (fun t _ => ?_) fun i => ⟨point, flush0_13 point, ?_⟩
  · rw [Value.flushed13]
    funext j
    obtain ⟨r, l, rfl⟩ := exists_ix2 (n := 32) (k := 256) j
    refine (state_block _ _ _ _ _ _ _ _ _ _ _ r (forget m c) (admission m c) (forget_laid m c t) (admission_laid m c t) l).trans ?_
    rw [state_eq]
    exact (Reference5Ideal.LruStep.state_apply _ _ _ _ _ _ _ _ _ _ r l).symm.trans (congrArg (carried m c) (at_place r l _ rfl rfl).symm)
  · show i ∈ ((View.whole main_v32_2).slice (win0_13.rect point)).set
    rw [View.set_slice_whole, Rect.mem_set_unit]
    exact covered (n := 32) (k := 256) i

/-- The buffer moved by one token, as the reference moves it. -/
theorem moved_eq (t : Fin cfg0.N) (r : Fin 32) (l : Fin 768) : moved (iblk m c 0 t) (iblk m c 1 t) (ix2 r l) = buffer m c (ix2 r l) := by
  have e : ∃ (j : Fin 3) (k : Fin 256), l = ⟨256 * j + k, by omega⟩ :=
    ⟨⟨l / 256, by omega⟩, ⟨l % 256, by omega⟩, Fin.ext (by show (l : ℕ) = 256 * (l / 256) + l % 256; omega)⟩
  obtain ⟨j, k, rfl⟩ := e
  refine Eq.trans ?_ (Reference5Ideal.LruStep.moved_apply _ _ r j k).symm
  by_cases h : (j : ℕ) < 2
  · have e : (⟨j + 1, by omega⟩ : Fin 4) = ⟨(⟨j + 1, by omega⟩ : Fin 3), by show (j : ℕ) + 1 < 4; omega⟩ := rfl
    refine (moved_old _ _ _ (by show 256 * (j : ℕ) + k < 512; omega)).trans ?_
    refine (token m c t r ⟨j + 1, by omega⟩ k _ (by show 256 + (256 * (j : ℕ) + k) = 256 * (j + 1) + k; omega)).trans ?_
    exact (Reference5Ideal.LruStep.old_apply _ _ r ⟨j + 1, by omega⟩ k).symm
  · have e : (⟨j + 1, by omega⟩ : Fin 4) = 3 := Fin.ext (by show (j : ℕ) + 1 = 3; omega)
    rw [e]
    refine (moved_new _ _ _ (by show ¬ 256 * (j : ℕ) + k < 512; omega)).trans ?_
    refine Eq.trans ?_ (Reference5Ideal.LruStep.new_apply _ _ r k).symm
    refine Eq.trans (congrArg (fun l => iblk m c 0 t (ix2 r l)) (Fin.ext ?_)) (blk0_apply m c t r ⟨k, by omega⟩)
    show 256 * (j : ℕ) + k - 512 = k
    omega

theorem final_buffer : (dats m 0 c).arrAt 12 cfg0.N = buffer m c := by
  refine (dats m 0 c).arrAt_eq_of_cover 12 (buffer m c) (fun t _ => ?_) fun i => ⟨point, flush0_12 point, ?_⟩
  · rw [Value.flushed12]
    funext j
    obtain ⟨r, l, rfl⟩ := exists_ix2 (n := 32) (k := 768) j
    refine (moved_block _ _ _ _ _ _ _ _ _ _ _ (ix2 r l)).trans ((moved_eq m c t r l).trans ?_)
    exact congrArg (buffer m c) (at_place r l _ rfl rfl).symm
  · show i ∈ ((View.whole main_v32_1).slice (win0_12.rect point)).set
    rw [View.set_slice_whole, Rect.mem_set_unit]
    exact covered (n := 32) (k := 768) i

end Cert.Kernel5Ideal.LruStep
-- ==== Proof.LruStep.Claim.lean ====
module

public import proofs.«01_k».proof.Defs
public import proofs.«01_k».proof.Proof.LruStep.ArrayValue
public import proofs.«01_k».proof.Proof.Gen.Kernel5.Frame
public import proofs.«01_k».proof.Proof.Gen.Reference5Ideal.Run

@[expose] public section

set_option maxRecDepth 16384

noncomputable section

/-! The claims about the sampled tokens' RG-LRU: the frames, and the kernel's three results the reference's. -/

namespace Cert.Kernel5Ideal.LruStep

open Cert.Kernel5Ideal Cert.Kernel5Ideal.Gen
open Idealize.ShloMosaic Idealize.ShloMosaic.TcCoe Idealize.SL.Sem

theorem frame_bits : Cert.quiescent_Kernel5 := fun m g _ => Kernel5.Gen.frame m g

theorem frame_ideal : Cert.quiescent_Kernel5Ideal := fun m g _ => frame m g

theorem frame_reference : Cert.quiescent_Reference5Ideal := fun m g _ =>
  (θ_run _ _ _).mono (fun r h => ⟨fun c => (h c).2.2.2, sem_eq_zero_of_no_sems (by decide) r.2⟩) (Reference5Ideal.Value.run m g)

theorem algebraic : Cert.algebraic_Kernel5Ideal_Reference5Ideal := by
  intro m g m' g' _ hagree
  refine ⟨result m, buffer m, carried m,
    (θ_run _ _ _).mono (fun r h c => ?_) (Value.run_blocks m g), (θ_run _ _ _).mono (fun r h c => ?_) (Reference5Ideal.Value.run m' g')⟩
  · obtain ⟨h11, h12, h13, hargs⟩ := h c
    exact ⟨h11.trans (final_result m c), h12.trans (final_buffer m c), h13.trans (final_carried m c), hargs⟩
  · obtain ⟨a0, a1, a2, a3, a4, a5, a6, a7, a8, a9, a10⟩ := hagree c
    obtain ⟨h11, h12, h13, hargs⟩ := h c
    refine ⟨h11.trans ?_, h12.trans ?_, h13.trans ?_, hargs⟩
    · rw [Reference5Ideal.Read.val_main_v105_eq, a0, a1, a2, a3, a4, a5, a6, a7, a8, a9, a10]
    · rw [Reference5Ideal.Read.val_main_v107_eq, a0, a1]
    · rw [Reference5Ideal.Read.val_main_v78_eq, a0, a1, a2, a3, a4, a5, a6, a7, a8, a9]

end Cert.Kernel5Ideal.LruStep
-- ==== Proof.Lru.Scan.lean ====
module

public import proofs.«01_k».proof.Proof.Mix.Row

@[expose] public section

noncomputable section

/-! A linear recurrence by doubling: windows of tokens are joined until they reach back to the first token. -/

namespace Cert.LruScan

variable (a u : ℕ → EReal)

/-- The recurrence from zero: what token `t` leaves behind. -/
def state : ℕ → EReal
  | 0 => a 0 * 0 + u 0
  | t + 1 => a (t + 1) * state t + u (t + 1)

/-- The recurrence started from zero `d` tokens before the end of `t`. -/
def window : ℕ → ℕ → EReal
  | 0, _ => 0
  | d + 1, t => a t * (if 1 ≤ t then window d (t - 1) else 0) + u t

/-- The product of the decays of those tokens. -/
def decay : ℕ → ℕ → EReal
  | 0, _ => 1
  | d + 1, t => a t * (if 1 ≤ t then decay d (t - 1) else 1)

theorem window_one (t : ℕ) : window a u 1 t = u t := by
  simp [window]

theorem decay_one (t : ℕ) : decay a 1 t = a t := by
  simp [decay]

/-- Two windows of decays join. -/
theorem decay_add (d e t : ℕ) : decay a (d + e) t = decay a d t * (if d ≤ t then decay a e (t - d) else 1) := by
  induction d generalizing t with
  | zero => simp [decay]
  | succ d ih =>
    rw [Nat.add_right_comm, decay, decay]
    cases t with
    | zero => simp
    | succ t =>
      have h : (d + 1 ≤ t + 1) = (d ≤ t) := propext (by omega)
      have h' : t + 1 - (d + 1) = t - d := by omega
      simp only [h, h', Nat.add_sub_cancel, Nat.le_add_left, if_true, ih, mul_assoc]

/-- Two windows of the recurrence join, when every decay is a real number and not negative. -/
theorem window_add (ha : ∀ t, ∃ r : ℝ, 0 ≤ r ∧ a t = r) (d e t : ℕ) :
    window a u (d + e) t = decay a d t * (if d ≤ t then window a u e (t - d) else 0) + window a u d t := by
  induction d generalizing t with
  | zero => simp [decay, window]
  | succ d ih =>
    rw [Nat.add_right_comm, window, window, decay]
    cases t with
    | zero => simp
    | succ t =>
      have h : (d + 1 ≤ t + 1) = (d ≤ t) := propext (by omega)
      have h' : t + 1 - (d + 1) = t - d := by omega
      obtain ⟨r, hr, e⟩ := ha (t + 1)
      simp only [h, h', Nat.add_sub_cancel, Nat.le_add_left, if_true, ih, e]
      rw [EReal.left_distrib_of_nonneg_of_ne_top (EReal.coe_nonneg.2 hr) (EReal.coe_ne_top r), mul_assoc, add_assoc]

/-- A window that reaches back to the first token is the recurrence. -/
theorem window_eq (d t : ℕ) (h : t < d) : window a u d t = state a u t := by
  induction t generalizing d with
  | zero =>
    obtain ⟨d, rfl⟩ : ∃ e, d = e + 1 := ⟨d - 1, by omega⟩
    simp [window, state]
  | succ t ih =>
    obtain ⟨d, rfl⟩ : ∃ e, d = e + 1 := ⟨d - 1, by omega⟩
    simp [window, state, ih d (by omega)]

end Cert.LruScan
-- ==== Proof.Lru.Prompt.lean ====
module

public import proofs.«01_k».proof.Proof.Lru.Row
public import proofs.«01_k».proof.Proof.Lru.Scan

@[expose] public section

noncomputable section

/-! The RG-LRU over the 2048 tokens of one sequence, feature by feature. -/

namespace Cert.LruPrompt

open Cert.LruRow
open Idealize.ShloMosaic

variable (x : Fin 2048 → Fin 512 → EReal) (w : Fin 4 → Fin 256 → EReal) (b : Fin 256 → EReal)
  (wa : Fin 4 → Fin 64 → Fin 64 → EReal) (ba : Fin 256 → EReal) (wx : Fin 4 → Fin 64 → Fin 64 → EReal) (bx lam : Fin 256 → EReal)

/-- The token `d` places before `t`; 0 before the first. -/
def back (d : ℕ) (t : Fin 2048) (c : Fin 256) : EReal := if d ≤ (t : ℕ) then x ⟨t - d, by omega⟩ ⟨c, by omega⟩ else 0

/-- The convolution's row. -/
def row (t : Fin 2048) (c : Fin 256) : EReal :=
  conv (back x 3 t c) (back x 2 t c) (back x 1 t c) (x t ⟨c, by omega⟩) (fun j => w j c) (b c)

/-- A token's decay of a feature; 0 after the last token. -/
def decays (c : Fin 256) (t : ℕ) : EReal := if h : t < 2048 then Ideal.exp (logDecay (row x w b ⟨t, h⟩) wa ba lam c) else 0

/-- What a token adds to a feature's state; 0 after the last token. -/
def drives (c : Fin 256) (t : ℕ) : EReal := if h : t < 2048 then drive (row x w b ⟨t, h⟩) wa ba wx bx lam c else 0

/-- The state after a token. -/
def state (t : ℕ) (c : Fin 256) : EReal := LruScan.state (decays x w b wa ba lam c) (drives x w b wa ba wx bx lam c) t

theorem decays_at (c : Fin 256) (t : Fin 2048) : decays x w b wa ba lam c t = Ideal.exp (logDecay (row x w b t) wa ba lam c) :=
  dif_pos t.isLt

theorem drives_at (c : Fin 256) (t : Fin 2048) : drives x w b wa ba wx bx lam c t = drive (row x w b t) wa ba wx bx lam c :=
  dif_pos t.isLt

theorem decays_real (c : Fin 256) (t : ℕ) : ∃ r : ℝ, 0 ≤ r ∧ decays x w b wa ba lam c t = r := by
  by_cases h : t < 2048
  · obtain ⟨a, ha, e⟩ := exists_decay (row x w b ⟨t, h⟩) wa ba lam c
    exact ⟨a, ha, (dif_pos h).trans e⟩
  · exact ⟨0, le_refl 0, dif_neg h⟩

end Cert.LruPrompt
-- ==== Proof.LruPrompt.Doubling.lean ====
module

public import proofs.«01_k».proof.Proof.Gen.Kernel6Ideal.Frame
public import proofs.«01_k».proof.Proof.Lru.Prompt
public import Idealize.ShloMosaic.Lib.Pointwise

@[expose] public section

set_option maxRecDepth 16384

noncomputable section

/-! The kernel's scan by doubling, over a table of 2048 tokens: after `k` steps an entry holds the window of the last `2 ^ k` tokens. -/

namespace Cert.Kernel6Ideal.LruPrompt

open Cert.Kernel6Ideal Cert.Kernel6Ideal.Gen
open Idealize.ShloMosaic

/-- The table moved down by `d` tokens, a constant before the first. -/
def shift (d z : BitVec 32) (v : FVec Ideal S2048x256 .f32) : FVec Ideal S2048x256 .f32 :=
  select (cmpi .sge (iota .tc S2048x256 32 [0] iota_S2048x256_d0_w32) (broadcast S2048x256 d))
    (dynamicRotate 0 d none v rotates_S2048x256_d0) (broadcast S2048x256 (Scalar.ofBits .f32 z))

/-- The kernel's comparison of two numbers below 2048. -/
theorem sge_eq (t d : ℕ) (ht : t < 2048) (hd : d < 2048) : (IntOp.cmpi .sge (BitVec.ofNat 32 t) (BitVec.ofNat 32 d) = 1#1) = (d ≤ t) := by
  refine propext ?_
  have e (n : ℕ) (h : n < 2048) : (BitVec.ofNat 32 n).toInt = n := by
    rw [BitVec.toInt_ofNat', Int.bmod_eq_of_le (by omega) (by omega)]
  show BitVec.ofBool ((BitVec.ofNat 32 d).sle (BitVec.ofNat 32 t)) = 1#1 ↔ d ≤ t
  rw [BitVec.sle, e d hd, e t ht]
  by_cases h : d ≤ t <;> simp [h]

theorem select_ge (t d : ℕ) (ht : t < 2048) (hd : d < 2048) (x y : EReal) :
    Scalar.select (IntOp.cmpi .sge (BitVec.ofNat 32 t) (BitVec.ofNat 32 d)) x y = if d ≤ t then x else y := by
  show (if IntOp.cmpi .sge (BitVec.ofNat 32 t) (BitVec.ofNat 32 d) = 1#1 then x else y) = _
  simp only [sge_eq t d ht hd]

theorem shift_apply (d : ℕ) (hd : d < 2048) (z : BitVec 32) (v : FVec Ideal S2048x256 .f32) (t : Fin 2048) (c : Fin 256) :
    shift (BitVec.ofNat 32 d) z v (ix2 t c) = if d ≤ (t : ℕ) then v (ix2 ⟨t - d, by omega⟩ c) else Ideal.ofBits .f32 z := by
  pointwise [shift]
  refine (select_ge t d t.isLt hd _ _).trans ?_
  by_cases h : d ≤ (t : ℕ)
  swap
  · rw [if_neg h, if_neg h]
  rw [if_pos h, if_pos h]
  refine congrArg (fun k => v (ix2 k c)) (Fin.ext ?_)
  show ((t : ℕ) + 2048 - d % 4294967296 % 2048) % 2048 = t - d
  omega

/-- One step of the decays. -/
def joinDecay (d : BitVec 32) (a : FVec Ideal S2048x256 .f32) : FVec Ideal S2048x256 .f32 := mulf a (shift d 0x3F800000#32 a)

/-- One step of the states. -/
def joinState (d : BitVec 32) (a u : FVec Ideal S2048x256 .f32) : FVec Ideal S2048x256 .f32 := addf (mulf a (shift d 0x00000000#32 u)) u

variable (a u : FVec Ideal S2048x256 .f32)

/-- The decays after `k` steps. -/
def decayAfter : ℕ → FVec Ideal S2048x256 .f32
  | 0 => a
  | k + 1 => joinDecay (BitVec.ofNat 32 (2 ^ k)) (decayAfter k)

/-- The states after `k` steps. -/
def stateAfter : ℕ → FVec Ideal S2048x256 .f32
  | 0 => u
  | k + 1 => joinState (BitVec.ofNat 32 (2 ^ k)) (decayAfter a k) (stateAfter k)

variable (A U : ℕ → EReal) (c : Fin 256) (ha : ∀ t : Fin 2048, a (ix2 t c) = A t) (hu : ∀ t : Fin 2048, u (ix2 t c) = U t)
  (hA : ∀ t, ∃ r : ℝ, 0 ≤ r ∧ A t = r)

include ha in
theorem decayAfter_apply (k : ℕ) (hk : k ≤ 11) (t : Fin 2048) : decayAfter a k (ix2 t c) = LruScan.decay A (2 ^ k) t := by
  induction k generalizing t with
  | zero => exact (ha t).trans (LruScan.decay_one A t).symm
  | succ k ih =>
    have hp : 2 ^ k < 2048 := Nat.pow_lt_pow_right (by omega : 1 < 2) (by omega : k < 11)
    rw [pow_succ, Nat.mul_two, LruScan.decay_add]
    show decayAfter a k (ix2 t c) * shift (BitVec.ofNat 32 (2 ^ k)) 0x3F800000#32 (decayAfter a k) (ix2 t c) = _
    rw [shift_apply _ hp, ih (by omega), ih (by omega), Ideal.ofBits_one_f32]

include ha hu hA in
theorem stateAfter_apply (k : ℕ) (hk : k ≤ 11) (t : Fin 2048) : stateAfter a u k (ix2 t c) = LruScan.window A U (2 ^ k) t := by
  induction k generalizing t with
  | zero => exact (hu t).trans (LruScan.window_one A U t).symm
  | succ k ih =>
    have hp : 2 ^ k < 2048 := Nat.pow_lt_pow_right (by omega : 1 < 2) (by omega : k < 11)
    rw [pow_succ, Nat.mul_two, LruScan.window_add A U hA]
    show decayAfter a k (ix2 t c) * shift (BitVec.ofNat 32 (2 ^ k)) 0x00000000#32 (stateAfter a u k) (ix2 t c) + stateAfter a u k (ix2 t c) = _
    rw [shift_apply _ hp, ih (by omega), ih (by omega), decayAfter_apply a A c ha k (by omega), Ideal.ofBits_zero_f32]

include ha hu hA in
/-- After eleven steps an entry holds the recurrence. -/
theorem state_eleven (t : Fin 2048) : stateAfter a u 11 (ix2 t c) = LruScan.state A U t :=
  (stateAfter_apply a u A U c ha hu hA 11 le_rfl t).trans (LruScan.window_eq A U _ t t.isLt)

end Cert.Kernel6Ideal.LruPrompt
-- ==== Proof.LruPrompt.BlockValue.lean ====
module

public import proofs.«01_k».proof.Proof.LruPrompt.Doubling

@[expose] public section

set_option maxRecDepth 16384

noncomputable section

/-! The block of one sequence through the RG-LRU's body, read at an index. -/

namespace Cert.Kernel6Ideal.LruPrompt

open Cert.Kernel6Ideal Cert.Kernel6Ideal.Gen Cert.LruRow
open Cert.LruPrompt (back row decays drives state)
open Idealize.ShloMosaic

variable (x0 : Vec Ideal S1x2048x512 .f32) (x1 : Vec Ideal S4x256 .f32) (x2 : Vec Ideal S1x256 .f32) (x3 : Vec Ideal S256x256 .bf16)
  (x4 : Vec Ideal S1x256 .f32) (x5 : Vec Ideal S256x256 .bf16) (x6 x7 x8 : Vec Ideal S1x256 .f32)

/-- The sequence's tokens, the convolution's weights and its bias. -/
abbrev tokens (t : Fin 2048) (k : Fin 512) : EReal := x0 (ix3 0 t k)
abbrev taps (j : Fin 4) (c : Fin 256) : EReal := x1 (ix2 j c)
abbrev first (v : Vec Ideal S1x256 .f32) (c : Fin 256) : EReal := v (ix2 0 c)

theorem input_apply (t : Fin 2048) (c : Fin 256) : k0_pay2 (View.ld x0 r0_0) (ix2 t c) = tokens x0 t ⟨c, by omega⟩ := by
  pointwise [k0_pay2]

theorem back_apply (d : ℕ) (hd : d < 2048) (t : Fin 2048) (c : Fin 256) :
    shift (BitVec.ofNat 32 d) 0x00000000#32 (k0_pay2 (View.ld x0 r0_0)) (ix2 t c) = back (tokens x0) d t c := by
  unfold back
  rw [shift_apply d hd, input_apply, Ideal.ofBits_zero_f32]

/-- The convolution. -/
abbrev convolved : FVec Ideal S2048x256 .f32 := k0_pay8 (k0_pay36 x0 x1 x2 x3 x4 x5 x6 x7 x8) (k0_pay37 x0 x1 x2 x3 x4 x5 x6 x7 x8) (k0_pay38 x0 x1 x2 x3 x4 x5 x6 x7 x8) (k0_pay39 x0 x1 x2 x3 x4 x5 x6 x7 x8) (View.ld x1 r0_6)

theorem conv_last (p q r s : EReal) (w : Fin 4 → EReal) (b : EReal) : s * w 3 + b + r * w 2 + q * w 1 + p * w 0 = conv p q r s w b := by
  unfold conv
  ac_rfl

theorem conv_apply (t : Fin 2048) (c : Fin 256) : convolved x0 x1 x2 x3 x4 x5 x6 x7 x8 (ix2 t c) = row (tokens x0) (taps x1) (first x2) t c := by
  unfold row
  rw [← conv_last, ← back_apply x0 3 (by omega), ← back_apply x0 2 (by omega), ← back_apply x0 1 (by omega), ← input_apply x0 t c]
  pointwise [convolved, shift, k0_pay8, k0_pay36, k0_pay37, k0_pay38, k0_pay39, k0_pay4, k0_pay5, k0_pay6, k0_pay7]

/-- A row's product with a table of 256 features. -/
abbrev times (x : Fin 256 → EReal) (w : Vec Ideal S256x256 .bf16) (c : Fin 256) : EReal := ∑ k, x k * w (ix2 k c)

/-- The two gates. -/
abbrev admission : FVec Ideal S2048x256 .f32 :=
  k0_pay10 (k0_pay36 x0 x1 x2 x3 x4 x5 x6 x7 x8) (k0_pay37 x0 x1 x2 x3 x4 x5 x6 x7 x8) (k0_pay38 x0 x1 x2 x3 x4 x5 x6 x7 x8) (k0_pay39 x0 x1 x2 x3 x4 x5 x6 x7 x8) (View.ld x1 r0_6) (View.ld x5 r0_7) (View.ld x6 r0_3)

theorem admission_times (t : Fin 2048) (c : Fin 256) : admission x0 x1 x2 x3 x4 x5 x6 x7 x8 (ix2 t c) =
    Ideal.div 1 (1 + Ideal.exp (0 - (times (row (tokens x0) (taps x1) (first x2) t) x5 c + x6 (ix2 0 c)))) := by
  simp only [times, ← conv_apply x0 x1 x2 x3 x4 x5 x6 x7 x8]
  pointwise [admission, k0_pay10, k0_pay9]

theorem forget_times (t : Fin 2048) (c : Fin 256) : k0_pay40 x0 x1 x2 x3 x4 x5 x6 x7 x8 (ix2 t c) = Ideal.ofBits .f32 1090519040#32 *
    Ideal.div 1 (1 + Ideal.exp (0 - (times (row (tokens x0) (taps x1) (first x2) t) x3 c + x4 (ix2 0 c)))) := by
  simp only [times, ← conv_apply x0 x1 x2 x3 x4 x5 x6 x7 x8]
  pointwise [k0_pay40, k0_pay11, k0_pay9]

variable (wa wx : Fin 4 → Fin 64 → Fin 64 → EReal) (hwa : Laid (fun k c => x3 (ix2 k c)) wa) (hwx : Laid (fun k c => x5 (ix2 k c)) wx)

/-- The logarithm of the decay. -/
abbrev logs : FVec Ideal S2048x256 .f32 := k0_pay13 (k0_pay40 x0 x1 x2 x3 x4 x5 x6 x7 x8) (k0_pay41 x0 x1 x2 x3 x4 x5 x6 x7 x8) (Scalar.ofBits .f32 0x00000000#32)

include hwa in
theorem logs_apply (t : Fin 2048) (c : Fin 256) : logs x0 x1 x2 x3 x4 x5 x6 x7 x8 (ix2 t c) =
    logDecay (row (tokens x0) (taps x1) (first x2) t) wa (first x4) (first x7) c := by
  unfold logDecay gate
  rw [← logSigmoid_eq, ← blocked_eq _ wa c (fun k c => x3 (ix2 k c)) hwa, ← zero_sub (_ + _), ← forget_times x0 x1 x2 x3 x4 x5 x6 x7 x8]
  pointwise [logs, k0_pay13, k0_pay41, k0_pay12]
  rfl

include hwx in
theorem admission_apply (t : Fin 2048) (c : Fin 256) : admission x0 x1 x2 x3 x4 x5 x6 x7 x8 (ix2 t c) =
    gate (row (tokens x0) (taps x1) (first x2) t) wx (first x6) c := by
  unfold gate
  rw [← blocked_eq _ wx c (fun k c => x5 (ix2 k c)) hwx, ← zero_sub (_ + _)]
  exact admission_times x0 x1 x2 x3 x4 x5 x6 x7 x8 t c

/-- The decays, and what the tokens add. -/
abbrev factors : FVec Ideal S2048x256 .f32 := k0_pay14 (k0_pay40 x0 x1 x2 x3 x4 x5 x6 x7 x8) (k0_pay41 x0 x1 x2 x3 x4 x5 x6 x7 x8) (Scalar.ofBits .f32 0x00000000#32)
abbrev added : FVec Ideal S2048x256 .f32 :=
  mulf (sqrt (mulf (subf (broadcast S2048x256 (Scalar.ofBits .f32 0x00000000#32)) (tanh (logs x0 x1 x2 x3 x4 x5 x6 x7 x8)))
    (addf (mulf (factors x0 x1 x2 x3 x4 x5 x6 x7 x8) (factors x0 x1 x2 x3 x4 x5 x6 x7 x8)) (broadcast S2048x256 (Scalar.ofBits .f32 0x3F800000#32))))) (mulf (admission x0 x1 x2 x3 x4 x5 x6 x7 x8) (convolved x0 x1 x2 x3 x4 x5 x6 x7 x8))

theorem factors_logs (t : Fin 2048) (c : Fin 256) : factors x0 x1 x2 x3 x4 x5 x6 x7 x8 (ix2 t c) = Ideal.exp (logs x0 x1 x2 x3 x4 x5 x6 x7 x8 (ix2 t c)) := by
  unfold factors k0_pay14
  exact (fun _ => rfl : ∀ v : FVec Ideal S2048x256 .f32, exp v (ix2 t c) = Ideal.exp (v (ix2 t c))) _

include hwa in
theorem factors_apply (t : Fin 2048) (c : Fin 256) : factors x0 x1 x2 x3 x4 x5 x6 x7 x8 (ix2 t c) =
    decays (tokens x0) (taps x1) (first x2) wa (first x4) (first x7) c t := by
  rw [LruPrompt.decays_at, ← logs_apply x0 x1 x2 x3 x4 x5 x6 x7 x8 wa hwa, factors_logs]

include hwa hwx in
theorem added_apply (t : Fin 2048) (c : Fin 256) : added x0 x1 x2 x3 x4 x5 x6 x7 x8 (ix2 t c) =
    drives (tokens x0) (taps x1) (first x2) wa (first x4) wx (first x6) (first x7) c t := by
  rw [LruPrompt.drives_at, ← driveBy_eq, ← logs_apply x0 x1 x2 x3 x4 x5 x6 x7 x8 wa hwa, ← admission_apply x0 x1 x2 x3 x4 x5 x6 x7 x8 wx hwx, ← conv_apply x0 x1 x2 x3 x4 x5 x6 x7 x8]
  unfold driveBy
  rw [← factors_logs]
  pointwise [added]

/-- The states, as the body computes them. -/
abbrev held : FVec Ideal S2048x256 .f32 := k0_pay33 (k0_pay50 x0 x1 x2 x3 x4 x5 x6 x7 x8) (k0_pay51 x0 x1 x2 x3 x4 x5 x6 x7 x8) (k0_pay49 x0 x1 x2 x3 x4 x5 x6 x7 x8) (k0_pay52 x0 x1 x2 x3 x4 x5 x6 x7 x8)

theorem decay_one : k0_pay43 x0 x1 x2 x3 x4 x5 x6 x7 x8 = decayAfter (factors x0 x1 x2 x3 x4 x5 x6 x7 x8) 1 := rfl
theorem decay_four : k0_pay46 x0 x1 x2 x3 x4 x5 x6 x7 x8 = decayAfter (factors x0 x1 x2 x3 x4 x5 x6 x7 x8) 4 := rfl
theorem decay_seven : k0_pay48 x0 x1 x2 x3 x4 x5 x6 x7 x8 = decayAfter (factors x0 x1 x2 x3 x4 x5 x6 x7 x8) 7 := by
  unfold k0_pay48; rw [decay_four]; rfl
theorem decay_ten : k0_pay51 x0 x1 x2 x3 x4 x5 x6 x7 x8 = decayAfter (factors x0 x1 x2 x3 x4 x5 x6 x7 x8) 10 := by
  unfold k0_pay51; rw [decay_seven]; rfl
theorem state_two : k0_pay44 x0 x1 x2 x3 x4 x5 x6 x7 x8 = stateAfter (factors x0 x1 x2 x3 x4 x5 x6 x7 x8) (added x0 x1 x2 x3 x4 x5 x6 x7 x8) 2 := rfl
theorem state_four : k0_pay45 x0 x1 x2 x3 x4 x5 x6 x7 x8 = stateAfter (factors x0 x1 x2 x3 x4 x5 x6 x7 x8) (added x0 x1 x2 x3 x4 x5 x6 x7 x8) 4 := by
  unfold k0_pay45; rw [state_two, decay_one]; rfl
theorem moved_four : k0_pay47 x0 x1 x2 x3 x4 x5 x6 x7 x8 = shift 16#32 0x00000000#32 (k0_pay45 x0 x1 x2 x3 x4 x5 x6 x7 x8) := rfl
theorem state_seven : k0_pay24 (k0_pay45 x0 x1 x2 x3 x4 x5 x6 x7 x8) (k0_pay46 x0 x1 x2 x3 x4 x5 x6 x7 x8) (k0_pay47 x0 x1 x2 x3 x4 x5 x6 x7 x8) = stateAfter (factors x0 x1 x2 x3 x4 x5 x6 x7 x8) (added x0 x1 x2 x3 x4 x5 x6 x7 x8) 7 := by
  rw [moved_four, state_four, decay_four]; rfl
theorem state_ten : k0_pay50 x0 x1 x2 x3 x4 x5 x6 x7 x8 = stateAfter (factors x0 x1 x2 x3 x4 x5 x6 x7 x8) (added x0 x1 x2 x3 x4 x5 x6 x7 x8) 10 := by
  unfold k0_pay50 k0_pay27; rw [state_seven, decay_seven]; rfl
theorem held_eq : held x0 x1 x2 x3 x4 x5 x6 x7 x8 = stateAfter (factors x0 x1 x2 x3 x4 x5 x6 x7 x8) (added x0 x1 x2 x3 x4 x5 x6 x7 x8) 11 := by
  unfold held; rw [state_ten, decay_ten]; rfl

include hwa hwx in
theorem held_apply (t : Fin 2048) (c : Fin 256) : held x0 x1 x2 x3 x4 x5 x6 x7 x8 (ix2 t c) =
    state (tokens x0) (taps x1) (first x2) wa (first x4) wx (first x6) (first x7) t c := by
  rw [held_eq]
  exact state_eleven _ _ _ _ c (fun t => factors_apply x0 x1 x2 x3 x4 x5 x6 x7 x8 wa hwa t c) (fun t => added_apply x0 x1 x2 x3 x4 x5 x6 x7 x8 wa wx hwa hwx t c)
    (fun t => LruPrompt.decays_real _ _ _ _ _ _ c t) t

include hwa hwx in
/-- The last state. -/
theorem state_block (c : Fin 256) : out0_11 x0 x1 x2 x3 x4 x5 x6 x7 x8 (ix3 0 0 c) =
    state (tokens x0) (taps x1) (first x2) wa (first x4) wx (first x6) (first x7) 2047 c := by
  unfold out0_11
  rw [View.canon_unit_zero (by funext a; fin_cases a <;> rfl)]
  refine Eq.trans ?_ (held_apply x0 x1 x2 x3 x4 x5 x6 x7 x8 wa wx hwa hwx 2047 c)
  pointwise [k0_pay1]

/-- The last three tokens. -/
theorem buffer_block (j : Fin 3) (c : Fin 256) : out0_10 x0 x1 x2 x3 x4 x5 x6 x7 x8 (ix3 0 j c) = x0 (ix3 0 ⟨2045 + j, by omega⟩ ⟨c, by omega⟩) := by
  unfold out0_10
  rw [View.canon_unit_zero (by funext a; fin_cases a <;> rfl)]
  pointwise [k0_pay35, k0_pay2]

include hwa hwx in
/-- The output. -/
theorem output_block (t : Fin 2048) (c : Fin 256) : out0_9 x0 x1 x2 x3 x4 x5 x6 x7 x8 (ix3 0 t c) =
    output (state (tokens x0) (taps x1) (first x2) wa (first x4) wx (first x6) (first x7) t) (fun c => x0 (ix3 0 t ⟨256 + c, by omega⟩))
      (first x8) c := by
  unfold out0_9
  rw [View.canon_unit_zero (by funext a; fin_cases a <;> rfl)]
  unfold output MixRow.rms
  simp only [← held_apply x0 x1 x2 x3 x4 x5 x6 x7 x8 wa wx hwa hwx, ← gelu_eq]
  pointwise [k0_pay34, k0_pay3]

end Cert.Kernel6Ideal.LruPrompt
-- ==== Proof.LruPrompt.HostValue.lean ====
module

public import proofs.«01_k».proof.Proof.Gen.Kernel6Ideal.Frame
public import proofs.«01_k».proof.Proof.Lru.Row
public import Idealize.ShloMosaic.Lib.Pointwise

@[expose] public section

set_option maxRecDepth 16384

noncomputable section

/-! What the host hands to the prompt's RG-LRU, in terms of the arguments. -/

namespace Cert.Kernel6Ideal.LruPrompt

open Cert.Kernel6Ideal Cert.Kernel6Ideal.Gen Cert.LruRow
open Idealize.ShloMosaic Idealize.ShloMosaic.TcCoe Idealize.SL.Sem

variable (m : (ℓ : Loc nD τ sig) → Buf (Elt Ideal) ℓ) (c : Dev nD)

/-- A gate's weights on the diagonal, as the host lays them out. -/
def laid (w : Vec Ideal S4x64x64 .f32) : Vec Ideal S256x256 .bf16 :=
  truncf .bf16 (shapeCast S256x256 (mulf
    (broadcastInDim S4x64x4x64 ![0, 1, 2, 3] bcast_S4x64x1x64_S4x64x4x64_0_1_2_3 (broadcastInDim S4x64x1x64 ![0, 1, 3] bcast_S4x64x64_S4x64x1x64_0_1_3 w))
    (broadcastInDim S4x64x4x64 ![0, 1, 2, 3] bcast_S4x1x4x1_S4x64x4x64_0_1_2_3 (broadcastInDim S4x1x4x1 ![0, 2] bcast_S4x4_S4x1x4x1_0_2
      (uitofp (F := Ideal) .f32 (cmpi .eq (addi (iotaInDim S4x4 32 0) (broadcastInDim S4x4 ![] bcast_S_S4x4 (constantI S_ 32 0#32))) (iotaInDim S4x4 32 1))))))
    shapeCasts_S4x64x4x64_S256x256) bitsLt_bf16_f32

theorem laid_apply (w : Vec Ideal S4x64x64 .f32) (k c : Fin 256) : laid w (ix2 k c) =
    if (k : ℕ) / 64 = c / 64 then w (ix3 ⟨k / 64, by omega⟩ ⟨k % 64, by omega⟩ ⟨c % 64, by omega⟩) else 0 := by
  pointwise [laid]
  rw [mask_eq _ _ (by omega) (by omega), mul_ite, mul_one, mul_zero]

/-- A vector as a table of one row. -/
def single (v : Vec Ideal S256 .f32) : Vec Ideal S1x256 .f32 := shapeCast S1x256 v shapeCasts_S256_S1x256

theorem single_apply (v : Vec Ideal S256 .f32) (k : Fin 256) : single v (ix2 0 k) = v (ix1 k) := by
  pointwise [single]

theorem V_v12 : V m c main_v12 = laid (m ((c : Thread nD τ).loc main_arg3)) := by
  show StableHlo.after hostOps0 _ _ = _
  after_results
  rfl

theorem V_v25 : V m c main_v25 = laid (m ((c : Thread nD τ).loc main_arg5)) := by
  show StableHlo.after hostOps0 _ _ = _
  after_results
  rfl

theorem V_v26 : V m c main_v26 = single (m ((c : Thread nD τ).loc main_arg2)) := by
  show StableHlo.after hostOps0 _ _ = _
  after_results
  rfl

theorem V_v27 : V m c main_v27 = single (m ((c : Thread nD τ).loc main_arg4)) := by
  show StableHlo.after hostOps0 _ _ = _
  after_results
  rfl

theorem V_v28 : V m c main_v28 = single (m ((c : Thread nD τ).loc main_arg6)) := by
  show StableHlo.after hostOps0 _ _ = _
  after_results
  rfl

theorem V_v29 : V m c main_v29 = single (m ((c : Thread nD τ).loc main_arg7)) := by
  show StableHlo.after hostOps0 _ _ = _
  after_results
  rfl

theorem V_v30 : V m c main_v30 = single (m ((c : Thread nD τ).loc main_arg8)) := by
  show StableHlo.after hostOps0 _ _ = _
  after_results
  rfl

/-- An array handed over whole starts at its corner. -/
theorem at_place {n k : ℕ} (r : Fin n) (l : Fin k) (y : (⟨2, ![n, k]⟩ : Shape).Idx) (h0 : (y 0).val = 0 * n + 1 * r)
    (h1 : (y 1).val = 0 * k + 1 * l) : y = ix2 r l := by
  funext a
  fin_cases a
  · exact Fin.ext (h0.trans (by show 0 * n + 1 * (r : ℕ) = r; omega))
  · exact Fin.ext (h1.trans (by show 0 * k + 1 * (l : ℕ) = l; omega))

/-- The weights stay where they are at every grid point. -/
theorem blk1_apply (t : Fin cfg0.N) (j : Fin 4) (k : Fin 256) : iblk m c 1 t (ix2 j k) = m ((c : Thread nD τ).loc main_arg1) (ix2 j k) :=
  (congrArg (V m c main_arg1) (at_place j k _ rfl rfl)).trans (congrFun (V_main_arg1 m c) _)

theorem blk2_apply (t : Fin cfg0.N) (k : Fin 256) : iblk m c 2 t (ix2 0 k) = m ((c : Thread nD τ).loc main_arg2) (ix1 k) :=
  (congrArg (V m c main_v26) (at_place 0 k _ rfl rfl)).trans ((congrFun (V_v26 m c) _).trans (single_apply _ k))

theorem blk4_apply (t : Fin cfg0.N) (k : Fin 256) : iblk m c 4 t (ix2 0 k) = m ((c : Thread nD τ).loc main_arg4) (ix1 k) :=
  (congrArg (V m c main_v27) (at_place 0 k _ rfl rfl)).trans ((congrFun (V_v27 m c) _).trans (single_apply _ k))

theorem blk6_apply (t : Fin cfg0.N) (k : Fin 256) : iblk m c 6 t (ix2 0 k) = m ((c : Thread nD τ).loc main_arg6) (ix1 k) :=
  (congrArg (V m c main_v28) (at_place 0 k _ rfl rfl)).trans ((congrFun (V_v28 m c) _).trans (single_apply _ k))

theorem blk7_apply (t : Fin cfg0.N) (k : Fin 256) : iblk m c 7 t (ix2 0 k) = m ((c : Thread nD τ).loc main_arg7) (ix1 k) :=
  (congrArg (V m c main_v29) (at_place 0 k _ rfl rfl)).trans ((congrFun (V_v29 m c) _).trans (single_apply _ k))

theorem blk8_apply (t : Fin cfg0.N) (k : Fin 256) : iblk m c 8 t (ix2 0 k) = m ((c : Thread nD τ).loc main_arg8) (ix1 k) :=
  (congrArg (V m c main_v30) (at_place 0 k _ rfl rfl)).trans ((congrFun (V_v30 m c) _).trans (single_apply _ k))

/-- The weights of the two gates. -/
abbrev weights (v : Vec Ideal S4x64x64 .f32) (b : Fin 4) (i j : Fin 64) : EReal := v (ix3 b i j)

theorem forget_laid (t : Fin cfg0.N) : Laid (fun k l => iblk m c 3 t (ix2 k l)) (weights (m ((c : Thread nD τ).loc main_arg3))) := fun k l =>
  ((congrArg (V m c main_v12) (at_place k l _ rfl rfl)).trans (congrFun (V_v12 m c) _)).trans (laid_apply _ k l)

theorem admission_laid (t : Fin cfg0.N) : Laid (fun k l => iblk m c 5 t (ix2 k l)) (weights (m ((c : Thread nD τ).loc main_arg5))) := fun k l =>
  ((congrArg (V m c main_v25) (at_place k l _ rfl rfl)).trans (congrFun (V_v25 m c) _)).trans (laid_apply _ k l)

/-- The sequences' blocks, and the results', move with the grid point. -/
theorem idx0 (i : grid0.Coords) : cc0_transform_0 i = ![(i 0 : ℕ), 0, 0] := by
  have h0 : (i 0 : ℕ) < 16 := (i 0).isLt
  simp only [cc0_transform_0, BitVec.toNat_ofNat]
  rw [Nat.mod_eq_of_lt (by omega : (i 0 : ℕ) < 2 ^ 32)]

theorem idx9 (i : grid0.Coords) : cc0_transform_9 i = ![(i 0 : ℕ), 0, 0] := idx0 i
theorem idx10 (i : grid0.Coords) : cc0_transform_10 i = ![(i 0 : ℕ), 0, 0] := idx0 i
theorem idx11 (i : grid0.Coords) : cc0_transform_11 i = ![(i 0 : ℕ), 0, 0] := idx0 i

/-- An index of a block of one sequence, in the array of sixteen. -/
theorem in_batch {n k : ℕ} (b : Fin 16) (r : Fin n) (l : Fin k) (y : (⟨3, ![16, n, k]⟩ : Shape).Idx) (x : Fin 3 → ℕ) (hx : x = ![(b : ℕ), 0, 0])
    (h0 : (y 0).val = x 0 * 1 + 1 * 0) (h1 : (y 1).val = x 1 * n + 1 * r) (h2 : (y 2).val = x 2 * k + 1 * l) : y = ix3 b r l := by
  subst hx
  funext a
  fin_cases a
  · exact Fin.ext (h0.trans (by show (b : ℕ) * 1 + 1 * 0 = b; omega))
  · exact Fin.ext (h1.trans (by show 0 * n + 1 * (r : ℕ) = r; omega))
  · exact Fin.ext (h2.trans (by show 0 * k + 1 * (l : ℕ) = l; omega))

theorem blk0_apply (t : Fin cfg0.N) (b : Fin 16) (h : (grid0.coords t 0 : ℕ) = b) (r : Fin 2048) (k : Fin 512) :
    iblk m c 0 t (ix3 0 r k) = m ((c : Thread nD τ).loc main_arg0) (ix3 b r k) :=
  (congrArg (V m c main_arg0) (in_batch b r k _ (cc0_transform_0 (grid0.coords t)) ((idx0 _).trans (by rw [h])) rfl rfl rfl)).trans
    (congrFun (V_main_arg0 m c) _)

theorem coords_eq : ∀ t : Fin cfg0.N, (grid0.coords t 0 : ℕ) = t :=
  (by decide +kernel : ∀ t : Fin grid0.N, (grid0.coords t 0 : ℕ) = t)

/-- The grid point of a sequence. -/
theorem point_of (b : Fin 16) : ∃ t : Fin cfg0.N, (grid0.coords t 0 : ℕ) = b := by
  have hN : cfg0.N = 16 := by decide +kernel
  exact ⟨⟨b, by rw [hN]; omega⟩, coords_eq _⟩

end Cert.Kernel6Ideal.LruPrompt
-- ==== Proof.LruPrompt.RunValue.lean ====
module

public import proofs.«01_k».proof.Proof.Gen.Kernel6Ideal.Frame
public import Idealize.ShloMosaic.Lib.Pointwise

@[expose] public section

set_option maxRecDepth 16384

noncomputable section

/-! The run of the prompt's RG-LRU: its three result arrays end at what the grid's points write back, its arguments unchanged. -/

namespace Cert.Kernel6Ideal.LruPrompt

open Cert.Kernel6Ideal Cert.Kernel6Ideal.Gen
open Idealize.ShloMosaic Idealize.ShloMosaic.TcCoe Idealize.SL.Sem

variable (m : (ℓ : Loc nD τ sig) → Buf (Elt Ideal) ℓ) (ρ : Dev nD → PrngReg)

/-- What a grid point writes back to each result. -/
theorem flushed9 (c : Dev nD) (t : Fin cfg0.N) : (dats m 0 c).flushed 9 t = (cfg0.win 9).cut (grid0.coords t)
    (out0_9 (iblk m c 0 t) (iblk m c 1 t) (iblk m c 2 t) (iblk m c 3 t) (iblk m c 4 t) (iblk m c 5 t) (iblk m c 6 t) (iblk m c 7 t) (iblk m c 8 t)) := by
  show (cfg0.win 9).cut (grid0.coords t) ((dats m 0 c).after 9 t) = _
  rw [after0_9]

theorem flushed10 (c : Dev nD) (t : Fin cfg0.N) : (dats m 0 c).flushed 10 t = (cfg0.win 10).cut (grid0.coords t)
    (out0_10 (iblk m c 0 t) (iblk m c 1 t) (iblk m c 2 t) (iblk m c 3 t) (iblk m c 4 t) (iblk m c 5 t) (iblk m c 6 t) (iblk m c 7 t) (iblk m c 8 t)) := by
  show (cfg0.win 10).cut (grid0.coords t) ((dats m 0 c).after 10 t) = _
  rw [after0_10]

theorem flushed11 (c : Dev nD) (t : Fin cfg0.N) : (dats m 0 c).flushed 11 t = (cfg0.win 11).cut (grid0.coords t)
    (out0_11 (iblk m c 0 t) (iblk m c 1 t) (iblk m c 2 t) (iblk m c 3 t) (iblk m c 4 t) (iblk m c 5 t) (iblk m c 6 t) (iblk m c 7 t) (iblk m c 8 t)) := by
  show (cfg0.win 11).cut (grid0.coords t) ((dats m 0 c).after 11 t) = _
  rw [after0_11]

/-- The run. -/
theorem run : θ_run defs (onTc (τ := τ) (main (F := Ideal))) ⟨m, fun _ => 0, ρ⟩ fun r => ∀ c : Dev nD,
      r.2.mem ((c.tc : Thread nD τ).loc main_v31_0) = (dats m 0 c).arrAt 9 cfg0.N
      ∧ r.2.mem ((c.tc : Thread nD τ).loc main_v31_1) = (dats m 0 c).arrAt 10 cfg0.N
      ∧ r.2.mem ((c.tc : Thread nD τ).loc main_v31_2) = (dats m 0 c).arrAt 11 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c =>
    ⟨(h c).1 9, (h c).1 10, (h c).1 11,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) (run_main m ρ)

end Cert.Kernel6Ideal.LruPrompt
-- ==== Proof.LruPrompt.RefValue.lean ====
module

public import proofs.«01_k».proof.Proof.Lru.Prompt
public import proofs.«01_k».proof.Proof.Gen.Reference6Ideal.Step
public import Idealize.ShloMosaic.Lib.Pointwise

@[expose] public section

set_option maxRecDepth 16384

noncomputable section

/-! The reference's decays and drives over the prompt, before its loop, read at an index: the row functions of `Row`. -/

namespace Cert.Reference6Ideal.LruPrompt

open Cert.Reference6Ideal Cert.Reference6Ideal.Gen Cert.Reference6Ideal.Step Cert.LruRow
open Cert.LruPrompt (back row decays drives)
open Idealize.ShloMosaic

variable (x0 : Vec Ideal S16x2048x512 .f32) (x1 : Vec Ideal S4x256 .f32) (x2 : Vec Ideal S256 .f32) (x3 : Vec Ideal S4x64x64 .f32)
  (x4 : Vec Ideal S256 .f32) (x5 : Vec Ideal S4x64x64 .f32) (x6 x7 x8 : Vec Ideal S256 .f32) (b : Fin 16)

/-- A sequence's tokens, the convolution's weights, a gate's weights, a list of features. -/
abbrev tokens (t : Fin 2048) (k : Fin 512) : EReal := x0 (ix3 b t k)
abbrev taps (j : Fin 4) (c : Fin 256) : EReal := x1 (ix2 j c)
abbrev blocks (v : Vec Ideal S4x64x64 .f32) (n : Fin 4) (i j : Fin 64) : EReal := v (ix3 n i j)
abbrev each (v : Vec Ideal S256 .f32) (c : Fin 256) : EReal := v (ix1 c)

/-- The tokens after three of zero, so those before a token. -/
theorem back_apply (d : ℕ) (hd : d ≤ 3) (t : Fin 2048) (c : Fin 256) :
    A_main_v2 (F := Ideal) x0 x1 x2 x3 x4 x5 x6 x7 (ix3 b ⟨3 - d + t, by omega⟩ c) = back (tokens x0 b) d t c := by
  unfold back
  pointwise [A_main_v2, K_main_v0, K_main_cst, A_main_v1]
  by_cases h : d ≤ (t : ℕ)
  · rw [dif_neg (by omega), if_pos h]
    exact congrArg (fun k => x0 (ix3 b k _)) (Fin.ext (by show 3 - d + (t : ℕ) - 3 = t - d; omega))
  · rw [dif_pos (by omega), if_neg h]

theorem conv_apply (t : Fin 2048) (c : Fin 256) : A_main_v34 (F := Ideal) x0 x1 x2 x3 x4 x5 x6 x7 (ix3 b t c) =
    row (tokens x0 b) (taps x1) (each x2) t c := by
  have h (p : Fin 2051) (e : (p : ℕ) = 3 + t) : A_main_v2 (F := Ideal) x0 x1 x2 x3 x4 x5 x6 x7 (ix3 b p c) = tokens x0 b t ⟨c, by omega⟩ := by
    rw [show p = ⟨3 - 0 + t, by omega⟩ from Fin.ext e, back_apply _ _ _ _ _ _ _ _ b 0 (by omega)]
    exact if_pos (Nat.zero_le _)
  unfold row conv
  rw [← back_apply x0 x1 x2 x3 x4 x5 x6 x7 b 3 (by omega), ← back_apply x0 x1 x2 x3 x4 x5 x6 x7 b 2 (by omega), ← back_apply x0 x1 x2 x3 x4 x5 x6 x7 b 1 (by omega), ← h ⟨3 + t, by omega⟩ rfl]
  pointwise [A_main_v3, A_main_v4, A_main_v5, A_main_v6, A_main_v7, A_main_v8, K_main_cst_0, K_main_v9, A_main_v10, A_main_v11,
    A_main_v12, A_main_v13, A_main_v14, A_main_v15, A_main_v16, A_main_v17, A_main_v18, A_main_v19, A_main_v20, A_main_v21, A_main_v22,
    A_main_v23, A_main_v24, A_main_v25, A_main_v26, A_main_v27, A_main_v28, A_main_v29, A_main_v30, A_main_v31, A_main_v32, A_main_v33,
    A_main_v34]

/-- Its product by blocks. -/
theorem blocked_apply (t : Fin 2048) (c : Fin 256) : A_main_v38 (F := Ideal) x0 x1 x2 x3 x4 x5 x6 x7 (ix3 b t c) =
    blocked (row (tokens x0 b) (taps x1) (each x2) t) (blocks x3) c := by
  unfold blocked
  simp only [← conv_apply x0 x1 x2 x3 x4 x5 x6 x7, mul_comm (A_main_v34 (F := Ideal) x0 x1 x2 x3 x4 x5 x6 x7 _)]
  have e (i : Fin 64) : (⟨64 * (c / 64) + i, by omega⟩ : Fin 256) = ⟨c / 64 * 64 + i, by omega⟩ := Fin.ext (by show 64 * ((c : ℕ) / 64) + i = c / 64 * 64 + i; omega)
  simp only [e]
  pointwise [A_main_v38, A_main_v37, A_main_v36, A_main_v35]

/-- The recurrence gate. -/
theorem forget_apply (t : Fin 2048) (c : Fin 256) : A_main_v47 (F := Ideal) x0 x1 x2 x3 x4 x5 x6 x7 (ix3 b t c) =
    gate (row (tokens x0 b) (taps x1) (each x2) t) (blocks x3) (each x4) c := by
  unfold gate
  rw [← blocked_apply x0 x1 x2 x3 x4 x5 x6 x7]
  pointwise [A_main_v39, A_main_v40, A_main_v41, A_main_v42, A_main_v43, K_main_cst_1, K_main_v44, A_main_v45, K_main_cst_2, K_main_v46, A_main_v47]

/-- The input gate. -/
theorem input_apply (t : Fin 2048) (c : Fin 256) : A_main_v59 (F := Ideal) x0 x1 x2 x3 x4 x5 x6 x7 (ix3 b t c) =
    gate (row (tokens x0 b) (taps x1) (each x2) t) (blocks x5) (each x6) c :=
  forget_apply x0 x1 x2 x5 x6 x5 x6 x7 b t c

/-- The logarithm of the sigmoid: no extended real differs from itself, so the case for that is never taken. -/
theorem logSigmoid_apply (c : Fin 256) : A_main_v76 (F := Ideal) x0 x1 x2 x3 x4 x5 x6 x7 (ix1 c) = logSigmoid (x7 (ix1 c)) := by
  unfold logSigmoid
  pointwise [A_main_v62, K_main_cst_6, K_main_v63, A_main_v64, K_main_v65, A_main_v66, A_main_v67, K_main_v68, A_main_v69, A_main_v70,
    A_main_v71, A_main_v72, A_main_v73, A_main_v74, A_main_v75, A_main_v76]
  rw [if_neg (not_not.2 rfl)]
  show -(max (-x7 (ix1 c)) 0 + Ideal.log (1 + Ideal.exp (-max (-x7 (ix1 c)) (- -x7 (ix1 c))))) = _
  rw [neg_neg]

/-- The logarithm of the decay. -/
theorem logDecay_apply (t : Fin 2048) (c : Fin 256) : A_main_v79 (F := Ideal) x0 x1 x2 x3 x4 x5 x6 x7 (ix3 b t c) =
    logDecay (row (tokens x0 b) (taps x1) (each x2) t) (blocks x3) (each x4) (each x7) c := by
  unfold logDecay
  rw [← forget_apply x0 x1 x2 x3 x4 x5 x6 x7, ← logSigmoid_apply x0 x1 x2 x3 x4 x5 x6 x7]
  pointwise [K_main_cst_5, K_main_v60, A_main_v61, A_main_v77, A_main_v78, A_main_v79]

/-- The decays, by tokens. -/
theorem decays_apply (t : Fin 2048) (c : Fin 256) : A_main_v89 (F := Ideal) x0 x1 x2 x3 x4 x5 x6 x7 (ix3 t b c) =
    decays (tokens x0 b) (taps x1) (each x2) (blocks x3) (each x4) (each x7) c t := by
  rw [LruPrompt.decays_at, ← logDecay_apply x0 x1 x2 x3 x4 x5 x6 x7]
  pointwise [A_main_v89, A_main_v80]

/-- What the tokens add, by tokens. -/
theorem drives_apply (t : Fin 2048) (c : Fin 256) : A_main_v90 (F := Ideal) x0 x1 x2 x3 x4 x5 x6 x7 (ix3 t b c) =
    drives (tokens x0 b) (taps x1) (each x2) (blocks x3) (each x4) (blocks x5) (each x6) (each x7) c t := by
  rw [LruPrompt.drives_at]
  unfold drive
  rw [← logDecay_apply x0 x1 x2 x3 x4 x5 x6 x7, ← input_apply x0 x1 x2 x3 x4 x5 x6 x7, ← conv_apply x0 x1 x2 x3 x4 x5 x6 x7, ← ofBits_two]
  pointwise [A_main_v90, K_main_cst_7, K_main_v81, A_main_v82, A_main_v83, A_main_v84, A_main_v85, A_main_v86, A_main_v87]

end Cert.Reference6Ideal.LruPrompt
-- ==== Proof.LruPrompt.RefLoop.lean ====
module

public import proofs.«01_k».proof.Proof.LruPrompt.RefValue

@[expose] public section

set_option maxRecDepth 16384

noncomputable section

/-! The reference's loop over the prompt: after `n` trips it carries the state of the last of `n` tokens, and holds those of all. -/

namespace Cert.Reference6Ideal.LruPrompt

open Cert.Reference6Ideal Cert.Reference6Ideal.Gen Cert.Reference6Ideal.Step Cert.LruRow
open Idealize.ShloMosaic

/-- Where a trip's slice starts: at its token, and at the corner of the table. -/
def corner (j : ℕ) (k : Fin 3) : ℤ :=
  (((![constantI S_ 32 (BitVec.ofNat 32 j), constantI S_ 32 0#32, constantI S_ 32 0#32] : Fin 3 → (⟨S_, .i32⟩ : BufTy).Contents (Elt Ideal))) k (Shape.Idx.first h_S_)).toInt

variable (f : S1x16x256.rank = S2048x16x256.rank)

theorem corner_token (j : ℕ) (h : j < 2048) : Host.clampedStart S2048x16x256 S1x16x256 f (corner j) 0 = j := by
  refine Host.clampedStart_of_le f _ 0 j ?_ (by show j + 1 ≤ 2048; omega)
  show (BitVec.ofNat 32 j).toInt = j
  rw [BitVec.toInt_ofNat', Int.bmod_eq_of_le (by omega) (by omega)]

theorem corner_batch (j : ℕ) : Host.clampedStart S2048x16x256 S1x16x256 f (corner j) 1 = 0 :=
  Host.clampedStart_of_le f _ 1 0 rfl (le_refl 16)

theorem corner_feature (j : ℕ) : Host.clampedStart S2048x16x256 S1x16x256 f (corner j) 2 = 0 :=
  Host.clampedStart_of_le f _ 2 0 rfl (le_refl 256)

theorem decay_slice (j : ℕ) (h : j < 2048) (s : State Ideal) (b : Fin 16) (c : Fin 256) :
    b3 j s (ix2 b c) = s.main_v92_0 (ix3 ⟨j, h⟩ b c) := by
  pointwise [b3, b2, b0, b1]
  simp only [← corner.eq_def]
  simp only [corner_token _ j h, corner_batch, corner_feature, Nat.zero_add]

theorem drive_slice (j : ℕ) (h : j < 2048) (s : State Ideal) (b : Fin 16) (c : Fin 256) :
    b7 j s (ix2 b c) = s.main_v92_1 (ix3 ⟨j, h⟩ b c) := by
  pointwise [b7, b6, b4, b5]
  simp only [← corner.eq_def]
  simp only [corner_token _ j h, corner_batch, corner_feature, Nat.zero_add]

theorem stack_row (j : ℕ) (h : j < 2048) (s : State Ideal) (t : Fin 2048) (b : Fin 16) (c : Fin 256) :
    b13 j s (ix3 t b c) = if (t : ℕ) = j then b9 j s (ix2 b c) else s.main_v92_4 (ix3 t b c) := by
  pointwise [b13, b10, b11, b12]
  simp only [← corner.eq_def, corner_token _ j h, corner_batch, corner_feature, Nat.zero_le, Nat.sub_zero, and_true]
  by_cases e : (t : ℕ) = j
  · rw [dif_pos (by omega), if_pos e]
  · rw [dif_neg (by omega), if_neg e]

variable (x0 : Vec Ideal S16x2048x512 .f32) (x1 : Vec Ideal S4x256 .f32) (x2 : Vec Ideal S256 .f32) (x3 : Vec Ideal S4x64x64 .f32)
  (x4 : Vec Ideal S256 .f32) (x5 : Vec Ideal S4x64x64 .f32) (x6 x7 x8 : Vec Ideal S256 .f32) (b : Fin 16)

/-- The states of the loop, trip by trip. -/
def trips : ℕ → State Ideal
  | 0 => init (F := Ideal) x0 x1 x2 x3 x4 x5 x6 x7
  | n + 1 => step n (trips n)

theorem trips_decays : ∀ n, (trips x0 x1 x2 x3 x4 x5 x6 x7 n).main_v92_0 = A_main_v89 (F := Ideal) x0 x1 x2 x3 x4 x5 x6 x7
  | 0 => rfl
  | n + 1 => trips_decays n

theorem trips_drives : ∀ n, (trips x0 x1 x2 x3 x4 x5 x6 x7 n).main_v92_1 = A_main_v90 (F := Ideal) x0 x1 x2 x3 x4 x5 x6 x7
  | 0 => rfl
  | n + 1 => trips_drives n

/-- The state after a token, on the reference's arguments. -/
abbrev state (t : ℕ) (c : Fin 256) : EReal := Cert.LruPrompt.state (tokens x0 b) (taps x1) (each x2) (blocks x3) (each x4) (blocks x5) (each x6) (each x7) t c

/-- One trip's new state, of the state it finds. -/
theorem trip_apply (j : ℕ) (h : j < 2048) (c : Fin 256) : b9 j (trips x0 x1 x2 x3 x4 x5 x6 x7 j) (ix2 b c) =
    Cert.LruPrompt.decays (tokens x0 b) (taps x1) (each x2) (blocks x3) (each x4) (each x7) c j * (trips x0 x1 x2 x3 x4 x5 x6 x7 j).main_v92_3 (ix2 b c) +
      Cert.LruPrompt.drives (tokens x0 b) (taps x1) (each x2) (blocks x3) (each x4) (blocks x5) (each x6) (each x7) c j := by
  rw [← decays_apply x0 x1 x2 x3 x4 x5 x6 x7 b ⟨j, h⟩ c, ← drives_apply x0 x1 x2 x3 x4 x5 x6 x7 b ⟨j, h⟩ c, ← trips_decays x0 x1 x2 x3 x4 x5 x6 x7 j, ← trips_drives x0 x1 x2 x3 x4 x5 x6 x7 j,
    ← decay_slice j h, ← drive_slice j h]
  rfl

theorem carried_apply (j : ℕ) (h : j < 2048) (c : Fin 256) : b9 j (trips x0 x1 x2 x3 x4 x5 x6 x7 j) (ix2 b c) = state x0 x1 x2 x3 x4 x5 x6 x7 b j c := by
  induction j with
  | zero =>
    rw [trip_apply x0 x1 x2 x3 x4 x5 x6 x7 b 0 h c]
    show _ * K_main_v88 (F := Ideal) (ix2 b c) + _ = _
    rw [show K_main_v88 (F := Ideal) (ix2 b c) = 0 by pointwise [K_main_v88, K_main_cst_8]]
    rfl
  | succ j ih =>
    rw [trip_apply x0 x1 x2 x3 x4 x5 x6 x7 b (j + 1) h c]
    show _ * b9 j (trips x0 x1 x2 x3 x4 x5 x6 x7 j) (ix2 b c) + _ = _
    rw [ih (by omega)]
    rfl

/-- The table after `n` trips holds the first `n` states. -/
theorem stacked_apply (n : ℕ) (h : n ≤ 2048) (t : Fin 2048) (ht : (t : ℕ) < n) (c : Fin 256) :
    (trips x0 x1 x2 x3 x4 x5 x6 x7 n).main_v92_4 (ix3 t b c) = state x0 x1 x2 x3 x4 x5 x6 x7 b t c := by
  induction n with
  | zero => omega
  | succ n ih =>
    show b13 n (trips x0 x1 x2 x3 x4 x5 x6 x7 n) (ix3 t b c) = _
    rw [stack_row n (by omega)]
    by_cases e : (t : ℕ) = n
    · rw [if_pos e, carried_apply x0 x1 x2 x3 x4 x5 x6 x7 b n (by omega), e]
    · rw [if_neg e, ih (by omega) (by omega)]

/-- The last state. -/
theorem last_apply (c : Fin 256) : R_main_v123 (F := Ideal) (trips x0 x1 x2 x3 x4 x5 x6 x7 2048) (ix3 b 0 c) = state x0 x1 x2 x3 x4 x5 x6 x7 b 2047 c := by
  rw [← carried_apply x0 x1 x2 x3 x4 x5 x6 x7 b 2047 (by omega)]
  refine Eq.trans ?_ (show (trips x0 x1 x2 x3 x4 x5 x6 x7 2048).main_v92_3 (ix2 b c) = _ from rfl)
  pointwise [R_main_v123]

/-- The last three tokens. -/
theorem buffer_apply (s : State Ideal) (j : Fin 3) (c : Fin 256) :
    R_main_v122 (F := Ideal) s x0 (ix3 b j c) = x0 (ix3 b ⟨2045 + j, by omega⟩ ⟨c, by omega⟩) := by
  pointwise [R_main_v122]

/-- The output. -/
theorem output_apply (t : Fin 2048) (c : Fin 256) : R_main_v121 (F := Ideal) (trips x0 x1 x2 x3 x4 x5 x6 x7 2048) x0 x8 (ix3 b t c) =
    output (state x0 x1 x2 x3 x4 x5 x6 x7 b t) (fun c => x0 (ix3 b t ⟨256 + c, by omega⟩)) (fun c => x8 (ix1 c)) c := by
  unfold output MixRow.rms gelu
  simp only [← stacked_apply x0 x1 x2 x3 x4 x5 x6 x7 b 2048 le_rfl t t.isLt]
  generalize trips x0 x1 x2 x3 x4 x5 x6 x7 2048 = s
  pointwise [R_main_v121]

end Cert.Reference6Ideal.LruPrompt
-- ==== Proof.LruPrompt.ArrayValue.lean ====
module

public import proofs.«01_k».proof.Proof.LruPrompt.BlockValue
public import proofs.«01_k».proof.Proof.LruPrompt.HostValue
public import proofs.«01_k».proof.Proof.LruPrompt.RunValue
public import proofs.«01_k».proof.Proof.LruPrompt.RefLoop

@[expose] public section

set_option maxRecDepth 16384

noncomputable section

/-! The three result arrays of the prompt's RG-LRU are the reference's, whatever the arguments. -/

namespace Cert.Kernel6Ideal.LruPrompt

open Cert.Kernel6Ideal Cert.Kernel6Ideal.Gen Cert.LruRow
open Idealize.ShloMosaic Idealize.ShloMosaic.TcCoe Idealize.SL.Sem

variable (m : (ℓ : Loc nD τ sig) → Buf (Elt Ideal) ℓ) (c : Dev nD)

/-- The reference's last trip, on the kernel's own arguments. -/
abbrev trips : Reference6Ideal.Step.State Ideal := Reference6Ideal.LruPrompt.trips (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6)) (m ((c : Thread nD τ).loc main_arg7)) 2048

/-- Its results. -/
abbrev result : Vec Ideal S16x2048x256 .f32 :=
  Reference6Ideal.Step.R_main_v121 (F := Ideal) (trips m c) (m ((c : Thread nD τ).loc main_arg0)) (m ((c : Thread nD τ).loc main_arg8))
abbrev buffer : Vec Ideal S16x3x256 .f32 := Reference6Ideal.Step.R_main_v122 (F := Ideal) (trips m c) (m ((c : Thread nD τ).loc main_arg0))
abbrev carried : Vec Ideal S16x1x256 .f32 := Reference6Ideal.Step.R_main_v123 (F := Ideal) (trips m c)

/-- The states of the kernel's block are the reference's. -/
theorem state_eq (t : Fin cfg0.N) (b : Fin 16) (h : (grid0.coords t 0 : ℕ) = b) (k : ℕ) :
    Cert.LruPrompt.state (tokens (iblk m c 0 t)) (taps (iblk m c 1 t)) (first (iblk m c 2 t)) (weights (m ((c : Thread nD τ).loc main_arg3)))
      (first (iblk m c 4 t)) (weights (m ((c : Thread nD τ).loc main_arg5))) (first (iblk m c 6 t)) (first (iblk m c 7 t)) k =
    Reference6Ideal.LruPrompt.state (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) b k := by
  have e0 : tokens (iblk m c 0 t) = Reference6Ideal.LruPrompt.tokens (m ((c : Thread nD τ).loc main_arg0)) b :=
    funext fun r => funext fun l => blk0_apply m c t b h r l
  have e1 : taps (iblk m c 1 t) = Reference6Ideal.LruPrompt.taps (m ((c : Thread nD τ).loc main_arg1)) :=
    funext fun r => funext fun l => blk1_apply m c t r l
  have e2 : first (iblk m c 2 t) = Reference6Ideal.LruPrompt.each (m ((c : Thread nD τ).loc main_arg2)) := funext (blk2_apply m c t)
  have e4 : first (iblk m c 4 t) = Reference6Ideal.LruPrompt.each (m ((c : Thread nD τ).loc main_arg4)) := funext (blk4_apply m c t)
  have e6 : first (iblk m c 6 t) = Reference6Ideal.LruPrompt.each (m ((c : Thread nD τ).loc main_arg6)) := funext (blk6_apply m c t)
  have e7 : first (iblk m c 7 t) = Reference6Ideal.LruPrompt.each (m ((c : Thread nD τ).loc main_arg7)) := funext (blk7_apply m c t)
  rw [e0, e1, e2, e4, e6, e7]

/-- A sequence's grid point, its number. -/
abbrev seq (t : Fin cfg0.N) : Fin 16 := ⟨grid0.coords t 0, (grid0.coords t 0).isLt⟩

/-- A block of one sequence holds the sequence's entries. -/
theorem covered {n k : ℕ} (i : (⟨3, ![16, n, k]⟩ : Shape).Idx) (x : Fin 3 → ℕ) (hx : x = ![(i 0 : ℕ), 0, 0]) (a : Fin 3) :
    x a * (![1, n, k] : Fin 3 → ℕ) a ≤ (i a).val ∧ (i a).val < x a * (![1, n, k] : Fin 3 → ℕ) a + (![1, n, k] : Fin 3 → ℕ) a := by
  subst hx
  have h1 : (i 1 : ℕ) < n := (i 1).isLt
  have h2 : (i 2 : ℕ) < k := (i 2).isLt
  fin_cases a
  · show (i 0 : ℕ) * 1 ≤ i 0 ∧ (i 0 : ℕ) < (i 0 : ℕ) * 1 + 1; omega
  · show 0 * n ≤ (i 1 : ℕ) ∧ (i 1 : ℕ) < 0 * n + n; omega
  · show 0 * k ≤ (i 2 : ℕ) ∧ (i 2 : ℕ) < 0 * k + k; omega

/-- An entry of a block of one sequence. -/
theorem exists_row {n k : ℕ} (j : (⟨3, ![1, n, k]⟩ : Shape).Idx) : ∃ (r : Fin n) (l : Fin k), j = ix3 0 r l := by
  refine ⟨j 1, j 2, funext fun a => ?_⟩
  have h0 : (j 0 : ℕ) < 1 := (j 0).isLt
  fin_cases a
  · exact Fin.ext (by show (j 0 : ℕ) = 0; omega)
  · rfl
  · rfl

theorem final_result : (dats m 0 c).arrAt 9 cfg0.N = result m c := by
  refine (dats m 0 c).arrAt_eq_of_cover 9 (result m c) (fun t _ => ?_) fun i => ?_
  · rw [flushed9]
    funext j
    obtain ⟨r, l, rfl⟩ := exists_row (n := 2048) (k := 256) j
    refine (output_block _ _ _ _ _ _ _ _ _ _ _ (forget_laid m c t) (admission_laid m c t) r l).trans ?_
    have e8 : first (iblk m c 8 t) = Reference6Ideal.LruPrompt.each (m ((c : Thread nD τ).loc main_arg8)) := funext (blk8_apply m c t)
    rw [state_eq m c t (seq t) rfl, e8, funext fun k : Fin 256 => blk0_apply m c t (seq t) rfl r ⟨256 + k, by omega⟩]
    refine (Reference6Ideal.LruPrompt.output_apply _ _ _ _ _ _ _ _ _ (seq t) r l).symm.trans (congrArg (result m c) ?_)
    exact (in_batch (seq t) r l _ (cc0_transform_9 (grid0.coords t)) (idx9 _) rfl rfl rfl).symm
  · obtain ⟨t, ht⟩ := point_of (i 0)
    refine ⟨t, flush0_9 t, ?_⟩
    show i ∈ ((View.whole main_v31_0).slice (win0_9.rect t)).set
    rw [View.set_slice_whole, Rect.mem_set_unit]
    exact covered (n := 2048) (k := 256) i (cc0_transform_9 (grid0.coords t)) ((idx9 _).trans (by rw [ht]))

theorem final_buffer : (dats m 0 c).arrAt 10 cfg0.N = buffer m c := by
  refine (dats m 0 c).arrAt_eq_of_cover 10 (buffer m c) (fun t _ => ?_) fun i => ?_
  · rw [flushed10]
    funext j
    obtain ⟨r, l, rfl⟩ := exists_row (n := 3) (k := 256) j
    refine (buffer_block _ _ _ _ _ _ _ _ _ r l).trans ?_
    rw [blk0_apply m c t (seq t) rfl]
    refine (Reference6Ideal.LruPrompt.buffer_apply _ (seq t) (trips m c) r l).symm.trans (congrArg (buffer m c) ?_)
    exact (in_batch (seq t) r l _ (cc0_transform_10 (grid0.coords t)) (idx10 _) rfl rfl rfl).symm
  · obtain ⟨t, ht⟩ := point_of (i 0)
    refine ⟨t, flush0_10 t, ?_⟩
    show i ∈ ((View.whole main_v31_1).slice (win0_10.rect t)).set
    rw [View.set_slice_whole, Rect.mem_set_unit]
    exact covered (n := 3) (k := 256) i (cc0_transform_10 (grid0.coords t)) ((idx10 _).trans (by rw [ht]))

theorem final_carried : (dats m 0 c).arrAt 11 cfg0.N = carried m c := by
  refine (dats m 0 c).arrAt_eq_of_cover 11 (carried m c) (fun t _ => ?_) fun i => ?_
  · rw [flushed11]
    funext j
    obtain ⟨r, l, rfl⟩ := exists_row (n := 1) (k := 256) j
    obtain rfl : r = 0 := Subsingleton.elim _ _
    refine (state_block _ _ _ _ _ _ _ _ _ _ _ (forget_laid m c t) (admission_laid m c t) l).trans ?_
    rw [state_eq m c t (seq t) rfl]
    refine (Reference6Ideal.LruPrompt.last_apply _ _ _ _ _ _ _ _ (seq t) l).symm.trans (congrArg (carried m c) ?_)
    exact (in_batch (seq t) 0 l _ (cc0_transform_11 (grid0.coords t)) (idx11 _) rfl rfl rfl).symm
  · obtain ⟨t, ht⟩ := point_of (i 0)
    refine ⟨t, flush0_11 t, ?_⟩
    show i ∈ ((View.whole main_v31_2).slice (win0_11.rect t)).set
    rw [View.set_slice_whole, Rect.mem_set_unit]
    exact covered (n := 1) (k := 256) i (cc0_transform_11 (grid0.coords t)) ((idx11 _).trans (by rw [ht]))

end Cert.Kernel6Ideal.LruPrompt
-- ==== Proof.LruPrompt.RefRun.lean ====
module

public import proofs.«01_k».proof.Proof.Gen.Reference6Ideal.Run
public import proofs.«01_k».proof.Proof.Gen.Reference6Ideal.Step

@[expose] public section

noncomputable section

/-! The reference's run over the prompt, by its steps: a valuation holds a state when the carried tables, the tables the
    loop reads and its counter are that state's; one trip keeps this, with the step applied. -/

namespace Cert.Reference6Ideal.LruPrompt

open Idealize.ShloMosaic Idealize.ShloMosaic.TcCoe Idealize.SL.Sem Idealize.ShloMosaic.StableHlo
open Cert.Reference6Ideal Cert.Reference6Ideal.Gen Cert.Reference6Ideal.Value
open Cert.Reference6Ideal.Step (State step init)

variable {F : FTy → Type} [FloatOps F]

variable (V0 : Valuation τ sig (Elt F)) (s : State F) (j : ℕ)

/-- The valuation holds the state, the set-up values and the trip's number. -/
structure Holds : Prop where
  f_3 : V0 (Proc.devRef .tc main_v92_3) = s.main_v92_3
  f_4 : V0 (Proc.devRef .tc main_v92_4) = s.main_v92_4
  f_0 : V0 (Proc.devRef .tc main_v92_0) = s.main_v92_0
  f_1 : V0 (Proc.devRef .tc main_v92_1) = s.main_v92_1
  n_2 : V0 (Proc.devRef .tc main_v92_2) = constantI S_ 32 (BitVec.ofNat 32 j)

variable {V0 s j}

set_option maxRecDepth 8192 in
theorem al_0 (h : Holds V0 s j) : (constantI S_ 32 0#32 : (Proc.devRef .tc main_while0b_call0_c : DevRef τ sig).ty.Contents (Elt F)) = Step.b0 j s := by
  unfold Step.b0
  rfl
set_option maxRecDepth 8192 in
theorem al_1 (h : Holds V0 s j) : (constantI S_ 32 0#32 : (Proc.devRef .tc main_while0b_call0_c_0 : DevRef τ sig).ty.Contents (Elt F)) = Step.b1 j s := by
  unfold Step.b1
  rfl
set_option maxRecDepth 8192 in
theorem al_2 (h : Holds V0 s j) : (Host.dynamicSlice S1x16x256 (V0 (Proc.devRef .tc main_v92_0)) (fun k => (((![V0 (Proc.devRef .tc main_v92_2), constantI S_ 32 0#32, constantI S_ 32 0#32] : Fin 3 → (⟨S_, .i32⟩ : BufTy).Contents (Elt F))) k (Shape.Idx.first h_S_)).toInt) sliceFits_S2048x16x256_S1x16x256 : (Proc.devRef .tc main_while0b_call0_v0 : DevRef τ sig).ty.Contents (Elt F)) = Step.b2 j s := by
  unfold Step.b2
  rw [← al_0 h, ← al_1 h, h.f_0, h.n_2]
  try rfl
set_option maxRecDepth 8192 in
theorem al_3 (h : Holds V0 s j) : (shapeCast S16x256 (Host.dynamicSlice S1x16x256 (V0 (Proc.devRef .tc main_v92_0)) (fun k => (((![V0 (Proc.devRef .tc main_v92_2), constantI S_ 32 0#32, constantI S_ 32 0#32] : Fin 3 → (⟨S_, .i32⟩ : BufTy).Contents (Elt F))) k (Shape.Idx.first h_S_)).toInt) sliceFits_S2048x16x256_S1x16x256) shapeCasts_S1x16x256_S16x256 : (Proc.devRef .tc main_while0b_v124 : DevRef τ sig).ty.Contents (Elt F)) = Step.b3 j s := by
  unfold Step.b3
  rw [← al_2 h]
  try rfl
set_option maxRecDepth 8192 in
theorem al_4 (h : Holds V0 s j) : (constantI S_ 32 0#32 : (Proc.devRef .tc main_while0b_call1_c : DevRef τ sig).ty.Contents (Elt F)) = Step.b4 j s := by
  unfold Step.b4
  rfl
set_option maxRecDepth 8192 in
theorem al_5 (h : Holds V0 s j) : (constantI S_ 32 0#32 : (Proc.devRef .tc main_while0b_call1_c_0 : DevRef τ sig).ty.Contents (Elt F)) = Step.b5 j s := by
  unfold Step.b5
  rfl
set_option maxRecDepth 8192 in
theorem al_6 (h : Holds V0 s j) : (Host.dynamicSlice S1x16x256 (V0 (Proc.devRef .tc main_v92_1)) (fun k => (((![V0 (Proc.devRef .tc main_v92_2), constantI S_ 32 0#32, constantI S_ 32 0#32] : Fin 3 → (⟨S_, .i32⟩ : BufTy).Contents (Elt F))) k (Shape.Idx.first h_S_)).toInt) sliceFits_S2048x16x256_S1x16x256 : (Proc.devRef .tc main_while0b_call1_v0 : DevRef τ sig).ty.Contents (Elt F)) = Step.b6 j s := by
  unfold Step.b6
  rw [← al_4 h, ← al_5 h, h.f_1, h.n_2]
  try rfl
set_option maxRecDepth 8192 in
theorem al_7 (h : Holds V0 s j) : (shapeCast S16x256 (Host.dynamicSlice S1x16x256 (V0 (Proc.devRef .tc main_v92_1)) (fun k => (((![V0 (Proc.devRef .tc main_v92_2), constantI S_ 32 0#32, constantI S_ 32 0#32] : Fin 3 → (⟨S_, .i32⟩ : BufTy).Contents (Elt F))) k (Shape.Idx.first h_S_)).toInt) sliceFits_S2048x16x256_S1x16x256) shapeCasts_S1x16x256_S16x256 : (Proc.devRef .tc main_while0b_v125 : DevRef τ sig).ty.Contents (Elt F)) = Step.b7 j s := by
  unfold Step.b7
  rw [← al_6 h]
  try rfl
set_option maxRecDepth 8192 in
theorem al_8 (h : Holds V0 s j) : (mulf (shapeCast S16x256 (Host.dynamicSlice S1x16x256 (V0 (Proc.devRef .tc main_v92_0)) (fun k => (((![V0 (Proc.devRef .tc main_v92_2), constantI S_ 32 0#32, constantI S_ 32 0#32] : Fin 3 → (⟨S_, .i32⟩ : BufTy).Contents (Elt F))) k (Shape.Idx.first h_S_)).toInt) sliceFits_S2048x16x256_S1x16x256) shapeCasts_S1x16x256_S16x256) (V0 (Proc.devRef .tc main_v92_3)) : (Proc.devRef .tc main_while0b_v126 : DevRef τ sig).ty.Contents (Elt F)) = Step.b8 j s := by
  unfold Step.b8
  rw [← al_3 h, h.f_3]
  try rfl
set_option maxRecDepth 8192 in
theorem al_9 (h : Holds V0 s j) : (res_main_while0b_v127 V0 : (Proc.devRef .tc main_while0b_v127 : DevRef τ sig).ty.Contents (Elt F)) = Step.b9 j s := by
  unfold res_main_while0b_v127 Step.b9
  rw [← al_8 h, ← al_7 h]
  try rfl
set_option maxRecDepth 8192 in
theorem al_10 (h : Holds V0 s j) : (broadcastInDim S1x16x256 ![1, 2] bcast_S16x256_S1x16x256_1_2 (res_main_while0b_v127 V0) : (Proc.devRef .tc main_while0b_call2_v0 : DevRef τ sig).ty.Contents (Elt F)) = Step.b10 j s := by
  unfold Step.b10
  rw [← al_9 h]
  try rfl
set_option maxRecDepth 8192 in
theorem al_11 (h : Holds V0 s j) : (constantI S_ 32 0#32 : (Proc.devRef .tc main_while0b_call2_c : DevRef τ sig).ty.Contents (Elt F)) = Step.b11 j s := by
  unfold Step.b11
  rfl
set_option maxRecDepth 8192 in
theorem al_12 (h : Holds V0 s j) : (constantI S_ 32 0#32 : (Proc.devRef .tc main_while0b_call2_c_0 : DevRef τ sig).ty.Contents (Elt F)) = Step.b12 j s := by
  unfold Step.b12
  rfl
set_option maxRecDepth 8192 in
theorem al_13 (h : Holds V0 s j) : (Host.dynamicUpdateSlice (V0 (Proc.devRef .tc main_v92_4)) (broadcastInDim S1x16x256 ![1, 2] bcast_S16x256_S1x16x256_1_2 (res_main_while0b_v127 V0)) (fun k => (((![V0 (Proc.devRef .tc main_v92_2), constantI S_ 32 0#32, constantI S_ 32 0#32] : Fin 3 → (⟨S_, .i32⟩ : BufTy).Contents (Elt F))) k (Shape.Idx.first h_S_)).toInt) updateFits_S2048x16x256_S1x16x256 : (Proc.devRef .tc main_while0b_v128 : DevRef τ sig).ty.Contents (Elt F)) = Step.b13 j s := by
  unfold Step.b13
  rw [← al_10 h, ← al_11 h, ← al_12 h, h.f_4, h.n_2]
  try rfl

/-! One trip's step of the carried values is `step`, field by field; a counter steps to the next number. -/

theorem step_3 (h : Holds V0 s j) : step_main_v92_3 V0 = (step j s).main_v92_3 := by
  unfold step_main_v92_3 Step.step
  show id (res_main_while0b_v127 V0) = _
  rw [al_9 h]
  try rfl
theorem step_4 (h : Holds V0 s j) : step_main_v92_4 V0 = (step j s).main_v92_4 := by
  unfold step_main_v92_4 Step.step
  show id (Host.dynamicUpdateSlice (V0 (Proc.devRef .tc main_v92_4)) (broadcastInDim S1x16x256 ![1, 2] bcast_S16x256_S1x16x256_1_2 (res_main_while0b_v127 V0)) (fun k => (((![V0 (Proc.devRef .tc main_v92_2), constantI S_ 32 0#32, constantI S_ 32 0#32] : Fin 3 → (⟨S_, .i32⟩ : BufTy).Contents (Elt F))) k (Shape.Idx.first h_S_)).toInt) updateFits_S2048x16x256_S1x16x256) = _
  exact al_13 h
theorem step_2 (h : Holds V0 s j) : step_main_v92_2 V0 = constantI S_ 32 (BitVec.ofNat 32 (j + 1)) := by
  unfold step_main_v92_2
  rw [h.n_2]
  funext i
  show BitVec.ofNat 32 j + 1#32 = BitVec.ofNat 32 (j + 1)
  simp only [BitVec.ofNat_add]

set_option maxRecDepth 8192 in
theorem out_main_v121_holds (h : Holds V0 s j) {x_main_arg0 : (⟨S16x2048x512, .f32⟩ : BufTy).Contents (Elt F)} (h_main_arg0 : V0 (Proc.devRef .tc main_arg0) = x_main_arg0) {x_main_arg8 : (⟨S256, .f32⟩ : BufTy).Contents (Elt F)} (h_main_arg8 : V0 (Proc.devRef .tc main_arg8) = x_main_arg8) : out_main_v121 V0 = Step.R_main_v121 s x_main_arg0 x_main_arg8 := by
  unfold out_main_v121 Step.R_main_v121
  rw [h.f_4, h_main_arg0, h_main_arg8]
  try rfl

set_option maxRecDepth 8192 in
theorem out_main_v122_holds (h : Holds V0 s j) {x_main_arg0 : (⟨S16x2048x512, .f32⟩ : BufTy).Contents (Elt F)} (h_main_arg0 : V0 (Proc.devRef .tc main_arg0) = x_main_arg0) : out_main_v122 V0 = Step.R_main_v122 s x_main_arg0 := by
  unfold out_main_v122 Step.R_main_v122
  rw [h_main_arg0]
  try rfl

set_option maxRecDepth 8192 in
theorem out_main_v123_holds (h : Holds V0 s j) : out_main_v123 V0 = Step.R_main_v123 s := by
  unfold out_main_v123 Step.R_main_v123
  rw [h.f_3]
  try rfl

/-- One trip keeps the valuation holding: `step` of the state, the same set-up values, the next number. -/
theorem holds_step (h : Holds V0 s j) : Holds (STEP V0) (step j s) (j + 1) where
  f_3 := (STEP_main_v92_3 V0).trans (step_3 h)
  f_4 := (STEP_main_v92_4 V0).trans (step_4 h)
  n_2 := (STEP_main_v92_2 V0).trans (step_2 h)
  f_0 := (STEP_main_v92_0 V0).trans h.f_0
  f_1 := (STEP_main_v92_1 V0).trans h.f_1

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

variable (m : (ℓ : Loc nD τ sig) → Buf (Elt F) ℓ) (c : Dev nD)

set_option maxRecDepth 65536 in
set_option maxHeartbeats 500000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `Reference6Ideal` terminates with each result at its field of state
    number 2048 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v121) = Step.R_main_v121 (it c 2048) (m ((c.tc : Thread nD τ).loc main_arg0)) (m ((c.tc : Thread nD τ).loc main_arg8))
      ∧ r.2.mem ((c.tc : Thread nD τ).loc main_v122) = Step.R_main_v122 (it c 2048) (m ((c.tc : Thread nD τ).loc main_arg0))
      ∧ r.2.mem ((c.tc : Thread nD τ).loc main_v123) = Step.R_main_v123 (it c 2048)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    have hk := holds_iter m c (it c) (h0 c) (hs c) 2048
    ⟨(h c).1.trans (out_main_v121_holds hk (iter_main_arg0 m c 2048) (iter_main_arg8 m c 2048)), (h c).2.1.trans (out_main_v122_holds hk (iter_main_arg0 m c 2048)), (h c).2.2.1.trans (out_main_v123_holds hk), (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2⟩) (Value.run m ρ)

end Cert.Reference6Ideal.LruPrompt

end
-- ==== Proof.LruPrompt.Claim.lean ====
module

public import proofs.«01_k».proof.Defs
public import proofs.«01_k».proof.Proof.LruPrompt.ArrayValue
public import proofs.«01_k».proof.Proof.LruPrompt.RefRun
public import proofs.«01_k».proof.Proof.Gen.Kernel6.Frame

@[expose] public section

set_option maxRecDepth 16384

noncomputable section

/-! The claims about the prompt's RG-LRU: the frames, and the kernel's three results the reference's. -/

namespace Cert.Kernel6Ideal.LruPrompt

open Cert.Kernel6Ideal Cert.Kernel6Ideal.Gen
open Idealize.ShloMosaic Idealize.ShloMosaic.TcCoe Idealize.SL.Sem

theorem frame_bits : Cert.quiescent_Kernel6 := fun m g _ => Kernel6.Gen.frame m g

theorem frame_ideal : Cert.quiescent_Kernel6Ideal := fun m g _ => frame m g

theorem frame_reference : Cert.quiescent_Reference6Ideal := fun m g _ =>
  (θ_run _ _ _).mono (fun r h => ⟨fun c => (h c).2.2.2, sem_eq_zero_of_no_sems (by decide) r.2⟩) (Reference6Ideal.Value.run m g)

theorem algebraic : Cert.algebraic_Kernel6Ideal_Reference6Ideal := by
  intro m g m' g' _ hagree
  refine ⟨result m, buffer m, carried m, (θ_run _ _ _).mono (fun r h c => ?_) (run m g), (θ_run _ _ _).mono (fun r h c => ?_)
    (Reference6Ideal.LruPrompt.run_iter m' g' (fun c => Reference6Ideal.LruPrompt.trips
      (m' ((c.tc : Thread Reference6Ideal.nD Reference6Ideal.τ).loc Reference6Ideal.main_arg0))
      (m' ((c.tc : Thread Reference6Ideal.nD Reference6Ideal.τ).loc Reference6Ideal.main_arg1))
      (m' ((c.tc : Thread Reference6Ideal.nD Reference6Ideal.τ).loc Reference6Ideal.main_arg2))
      (m' ((c.tc : Thread Reference6Ideal.nD Reference6Ideal.τ).loc Reference6Ideal.main_arg3))
      (m' ((c.tc : Thread Reference6Ideal.nD Reference6Ideal.τ).loc Reference6Ideal.main_arg4))
      (m' ((c.tc : Thread Reference6Ideal.nD Reference6Ideal.τ).loc Reference6Ideal.main_arg5))
      (m' ((c.tc : Thread Reference6Ideal.nD Reference6Ideal.τ).loc Reference6Ideal.main_arg6))
      (m' ((c.tc : Thread Reference6Ideal.nD Reference6Ideal.τ).loc Reference6Ideal.main_arg7))) (fun _ => rfl) (fun _ _ => rfl))⟩
  · obtain ⟨h9, h10, h11, hargs⟩ := h c
    exact ⟨h9.trans (final_result m c), h10.trans (final_buffer m c), h11.trans (final_carried m c), hargs⟩
  · obtain ⟨a0, a1, a2, a3, a4, a5, a6, a7, a8⟩ := hagree c
    obtain ⟨h9, h10, h11, hargs⟩ := h c
    refine ⟨h9.trans ?_, h10.trans ?_, h11.trans ?_, hargs⟩
    · rw [a0, a1, a2, a3, a4, a5, a6, a7, a8]
    · rw [a0, a1, a2, a3, a4, a5, a6, a7]
    · rw [a0, a1, a2, a3, a4, a5, a6, a7]

end Cert.Kernel6Ideal.LruPrompt
-- ==== Proof.MixStep.BlockValue.lean ====
module

public import proofs.«01_k».proof.Proof.Gen.Kernel7Ideal.Value
public import proofs.«01_k».proof.Proof.Mix.Row
public import Idealize.ShloMosaic.Lib.Pointwise

@[expose] public section

set_option maxRecDepth 16384

noncomputable section

/-! The block of 32 tokens through the kernel's body, read at an index: the row functions of `Row`. -/

namespace Cert.Kernel7Ideal.MixStep

open Cert.Kernel7Ideal Cert.Kernel7Ideal.Gen Cert.MixRow
open Idealize.ShloMosaic

variable (x0 : Vec Ideal S32x1024 .f32) (x1 : Vec Ideal S32x512 .f32) (x2 x3 : Vec Ideal S32x256 .f32) (x4 : Vec Ideal S1x512 .f32)
  (x5 : Vec Ideal S1024x1024 .bf16) (x6 : Vec Ideal S1x1024 .f32) (x7 : Vec Ideal S1024x4096 .bf16) (x8 : Vec Ideal S4096x1024 .bf16)
  (x9 : Vec Ideal S1x1024 .f32) (r : Fin 32)

/-- The residual stream after the mixers: three products, one for each mixer's rows of the projection. -/
theorem mixed_apply (c : Fin 1024) : k0_pay8 x0 x1 x2 x3 x4 x5 x6 x7 x8 x9 (ix2 r c) =
    mixed (fun c => x0 (ix2 r c)) (rms 1140850688#32 (fun k => x1 (ix2 r k)) fun k => x4 (ix2 0 k)) (fun k => x2 (ix2 r k))
      (fun k => x3 (ix2 r k)) (fun k c => x5 (ix2 k c)) c := by
  rw [← mixed_parts]
  unfold rms
  pointwise [k0_pay8, k0_pay2]

/-- The sum of its squares. -/
theorem squares_apply : k0_pay10 x0 x1 x2 x3 x4 x5 x6 x7 x8 x9 (ix1 r) =
    ∑ c : Fin 1024, k0_pay8 x0 x1 x2 x3 x4 x5 x6 x7 x8 x9 (ix2 r c) * k0_pay8 x0 x1 x2 x3 x4 x5 x6 x7 x8 x9 (ix2 r c) := by
  unfold k0_pay8
  pointwise [k0_pay10, k0_pay4]

/-- Its norm. -/
theorem normed_apply (x : FVec Ideal S32x1024 .f32) (s : FVec Ideal S32 .f32) (hs : s (ix1 r) = ∑ c : Fin 1024, x (ix2 r c) * x (ix2 r c))
    (c : Fin 1024) : k0_pay5 x (k0_pay9 x0 x1 x2 x3 x4 x5 x6 x7 x8 x9) s (ix2 r c) =
      rms 1149239296#32 (fun c => x (ix2 r c)) (fun c => x6 (ix2 0 c)) c := by
  unfold rms
  rw [← hs]
  pointwise [k0_pay5, k0_pay9, k0_pay3]

/-- The first half of the hidden units. -/
theorem firstHalf_apply (x : FVec Ideal S32x1024 .f32) (g : FVec Ideal S1x1024 .f32) (s : FVec Ideal S32 .f32) (c : Fin 1024) :
    k0_pay6 x g s (View.ld x7 r0_8) (View.ld x8 r0_9) (View.ld x7 r0_10) (View.ld x8 r0_11) (ix2 r c) =
      x (ix2 r c) + mlp (fun c => k0_pay5 x g s (ix2 r c)) (upPart (fun i j => x7 (ix2 i j)) 0 (by omega)) (downPart (fun j c => x8 (ix2 j c)) 0 (by omega)) c
        + mlp (fun c => k0_pay5 x g s (ix2 r c)) (upPart (fun i j => x7 (ix2 i j)) 1024 (by omega)) (downPart (fun j c => x8 (ix2 j c)) 1024 (by omega)) c := by
  unfold mlp unit upPart downPart
  pointwise [k0_pay6]

/-- The third quarter. -/
theorem thirdQuarter_apply (x : FVec Ideal S32x1024 .f32) (g : FVec Ideal S1x1024 .f32) (s : FVec Ideal S32 .f32) (c : Fin 1024) :
    k0_pay7 x g s (View.ld x7 r0_12) (View.ld x8 r0_13) (ix2 r c) =
      mlp (fun c => k0_pay5 x g s (ix2 r c)) (upPart (fun i j => x7 (ix2 i j)) 2048 (by omega)) (downPart (fun j c => x8 (ix2 j c)) 2048 (by omega)) c := by
  unfold mlp unit upPart downPart
  pointwise [k0_pay7]

/-- The last quarter, added to what the others gave, and the final norm. -/
theorem last_apply (h : FVec Ideal S32x1024 .bf16) (y z : FVec Ideal S32x1024 .f32) (c : Fin 1024) :
    k0_pay1 h y z (View.ld x7 r0_14) (View.ld x8 r0_15) (View.ld x9 r0_7) (ix2 r c) =
      rms 1149239296#32 (fun c => y (ix2 r c) + z (ix2 r c) + mlp (fun c => h (ix2 r c)) (upPart (fun i j => x7 (ix2 i j)) 3072 (by omega))
        (downPart (fun j c => x8 (ix2 j c)) 3072 (by omega)) c) (fun c => x9 (ix2 0 c)) c := by
  unfold rms mlp unit upPart downPart
  pointwise [k0_pay1]

/-- A row of the block that the body stores. -/
theorem block_apply (c : Fin 1024) : out0_10 x0 x1 x2 x3 x4 x5 x6 x7 x8 x9 (ix2 r c) =
    rms 1149239296#32 (deep (mixed (fun c => x0 (ix2 r c)) (rms 1140850688#32 (fun k => x1 (ix2 r k)) fun k => x4 (ix2 0 k))
      (fun k => x2 (ix2 r k)) (fun k => x3 (ix2 r k)) fun k c => x5 (ix2 k c)) (fun c => x6 (ix2 0 c)) (fun i j => x7 (ix2 i j))
      fun j c => x8 (ix2 j c)) (fun c => x9 (ix2 0 c)) c := by
  unfold out0_10
  rw [View.canon_unit_zero (by funext a; fin_cases a <;> rfl), last_apply]
  refine congrArg (fun f => rms 1149239296#32 f (fun c => x9 (ix2 0 c)) c) (funext fun c => ?_)
  rw [firstHalf_apply, thirdQuarter_apply,
    funext (normed_apply x0 x1 x2 x3 x4 x5 x6 x7 x8 x9 r _ _ (squares_apply x0 x1 x2 x3 x4 x5 x6 x7 x8 x9 r)),
    ← funext (mixed_apply x0 x1 x2 x3 x4 x5 x6 x7 x8 x9 r)]
  exact mlp_parts (fun c => k0_pay8 x0 x1 x2 x3 x4 x5 x6 x7 x8 x9 (ix2 r c)) _ _ _ c

end Cert.Kernel7Ideal.MixStep
-- ==== Proof.MixStep.RefValue.lean ====
module

public import proofs.«01_k».proof.Proof.Gen.Reference7Ideal.Read
public import proofs.«01_k».proof.Proof.Mix.Row
public import Idealize.ShloMosaic.Lib.Pointwise

@[expose] public section

set_option maxRecDepth 16384

noncomputable section

/-! The reference's end of a layer on the extended reals, read at an index: the row functions of `Row`. -/

namespace Cert.Reference7Ideal.MixStep

open Cert.Reference7Ideal Cert.Reference7Ideal.Gen Cert.Reference7Ideal.Read Cert.MixRow
open Idealize.ShloMosaic

variable (x0 : Vec Ideal S32x1024 .f32) (x1 : Vec Ideal S32x512 .f32) (x2 x3 : Vec Ideal S32x256 .f32) (x4 : Vec Ideal S512 .f32)
  (x5 : Vec Ideal S1024x1024 .bf16) (x6 : Vec Ideal S1024 .f32) (x7 : Vec Ideal S1024x4096 .bf16) (x8 : Vec Ideal S4096x1024 .bf16)
  (x9 : Vec Ideal S1024 .f32) (t : Fin 32)

/-- The normed attention output. -/
theorem attention_apply (k : Fin 512) : val_main_v12 (F := Ideal) x1 x4 (ix2 t k) =
    rms 1140850688#32 (fun k => x1 (ix2 t k)) (fun k => x4 (ix1 k)) k := by
  unfold rms
  pointwise [val_main_v12, val_main_v11, val_main_v10, val_main_v9, val_main_v8, val_main_v7, val_main_v6, val_main_v5, val_main_cst_1,
    val_main_v4, val_main_v3, val_main_cst_0, val_main_v2, val_main_v1, val_main_cst, val_main_v0]

/-- The mixers' outputs side by side. -/
theorem joined_apply (k : Fin 1024) : val_main_v13 (F := Ideal) x1 x2 x3 x4 (ix2 t k) =
    joined (rms 1140850688#32 (fun k => x1 (ix2 t k)) fun k => x4 (ix1 k)) (fun k => x2 (ix2 t k)) (fun k => x3 (ix2 t k)) k := by
  unfold joined
  by_cases h : (k : ℕ) < 512
  · rw [dif_pos h, ← attention_apply]
    pointwise [val_main_v13]
    exact dif_pos h
  · by_cases h' : (k : ℕ) < 768
    · rw [dif_neg h, dif_pos h']
      pointwise [val_main_v13]
      exact (dif_neg h).trans (dif_pos (by omega))
    · rw [dif_neg h, dif_neg h']
      pointwise [val_main_v13]
      exact (dif_neg h).trans ((dif_neg (by omega)).trans
        (congrArg (fun k => x3 (ix2 t k)) (Fin.ext (by show (k : ℕ) - 512 - 256 = k - 768; omega))))

/-- The residual stream after the mixers. -/
theorem mixed_apply (c : Fin 1024) : val_main_v16 (F := Ideal) x0 x1 x2 x3 x4 x5 (ix2 t c) =
    mixed (fun c => x0 (ix2 t c)) (rms 1140850688#32 (fun k => x1 (ix2 t k)) fun k => x4 (ix1 k)) (fun k => x2 (ix2 t k))
      (fun k => x3 (ix2 t k)) (fun k c => x5 (ix2 k c)) c := by
  unfold mixed
  simp only [← joined_apply]
  pointwise [val_main_v16, val_main_v15, val_main_v14]

/-- Its norm. -/
theorem normed_apply (c : Fin 1024) : val_main_v29 (F := Ideal) x0 x1 x2 x3 x4 x5 x6 (ix2 t c) =
    rms 1149239296#32 (fun c => val_main_v16 (F := Ideal) x0 x1 x2 x3 x4 x5 (ix2 t c)) (fun c => x6 (ix1 c)) c := by
  unfold rms
  pointwise [val_main_v29, val_main_v28, val_main_v27, val_main_v26, val_main_v25, val_main_v24, val_main_v23, val_main_v22, val_main_cst_4,
    val_main_v21, val_main_v20, val_main_cst_3, val_main_v19, val_main_v18, val_main_cst_2, val_main_v17]

/-- The hidden units. -/
theorem hidden_apply (j : Fin 4096) : val_main_v33 (F := Ideal) x0 x1 x2 x3 x4 x5 x6 x7 (ix2 t j) =
    unit (fun c => val_main_v29 (F := Ideal) x0 x1 x2 x3 x4 x5 x6 (ix2 t c)) (fun i j => x7 (ix2 i j)) j := by
  unfold unit
  pointwise [val_main_v33, val_main_v32, val_main_v31, val_main_v30, val_main_call0_v0, val_main_call0_cst]

/-- The residual stream after the MLP. -/
theorem deep_apply (c : Fin 1024) : val_main_v36 (F := Ideal) x0 x1 x2 x3 x4 x5 x6 x7 x8 (ix2 t c) =
    deep (fun c => val_main_v16 (F := Ideal) x0 x1 x2 x3 x4 x5 (ix2 t c)) (fun c => x6 (ix1 c)) (fun i j => x7 (ix2 i j))
      (fun j c => x8 (ix2 j c)) c := by
  unfold deep mlp
  rw [← funext (normed_apply x0 x1 x2 x3 x4 x5 x6 t)]
  simp only [← hidden_apply]
  pointwise [val_main_v36, val_main_v35, val_main_v34]

/-- The result. -/
theorem result_apply (c : Fin 1024) : val_main_v49 (F := Ideal) x0 x1 x2 x3 x4 x5 x6 x7 x8 x9 (ix2 t c) =
    rms 1149239296#32 (deep (mixed (fun c => x0 (ix2 t c)) (rms 1140850688#32 (fun k => x1 (ix2 t k)) fun k => x4 (ix1 k))
      (fun k => x2 (ix2 t k)) (fun k => x3 (ix2 t k)) fun k c => x5 (ix2 k c)) (fun c => x6 (ix1 c)) (fun i j => x7 (ix2 i j))
      fun j c => x8 (ix2 j c)) (fun c => x9 (ix1 c)) c := by
  rw [← funext (mixed_apply x0 x1 x2 x3 x4 x5 t), ← funext (deep_apply x0 x1 x2 x3 x4 x5 x6 x7 x8 t)]
  unfold rms
  pointwise [val_main_v49, val_main_v48, val_main_v47, val_main_v46, val_main_v45, val_main_v44, val_main_v43, val_main_v42, val_main_cst_7,
    val_main_v41, val_main_v40, val_main_cst_6, val_main_v39, val_main_v38, val_main_cst_5, val_main_v37]

end Cert.Reference7Ideal.MixStep
-- ==== Proof.MixStep.ArrayValue.lean ====
module

public import proofs.«01_k».proof.Proof.MixStep.BlockValue
public import proofs.«01_k».proof.Proof.MixStep.RefValue

@[expose] public section

set_option maxRecDepth 16384

noncomputable section

/-! The result array of the layer's end is the reference's, whatever the arguments. -/

namespace Cert.Kernel7Ideal.MixStep

open Cert.Kernel7Ideal Cert.Kernel7Ideal.Gen Cert.MixRow
open Idealize.ShloMosaic Idealize.ShloMosaic.TcCoe Idealize.SL.Sem

variable (m : (ℓ : Loc nD τ sig) → Buf (Elt Ideal) ℓ) (ρ : Dev nD → PrngReg) (c : Dev nD)

/-- The reference's result on the kernel's own arguments. -/
abbrev result : Buf (Elt Ideal) ((c : Thread nD τ).loc main_v3) :=
  Reference7Ideal.Read.val_main_v49 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9))

/-- The tokens' windows start at the corner: the grid has one point. -/
theorem idx0 (i : grid0.Coords) : cc0_transform_0 i = ![0, 0] := by
  have h0 : (i 0 : ℕ) < 1 := (i 0).isLt
  have h : (i 0 : ℕ) = 0 := by omega
  simp only [cc0_transform_0, BitVec.toNat_ofNat, h, Nat.zero_mod]

theorem idx10 (i : grid0.Coords) : cc0_transform_10 i = ![0, 0] := idx0 i

/-- An entry of a block that starts at the corner has the same place in the array. -/
theorem at_place {n k : ℕ} (s : Fin 2 → ℕ) (hs : s = ![0, 0]) (r : Fin n) (l : Fin k) (y : (⟨2, ![n, k]⟩ : Shape).Idx)
    (h0 : (y 0).val = s 0 * n + 1 * r) (h1 : (y 1).val = s 1 * k + 1 * l) : y = ix2 r l := by
  subst hs
  funext a
  fin_cases a
  · exact Fin.ext (h0.trans (by show 0 * n + 1 * (r : ℕ) = r; omega))
  · exact Fin.ext (h1.trans (by show 0 * k + 1 * (l : ℕ) = l; omega))

/-- The norms' weights reach the kernel as tables of one row. -/
theorem V_v0 : V m c main_v0 = fun i => shapeCast S1x512 (m ((c : Thread nD τ).loc main_arg4)) shapeCasts_S512_S1x512 i := by
  show StableHlo.after hostOps0 _ _ = _
  after_results
  rfl
theorem V_v1 : V m c main_v1 = fun i => shapeCast S1x1024 (m ((c : Thread nD τ).loc main_arg6)) shapeCasts_S1024_S1x1024 i := by
  show StableHlo.after hostOps0 _ _ = _
  after_results
  rfl
theorem V_v2 : V m c main_v2 = fun i => shapeCast S1x1024 (m ((c : Thread nD τ).loc main_arg9)) shapeCasts_S1024_S1x1024 i := by
  show StableHlo.after hostOps0 _ _ = _
  after_results
  rfl

theorem blk0_apply (t : Fin cfg0.N) (r : Fin 32) (k : Fin 1024) : iblk m c 0 t (ix2 r k) = m ((c : Thread nD τ).loc main_arg0) (ix2 r k) :=
  (congrArg (V m c main_arg0) (at_place _ (idx0 (grid0.coords t)) r k _ rfl rfl)).trans (congrFun (V_main_arg0 m c) _)

theorem blk1_apply (t : Fin cfg0.N) (r : Fin 32) (k : Fin 512) : iblk m c 1 t (ix2 r k) = m ((c : Thread nD τ).loc main_arg1) (ix2 r k) :=
  (congrArg (V m c main_arg1) (at_place _ (idx0 (grid0.coords t)) r k _ rfl rfl)).trans (congrFun (V_main_arg1 m c) _)

theorem blk2_apply (t : Fin cfg0.N) (r : Fin 32) (k : Fin 256) : iblk m c 2 t (ix2 r k) = m ((c : Thread nD τ).loc main_arg2) (ix2 r k) :=
  (congrArg (V m c main_arg2) (at_place _ (idx0 (grid0.coords t)) r k _ rfl rfl)).trans (congrFun (V_main_arg2 m c) _)

theorem blk3_apply (t : Fin cfg0.N) (r : Fin 32) (k : Fin 256) : iblk m c 3 t (ix2 r k) = m ((c : Thread nD τ).loc main_arg3) (ix2 r k) :=
  (congrArg (V m c main_arg3) (at_place _ (idx0 (grid0.coords t)) r k _ rfl rfl)).trans (congrFun (V_main_arg3 m c) _)

theorem blk4_apply (t : Fin cfg0.N) (k : Fin 512) : iblk m c 4 t (ix2 0 k) = m ((c : Thread nD τ).loc main_arg4) (ix1 k) := by
  refine (congrArg (V m c main_v0) (funext fun a => ?_ : _ = ix2 0 k)).trans ((congrFun (V_v0 m c) _).trans ?_)
  · fin_cases a
    · exact Fin.ext (by show 0 * 1 + 1 * 0 = 0; omega)
    · exact Fin.ext (by show 0 * 512 + 1 * (k : ℕ) = k; omega)
  · pointwise []

theorem blk6_apply (t : Fin cfg0.N) (k : Fin 1024) : iblk m c 6 t (ix2 0 k) = m ((c : Thread nD τ).loc main_arg6) (ix1 k) := by
  refine (congrArg (V m c main_v1) (funext fun a => ?_ : _ = ix2 0 k)).trans ((congrFun (V_v1 m c) _).trans ?_)
  · fin_cases a
    · exact Fin.ext (by show 0 * 1 + 1 * 0 = 0; omega)
    · exact Fin.ext (by show 0 * 1024 + 1 * (k : ℕ) = k; omega)
  · pointwise []

theorem blk9_apply (t : Fin cfg0.N) (k : Fin 1024) : iblk m c 9 t (ix2 0 k) = m ((c : Thread nD τ).loc main_arg9) (ix1 k) := by
  refine (congrArg (V m c main_v2) (funext fun a => ?_ : _ = ix2 0 k)).trans ((congrFun (V_v2 m c) _).trans ?_)
  · fin_cases a
    · exact Fin.ext (by show 0 * 1 + 1 * 0 = 0; omega)
    · exact Fin.ext (by show 0 * 1024 + 1 * (k : ℕ) = k; omega)
  · pointwise []

theorem blk5_apply (t : Fin cfg0.N) (k j : Fin 1024) : iblk m c 5 t (ix2 k j) = m ((c : Thread nD τ).loc main_arg5) (ix2 k j) := by
  refine (congrArg (V m c main_arg5) (funext fun a => ?_)).trans (congrFun (V_main_arg5 m c) _)
  fin_cases a
  · exact Fin.ext (by show 0 * 1024 + 1 * (k : ℕ) = k; omega)
  · exact Fin.ext (by show 0 * 1024 + 1 * (j : ℕ) = j; omega)

theorem blk7_apply (t : Fin cfg0.N) (k : Fin 1024) (j : Fin 4096) : iblk m c 7 t (ix2 k j) = m ((c : Thread nD τ).loc main_arg7) (ix2 k j) := by
  refine (congrArg (V m c main_arg7) (funext fun a => ?_)).trans (congrFun (V_main_arg7 m c) _)
  fin_cases a
  · exact Fin.ext (by show 0 * 1024 + 1 * (k : ℕ) = k; omega)
  · exact Fin.ext (by show 0 * 4096 + 1 * (j : ℕ) = j; omega)

theorem blk8_apply (t : Fin cfg0.N) (k : Fin 4096) (j : Fin 1024) : iblk m c 8 t (ix2 k j) = m ((c : Thread nD τ).loc main_arg8) (ix2 k j) := by
  refine (congrArg (V m c main_arg8) (funext fun a => ?_)).trans (congrFun (V_main_arg8 m c) _)
  fin_cases a
  · exact Fin.ext (by show 0 * 4096 + 1 * (k : ℕ) = k; omega)
  · exact Fin.ext (by show 0 * 1024 + 1 * (j : ℕ) = j; omega)

/-- What the grid point writes back is the reference's result. -/
theorem flushed_eq (t : Fin cfg0.N) : (dats m 0 c).flushed 10 t = ((cfg0.win 10).blk t).view.read (Elt Ideal) (result m c) := by
  rw [Value.flushed10]
  funext j
  obtain ⟨r, l, rfl⟩ : ∃ (r : Fin 32) (l : Fin 1024), j = ix2 r l := by
    refine ⟨⟨(j 0).val, (j 0).isLt⟩, ⟨(j 1).val, (j 1).isLt⟩, funext fun a => ?_⟩
    fin_cases a <;> rfl
  refine (block_apply _ _ _ _ _ _ _ _ _ _ r l).trans ?_
  simp only [blk0_apply, blk1_apply, blk2_apply, blk3_apply, blk4_apply, blk5_apply, blk6_apply, blk7_apply, blk8_apply, blk9_apply]
  refine (Reference7Ideal.MixStep.result_apply _ _ _ _ _ _ _ _ _ _ r l).symm.trans ?_
  exact congrArg (result m c) (at_place _ (idx10 (grid0.coords t)) r l _ rfl rfl).symm

/-- The one grid point. -/
abbrev point : Fin cfg0.N := ⟨0, by decide⟩

/-- Its block is the whole result. -/
theorem cover (i : S32x1024.Idx) : ∃ t : Fin cfg0.N, (cfg0.win 10).flush t = true ∧ i ∈ ((cfg0.win 10).blk t).view.set := by
  have h0 : (i 0 : ℕ) < 32 := (i 0).isLt
  have h1 : (i 1 : ℕ) < 1024 := (i 1).isLt
  refine ⟨point, flush0_10 point, ?_⟩
  show i ∈ ((View.whole main_v3).slice (win0_10.rect point)).set
  rw [View.set_slice_whole, Rect.mem_set_unit]
  show ∀ a : Fin 2, cc0_transform_10 (grid0.coords point) a * S32x1024.size a ≤ (i a : ℕ) ∧
      (i a : ℕ) < cc0_transform_10 (grid0.coords point) a * S32x1024.size a + S32x1024.size a
  rw [idx10]
  intro a
  fin_cases a
  · show 0 * 32 ≤ (i 0 : ℕ) ∧ (i 0 : ℕ) < 0 * 32 + 32; omega
  · show 0 * 1024 ≤ (i 1 : ℕ) ∧ (i 1 : ℕ) < 0 * 1024 + 1024; omega

theorem final : (dats m 0 c).arrAt 10 cfg0.N = result m c :=
  (dats m 0 c).arrAt_eq_of_cover 10 (result m c) (fun t _ => flushed_eq m c t) cover

end Cert.Kernel7Ideal.MixStep
-- ==== Proof.MixStep.Claim.lean ====
module

public import proofs.«01_k».proof.Defs
public import proofs.«01_k».proof.Proof.MixStep.ArrayValue
public import proofs.«01_k».proof.Proof.Gen.Kernel7.Frame
public import proofs.«01_k».proof.Proof.Gen.Reference7Ideal.Run

@[expose] public section

set_option maxRecDepth 16384

noncomputable section

/-! The claims about the end of the layer: the frames, and the kernel's result the reference's. -/

namespace Cert.Kernel7Ideal.MixStep

open Cert.Kernel7Ideal Cert.Kernel7Ideal.Gen
open Idealize.ShloMosaic Idealize.ShloMosaic.TcCoe Idealize.SL.Sem

theorem frame_bits : Cert.quiescent_Kernel7 := fun m g _ => Kernel7.Gen.frame m g

theorem frame_ideal : Cert.quiescent_Kernel7Ideal := fun m g _ => frame m g

theorem frame_reference : Cert.quiescent_Reference7Ideal := fun m g _ =>
  (θ_run _ _ _).mono (fun r h => ⟨fun c => (h c).2, sem_eq_zero_of_no_sems (by decide) r.2⟩) (Reference7Ideal.Value.run m g)

theorem algebraic : Cert.algebraic_Kernel7Ideal_Reference7Ideal := by
  intro m g m' g' _ hagree
  refine ⟨fun c => result m c, (θ_run _ _ _).mono (fun r h c => ⟨(h c).1.trans (final m c), (h c).2⟩) (Value.run_blocks m g), ?_⟩
  refine (θ_run _ _ _).mono (fun r h c => ⟨(h c).1.trans ?_, (h c).2⟩) (Reference7Ideal.Value.run m' g')
  obtain ⟨h0, h1, h2, h3, h4, h5, h6, h7, h8, h9⟩ := hagree c
  rw [Reference7Ideal.Read.val_main_v49_eq, h0, h1, h2, h3, h4, h5, h6, h7, h8, h9]

end Cert.Kernel7Ideal.MixStep
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Pre_finite_scores
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Reference6Ideal.Step
public import proofs.«01_k».proof.Proof.Gen.Reference6Ideal.Run
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel2Ideal.Value
public import proofs.«01_k».proof.Proof.Gen.Kernel3Ideal.Value
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Gen.Reference3Ideal.Run
public import proofs.«01_k».proof.Proof.Gen.Reference3Ideal.Read
public import proofs.«01_k».proof.Proof.Attn.Claim
public import proofs.«01_k».proof.Proof.Mix.Claim
public import proofs.«01_k».proof.Proof.InProj.Claim
public import proofs.«01_k».proof.Proof.InStep.Claim
public import proofs.«01_k».proof.Proof.LruStep.Claim
public import proofs.«01_k».proof.Proof.LruPrompt.Claim
public import proofs.«01_k».proof.Proof.MixStep.Claim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts, Cert.Kernel6Ideal.Gen.facts,
  Cert.Reference6Ideal.Gen.facts, Cert.Kernel7.Gen.facts, Cert.Kernel7Ideal.Gen.facts, Cert.Reference7Ideal.Gen.facts,
  Cert.Pre_finite_scores.Gen.facts, Cert.KernelIdeal.Attn.frame_bits, Cert.KernelIdeal.Attn.frame_ideal,
  Cert.KernelIdeal.Attn.frame_ideal_pre, Cert.KernelIdeal.Attn.frame_reference, Cert.KernelIdeal.Attn.frame_reference_pre,
  Cert.Kernel2Ideal.Mix.frame_bits, Cert.Kernel2Ideal.Mix.frame_ideal, Cert.Kernel2Ideal.Mix.frame_reference,
  Cert.Kernel3Ideal.InProj.frame_bits, Cert.Kernel3Ideal.InProj.frame_ideal, Cert.Kernel3Ideal.InProj.frame_reference,
  Cert.Kernel4Ideal.InStep.frame_bits, Cert.Kernel4Ideal.InStep.frame_ideal, Cert.Kernel4Ideal.InStep.frame_reference,
  Cert.Kernel5Ideal.LruStep.frame_bits, Cert.Kernel5Ideal.LruStep.frame_ideal, Cert.Kernel5Ideal.LruStep.frame_reference,
  Cert.Kernel6Ideal.LruPrompt.frame_bits, Cert.Kernel6Ideal.LruPrompt.frame_ideal, Cert.Kernel6Ideal.LruPrompt.frame_reference,
  Cert.Kernel7Ideal.MixStep.frame_bits, Cert.Kernel7Ideal.MixStep.frame_ideal, Cert.Kernel7Ideal.MixStep.frame_reference,
  Cert.KernelIdeal.Attn.preserves, Cert.KernelIdeal.Attn.algebraic, trivial, Cert.Kernel2Ideal.Mix.algebraic, trivial,
  Cert.Kernel3Ideal.InProj.algebraic, trivial, Cert.Kernel4Ideal.InStep.algebraic, trivial, Cert.Kernel5Ideal.LruStep.algebraic, trivial,
  Cert.Kernel6Ideal.LruPrompt.algebraic, trivial, Cert.Kernel7Ideal.MixStep.algebraic⟩

end Cert.Proof

end
